-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v28)) (v1 : (c : Dev Cert.Kernel2Ideal.nD) → Buf (Elt Ideal) ((c.tc : Thread Cert.Kernel2Ideal.nD Cert.Kernel2Ideal.τ).loc Cert.Kernel2Ideal.main_v31)) (v2 : (c : Dev Cert.Kernel2Ideal.nD) → Buf (Elt Ideal) ((c.tc : Thread Cert.Kernel2Ideal.nD Cert.Kernel2Ideal.τ).loc Cert.Kernel2Ideal.main_v54)) (v3 : (c : Dev Cert.Kernel2Ideal.nD) → Buf (Elt Ideal) ((c.tc : Thread Cert.Kernel2Ideal.nD Cert.Kernel2Ideal.τ).loc Cert.Kernel2Ideal.main_v77)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28) = v0 c
          ∧ r.2.mem ((c.tc : Thread Cert.Kernel2Ideal.nD Cert.Kernel2Ideal.τ).loc Cert.Kernel2Ideal.main_v31) = v1 c
          ∧ r.2.mem ((c.tc : Thread Cert.Kernel2Ideal.nD Cert.Kernel2Ideal.τ).loc Cert.Kernel2Ideal.main_v54) = v2 c
          ∧ r.2.mem ((c.tc : Thread Cert.Kernel2Ideal.nD Cert.Kernel2Ideal.τ).loc Cert.Kernel2Ideal.main_v77) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_v1) = v1 c
          ∧ r.2.mem ((c.tc : Thread Cert.Reference2Ideal.nD Cert.Reference2Ideal.τ).loc Cert.Reference2Ideal.main_v2) = v2 c
          ∧ r.2.mem ((c.tc : Thread Cert.Reference2Ideal.nD Cert.Reference2Ideal.τ).loc Cert.Reference2Ideal.main_v3) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v47)) (v1 : (c : Dev Cert.Kernel3Ideal.nD) → Buf (Elt Ideal) ((c.tc : Thread Cert.Kernel3Ideal.nD Cert.Kernel3Ideal.τ).loc Cert.Kernel3Ideal.main_v50)) (v2 : (c : Dev Cert.Kernel3Ideal.nD) → Buf (Elt Ideal) ((c.tc : Thread Cert.Kernel3Ideal.nD Cert.Kernel3Ideal.τ).loc Cert.Kernel3Ideal.main_v53)) (v3 : (c : Dev Cert.Kernel3Ideal.nD) → Buf (Elt Ideal) ((c.tc : Thread Cert.Kernel3Ideal.nD Cert.Kernel3Ideal.τ).loc Cert.Kernel3Ideal.main_v56)) (v4 : (c : Dev Cert.Kernel3Ideal.nD) → Buf (Elt Ideal) ((c.tc : Thread Cert.Kernel3Ideal.nD Cert.Kernel3Ideal.τ).loc Cert.Kernel3Ideal.main_v59)) (v5 : (c : Dev Cert.Kernel3Ideal.nD) → Buf (Elt Ideal) ((c.tc : Thread Cert.Kernel3Ideal.nD Cert.Kernel3Ideal.τ).loc Cert.Kernel3Ideal.main_v62)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v47) = v0 c
          ∧ r.2.mem ((c.tc : Thread Cert.Kernel3Ideal.nD Cert.Kernel3Ideal.τ).loc Cert.Kernel3Ideal.main_v50) = v1 c
          ∧ r.2.mem ((c.tc : Thread Cert.Kernel3Ideal.nD Cert.Kernel3Ideal.τ).loc Cert.Kernel3Ideal.main_v53) = v2 c
          ∧ r.2.mem ((c.tc : Thread Cert.Kernel3Ideal.nD Cert.Kernel3Ideal.τ).loc Cert.Kernel3Ideal.main_v56) = v3 c
          ∧ r.2.mem ((c.tc : Thread Cert.Kernel3Ideal.nD Cert.Kernel3Ideal.τ).loc Cert.Kernel3Ideal.main_v59) = v4 c
          ∧ r.2.mem ((c.tc : Thread Cert.Kernel3Ideal.nD Cert.Kernel3Ideal.τ).loc Cert.Kernel3Ideal.main_v62) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v97) = v1 c
          ∧ r.2.mem ((c.tc : Thread Cert.Reference3Ideal.nD Cert.Reference3Ideal.τ).loc Cert.Reference3Ideal.main_v46) = v2 c
          ∧ r.2.mem ((c.tc : Thread Cert.Reference3Ideal.nD Cert.Reference3Ideal.τ).loc Cert.Reference3Ideal.main_v97) = v3 c
          ∧ r.2.mem ((c.tc : Thread Cert.Reference3Ideal.nD Cert.Reference3Ideal.τ).loc Cert.Reference3Ideal.main_v50) = v4 c
          ∧ r.2.mem ((c.tc : Thread Cert.Reference3Ideal.nD Cert.Reference3Ideal.τ).loc Cert.Reference3Ideal.main_v101) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v22)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v24)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v33)) (v1 : (c : Dev Cert.Kernel6Ideal.nD) → Buf (Elt Ideal) ((c.tc : Thread Cert.Kernel6Ideal.nD Cert.Kernel6Ideal.τ).loc Cert.Kernel6Ideal.main_v36)) (v2 : (c : Dev Cert.Kernel6Ideal.nD) → Buf (Elt Ideal) ((c.tc : Thread Cert.Kernel6Ideal.nD Cert.Kernel6Ideal.τ).loc Cert.Kernel6Ideal.main_v38)) (v3 : (c : Dev Cert.Kernel6Ideal.nD) → Buf (Elt Ideal) ((c.tc : Thread Cert.Kernel6Ideal.nD Cert.Kernel6Ideal.τ).loc Cert.Kernel6Ideal.main_v41)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v33) = v0 c
          ∧ r.2.mem ((c.tc : Thread Cert.Kernel6Ideal.nD Cert.Kernel6Ideal.τ).loc Cert.Kernel6Ideal.main_v36) = v1 c
          ∧ r.2.mem ((c.tc : Thread Cert.Kernel6Ideal.nD Cert.Kernel6Ideal.τ).loc Cert.Kernel6Ideal.main_v38) = v2 c
          ∧ r.2.mem ((c.tc : Thread Cert.Kernel6Ideal.nD Cert.Kernel6Ideal.τ).loc Cert.Kernel6Ideal.main_v41) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v77) = v1 c
          ∧ r.2.mem ((c.tc : Thread Cert.Reference6Ideal.nD Cert.Reference6Ideal.τ).loc Cert.Reference6Ideal.main_v78) = v2 c
          ∧ r.2.mem ((c.tc : Thread Cert.Reference6Ideal.nD Cert.Reference6Ideal.τ).loc Cert.Reference6Ideal.main_v79) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x2048x3072 : Shape := ⟨3, ![8, 2048, 3072]⟩
abbrev S17408x11296 : Shape := ⟨2, ![17408, 11296]⟩
abbrev S32 : Shape := ⟨1, ![32]⟩
abbrev S2048 : Shape := ⟨1, ![2048]⟩
abbrev S2x8x32x64x128 : Shape := ⟨5, ![2, 8, 32, 64, 128]⟩
abbrev S16384x32 : Shape := ⟨2, ![16384, 32]⟩
abbrev S_ : Shape := ⟨0, ![]⟩
abbrev S1x8x32x64x128 : Shape := ⟨5, ![1, 8, 32, 64, 128]⟩
abbrev S8x32x64x128 : Shape := ⟨4, ![8, 32, 64, 128]⟩

class Facts : Prop where
  slices_S17408x11296_S16384x32_0_9216 : S17408x11296.Slices ![0, 9216] S16384x32
  bcast_S_S8x2048x3072 : S_.BroadcastsInDim S8x2048x3072 (![] : Fin 0 → Fin S8x2048x3072.rank)
  reducesTo_S8x2048x3072_S_d0_1_2 : S8x2048x3072.ReducesTo [0, 1, 2] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S32 : S_.BroadcastsInDim S32 (![] : Fin 0 → Fin S32.rank)
  reducesTo_S32_S_d0 : S32.ReducesTo [0] S_
  slices_S2x8x32x64x128_S1x8x32x64x128_1_0_0_0_0 : S2x8x32x64x128.Slices ![1, 0, 0, 0, 0] S1x8x32x64x128
  shapeCasts_S1x8x32x64x128_S8x32x64x128 : S1x8x32x64x128.ShapeCasts S8x32x64x128
  bcast_S_S8x32x64x128 : S_.BroadcastsInDim S8x32x64x128 (![] : Fin 0 → Fin S8x32x64x128.rank)
  reducesTo_S8x32x64x128_S_d0_1_2_3 : S8x32x64x128.ReducesTo [0, 1, 2, 3] S_

variable [Facts]

def fn_part1 {F : FTy → Type} [FloatOps F] (main_arg6 : FVec F S2x8x32x64x128 .f32) (main_v14 : IVec S_ 1) (main_v15 : FVec F S32 .f32) (main_v16 : FVec F S32 .f32) : IVec S_ 1 :=
  let main_v17 : IVec S32 1 := cmpf .olt main_v15 main_v16
  let main_c_5 : IVec S_ 1 := constantI S_ 1 1#1
  let main_v18 : IVec S_ 1 := (fun x v => Host.reduce IntOp.andi x v reducesTo_S32_S_d0 h_S_) main_v17 main_c_5
  let main_v19 : IVec S_ 1 := andi main_v14 main_v18
  let main_v20 : FVec F S1x8x32x64x128 .f32 := (extractStridedSlice S1x8x32x64x128 ![1, 0, 0, 0, 0] · slices_S2x8x32x64x128_S1x8x32x64x128_1_0_0_0_0) main_arg6
  let main_v21 : FVec F S8x32x64x128 .f32 := shapeCast S8x32x64x128 main_v20 shapeCasts_S1x8x32x64x128_S8x32x64x128
  let main_v22 : FVec F S8x32x64x128 .f32 := Host.absf main_v21
  let main_cst_6 : FVec F S_ .f32 := constant S_ .f32 0x7F800000#32
  let main_v23 : FVec F S8x32x64x128 .f32 := broadcastInDim S8x32x64x128 ![] bcast_S_S8x32x64x128 main_cst_6
  let main_v24 : IVec S8x32x64x128 1 := cmpf .olt main_v22 main_v23
  let main_c_7 : IVec S_ 1 := constantI S_ 1 1#1
  let main_v25 : IVec S_ 1 := (fun x v => Host.reduce IntOp.andi x v reducesTo_S8x32x64x128_S_d0_1_2_3 h_S_) main_v24 main_c_7
  let main_v26 : IVec S_ 1 := andi main_v19 main_v25
  main_v26

def fn {F : FTy → Type} [FloatOps F] (main_arg0 : FVec F S8x2048x3072 .f32) (main_arg1 : FVec F S17408x11296 .f32) (main_arg2 : FVec F S32 .f32) (main_arg3 : FVec F S32 .f32) (main_arg4 : FVec F S32 .f32) (main_arg5 : FVec F S2048 .f32) (main_arg6 : FVec F S2x8x32x64x128 .f32) (main_arg7 : FVec F S2x8x32x64x128 .f32) : IVec S_ 1 :=
  let main_v0 : FVec F S16384x32 .f32 := (extractStridedSlice S16384x32 ![0, 9216] · slices_S17408x11296_S16384x32_0_9216) main_arg1
  let main_v1 : FVec F S8x2048x3072 .f32 := Host.absf main_arg0
  let main_cst : FVec F S_ .f32 := constant S_ .f32 0x7F800000#32
  let main_v2 : FVec F S8x2048x3072 .f32 := broadcastInDim S8x2048x3072 ![] bcast_S_S8x2048x3072 main_cst
  let main_v3 : IVec S8x2048x3072 1 := cmpf .olt main_v1 main_v2
  let main_c : IVec S_ 1 := constantI S_ 1 1#1
  let main_v4 : IVec S_ 1 := (fun x v => Host.reduce IntOp.andi x v reducesTo_S8x2048x3072_S_d0_1_2 h_S_) main_v3 main_c
  let main_v5 : FVec F S16384x32 .f32 := Host.absf main_v0
  let main_cst_0 : FVec F S_ .f32 := constant S_ .f32 0x7F800000#32
  let main_v6 : FVec F S16384x32 .f32 := broadcastInDim S16384x32 ![] bcast_S_S16384x32 main_cst_0
  let main_v7 : IVec S16384x32 1 := cmpf .olt main_v5 main_v6
  let main_c_1 : IVec S_ 1 := constantI S_ 1 1#1
  let main_v8 : IVec S_ 1 := (fun x v => Host.reduce IntOp.andi x v reducesTo_S16384x32_S_d0_1 h_S_) main_v7 main_c_1
  let main_v9 : IVec S_ 1 := andi main_v4 main_v8
  let main_v10 : FVec F S32 .f32 := Host.absf main_arg2
  let main_cst_2 : FVec F S_ .f32 := constant S_ .f32 0x7F800000#32
  let main_v11 : FVec F S32 .f32 := broadcastInDim S32 ![] bcast_S_S32 main_cst_2
  let main_v12 : IVec S32 1 := cmpf .olt main_v10 main_v11
  let main_c_3 : IVec S_ 1 := constantI S_ 1 1#1
  let main_v13 : IVec S_ 1 := (fun x v => Host.reduce IntOp.andi x v reducesTo_S32_S_d0 h_S_) main_v12 main_c_3
  let main_v14 : IVec S_ 1 := andi main_v9 main_v13
  let main_v15 : FVec F S32 .f32 := Host.absf main_arg3
  let main_cst_4 : FVec F S_ .f32 := constant S_ .f32 0x7F800000#32
  let main_v16 : FVec F S32 .f32 := broadcastInDim S32 ![] bcast_S_S32 main_cst_4
  fn_part1 (F := F) main_arg6 main_v14 main_v15 main_v16
-- ==== Pre_finite3.lean ====
abbrev S8x2048x1024 : Shape := ⟨3, ![8, 2048, 1024]⟩
abbrev S128x4x1024 : Shape := ⟨3, ![128, 4, 1024]⟩
abbrev S8x2048x2048 : Shape := ⟨3, ![8, 2048, 2048]⟩
abbrev S128x4x2048 : Shape := ⟨3, ![128, 4, 2048]⟩
abbrev S8x2048x11296 : Shape := ⟨3, ![8, 2048, 11296]⟩
abbrev S128x4x11296 : Shape := ⟨3, ![128, 4, 11296]⟩
abbrev S1024x1024 : Shape := ⟨2, ![1024, 1024]⟩
abbrev S2048x1024 : Shape := ⟨2, ![2048, 1024]⟩
abbrev S1024 : Shape := ⟨1, ![1024]⟩
abbrev S1024x32 : Shape := ⟨2, ![1024, 32]⟩
abbrev S32 : Shape := ⟨1, ![32]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S128x4x1024 : S_.BroadcastsInDim S128x4x1024 (![] : Fin 0 → Fin S128x4x1024.rank)
  reducesTo_S128x4x1024_S_d0_1_2 : S128x4x1024.ReducesTo [0, 1, 2] S_
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S128x4x2048 : S_.BroadcastsInDim S128x4x2048 (![] : Fin 0 → Fin S128x4x2048.rank)
  reducesTo_S128x4x2048_S_d0_1_2 : S128x4x2048.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x32 : S_.BroadcastsInDim S1024x32 (![] : Fin 0 → Fin S1024x32.rank)
  reducesTo_S1024x32_S_d0_1 : S1024x32.ReducesTo [0, 1] S_

variable [Facts]

def fn_part3 {F : FTy → Type} [FloatOps F] (main_arg13 : FVec F S1024x32 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x32 .f32 := Host.absf main_arg13
  let main_cst_20 : FVec F S_ .f32 := constant S_ .f32 0x7F800000#32
  let main_v55 : FVec F S1024x32 .f32 := broadcastInDim S1024x32 ![] bcast_S_S1024x32 main_cst_20
  let main_v56 : IVec S1024x32 1 := cmpf .olt main_v54 main_v55
  let main_c_21 : IVec S_ 1 := constantI S_ 1 1#1
  let main_v57 : IVec S_ 1 := (fun x v => Host.reduce IntOp.andi x v reducesTo_S1024x32_S_d0_1 h_S_) main_v56 main_c_21
  let main_v58 : IVec S_ 1 := andi main_v53 main_v57
  main_v58

def fn_part2 {F : FTy → Type} [FloatOps F] (main_arg9 : FVec F S2048x1024 .f32) (main_arg10 : FVec F S1024x1024 .f32) (main_arg11 : FVec F S1024 .f32) (main_arg12 : FVec F S1024 .f32) (main_arg13 : FVec F S1024x32 .f32) (main_v33 : IVec S_ 1) : IVec S_ 1 :=
  let main_v34 : FVec F S2048x1024 .f32 := Host.absf main_arg9
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024x1024 .f32 := Host.absf main_arg10
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg11
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_arg13 main_v48 main_v49 main_v50

def fn_part1 {F : FTy → Type} [FloatOps F] (main_arg6 : FVec F S8x2048x1024 .f32) (main_arg7 : FVec F S128x4x1024 .f32) (main_arg8 : FVec F S1024x1024 .f32) (main_arg9 : FVec F S2048x1024 .f32) (main_arg10 : FVec F S1024x1024 .f32) (main_arg11 : FVec F S1024 .f32) (main_arg12 : FVec F S1024 .f32) (main_arg13 : FVec F S1024x32 .f32) (main_v13 : IVec S_ 1) (main_v16 : IVec S128x4x2048 1) : IVec S_ 1 :=
  let main_c_5 : IVec S_ 1 := constantI S_ 1 1#1
  let main_v17 : IVec S_ 1 := (fun x v => Host.reduce IntOp.andi x v reducesTo_S128x4x2048_S_d0_1_2 h_S_) main_v16 main_c_5
  let main_v18 : IVec S_ 1 := andi main_v13 main_v17
  let main_v19 : FVec F S8x2048x1024 .f32 := Host.absf main_arg6
  let main_cst_6 : FVec F S_ .f32 := constant S_ .f32 0x7F800000#32
  let main_v20 : FVec F S8x2048x1024 .f32 := broadcastInDim S8x2048x1024 ![] bcast_S_S8x2048x1024 main_cst_6
  let main_v21 : IVec S8x2048x1024 1 := cmpf .olt main_v19 main_v20
  let main_c_7 : IVec S_ 1 := constantI S_ 1 1#1
  let main_v22 : IVec S_ 1 := (fun x v => Host.reduce IntOp.andi x v reducesTo_S8x2048x1024_S_d0_1_2 h_S_) main_v21 main_c_7
  let main_v23 : IVec S_ 1 := andi main_v18 main_v22
  let main_v24 : FVec F S128x4x1024 .f32 := Host.absf main_arg7
  let main_cst_8 : FVec F S_ .f32 := constant S_ .f32 0x7F800000#32
  let main_v25 : FVec F S128x4x1024 .f32 := broadcastInDim S128x4x1024 ![] bcast_S_S128x4x1024 main_cst_8
  let main_v26 : IVec S128x4x1024 1 := cmpf .olt main_v24 main_v25
  let main_c_9 : IVec S_ 1 := constantI S_ 1 1#1
  let main_v27 : IVec S_ 1 := (fun x v => Host.reduce IntOp.andi x v reducesTo_S128x4x1024_S_d0_1_2 h_S_) main_v26 main_c_9
  let main_v28 : IVec S_ 1 := andi main_v23 main_v27
  let main_v29 : FVec F S1024x1024 .f32 := Host.absf main_arg8
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S8x2048x1024 .f32) (main_arg1 : FVec F S128x4x1024 .f32) (main_arg2 : FVec F S8x2048x2048 .f32) (main_arg3 : FVec F S128x4x2048 .f32) (main_arg4 : FVec F S8x2048x11296 .f32) (main_arg5 : FVec F S128x4x11296 .f32) (main_arg6 : FVec F S8x2048x1024 .f32) (main_arg7 : FVec F S128x4x1024 .f32) (main_arg8 : FVec F S1024x1024 .f32) (main_arg9 : FVec F S2048x1024 .f32) (main_arg10 : FVec F S1024x1024 .f32) (main_arg11 : FVec F S1024 .f32) (main_arg12 : FVec F S1024 .f32) (main_arg13 : FVec F S1024x32 .f32) (main_arg14 : FVec F S32 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S128x4x1024 .f32 := Host.absf main_arg1
  let main_cst_0 : FVec F S_ .f32 := constant S_ .f32 0x7F800000#32
  let main_v5 : FVec F S128x4x1024 .f32 := broadcastInDim S128x4x1024 ![] bcast_S_S128x4x1024 main_cst_0
  let main_v6 : IVec S128x4x1024 1 := cmpf .olt main_v4 main_v5
  let main_c_1 : IVec S_ 1 := constantI S_ 1 1#1
  let main_v7 : IVec S_ 1 := (fun x v => Host.reduce IntOp.andi x v reducesTo_S128x4x1024_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S128x4x2048 .f32 := Host.absf main_arg3
  let main_cst_4 : FVec F S_ .f32 := constant S_ .f32 0x7F800000#32
  let main_v15 : FVec F S128x4x2048 .f32 := broadcastInDim S128x4x2048 ![] bcast_S_S128x4x2048 main_cst_4
  let main_v16 : IVec S128x4x2048 1 := cmpf .olt main_v14 main_v15
  fn_part1 (F := F) main_arg6 main_arg7 main_arg8 main_arg9 main_arg10 main_arg11 main_arg12 main_arg13 main_v13 main_v16
-- ==== Kernel.lean ====
abbrev S8x2048x3072 : Shape := ⟨3, ![8, 2048, 3072]⟩
abbrev S17408x11296 : Shape := ⟨2, ![17408, 11296]⟩
abbrev S32 : Shape := ⟨1, ![32]⟩
abbrev S2048 : Shape := ⟨1, ![2048]⟩
abbrev S2x8x32x64x128 : Shape := ⟨5, ![2, 8, 32, 64, 128]⟩
abbrev S17408x1024 : Shape := ⟨2, ![17408, 1024]⟩
abbrev S17408x2048 : Shape := ⟨2, ![17408, 2048]⟩
abbrev S17408x3072 : Shape := ⟨2, ![17408, 3072]⟩
abbrev S17408x32 : Shape := ⟨2, ![17408, 32]⟩
abbrev S17408x4x8 : Shape := ⟨3, ![17408, 4, 8]⟩
abbrev S_ : Shape := ⟨0, ![]⟩
abbrev S17408x4x128 : Shape := ⟨3, ![17408, 4, 128]⟩
abbrev S17408x512 : Shape := ⟨2, ![17408, 512]⟩
abbrev S17408x11776 : Shape := ⟨2, ![17408, 11776]⟩
abbrev S128x128x3072 : Shape := ⟨3, ![128, 128, 3072]⟩
abbrev S2x8x16x128x128 : Shape := ⟨5, ![2, 8, 16, 128, 128]⟩
abbrev S4x8 : Shape := ⟨2, ![4, 8]⟩
abbrev S4x128 : Shape := ⟨2, ![4, 128]⟩
abbrev S1x512 : Shape := ⟨2, ![1, 512]⟩
abbrev S32x64 : Shape := ⟨2, ![32, 64]⟩
abbrev S1x2048 : Shape := ⟨2, ![1, 2048]⟩
abbrev S16384x2048 : Shape := ⟨2, ![16384, 2048]⟩
abbrev S1x128x2048 : Shape := ⟨3, ![1, 128, 2048]⟩
abbrev S1x128x512 : Shape := ⟨3, ![1, 128, 512]⟩
abbrev S128x2048 : Shape := ⟨2, ![128, 2048]⟩
abbrev S128x512 : Shape := ⟨2, ![128, 512]⟩
abbrev S1x1x16x128x128 : Shape := ⟨5, ![1, 1, 16, 128, 128]⟩
abbrev S1x16x128x128 : Shape := ⟨4, ![1, 16, 128, 128]⟩
abbrev S4x128x128 : Shape := ⟨3, ![4, 128, 128]⟩
abbrev S128x128 : Shape := ⟨2, ![128, 128]⟩
abbrev S1x128 : Shape := ⟨2, ![1, 128]⟩
abbrev S1x128x128 : Shape := ⟨3, ![1, 128, 128]⟩
abbrev S128x1 : Shape := ⟨2, ![128, 1]⟩
abbrev S128 : Shape := ⟨1, ![128]⟩
abbrev S1x1x128x128 : Shape := ⟨4, ![1, 1, 128, 128]⟩
abbrev S1x1 : Shape := ⟨2, ![1, 1]⟩

abbrev nBuf : Space → Nat
  | .hbm => 44
  | .vmem => 23
  | .smem => 0
  | _ => 0

abbrev bufTy : (tb : Table) → Fin (tcTables nBuf tb) → BufTy
  | .hbm, ⟨0, _⟩ => ⟨S8x2048x3072, .f32⟩
  | .hbm, ⟨1, _⟩ => ⟨S17408x11296, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S2048, .f32⟩
  | .hbm, ⟨6, _⟩ => ⟨S2x8x32x64x128, .f32⟩
  | .hbm, ⟨7, _⟩ => ⟨S2x8x32x64x128, .f32⟩
  | .hbm, ⟨8, _⟩ => ⟨S17408x1024, .f32⟩
  | .hbm, ⟨9, _⟩ => ⟨S17408x1024, .f32⟩
  | .hbm, ⟨10, _⟩ => ⟨S17408x1024, .f32⟩
  | .hbm, ⟨11, _⟩ => ⟨S17408x1024, .f32⟩
  | .hbm, ⟨12, _⟩ => ⟨S17408x2048, .f32⟩
  | .hbm, ⟨13, _⟩ => ⟨S17408x3072, .f32⟩
  | .hbm, ⟨14, _⟩ => ⟨S17408x32, .f32⟩
  | .hbm, ⟨15, _⟩ => ⟨S17408x1024, .f32⟩
  | .hbm, ⟨16, _⟩ => ⟨S17408x1024, .f32⟩
  | .hbm, ⟨17, _⟩ => ⟨S17408x4x8, .f32⟩
  | .hbm, ⟨18, _⟩ => ⟨S_, .i32⟩
  | .hbm, ⟨19, _⟩ => ⟨S_, .f32⟩
  | .hbm, ⟨20, _⟩ => ⟨S17408x4x128, .f32⟩
  | .hbm, ⟨21, _⟩ => ⟨S17408x512, .f32⟩
  | .hbm, ⟨22, _⟩ => ⟨S17408x11776, .f32⟩
  | .hbm, ⟨23, _⟩ => ⟨S128x128x3072, .f32⟩
  | .hbm, ⟨24, _⟩ => ⟨S2x8x16x128x128, .f32⟩
  | .hbm, ⟨25, _⟩ => ⟨S2x8x16x128x128, .f32⟩
  | .hbm, ⟨26, _⟩ => ⟨S4x8, .f32⟩
  | .hbm, ⟨27, _⟩ => ⟨S_, .i32⟩
  | .hbm, ⟨28, _⟩ => ⟨S_, .f32⟩
  | .hbm, ⟨29, _⟩ => ⟨S4x128, .f32⟩
  | .hbm, ⟨30, _⟩ => ⟨S1x512, .f32⟩
  | .hbm, ⟨31, _⟩ => ⟨S32, .f32⟩
  | .hbm, ⟨32, _⟩ => ⟨S32, .f32⟩
  | .hbm, ⟨33, _⟩ => ⟨S4x8, .f32⟩
  | .hbm, ⟨34, _⟩ => ⟨S_, .i32⟩
  | .hbm, ⟨35, _⟩ => ⟨S_, .f32⟩
  | .hbm, ⟨36, _⟩ => ⟨S4x128, .f32⟩
  | .hbm, ⟨37, _⟩ => ⟨S1x512, .f32⟩
  | .hbm, ⟨38, _⟩ => ⟨S32x64, .f32⟩
  | .hbm, ⟨39, _⟩ => ⟨S2048, .f32⟩
  | .hbm, ⟨40, _⟩ => ⟨S1x2048, .f32⟩
  | .hbm, ⟨41, _⟩ => ⟨S1x2048, .f32⟩
  | .hbm, ⟨42, _⟩ => ⟨S16384x2048, .f32⟩
  | .hbm, ⟨43, _⟩ => ⟨S2x8x16x128x128, .f32⟩
  | .local _ .vmem, ⟨0, _⟩ => ⟨S1x128x2048, .f32⟩
  | .local _ .vmem, ⟨1, _⟩ => ⟨S1x128x2048, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S128x2048, .f32⟩
  | .local _ .vmem, ⟨7, _⟩ => ⟨S128x2048, .f32⟩
  | .local _ .vmem, ⟨8, _⟩ => ⟨S128x512, .f32⟩
  | .local _ .vmem, ⟨9, _⟩ => ⟨S128x512, .f32⟩
  | .local _ .vmem, ⟨10, _⟩ => ⟨S1x512, .f32⟩
  | .local _ .vmem, ⟨11, _⟩ => ⟨S1x512, .f32⟩
  | .local _ .vmem, ⟨12, _⟩ => ⟨S1x2048, .f32⟩
  | .local _ .vmem, ⟨13, _⟩ => ⟨S1x2048, .f32⟩
  | .local _ .vmem, ⟨14, _⟩ => ⟨S1x1x16x128x128, .f32⟩
  | .local _ .vmem, ⟨15, _⟩ => ⟨S1x1x16x128x128, .f32⟩
  | .local _ .vmem, ⟨16, _⟩ => ⟨S128x2048, .f32⟩
  | .local _ .vmem, ⟨17, _⟩ => ⟨S128x2048, .f32⟩
  | .local _ .vmem, ⟨18, _⟩ => ⟨S1x1x16x128x128, .f32⟩
  | .local _ .vmem, ⟨19, _⟩ => ⟨S1x1x16x128x128, .f32⟩
  | .local _ .vmem, ⟨20, _⟩ => ⟨S1x16x128x128, .f32⟩
  | .local _ .vmem, ⟨21, _⟩ => ⟨S4x128x128, .f32⟩
  | .local _ .vmem, ⟨22, _⟩ => ⟨S4x128x128, .f32⟩
  | _, _ => ⟨S8x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_call2_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![8, 1, 16], ![false, false, false]⟩

def k0_cond2 (i : grid0.Coords) : BitVec 1 :=
  let arg2 : BitVec 32 := BitVec.ofNat 32 (i 2).val
  let c15_i32 : BitVec 32 := 15#32
  let v1939 : BitVec 1 := Scalar.cmpi .eq arg2 c15_i32
  let v1940 : BitVec 32 := Scalar.extui v1939
  let c0_i32_574 : BitVec 32 := 0#32
  let v1941 : BitVec 1 := Scalar.cmpi .ne v1940 c0_i32_574
  v1941

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c4_i32 : BitVec 32 := 4#32
  let v2 : BitVec 32 := Scalar.addi c4_i32 arg1
  let c0_i32 : BitVec 32 := 0#32
  let c0_i32_0 : BitVec 32 := 0#32
  ![v1.toNat, c0_i32.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c5_i32 : BitVec 32 := 5#32
  let v2 : BitVec 32 := Scalar.addi c5_i32 arg1
  let c0_i32 : BitVec 32 := 0#32
  let c0_i32_0 : BitVec 32 := 0#32
  ![v1.toNat, c0_i32.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c2_i32 : BitVec 32 := 2#32
  let v3 : BitVec 32 := Scalar.addi c2_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c22_i32 : BitVec 32 := 22#32
  let v3 : BitVec 32 := Scalar.addi c22_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_12 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 2 → Memref sig .tc .vmem S1x1x16x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x16x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== ReferenceIdeal.lean ====
abbrev S8x2048x3072 : Shape := ⟨3, ![8, 2048, 3072]⟩
abbrev S17408x11296 : Shape := ⟨2, ![17408, 11296]⟩
abbrev S32 : Shape := ⟨1, ![32]⟩
abbrev S2048 : Shape := ⟨1, ![2048]⟩
abbrev S2x8x32x64x128 : Shape := ⟨5, ![2, 8, 32, 64, 128]⟩
abbrev S16384x2048 : Shape := ⟨2, ![16384, 2048]⟩
abbrev S8x2048x2048 : Shape := ⟨3, ![8, 2048, 2048]⟩
abbrev S16384x32 : Shape := ⟨2, ![16384, 32]⟩
abbrev S8x2048x32 : Shape := ⟨3, ![8, 2048, 32]⟩
abbrev S8x2048x4x8x64 : Shape := ⟨5, ![8, 2048, 4, 8, 64]⟩
abbrev S8x2048x512 : Shape := ⟨3, ![8, 2048, 512]⟩
abbrev S8x2048x4x128 : Shape := ⟨4, ![8, 2048, 4, 128]⟩
abbrev S1x1x32 : Shape := ⟨3, ![1, 1, 32]⟩
abbrev S_ : Shape := ⟨0, ![]⟩
abbrev S8x2048x4x8 : Shape := ⟨4, ![8, 2048, 4, 8]⟩
abbrev S4x8 : Shape := ⟨2, ![4, 8]⟩
abbrev S1x8x32x64x128 : Shape := ⟨5, ![1, 8, 32, 64, 128]⟩
abbrev S8x32x64x128 : Shape := ⟨4, ![8, 32, 64, 128]⟩
abbrev S8x4x8x64x128 : Shape := ⟨5, ![8, 4, 8, 64, 128]⟩
abbrev S64x64 : Shape := ⟨2, ![64, 64]⟩
abbrev S1x64x64x1x1 : Shape := ⟨5, ![1, 64, 64, 1, 1]⟩
abbrev S8x32x64x4x8x64 : Shape := ⟨6, ![8, 32, 64, 4, 8, 64]⟩
abbrev S32x8x64x4x8x64 : Shape := ⟨6, ![32, 8, 64, 4, 8, 64]⟩
abbrev S8x32x64x4x8 : Shape := ⟨5, ![8, 32, 64, 4, 8]⟩
abbrev S32x8x64x4x8 : Shape := ⟨5, ![32, 8, 64, 4, 8]⟩
abbrev S8x32x64x4x128 : Shape := ⟨5, ![8, 32, 64, 4, 128]⟩
abbrev S32x8x64x4x128 : Shape := ⟨5, ![32, 8, 64, 4, 128]⟩
abbrev S1x8x64x4x8x64 : Shape := ⟨6, ![1, 8, 64, 4, 8, 64]⟩
abbrev S8x64x4x8x64 : Shape := ⟨5, ![8, 64, 4, 8, 64]⟩
abbrev S1x8x64x4x8 : Shape := ⟨5, ![1, 8, 64, 4, 8]⟩
abbrev S8x64x4x8 : Shape := ⟨4, ![8, 64, 4, 8]⟩
abbrev S1x8x64x4x128 : Shape := ⟨5, ![1, 8, 64, 4, 128]⟩
abbrev S8x64x4x128 : Shape := ⟨4, ![8, 64, 4, 128]⟩
abbrev S1x1x4x8 : Shape := ⟨4, ![1, 1, 4, 8]⟩
abbrev S8x64x1x4x8 : Shape := ⟨5, ![8, 64, 1, 4, 8]⟩
abbrev S8x1x64x4x8 : Shape := ⟨5, ![8, 1, 64, 4, 8]⟩
abbrev S8x64x64x4x8 : Shape := ⟨5, ![8, 64, 64, 4, 8]⟩
abbrev S8x4x64x64 : Shape := ⟨4, ![8, 4, 64, 64]⟩
abbrev S8x64x64x4 : Shape := ⟨4, ![8, 64, 64, 4]⟩
abbrev S8x64x64x4x1 : Shape := ⟨5, ![8, 64, 64, 4, 1]⟩
abbrev S8x4x8x64x64 : Shape := ⟨5, ![8, 4, 8, 64, 64]⟩
abbrev S8x64x4x8x1 : Shape := ⟨5, ![8, 64, 4, 8, 1]⟩
abbrev S8x1x4x8 : Shape := ⟨4, ![8, 1, 4, 8]⟩
abbrev S8x4x8 : Shape := ⟨3, ![8, 4, 8]⟩
abbrev S8x4x8x1x1 : Shape := ⟨5, ![8, 4, 8, 1, 1]⟩
abbrev S4x8x1 : Shape := ⟨3, ![4, 8, 1]⟩
abbrev S1x1x4x8x1 : Shape := ⟨5, ![1, 1, 4, 8, 1]⟩
abbrev S8x2048x4x512 : Shape := ⟨4, ![8, 2048, 4, 512]⟩
abbrev S4x512 : Shape := ⟨2, ![4, 512]⟩
abbrev S8x2048x4 : Shape := ⟨3, ![8, 2048, 4]⟩
abbrev S8x2048x4x1 : Shape := ⟨4, ![8, 2048, 4, 1]⟩
abbrev S1x1x4x512 : Shape := ⟨4, ![1, 1, 4, 512]⟩
abbrev S2x8x16x128x128 : Shape := ⟨5, ![2, 8, 16, 128, 128]⟩

abbrev nBuf : Space → Nat
  | .hbm => 205
  | .vmem => 0
  | .smem => 0
  | _ => 0

abbrev hbmTy0_0 (i : Nat) : BufTy := match i % 128 with
  | 0 => ⟨S8x2048x3072, .f32⟩
  | 1 => ⟨S17408x11296, .f32⟩
  | 2 => ⟨S32, .f32⟩
  | 3 => ⟨S32, .f32⟩
  | 4 => ⟨S32, .f32⟩
  | 5 => ⟨S2048, .f32⟩
  | 6 => ⟨S2x8x32x64x128, .f32⟩
  | 7 => ⟨S2x8x32x64x128, .f32⟩
  | 8 => ⟨S16384x2048, .f32⟩
  | 9 => ⟨S8x2048x2048, .f32⟩
  | 10 => ⟨S16384x32, .f32⟩
  | 11 => ⟨S8x2048x32, .f32⟩
  | 12 => ⟨S8x2048x2048, .f32⟩
  | 13 => ⟨S8x2048x4x8x64, .f32⟩
  | 14 => ⟨S8x2048x512, .f32⟩
  | 15 => ⟨S8x2048x4x128, .f32⟩
  | 16 => ⟨S8x2048x512, .f32⟩
  | 17 => ⟨S8x2048x4x128, .f32⟩
  | 18 => ⟨S1x1x32, .f32⟩
  | 19 => ⟨S8x2048x32, .f32⟩
  | 20 => ⟨S8x2048x32, .f32⟩
  | 21 => ⟨S_, .f32⟩
  | 22 => ⟨S8x2048x32, .f32⟩
  | 23 => ⟨S8x2048x32, .f32⟩
  | 24 => ⟨S8x2048x32, .f32⟩
  | 25 => ⟨S8x2048x32, .f32⟩
  | 26 => ⟨S8x2048x32, .i1⟩
  | 27 => ⟨S8x2048x32, .f32⟩
  | 28 => ⟨S8x2048x32, .f32⟩
  | 29 => ⟨S8x2048x32, .f32⟩
  | 30 => ⟨S8x2048x32, .f32⟩
  | 31 => ⟨S8x2048x32, .f32⟩
  | 32 => ⟨S8x2048x32, .f32⟩
  | 33 => ⟨S8x2048x32, .f32⟩
  | 34 => ⟨S8x2048x32, .f32⟩
  | 35 => ⟨S8x2048x4x8, .f32⟩
  | 36 => ⟨S32, .f32⟩
  | 37 => ⟨S4x8, .f32⟩
  | 38 => ⟨S4x8, .f32⟩
  | 39 => ⟨S1x8x32x64x128, .f32⟩
  | 40 => ⟨S8x32x64x128, .f32⟩
  | 41 => ⟨S8x4x8x64x128, .f32⟩
  | 42 => ⟨S_, .i1⟩
  | 43 => ⟨S64x64, .i1⟩
  | 44 => ⟨S64x64, .i32⟩
  | 45 => ⟨S_, .i32⟩
  | 46 => ⟨S64x64, .i32⟩
  | 47 => ⟨S64x64, .i32⟩
  | 48 => ⟨S64x64, .i32⟩
  | 49 => ⟨S64x64, .i1⟩
  | 50 => ⟨S_, .i1⟩
  | 51 => ⟨S64x64, .i1⟩
  | 52 => ⟨S64x64, .i1⟩
  | 53 => ⟨S1x64x64x1x1, .i1⟩
  | 54 => ⟨S8x32x64x4x8x64, .f32⟩
  | 55 => ⟨S32x8x64x4x8x64, .f32⟩
  | 56 => ⟨S8x32x64x4x8, .f32⟩
  | 57 => ⟨S32x8x64x4x8, .f32⟩
  | 58 => ⟨S8x32x64x4x128, .f32⟩
  | 59 => ⟨S32x8x64x4x128, .f32⟩
  | 60 => ⟨S8x32x64x4x128, .f32⟩
  | 61 => ⟨S32x8x64x4x128, .f32⟩
  | 62 => ⟨S_, .f32⟩
  | 63 => ⟨S32x8x64x4x8x64, .f32⟩
  | 64 => ⟨S_, .i32⟩
  | 65 => ⟨S32x8x64x4x8x64, .f32⟩
  | 66 => ⟨S32x8x64x4x8, .f32⟩
  | 67 => ⟨S32x8x64x4x128, .f32⟩
  | 68 => ⟨S32x8x64x4x128, .f32⟩
  | 69 => ⟨S4x8, .f32⟩
  | 70 => ⟨S1x64x64x1x1, .i1⟩
  | 71 => ⟨S_, .i32⟩
  | 72 => ⟨S8x4x8x64x128, .f32⟩
  | 73 => ⟨S32x8x64x4x8x64, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S1x8x64x4x8x64, .f32⟩
  | 82 => ⟨S8x64x4x8x64, .f32⟩
  | 83 => ⟨S_, .i32⟩
  | 84 => ⟨S_, .i32⟩
  | 85 => ⟨S_, .i32⟩
  | 86 => ⟨S_, .i32⟩
  | 87 => ⟨S1x8x64x4x8, .f32⟩
  | 88 => ⟨S8x64x4x8, .f32⟩
  | 89 => ⟨S_, .i32⟩
  | 90 => ⟨S_, .i32⟩
  | 91 => ⟨S_, .i32⟩
  | 92 => ⟨S_, .i32⟩
  | 93 => ⟨S1x8x64x4x128, .f32⟩
  | 94 => ⟨S8x64x4x128, .f32⟩
  | 95 => ⟨S_, .i32⟩
  | 96 => ⟨S_, .i32⟩
  | 97 => ⟨S_, .i32⟩
  | 98 => ⟨S_, .i32⟩
  | 99 => ⟨S1x8x64x4x128, .f32⟩
  | 100 => ⟨S8x64x4x128, .f32⟩
  | 101 => ⟨S1x1x4x8, .f32⟩
  | 102 => ⟨S8x64x4x8, .f32⟩
  | 103 => ⟨S8x64x4x8, .f32⟩
  | 104 => ⟨S_, .f32⟩
  | 105 => ⟨S_, .f32⟩
  | 106 => ⟨S8x64x4x8, .f32⟩
  | 107 => ⟨S8x64x1x4x8, .f32⟩
  | 108 => ⟨S8x1x64x4x8, .f32⟩
  | 109 => ⟨S8x64x64x4x8, .f32⟩
  | 110 => ⟨S8x64x64x4x8, .f32⟩
  | 111 => ⟨S8x64x64x4x8, .f32⟩
  | 112 => ⟨S_, .f32⟩
  | 113 => ⟨S_, .f32⟩
  | 114 => ⟨S8x64x64x4x8, .i1⟩
  | 115 => ⟨S8x64x64x4x8, .f32⟩
  | 116 => ⟨S8x64x64x4x8, .f32⟩
  | 117 => ⟨S8x64x64x4x8, .f32⟩
  | 118 => ⟨S8x4x64x64, .f32⟩
  | 119 => ⟨S8x64x64x4, .f32⟩
  | 120 => ⟨S8x64x64x4x1, .f32⟩
  | 121 => ⟨S8x64x64x4x8, .f32⟩
  | 122 => ⟨S8x64x64x4x8, .f32⟩
  | 123 => ⟨S8x1x64x4x8, .f32⟩
  | 124 => ⟨S8x64x64x4x8, .f32⟩
  | 125 => ⟨S8x64x64x4x8, .f32⟩
  | 126 => ⟨S8x4x8x64x64, .f32⟩
  | 127 => ⟨S8x64x4x8x64, .f32⟩
  | _ => ⟨S8x2048x3072, .f32⟩

abbrev hbmTy0_1 (i : Nat) : BufTy := match i % 128 with
  | 0 => ⟨S8x4x8x64x64, .f32⟩
  | 1 => ⟨S8x64x4x8x64, .f32⟩
  | 2 => ⟨S8x64x4x8, .f32⟩
  | 3 => ⟨S8x64x4x8x1, .f32⟩
  | 4 => ⟨S8x64x4x8x64, .f32⟩
  | 5 => ⟨S8x64x4x8x64, .f32⟩
  | 6 => ⟨S8x1x4x8, .f32⟩
  | 7 => ⟨S8x4x8, .f32⟩
  | 8 => ⟨S8x1x4x8, .f32⟩
  | 9 => ⟨S8x64x4x8, .f32⟩
  | 10 => ⟨S8x64x4x8, .f32⟩
  | 11 => ⟨S8x64x4x8, .f32⟩
  | 12 => ⟨S8x64x4x8, .f32⟩
  | 13 => ⟨S8x4x8, .f32⟩
  | 14 => ⟨S8x4x8x1x1, .f32⟩
  | 15 => ⟨S8x4x8x64x128, .f32⟩
  | 16 => ⟨S8x4x8x64x128, .f32⟩
  | 17 => ⟨S8x64x4x8x1, .f32⟩
  | 18 => ⟨S8x64x4x8x64, .f32⟩
  | 19 => ⟨S8x64x4x8x64, .f32⟩
  | 20 => ⟨S8x4x8x64x128, .f32⟩
  | 21 => ⟨S8x4x8x64x128, .f32⟩
  | 22 => ⟨S8x64x4x8x64, .f32⟩
  | 23 => ⟨S1x8x64x4x8x64, .f32⟩
  | 24 => ⟨S_, .i32⟩
  | 25 => ⟨S_, .i32⟩
  | 26 => ⟨S_, .i32⟩
  | 27 => ⟨S_, .i32⟩
  | 28 => ⟨S_, .i32⟩
  | 29 => ⟨S32x8x64x4x8x64, .f32⟩
  | 30 => ⟨S_, .i32⟩
  | 31 => ⟨S_, .i32⟩
  | 32 => ⟨S8x32x64x4x8x64, .f32⟩
  | 33 => ⟨S8x2048x4x8x64, .f32⟩
  | 34 => ⟨S4x8, .f32⟩
  | 35 => ⟨S4x8x1, .f32⟩
  | 36 => ⟨S1x1x4x8x1, .f32⟩
  | 37 => ⟨S8x2048x4x8x64, .f32⟩
  | 38 => ⟨S8x2048x4x8x64, .f32⟩
  | 39 => ⟨S8x2048x4x8x64, .f32⟩
  | 40 => ⟨S8x2048x4x512, .f32⟩
  | 41 => ⟨S8x2048x2048, .f32⟩
  | 42 => ⟨S8x2048x2048, .f32⟩
  | 43 => ⟨S_, .f32⟩
  | 44 => ⟨S8x2048x2048, .f32⟩
  | 45 => ⟨S8x2048x2048, .f32⟩
  | 46 => ⟨S_, .f32⟩
  | 47 => ⟨S8x2048x2048, .f32⟩
  | 48 => ⟨S8x2048x2048, .f32⟩
  | 49 => ⟨S8x2048x2048, .f32⟩
  | 50 => ⟨S8x2048x4x512, .f32⟩
  | 51 => ⟨S8x2048x4x512, .f32⟩
  | 52 => ⟨S4x512, .f32⟩
  | 53 => ⟨S8x2048x4x512, .f32⟩
  | 54 => ⟨S_, .f32⟩
  | 55 => ⟨S8x2048x4, .f32⟩
  | 56 => ⟨S8x2048x4x1, .f32⟩
  | 57 => ⟨S_, .f32⟩
  | 58 => ⟨S8x2048x4x1, .f32⟩
  | 59 => ⟨S8x2048x4x1, .f32⟩
  | 60 => ⟨S_, .f32⟩
  | 61 => ⟨S8x2048x4x1, .f32⟩
  | 62 => ⟨S8x2048x4x1, .f32⟩
  | 63 => ⟨S8x2048x4x1, .f32⟩
  | 64 => ⟨S8x2048x4x512, .f32⟩
  | 65 => ⟨S8x2048x4x512, .f32⟩
  | 66 => ⟨S1x1x4x512, .f32⟩
  | 67 => ⟨S8x2048x4x512, .f32⟩
  | 68 => ⟨S8x2048x4x512, .f32⟩
  | 69 => ⟨S16384x2048, .f32⟩
  | 70 => ⟨S1x8x32x64x128, .f32⟩
  | 71 => ⟨S8x32x64x128, .f32⟩
  | 72 => ⟨S8x32x64x128, .f32⟩
  | 73 => ⟨S1x8x32x64x128, .f32⟩
  | 74 => ⟨S1x8x32x64x128, .f32⟩
  | 75 => ⟨S2x8x32x64x128, .f32⟩
  | 76 => ⟨S2x8x16x128x128, .f32⟩
  | _ => ⟨S8x2048x3072, .f32⟩

abbrev hbmTy (i : Nat) : BufTy := match i / 128 with
  | 0 => hbmTy0_0 i
  | 1 => hbmTy0_1 i
  | _ => ⟨S8x2048x3072, .f32⟩

abbrev bufTy : (tb : Table) → Fin (tcTables nBuf tb) → BufTy
  | .hbm, ⟨i, _⟩ => hbmTy i
  | _, _ => ⟨S8x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_0 : Ref sig .tc := ⟨.hbm, 50, rfl⟩
abbrev main_call1_v5 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst : Ref sig .tc := ⟨.hbm, 62, rfl⟩
abbrev main_v32 : Ref sig .tc := ⟨.hbm, 63, rfl⟩
abbrev main_c_0 : Ref sig .tc := ⟨.hbm, 64, rfl⟩
abbrev main_v33_0 : Ref sig .tc := ⟨.hbm, 65, rfl⟩
abbrev main_v33_1 : Ref sig .tc := ⟨.hbm, 66, rfl⟩
abbrev main_v33_2 : Ref sig .tc := ⟨.hbm, 67, rfl⟩
abbrev main_v33_3 : Ref sig .tc := ⟨.hbm, 68, rfl⟩
abbrev main_v33_4 : Ref sig .tc := ⟨.hbm, 69, rfl⟩
abbrev main_v33_5 : Ref sig .tc := ⟨.hbm, 70, rfl⟩
abbrev main_v33_6 : Ref sig .tc := ⟨.hbm, 71, rfl⟩
abbrev main_v33_7 : Ref sig .tc := ⟨.hbm, 72, rfl⟩
abbrev main_v33_8 : Ref sig .tc := ⟨.hbm, 73, rfl⟩
abbrev main_while0c_c_12 : Ref sig .tc := ⟨.hbm, 74, rfl⟩
abbrev main_while0c_v68 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_c_2 : Ref sig .tc := ⟨.hbm, 79, rfl⟩
abbrev main_while0b_call2_c_3 : Ref sig .tc := ⟨.hbm, 80, rfl⟩
abbrev main_while0b_call2_v0 : Ref sig .tc := ⟨.hbm, 81, rfl⟩
abbrev main_while0b_v68 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_c_1 : Ref sig .tc := ⟨.hbm, 85, rfl⟩
abbrev main_while0b_call3_c_2 : Ref sig .tc := ⟨.hbm, 86, rfl⟩
abbrev main_while0b_call3_v0 : Ref sig .tc := ⟨.hbm, 87, rfl⟩
abbrev main_while0b_v69 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_c_2 : Ref sig .tc := ⟨.hbm, 92, rfl⟩
abbrev main_while0b_call4_v0 : Ref sig .tc := ⟨.hbm, 93, rfl⟩
abbrev main_while0b_v70 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_call5_c_2 : Ref sig .tc := ⟨.hbm, 98, rfl⟩
abbrev main_while0b_call5_v0 : Ref sig .tc := ⟨.hbm, 99, rfl⟩
abbrev main_while0b_v71 : Ref sig .tc := ⟨.hbm, 100, rfl⟩
abbrev main_while0b_v72 : Ref sig .tc := ⟨.hbm, 101, rfl⟩
abbrev main_while0b_v73 : Ref sig .tc := ⟨.hbm, 102, rfl⟩
abbrev main_while0b_v74 : Ref sig .tc := ⟨.hbm, 103, rfl⟩
abbrev main_while0b_call6_call0_cst : Ref sig .tc := ⟨.hbm, 104, rfl⟩
abbrev main_while0b_call6_call0_v0 : Ref sig .tc := ⟨.hbm, 105, rfl⟩
abbrev main_while0b_v75 : Ref sig .tc := ⟨.hbm, 106, rfl⟩
abbrev main_while0b_v76 : Ref sig .tc := ⟨.hbm, 107, rfl⟩
abbrev main_while0b_v77 : Ref sig .tc := ⟨.hbm, 108, rfl⟩
abbrev main_while0b_v78 : Ref sig .tc := ⟨.hbm, 109, rfl⟩
abbrev main_while0b_v79 : Ref sig .tc := ⟨.hbm, 110, rfl⟩
abbrev main_while0b_v80 : Ref sig .tc := ⟨.hbm, 111, rfl⟩
abbrev main_while0b_cst_12 : Ref sig .tc := ⟨.hbm, 112, rfl⟩
abbrev main_while0b_call7_v0 : Ref sig .tc := ⟨.hbm, 113, rfl⟩
abbrev main_while0b_call7_v1 : Ref sig .tc := ⟨.hbm, 114, rfl⟩
abbrev main_while0b_call7_v2 : Ref sig .tc := ⟨.hbm, 115, rfl⟩
abbrev main_while0b_v81 : Ref sig .tc := ⟨.hbm, 116, rfl⟩
abbrev main_while0b_v82 : Ref sig .tc := ⟨.hbm, 117, rfl⟩
abbrev main_while0b_v83 : Ref sig .tc := ⟨.hbm, 118, rfl⟩
abbrev main_while0b_v84 : Ref sig .tc := ⟨.hbm, 119, rfl⟩
abbrev main_while0b_v85 : Ref sig .tc := ⟨.hbm, 120, rfl⟩
abbrev main_while0b_v86 : Ref sig .tc := ⟨.hbm, 121, rfl⟩
abbrev main_while0b_v87 : Ref sig .tc := ⟨.hbm, 122, rfl⟩
abbrev main_while0b_v88 : Ref sig .tc := ⟨.hbm, 123, rfl⟩
abbrev main_while0b_v89 : Ref sig .tc := ⟨.hbm, 124, rfl⟩
abbrev main_while0b_v90 : Ref sig .tc := ⟨.hbm, 125, rfl⟩
abbrev main_while0b_v91 : Ref sig .tc := ⟨.hbm, 126, rfl⟩
abbrev main_while0b_v92 : Ref sig .tc := ⟨.hbm, 127, rfl⟩
abbrev main_while0b_v93 : Ref sig .tc := ⟨.hbm, 128, rfl⟩
abbrev main_while0b_v94 : Ref sig .tc := ⟨.hbm, 129, rfl⟩
abbrev main_while0b_v95 : Ref sig .tc := ⟨.hbm, 130, rfl⟩
abbrev main_while0b_v96 : Ref sig .tc := ⟨.hbm, 131, rfl⟩
abbrev main_while0b_v97 : Ref sig .tc := ⟨.hbm, 132, rfl⟩
abbrev main_while0b_v98 : Ref sig .tc := ⟨.hbm, 133, rfl⟩
abbrev main_while0b_v99 : Ref sig .tc := ⟨.hbm, 134, rfl⟩
abbrev main_while0b_v100 : Ref sig .tc := ⟨.hbm, 135, rfl⟩
abbrev main_while0b_v101 : Ref sig .tc := ⟨.hbm, 136, rfl⟩
abbrev main_while0b_v102 : Ref sig .tc := ⟨.hbm, 137, rfl⟩
abbrev main_while0b_v103 : Ref sig .tc := ⟨.hbm, 138, rfl⟩
abbrev main_while0b_v104 : Ref sig .tc := ⟨.hbm, 139, rfl⟩
abbrev main_while0b_v105 : Ref sig .tc := ⟨.hbm, 140, rfl⟩
abbrev main_while0b_v106 : Ref sig .tc := ⟨.hbm, 141, rfl⟩
abbrev main_while0b_v107 : Ref sig .tc := ⟨.hbm, 142, rfl⟩
abbrev main_while0b_v108 : Ref sig .tc := ⟨.hbm, 143, rfl⟩
abbrev main_while0b_v109 : Ref sig .tc := ⟨.hbm, 144, rfl⟩
abbrev main_while0b_v110 : Ref sig .tc := ⟨.hbm, 145, rfl⟩
abbrev main_while0b_v111 : Ref sig .tc := ⟨.hbm, 146, rfl⟩
abbrev main_while0b_v112 : Ref sig .tc := ⟨.hbm, 147, rfl⟩
abbrev main_while0b_v113 : Ref sig .tc := ⟨.hbm, 148, rfl⟩
abbrev main_while0b_v114 : Ref sig .tc := ⟨.hbm, 149, rfl⟩
abbrev main_while0b_v115 : Ref sig .tc := ⟨.hbm, 150, rfl⟩
abbrev main_while0b_call8_v0 : Ref sig .tc := ⟨.hbm, 151, rfl⟩
abbrev main_while0b_call8_c : Ref sig .tc := ⟨.hbm, 152, rfl⟩
abbrev main_while0b_call8_c_0 : Ref sig .tc := ⟨.hbm, 153, rfl⟩
abbrev main_while0b_call8_c_1 : Ref sig .tc := ⟨.hbm, 154, rfl⟩
abbrev main_while0b_call8_c_2 : Ref sig .tc := ⟨.hbm, 155, rfl⟩
abbrev main_while0b_call8_c_3 : Ref sig .tc := ⟨.hbm, 156, rfl⟩
abbrev main_while0b_v116 : Ref sig .tc := ⟨.hbm, 157, rfl⟩
abbrev main_while0b_c_13 : Ref sig .tc := ⟨.hbm, 158, rfl⟩
abbrev main_while0b_v117 : Ref sig .tc := ⟨.hbm, 159, rfl⟩
abbrev main_v34 : Ref sig .tc := ⟨.hbm, 160, rfl⟩
abbrev main_v35 : Ref sig .tc := ⟨.hbm, 161, rfl⟩
abbrev main_v36 : Ref sig .tc := ⟨.hbm, 162, rfl⟩
abbrev main_v37 : Ref sig .tc := ⟨.hbm, 163, rfl⟩
abbrev main_v38 : Ref sig .tc := ⟨.hbm, 164, rfl⟩
abbrev main_v39 : Ref sig .tc := ⟨.hbm, 165, rfl⟩
abbrev main_v40 : Ref sig .tc := ⟨.hbm, 166, rfl⟩
abbrev main_v41 : Ref sig .tc := ⟨.hbm, 167, rfl⟩
abbrev main_v42 : Ref sig .tc := ⟨.hbm, 168, rfl⟩
abbrev main_call9_v0 : Ref sig .tc := ⟨.hbm, 169, rfl⟩
abbrev main_call9_v1 : Ref sig .tc := ⟨.hbm, 170, rfl⟩
abbrev main_call9_cst : Ref sig .tc := ⟨.hbm, 171, rfl⟩
abbrev main_call9_v2 : Ref sig .tc := ⟨.hbm, 172, rfl⟩
abbrev main_call9_v3 : Ref sig .tc := ⟨.hbm, 173, rfl⟩
abbrev main_call9_cst_0 : Ref sig .tc := ⟨.hbm, 174, rfl⟩
abbrev main_call9_v4 : Ref sig .tc := ⟨.hbm, 175, rfl⟩
abbrev main_call9_v5 : Ref sig .tc := ⟨.hbm, 176, rfl⟩
abbrev main_v43 : Ref sig .tc := ⟨.hbm, 177, rfl⟩
abbrev main_v44 : Ref sig .tc := ⟨.hbm, 178, rfl⟩
abbrev main_v45 : Ref sig .tc := ⟨.hbm, 179, rfl⟩
abbrev main_v46 : Ref sig .tc := ⟨.hbm, 180, rfl⟩
abbrev main_v47 : Ref sig .tc := ⟨.hbm, 181, rfl⟩
abbrev main_cst_1 : Ref sig .tc := ⟨.hbm, 182, rfl⟩
abbrev main_v48 : Ref sig .tc := ⟨.hbm, 183, rfl⟩
abbrev main_v49 : Ref sig .tc := ⟨.hbm, 184, rfl⟩
abbrev main_cst_2 : Ref sig .tc := ⟨.hbm, 185, rfl⟩
abbrev main_v50 : Ref sig .tc := ⟨.hbm, 186, rfl⟩
abbrev main_v51 : Ref sig .tc := ⟨.hbm, 187, rfl⟩
abbrev main_cst_3 : Ref sig .tc := ⟨.hbm, 188, rfl⟩
abbrev main_v52 : Ref sig .tc := ⟨.hbm, 189, rfl⟩
abbrev main_v53 : Ref sig .tc := ⟨.hbm, 190, rfl⟩
abbrev main_v54 : Ref sig .tc := ⟨.hbm, 191, rfl⟩
abbrev main_v55 : Ref sig .tc := ⟨.hbm, 192, rfl⟩
abbrev main_v56 : Ref sig .tc := ⟨.hbm, 193, rfl⟩
abbrev main_v57 : Ref sig .tc := ⟨.hbm, 194, rfl⟩
abbrev main_v58 : Ref sig .tc := ⟨.hbm, 195, rfl⟩
abbrev main_v59 : Ref sig .tc := ⟨.hbm, 196, rfl⟩
abbrev main_v60 : Ref sig .tc := ⟨.hbm, 197, rfl⟩
abbrev main_v61 : Ref sig .tc := ⟨.hbm, 198, rfl⟩
abbrev main_v62 : Ref sig .tc := ⟨.hbm, 199, rfl⟩
abbrev main_v63 : Ref sig .tc := ⟨.hbm, 200, rfl⟩
abbrev main_v64 : Ref sig .tc := ⟨.hbm, 201, rfl⟩
abbrev main_v65 : Ref sig .tc := ⟨.hbm, 202, rfl⟩
abbrev main_v66 : Ref sig .tc := ⟨.hbm, 203, rfl⟩
abbrev main_v67 : Ref sig .tc := ⟨.hbm, 204, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x2048x1024 : Shape := ⟨3, ![8, 2048, 1024]⟩
abbrev S128x4x1024 : Shape := ⟨3, ![128, 4, 1024]⟩
abbrev S1024x11296 : Shape := ⟨2, ![1024, 11296]⟩
abbrev S1024x1024 : Shape := ⟨2, ![1024, 1024]⟩
abbrev S1024x2048 : Shape := ⟨2, ![1024, 2048]⟩
abbrev S1024x3072 : Shape := ⟨2, ![1024, 3072]⟩
abbrev S1024x32 : Shape := ⟨2, ![1024, 32]⟩
abbrev S1024x4x8 : Shape := ⟨3, ![1024, 4, 8]⟩
abbrev S_ : Shape := ⟨0, ![]⟩
abbrev S1024x4x128 : Shape := ⟨3, ![1024, 4, 128]⟩
abbrev S1024x512 : Shape := ⟨2, ![1024, 512]⟩
abbrev S1024x11776 : Shape := ⟨2, ![1024, 11776]⟩
abbrev S128x8x1024 : Shape := ⟨3, ![128, 8, 1024]⟩
abbrev S16384x1024 : Shape := ⟨2, ![16384, 1024]⟩
abbrev S17408x1024 : Shape := ⟨2, ![17408, 1024]⟩
abbrev S17408x11776 : Shape := ⟨2, ![17408, 11776]⟩
abbrev S1024x2944 : Shape := ⟨2, ![1024, 2944]⟩
abbrev S17408x512 : Shape := ⟨2, ![17408, 512]⟩
abbrev S17408x4x128 : Shape := ⟨3, ![17408, 4, 128]⟩
abbrev S17408x4x8 : Shape := ⟨3, ![17408, 4, 8]⟩
abbrev S17408x32 : Shape := ⟨2, ![17408, 32]⟩
abbrev S17408x9216 : Shape := ⟨2, ![17408, 9216]⟩
abbrev S17408x2048 : Shape := ⟨2, ![17408, 2048]⟩
abbrev S17408x11296 : Shape := ⟨2, ![17408, 11296]⟩
abbrev S16384x11296 : Shape := ⟨2, ![16384, 11296]⟩
abbrev S8x2048x11296 : Shape := ⟨3, ![8, 2048, 11296]⟩
abbrev S128x8x11296 : Shape := ⟨3, ![128, 8, 11296]⟩
abbrev S128x4x11296 : Shape := ⟨3, ![128, 4, 11296]⟩
abbrev S8 : Shape := ⟨1, ![8]⟩
abbrev S8x1 : Shape := ⟨2, ![8, 1]⟩
abbrev S3 : Shape := ⟨1, ![3]⟩
abbrev S1x3 : Shape := ⟨2, ![1, 3]⟩
abbrev S8x3 : Shape := ⟨2, ![8, 3]⟩
abbrev S24 : Shape := ⟨1, ![24]⟩
abbrev S24x1 : Shape := ⟨2, ![24, 1]⟩
abbrev S24x11776 : Shape := ⟨2, ![24, 11776]⟩
abbrev S24x3072 : Shape := ⟨2, ![24, 3072]⟩
abbrev S8x3x3072 : Shape := ⟨3, ![8, 3, 3072]⟩
abbrev S128 : Shape := ⟨1, ![128]⟩
abbrev S128x1 : Shape := ⟨2, ![128, 1]⟩
abbrev S128x3 : Shape := ⟨2, ![128, 3]⟩
abbrev S384 : Shape := ⟨1, ![384]⟩
abbrev S384x1 : Shape := ⟨2, ![384, 1]⟩
abbrev S384x11776 : Shape := ⟨2, ![384, 11776]⟩
abbrev S384x3072 : Shape := ⟨2, ![384, 3072]⟩
abbrev S128x3x3072 : Shape := ⟨3, ![128, 3, 3072]⟩

abbrev nBuf : Space → Nat
  | .hbm => 95
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S1024x11296, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x2048, .f32⟩
  | .hbm, ⟨8, _⟩ => ⟨S1024x3072, .f32⟩
  | .hbm, ⟨9, _⟩ => ⟨S1024x32, .f32⟩
  | .hbm, ⟨10, _⟩ => ⟨S1024x1024, .f32⟩
  | .hbm, ⟨11, _⟩ => ⟨S1024x1024, .f32⟩
  | .hbm, ⟨12, _⟩ => ⟨S1024x4x8, .f32⟩
  | .hbm, ⟨13, _⟩ => ⟨S_, .i32⟩
  | .hbm, ⟨14, _⟩ => ⟨S_, .f32⟩
  | .hbm, ⟨15, _⟩ => ⟨S1024x4x128, .f32⟩
  | .hbm, ⟨16, _⟩ => ⟨S1024x512, .f32⟩
  | .hbm, ⟨17, _⟩ => ⟨S1024x11776, .f32⟩
  | .hbm, ⟨18, _⟩ => ⟨S1024x11776, .bf16⟩
  | .hbm, ⟨19, _⟩ => ⟨S_, .i32⟩
  | .hbm, ⟨20, _⟩ => ⟨S_, .f32⟩
  | .hbm, ⟨21, _⟩ => ⟨S128x8x1024, .f32⟩
  | .hbm, ⟨22, _⟩ => ⟨S16384x1024, .f32⟩
  | .hbm, ⟨23, _⟩ => ⟨S1024x1024, .f32⟩
  | .hbm, ⟨24, _⟩ => ⟨S17408x1024, .f32⟩
  | .hbm, ⟨25, _⟩ => ⟨S17408x1024, .bf16⟩
  | .hbm, ⟨26, _⟩ => ⟨S17408x11776, .f32⟩
  | .hbm, ⟨27, _⟩ => ⟨S17408x512, .f32⟩
  | .hbm, ⟨28, _⟩ => ⟨S17408x4x128, .f32⟩
  | .hbm, ⟨29, _⟩ => ⟨S17408x4x8, .f32⟩
  | .hbm, ⟨30, _⟩ => ⟨S17408x32, .f32⟩
  | .hbm, ⟨31, _⟩ => ⟨S17408x9216, .f32⟩
  | .hbm, ⟨32, _⟩ => ⟨S17408x2048, .f32⟩
  | .hbm, ⟨33, _⟩ => ⟨S17408x11296, .f32⟩
  | .hbm, ⟨34, _⟩ => ⟨S16384x11296, .f32⟩
  | .hbm, ⟨35, _⟩ => ⟨S8x2048x11296, .f32⟩
  | .hbm, ⟨36, _⟩ => ⟨S1024x11296, .f32⟩
  | .hbm, ⟨37, _⟩ => ⟨S128x8x11296, .f32⟩
  | .hbm, ⟨38, _⟩ => ⟨S128x4x11296, .f32⟩
  | .hbm, ⟨39, _⟩ => ⟨S8, .i32⟩
  | .hbm, ⟨40, _⟩ => ⟨S8x1, .i32⟩
  | .hbm, ⟨41, _⟩ => ⟨S_, .i32⟩
  | .hbm, ⟨42, _⟩ => ⟨S8x1, .i32⟩
  | .hbm, ⟨43, _⟩ => ⟨S8x1, .i32⟩
  | .hbm, ⟨44, _⟩ => ⟨S_, .i32⟩
  | .hbm, ⟨45, _⟩ => ⟨S8x1, .i32⟩
  | .hbm, ⟨46, _⟩ => ⟨S8x1, .i32⟩
  | .hbm, ⟨47, _⟩ => ⟨S3, .i32⟩
  | .hbm, ⟨48, _⟩ => ⟨S_, .i32⟩
  | .hbm, ⟨49, _⟩ => ⟨S3, .i32⟩
  | .hbm, ⟨50, _⟩ => ⟨S3, .i32⟩
  | .hbm, ⟨51, _⟩ => ⟨S1x3, .i32⟩
  | .hbm, ⟨52, _⟩ => ⟨S8x3, .i32⟩
  | .hbm, ⟨53, _⟩ => ⟨S8x3, .i32⟩
  | .hbm, ⟨54, _⟩ => ⟨S8x3, .i32⟩
  | .hbm, ⟨55, _⟩ => ⟨S24, .i32⟩
  | .hbm, ⟨56, _⟩ => ⟨S_, .i32⟩
  | .hbm, ⟨57, _⟩ => ⟨S24, .i32⟩
  | .hbm, ⟨58, _⟩ => ⟨S24, .i1⟩
  | .hbm, ⟨59, _⟩ => ⟨S_, .i32⟩
  | .hbm, ⟨60, _⟩ => ⟨S24, .i32⟩
  | .hbm, ⟨61, _⟩ => ⟨S24, .i32⟩
  | .hbm, ⟨62, _⟩ => ⟨S24, .i32⟩
  | .hbm, ⟨63, _⟩ => ⟨S24x1, .i32⟩
  | .hbm, ⟨64, _⟩ => ⟨S24x11776, .f32⟩
  | .hbm, ⟨65, _⟩ => ⟨S24x3072, .f32⟩
  | .hbm, ⟨66, _⟩ => ⟨S8x3x3072, .f32⟩
  | .hbm, ⟨67, _⟩ => ⟨S128, .i32⟩
  | .hbm, ⟨68, _⟩ => ⟨S128x1, .i32⟩
  | .hbm, ⟨69, _⟩ => ⟨S_, .i32⟩
  | .hbm, ⟨70, _⟩ => ⟨S128x1, .i32⟩
  | .hbm, ⟨71, _⟩ => ⟨S128x1, .i32⟩
  | .hbm, ⟨72, _⟩ => ⟨S_, .i32⟩
  | .hbm, ⟨73, _⟩ => ⟨S128x1, .i32⟩
  | .hbm, ⟨74, _⟩ => ⟨S128x1, .i32⟩
  | .hbm, ⟨75, _⟩ => ⟨S3, .i32⟩
  | .hbm, ⟨76, _⟩ => ⟨S_, .i32⟩
  | .hbm, ⟨77, _⟩ => ⟨S3, .i32⟩
  | .hbm, ⟨78, _⟩ => ⟨S3, .i32⟩
  | .hbm, ⟨79, _⟩ => ⟨S1x3, .i32⟩
  | .hbm, ⟨80, _⟩ => ⟨S128x3, .i32⟩
  | .hbm, ⟨81, _⟩ => ⟨S128x3, .i32⟩
  | .hbm, ⟨82, _⟩ => ⟨S128x3, .i32⟩
  | .hbm, ⟨83, _⟩ => ⟨S384, .i32⟩
  | .hbm, ⟨84, _⟩ => ⟨S_, .i32⟩
  | .hbm, ⟨85, _⟩ => ⟨S384, .i32⟩
  | .hbm, ⟨86, _⟩ => ⟨S384, .i1⟩
  | .hbm, ⟨87, _⟩ => ⟨S_, .i32⟩
  | .hbm, ⟨88, _⟩ => ⟨S384, .i32⟩
  | .hbm, ⟨89, _⟩ => ⟨S384, .i32⟩
  | .hbm, ⟨90, _⟩ => ⟨S384, .i32⟩
  | .hbm, ⟨91, _⟩ => ⟨S384x1, .i32⟩
  | .hbm, ⟨92, _⟩ => ⟨S384x11776, .f32⟩
  | .hbm, ⟨93, _⟩ => ⟨S384x3072, .f32⟩
  | .hbm, ⟨94, _⟩ => ⟨S128x3x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x2944, .bf16⟩
  | .local _ .vmem, ⟨3, _⟩ => ⟨S1024x2944, .bf16⟩
  | .local _ .vmem, ⟨4, _⟩ => ⟨S1024x2944, .f32⟩
  | .local _ .vmem, ⟨5, _⟩ => ⟨S1024x2944, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_call1_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_1 : Ref sig .tc := ⟨.hbm, 41, rfl⟩
abbrev main_v34 : Ref sig .tc := ⟨.hbm, 42, rfl⟩
abbrev main_v35 : Ref sig .tc := ⟨.hbm, 43, rfl⟩
abbrev main_c_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_4 : Ref sig .tc := ⟨.hbm, 56, rfl⟩
abbrev main_v46 : Ref sig .tc := ⟨.hbm, 57, rfl⟩
abbrev main_v47 : Ref sig .tc := ⟨.hbm, 58, rfl⟩
abbrev main_c_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c_6 : Ref sig .tc := ⟨.hbm, 69, rfl⟩
abbrev main_v57 : Ref sig .tc := ⟨.hbm, 70, rfl⟩
abbrev main_v58 : Ref sig .tc := ⟨.hbm, 71, rfl⟩
abbrev main_c_7 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_c_8 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_c_9 : Ref sig .tc := ⟨.hbm, 84, rfl⟩
abbrev main_v69 : Ref sig .tc := ⟨.hbm, 85, rfl⟩
abbrev main_v70 : Ref sig .tc := ⟨.hbm, 86, rfl⟩
abbrev main_c_10 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8x2048x1024 : Shape := ⟨3, ![8, 2048, 1024]⟩
abbrev S128x4x1024 : Shape := ⟨3, ![128, 4, 1024]⟩
abbrev S1024x11296 : Shape := ⟨2, ![1024, 11296]⟩
abbrev S8x2048x11296 : Shape := ⟨3, ![8, 2048, 11296]⟩
abbrev S128x4x11296 : Shape := ⟨3, ![128, 4, 11296]⟩
abbrev S8x3x3072 : Shape := ⟨3, ![8, 3, 3072]⟩
abbrev S128x3x3072 : Shape := ⟨3, ![128, 3, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S1024x11296, .f32⟩
  | .hbm, ⟨3, _⟩ => ⟨S8x2048x11296, .f32⟩
  | .hbm, ⟨4, _⟩ => ⟨S128x4x11296, .f32⟩
  | .hbm, ⟨5, _⟩ => ⟨S8x3x3072, .f32⟩
  | .hbm, ⟨6, _⟩ => ⟨S128x3x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S8x2048x1024 : Shape := ⟨3, ![8, 2048, 1024]⟩
abbrev S128x4x1024 : Shape := ⟨3, ![128, 4, 1024]⟩
abbrev S8x2048x2048 : Shape := ⟨3, ![8, 2048, 2048]⟩
abbrev S128x4x2048 : Shape := ⟨3, ![128, 4, 2048]⟩
abbrev S8x2048x11296 : Shape := ⟨3, ![8, 2048, 11296]⟩
abbrev S128x4x11296 : Shape := ⟨3, ![128, 4, 11296]⟩
abbrev S1024x1024 : Shape := ⟨2, ![1024, 1024]⟩
abbrev S2048x1024 : Shape := ⟨2, ![2048, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S128x8x1024 : Shape := ⟨3, ![128, 8, 1024]⟩
abbrev S16384x1024 : Shape := ⟨2, ![16384, 1024]⟩
abbrev S17408x1024 : Shape := ⟨2, ![17408, 1024]⟩
abbrev S128x8x2048 : Shape := ⟨3, ![128, 8, 2048]⟩
abbrev S16384x2048 : Shape := ⟨2, ![16384, 2048]⟩
abbrev S1024x2048 : Shape := ⟨2, ![1024, 2048]⟩
abbrev S17408x2048 : Shape := ⟨2, ![17408, 2048]⟩
abbrev S128x8x11296 : Shape := ⟨3, ![128, 8, 11296]⟩
abbrev S16384x11296 : Shape := ⟨2, ![16384, 11296]⟩
abbrev S1024x11296 : Shape := ⟨2, ![1024, 11296]⟩
abbrev S17408x11296 : Shape := ⟨2, ![17408, 11296]⟩
abbrev S17408x3072 : Shape := ⟨2, ![17408, 3072]⟩
abbrev S17408x32 : Shape := ⟨2, ![17408, 32]⟩
abbrev S17408x4x8 : Shape := ⟨3, ![17408, 4, 8]⟩
abbrev S17408x4x128 : Shape := ⟨3, ![17408, 4, 128]⟩
abbrev S17408x512 : Shape := ⟨2, ![17408, 512]⟩
abbrev S17408x11776 : Shape := ⟨2, ![17408, 11776]⟩
abbrev S1x1024 : Shape := ⟨2, ![1, 1024]⟩
abbrev S128 : Shape := ⟨1, ![128]⟩
abbrev S1x128 : Shape := ⟨2, ![1, 128]⟩
abbrev S17408x8x128 : Shape := ⟨3, ![17408, 8, 128]⟩
abbrev S17408x128 : Shape := ⟨2, ![17408, 128]⟩
abbrev S256x1024 : Shape := ⟨2, ![256, 1024]⟩
abbrev S256x2048 : Shape := ⟨2, ![256, 2048]⟩
abbrev S256x8x128 : Shape := ⟨3, ![256, 8, 128]⟩
abbrev S256x128 : Shape := ⟨2, ![256, 128]⟩
abbrev S256 : Shape := ⟨1, ![256]⟩
abbrev S256x1 : Shape := ⟨2, ![256, 1]⟩
abbrev S16384x32 : Shape := ⟨2, ![16384, 32]⟩
abbrev S8x2048x32 : Shape := ⟨3, ![8, 2048, 32]⟩
abbrev S128x8x32 : Shape := ⟨3, ![128, 8, 32]⟩
abbrev S128x4x32 : Shape := ⟨3, ![128, 4, 32]⟩

abbrev nBuf : Space → Nat
  | .hbm => 94
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S8x2048x2048, .f32⟩
  | .hbm, ⟨3, _⟩ => ⟨S128x4x2048, .f32⟩
  | .hbm, ⟨4, _⟩ => ⟨S8x2048x11296, .f32⟩
  | .hbm, ⟨5, _⟩ => ⟨S128x4x11296, .f32⟩
  | .hbm, ⟨6, _⟩ => ⟨S8x2048x1024, .f32⟩
  | .hbm, ⟨7, _⟩ => ⟨S128x4x1024, .f32⟩
  | .hbm, ⟨8, _⟩ => ⟨S1024x1024, .f32⟩
  | .hbm, ⟨9, _⟩ => ⟨S2048x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024x32, .f32⟩
  | .hbm, ⟨14, _⟩ => ⟨S32, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S_, .i32⟩
  | .hbm, ⟨23, _⟩ => ⟨S_, .f32⟩
  | .hbm, ⟨24, _⟩ => ⟨S128x8x1024, .f32⟩
  | .hbm, ⟨25, _⟩ => ⟨S16384x1024, .f32⟩
  | .hbm, ⟨26, _⟩ => ⟨S1024x1024, .f32⟩
  | .hbm, ⟨27, _⟩ => ⟨S17408x1024, .f32⟩
  | .hbm, ⟨28, _⟩ => ⟨S_, .i32⟩
  | .hbm, ⟨29, _⟩ => ⟨S_, .f32⟩
  | .hbm, ⟨30, _⟩ => ⟨S128x8x2048, .f32⟩
  | .hbm, ⟨31, _⟩ => ⟨S16384x2048, .f32⟩
  | .hbm, ⟨32, _⟩ => ⟨S1024x2048, .f32⟩
  | .hbm, ⟨33, _⟩ => ⟨S17408x2048, .f32⟩
  | .hbm, ⟨34, _⟩ => ⟨S16384x1024, .f32⟩
  | .hbm, ⟨35, _⟩ => ⟨S1024x1024, .f32⟩
  | .hbm, ⟨36, _⟩ => ⟨S16384x2048, .f32⟩
  | .hbm, ⟨37, _⟩ => ⟨S1024x2048, .f32⟩
  | .hbm, ⟨38, _⟩ => ⟨S_, .i32⟩
  | .hbm, ⟨39, _⟩ => ⟨S_, .f32⟩
  | .hbm, ⟨40, _⟩ => ⟨S128x8x11296, .f32⟩
  | .hbm, ⟨41, _⟩ => ⟨S16384x11296, .f32⟩
  | .hbm, ⟨42, _⟩ => ⟨S1024x11296, .f32⟩
  | .hbm, ⟨43, _⟩ => ⟨S17408x11296, .f32⟩
  | .hbm, ⟨44, _⟩ => ⟨S17408x1024, .f32⟩
  | .hbm, ⟨45, _⟩ => ⟨S17408x1024, .f32⟩
  | .hbm, ⟨46, _⟩ => ⟨S17408x1024, .f32⟩
  | .hbm, ⟨47, _⟩ => ⟨S17408x1024, .f32⟩
  | .hbm, ⟨48, _⟩ => ⟨S17408x2048, .f32⟩
  | .hbm, ⟨49, _⟩ => ⟨S17408x3072, .f32⟩
  | .hbm, ⟨50, _⟩ => ⟨S17408x32, .f32⟩
  | .hbm, ⟨51, _⟩ => ⟨S17408x1024, .f32⟩
  | .hbm, ⟨52, _⟩ => ⟨S17408x1024, .f32⟩
  | .hbm, ⟨53, _⟩ => ⟨S17408x4x8, .f32⟩
  | .hbm, ⟨54, _⟩ => ⟨S_, .i32⟩
  | .hbm, ⟨55, _⟩ => ⟨S_, .f32⟩
  | .hbm, ⟨56, _⟩ => ⟨S17408x4x128, .f32⟩
  | .hbm, ⟨57, _⟩ => ⟨S17408x512, .f32⟩
  | .hbm, ⟨58, _⟩ => ⟨S17408x11776, .f32⟩
  | .hbm, ⟨59, _⟩ => ⟨S_, .i32⟩
  | .hbm, ⟨60, _⟩ => ⟨S_, .f32⟩
  | .hbm, ⟨61, _⟩ => ⟨S128x8x1024, .f32⟩
  | .hbm, ⟨62, _⟩ => ⟨S16384x1024, .f32⟩
  | .hbm, ⟨63, _⟩ => ⟨S1024x1024, .f32⟩
  | .hbm, ⟨64, _⟩ => ⟨S17408x1024, .f32⟩
  | .hbm, ⟨65, _⟩ => ⟨S1024x1024, .bf16⟩
  | .hbm, ⟨66, _⟩ => ⟨S2048x1024, .bf16⟩
  | .hbm, ⟨67, _⟩ => ⟨S1024x1024, .bf16⟩
  | .hbm, ⟨68, _⟩ => ⟨S1x1024, .f32⟩
  | .hbm, ⟨69, _⟩ => ⟨S1x1024, .f32⟩
  | .hbm, ⟨70, _⟩ => ⟨S_, .i32⟩
  | .hbm, ⟨71, _⟩ => ⟨S_, .f32⟩
  | .hbm, ⟨72, _⟩ => ⟨S128, .f32⟩
  | .hbm, ⟨73, _⟩ => ⟨S1x128, .f32⟩
  | .hbm, ⟨74, _⟩ => ⟨S17408x1024, .f32⟩
  | .hbm, ⟨75, _⟩ => ⟨S17408x8x128, .f32⟩
  | .hbm, ⟨76, _⟩ => ⟨S17408x128, .f32⟩
  | .hbm, ⟨77, _⟩ => ⟨S16384x1024, .f32⟩
  | .hbm, ⟨78, _⟩ => ⟨S8x2048x1024, .f32⟩
  | .hbm, ⟨79, _⟩ => ⟨S1024x1024, .f32⟩
  | .hbm, ⟨80, _⟩ => ⟨S128x8x1024, .f32⟩
  | .hbm, ⟨81, _⟩ => ⟨S128x4x1024, .f32⟩
  | .hbm, ⟨82, _⟩ => ⟨S17408x1024, .f32⟩
  | .hbm, ⟨83, _⟩ => ⟨S16384x1024, .f32⟩
  | .hbm, ⟨84, _⟩ => ⟨S8x2048x1024, .f32⟩
  | .hbm, ⟨85, _⟩ => ⟨S1024x1024, .f32⟩
  | .hbm, ⟨86, _⟩ => ⟨S128x8x1024, .f32⟩
  | .hbm, ⟨87, _⟩ => ⟨S128x4x1024, .f32⟩
  | .hbm, ⟨88, _⟩ => ⟨S17408x32, .f32⟩
  | .hbm, ⟨89, _⟩ => ⟨S16384x32, .f32⟩
  | .hbm, ⟨90, _⟩ => ⟨S8x2048x32, .f32⟩
  | .hbm, ⟨91, _⟩ => ⟨S1024x32, .f32⟩
  | .hbm, ⟨92, _⟩ => ⟨S128x8x32, .f32⟩
  | .hbm, ⟨93, _⟩ => ⟨S128x4x32, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1024x1024, .bf16⟩
  | .local _ .vmem, ⟨15, _⟩ => ⟨S2048x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1024x128, .bf16⟩
  | .local _ .vmem, ⟨20, _⟩ => ⟨S1024x128, .bf16⟩
  | .local _ .vmem, ⟨21, _⟩ => ⟨S1x128, .f32⟩
  | .local _ .vmem, ⟨22, _⟩ => ⟨S256x1024, .f32⟩
  | .local _ .vmem, ⟨23, _⟩ => ⟨S256x1024, .f32⟩
  | .local _ .vmem, ⟨24, _⟩ => ⟨S256x8x128, .f32⟩
  | .local _ .vmem, ⟨25, _⟩ => ⟨S256x8x128, .f32⟩
  | .local _ .vmem, ⟨26, _⟩ => ⟨S256x128, .f32⟩
  | .local _ .vmem, ⟨27, _⟩ => ⟨S256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_call1_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_call2_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_call3_v0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_3 : Ref sig .tc := ⟨.hbm, 54, rfl⟩
abbrev main_call4_v0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_call5_v0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_5 : Ref sig .tc := ⟨.hbm, 70, rfl⟩
abbrev main_call6_v0 : Ref sig .tc := ⟨.hbm, 71, rfl⟩
abbrev main_v43 : Ref sig .tc := ⟨.hbm, 72, rfl⟩
abbrev main_v44 : Ref sig .tc := ⟨.hbm, 73, rfl⟩
abbrev main_v45_0 : Ref sig .tc := ⟨.hbm, 74, rfl⟩
abbrev main_v45_1 : Ref sig .tc := ⟨.hbm, 75, rfl⟩
abbrev main_v45_2 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S8x2048x1024 : Shape := ⟨3, ![8, 2048, 1024]⟩
abbrev S128x4x1024 : Shape := ⟨3, ![128, 4, 1024]⟩
abbrev S8x2048x2048 : Shape := ⟨3, ![8, 2048, 2048]⟩
abbrev S128x4x2048 : Shape := ⟨3, ![128, 4, 2048]⟩
abbrev S8x2048x11296 : Shape := ⟨3, ![8, 2048, 11296]⟩
abbrev S128x4x11296 : Shape := ⟨3, ![128, 4, 11296]⟩
abbrev S1024x1024 : Shape := ⟨2, ![1024, 1024]⟩
abbrev S2048x1024 : Shape := ⟨2, ![2048, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x32 : Shape := ⟨3, ![8, 2048, 32]⟩
abbrev S1x1x32 : Shape := ⟨3, ![1, 1, 32]⟩
abbrev S128x4 : Shape := ⟨2, ![128, 4]⟩
abbrev S128x4x1 : Shape := ⟨3, ![128, 4, 1]⟩
abbrev S128x4x32 : Shape := ⟨3, ![128, 4, 32]⟩

abbrev nBuf : Space → Nat
  | .hbm => 137
  | .vmem => 0
  | .smem => 0
  | _ => 0

abbrev hbmTy0_0 (i : Nat) : BufTy := match i % 128 with
  | 0 => ⟨S8x2048x1024, .f32⟩
  | 1 => ⟨S128x4x1024, .f32⟩
  | 2 => ⟨S8x2048x2048, .f32⟩
  | 3 => ⟨S128x4x2048, .f32⟩
  | 4 => ⟨S8x2048x11296, .f32⟩
  | 5 => ⟨S128x4x11296, .f32⟩
  | 6 => ⟨S8x2048x1024, .f32⟩
  | 7 => ⟨S128x4x1024, .f32⟩
  | 8 => ⟨S1024x1024, .f32⟩
  | 9 => ⟨S2048x1024, .f32⟩
  | 10 => ⟨S1024x1024, .f32⟩
  | 11 => ⟨S1024, .f32⟩
  | 12 => ⟨S1024, .f32⟩
  | 13 => ⟨S1024x32, .f32⟩
  | 14 => ⟨S32, .f32⟩
  | 15 => ⟨S8x2048x1024, .f32⟩
  | 16 => ⟨S8x2048x1024, .f32⟩
  | 17 => ⟨S8x2048x1024, .f32⟩
  | 18 => ⟨S8x2048x1024, .f32⟩
  | 19 => ⟨S8x2048x1024, .f32⟩
  | 20 => ⟨S8x2048x1024, .f32⟩
  | 21 => ⟨S_, .f32⟩
  | 22 => ⟨S8x2048x1024, .f32⟩
  | 23 => ⟨S8x2048x1024, .f32⟩
  | 24 => ⟨S_, .f32⟩
  | 25 => ⟨S8x2048x1024, .f32⟩
  | 26 => ⟨S8x2048x1024, .f32⟩
  | 27 => ⟨S8x2048x1024, .f32⟩
  | 28 => ⟨S8x2048x1024, .f32⟩
  | 29 => ⟨S8x2048x1024, .f32⟩
  | 30 => ⟨S_, .f32⟩
  | 31 => ⟨S8x2048x1024, .f32⟩
  | 32 => ⟨S8x2048x1024, .f32⟩
  | 33 => ⟨S_, .f32⟩
  | 34 => ⟨S8x2048x1024, .f32⟩
  | 35 => ⟨S8x2048x1024, .f32⟩
  | 36 => ⟨S8x2048x1024, .f32⟩
  | 37 => ⟨S8x2048x1024, .f32⟩
  | 38 => ⟨S_, .f32⟩
  | 39 => ⟨S8x2048x1024, .f32⟩
  | 40 => ⟨S8x2048x1024, .f32⟩
  | 41 => ⟨S8x2048x1024, .f32⟩
  | 42 => ⟨S8x2048x1024, .f32⟩
  | 43 => ⟨S_, .f32⟩
  | 44 => ⟨S8x2048, .f32⟩
  | 45 => ⟨S8x2048x1, .f32⟩
  | 46 => ⟨S_, .f32⟩
  | 47 => ⟨S8x2048x1, .f32⟩
  | 48 => ⟨S8x2048x1, .f32⟩
  | 49 => ⟨S8x2048x1024, .f32⟩
  | 50 => ⟨S8x2048x1024, .f32⟩
  | 51 => ⟨S8x2048x1024, .f32⟩
  | 52 => ⟨S_, .f32⟩
  | 53 => ⟨S8x2048, .f32⟩
  | 54 => ⟨S8x2048x1, .f32⟩
  | 55 => ⟨S_, .f32⟩
  | 56 => ⟨S8x2048x1, .f32⟩
  | 57 => ⟨S8x2048x1, .f32⟩
  | 58 => ⟨S8x2048x1024, .f32⟩
  | 59 => ⟨S8x2048x1024, .f32⟩
  | 60 => ⟨S_, .f32⟩
  | 61 => ⟨S8x2048x1, .f32⟩
  | 62 => ⟨S8x2048x1, .f32⟩
  | 63 => ⟨S8x2048x1, .f32⟩
  | 64 => ⟨S8x2048x1024, .f32⟩
  | 65 => ⟨S8x2048x1024, .f32⟩
  | 66 => ⟨S1x1x1024, .f32⟩
  | 67 => ⟨S8x2048x1024, .f32⟩
  | 68 => ⟨S8x2048x1024, .f32⟩
  | 69 => ⟨S1x1x1024, .f32⟩
  | 70 => ⟨S8x2048x1024, .f32⟩
  | 71 => ⟨S8x2048x1024, .f32⟩
  | 72 => ⟨S8x2048x32, .f32⟩
  | 73 => ⟨S1x1x32, .f32⟩
  | 74 => ⟨S8x2048x32, .f32⟩
  | 75 => ⟨S8x2048x32, .f32⟩
  | 76 => ⟨S128x4x1024, .f32⟩
  | 77 => ⟨S128x4x1024, .f32⟩
  | 78 => ⟨S128x4x1024, .f32⟩
  | 79 => ⟨S128x4x1024, .f32⟩
  | 80 => ⟨S128x4x1024, .f32⟩
  | 81 => ⟨S128x4x1024, .f32⟩
  | 82 => ⟨S_, .f32⟩
  | 83 => ⟨S128x4x1024, .f32⟩
  | 84 => ⟨S128x4x1024, .f32⟩
  | 85 => ⟨S_, .f32⟩
  | 86 => ⟨S128x4x1024, .f32⟩
  | 87 => ⟨S128x4x1024, .f32⟩
  | 88 => ⟨S128x4x1024, .f32⟩
  | 89 => ⟨S128x4x1024, .f32⟩
  | 90 => ⟨S128x4x1024, .f32⟩
  | 91 => ⟨S_, .f32⟩
  | 92 => ⟨S128x4x1024, .f32⟩
  | 93 => ⟨S128x4x1024, .f32⟩
  | 94 => ⟨S_, .f32⟩
  | 95 => ⟨S128x4x1024, .f32⟩
  | 96 => ⟨S128x4x1024, .f32⟩
  | 97 => ⟨S128x4x1024, .f32⟩
  | 98 => ⟨S128x4x1024, .f32⟩
  | 99 => ⟨S_, .f32⟩
  | 100 => ⟨S128x4x1024, .f32⟩
  | 101 => ⟨S128x4x1024, .f32⟩
  | 102 => ⟨S128x4x1024, .f32⟩
  | 103 => ⟨S128x4x1024, .f32⟩
  | 104 => ⟨S_, .f32⟩
  | 105 => ⟨S128x4, .f32⟩
  | 106 => ⟨S128x4x1, .f32⟩
  | 107 => ⟨S_, .f32⟩
  | 108 => ⟨S128x4x1, .f32⟩
  | 109 => ⟨S128x4x1, .f32⟩
  | 110 => ⟨S128x4x1024, .f32⟩
  | 111 => ⟨S128x4x1024, .f32⟩
  | 112 => ⟨S128x4x1024, .f32⟩
  | 113 => ⟨S_, .f32⟩
  | 114 => ⟨S128x4, .f32⟩
  | 115 => ⟨S128x4x1, .f32⟩
  | 116 => ⟨S_, .f32⟩
  | 117 => ⟨S128x4x1, .f32⟩
  | 118 => ⟨S128x4x1, .f32⟩
  | 119 => ⟨S128x4x1024, .f32⟩
  | 120 => ⟨S128x4x1024, .f32⟩
  | 121 => ⟨S_, .f32⟩
  | 122 => ⟨S128x4x1, .f32⟩
  | 123 => ⟨S128x4x1, .f32⟩
  | 124 => ⟨S128x4x1, .f32⟩
  | 125 => ⟨S128x4x1024, .f32⟩
  | 126 => ⟨S128x4x1024, .f32⟩
  | 127 => ⟨S1x1x1024, .f32⟩
  | _ => ⟨S8x2048x1024, .f32⟩

abbrev hbmTy0_1 (i : Nat) : BufTy := match i % 128 with
  | 0 => ⟨S128x4x1024, .f32⟩
  | 1 => ⟨S128x4x1024, .f32⟩
  | 2 => ⟨S1x1x1024, .f32⟩
  | 3 => ⟨S128x4x1024, .f32⟩
  | 4 => ⟨S128x4x1024, .f32⟩
  | 5 => ⟨S128x4x32, .f32⟩
  | 6 => ⟨S1x1x32, .f32⟩
  | 7 => ⟨S128x4x32, .f32⟩
  | 8 => ⟨S128x4x32, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_14 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_cst_17 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_18 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩

abbrev nD : Nat := 1
abbrev τ : Topo := Topo.v7x

variable {F : FTy → Type} [FloatOps F]
-- ==== Kernel4.lean ====
abbrev S8x2048x11296 : Shape := ⟨3, ![8, 2048, 11296]⟩
abbrev S128x4x11296 : Shape := ⟨3, ![128, 4, 11296]⟩
abbrev S2x8x3x3072 : Shape := ⟨4, ![2, 8, 3, 3072]⟩
abbrev S4x3072 : Shape := ⟨2, ![4, 3072]⟩
abbrev S3072 : Shape := ⟨1, ![3072]⟩
abbrev S_ : Shape := ⟨0, ![]⟩
abbrev S128x8x11296 : Shape := ⟨3, ![128, 8, 11296]⟩
abbrev S16384x11296 : Shape := ⟨2, ![16384, 11296]⟩
abbrev S1024x11296 : Shape := ⟨2, ![1024, 11296]⟩
abbrev S17408x11296 : Shape := ⟨2, ![17408, 11296]⟩
abbrev S17408x1024 : Shape := ⟨2, ![17408, 1024]⟩
abbrev S17408x2048 : Shape := ⟨2, ![17408, 2048]⟩
abbrev S17408x3072 : Shape := ⟨2, ![17408, 3072]⟩
abbrev S17408x32 : Shape := ⟨2, ![17408, 32]⟩
abbrev S17408x4x8 : Shape := ⟨3, ![17408, 4, 8]⟩
abbrev S17408x4x128 : Shape := ⟨3, ![17408, 4, 128]⟩
abbrev S17408x512 : Shape := ⟨2, ![17408, 512]⟩
abbrev S17408x11776 : Shape := ⟨2, ![17408, 11776]⟩
abbrev S1x8x3x3072 : Shape := ⟨4, ![1, 8, 3, 3072]⟩
abbrev S8x3x3072 : Shape := ⟨3, ![8, 3, 3072]⟩
abbrev S8x8x3072 : Shape := ⟨3, ![8, 8, 3072]⟩
abbrev S1x3072 : Shape := ⟨2, ![1, 3072]⟩
abbrev S16384x3072 : Shape := ⟨2, ![16384, 3072]⟩
abbrev S512x3072 : Shape := ⟨2, ![512, 3072]⟩
abbrev S8x3072 : Shape := ⟨2, ![8, 3072]⟩
abbrev S1x8x3072 : Shape := ⟨3, ![1, 8, 3072]⟩
abbrev S520x3072 : Shape := ⟨2, ![520, 3072]⟩
abbrev S8x2048x3072 : Shape := ⟨3, ![8, 2048, 3072]⟩

abbrev nBuf : Space → Nat
  | .hbm => 34
  | .vmem => 10
  | .smem => 0
  | _ => 0

abbrev bufTy : (tb : Table) → Fin (tcTables nBuf tb) → BufTy
  | .hbm, ⟨0, _⟩ => ⟨S8x2048x11296, .f32⟩
  | .hbm, ⟨1, _⟩ => ⟨S128x4x11296, .f32⟩
  | .hbm, ⟨2, _⟩ => ⟨S2x8x3x3072, .f32⟩
  | .hbm, ⟨3, _⟩ => ⟨S4x3072, .f32⟩
  | .hbm, ⟨4, _⟩ => ⟨S3072, .f32⟩
  | .hbm, ⟨5, _⟩ => ⟨S_, .i32⟩
  | .hbm, ⟨6, _⟩ => ⟨S_, .f32⟩
  | .hbm, ⟨7, _⟩ => ⟨S128x8x11296, .f32⟩
  | .hbm, ⟨8, _⟩ => ⟨S16384x11296, .f32⟩
  | .hbm, ⟨9, _⟩ => ⟨S1024x11296, .f32⟩
  | .hbm, ⟨10, _⟩ => ⟨S17408x11296, .f32⟩
  | .hbm, ⟨11, _⟩ => ⟨S17408x1024, .f32⟩
  | .hbm, ⟨12, _⟩ => ⟨S17408x1024, .f32⟩
  | .hbm, ⟨13, _⟩ => ⟨S17408x1024, .f32⟩
  | .hbm, ⟨14, _⟩ => ⟨S17408x1024, .f32⟩
  | .hbm, ⟨15, _⟩ => ⟨S17408x2048, .f32⟩
  | .hbm, ⟨16, _⟩ => ⟨S17408x3072, .f32⟩
  | .hbm, ⟨17, _⟩ => ⟨S17408x32, .f32⟩
  | .hbm, ⟨18, _⟩ => ⟨S17408x1024, .f32⟩
  | .hbm, ⟨19, _⟩ => ⟨S17408x1024, .f32⟩
  | .hbm, ⟨20, _⟩ => ⟨S17408x4x8, .f32⟩
  | .hbm, ⟨21, _⟩ => ⟨S_, .i32⟩
  | .hbm, ⟨22, _⟩ => ⟨S_, .f32⟩
  | .hbm, ⟨23, _⟩ => ⟨S17408x4x128, .f32⟩
  | .hbm, ⟨24, _⟩ => ⟨S17408x512, .f32⟩
  | .hbm, ⟨25, _⟩ => ⟨S17408x11776, .f32⟩
  | .hbm, ⟨26, _⟩ => ⟨S1x8x3x3072, .f32⟩
  | .hbm, ⟨27, _⟩ => ⟨S8x3x3072, .f32⟩
  | .hbm, ⟨28, _⟩ => ⟨S_, .i32⟩
  | .hbm, ⟨29, _⟩ => ⟨S_, .f32⟩
  | .hbm, ⟨30, _⟩ => ⟨S8x8x3072, .f32⟩
  | .hbm, ⟨31, _⟩ => ⟨S1x3072, .f32⟩
  | .hbm, ⟨32, _⟩ => ⟨S16384x3072, .f32⟩
  | .hbm, ⟨33, _⟩ => ⟨S8x2048x3072, .f32⟩
  | .local _ .vmem, ⟨0, _⟩ => ⟨S512x3072, .f32⟩
  | .local _ .vmem, ⟨1, _⟩ => ⟨S512x3072, .f32⟩
  | .local _ .vmem, ⟨2, _⟩ => ⟨S8x3072, .f32⟩
  | .local _ .vmem, ⟨3, _⟩ => ⟨S8x3072, .f32⟩
  | .local _ .vmem, ⟨4, _⟩ => ⟨S1x8x3072, .f32⟩
  | .local _ .vmem, ⟨5, _⟩ => ⟨S1x8x3072, .f32⟩
  | .local _ .vmem, ⟨6, _⟩ => ⟨S4x3072, .f32⟩
  | .local _ .vmem, ⟨7, _⟩ => ⟨S1x3072, .f32⟩
  | .local _ .vmem, ⟨8, _⟩ => ⟨S512x3072, .f32⟩
  | .local _ .vmem, ⟨9, _⟩ => ⟨S512x3072, .f32⟩
  | _, _ => ⟨S8x2048x11296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_call2_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c64_i32 : BitVec 32 := 64#32
  let v2 : BitVec 32 := Scalar.muli v1 c64_i32
  let c0_i32 : BitVec 32 := 0#32
  let v3 : BitVec 32 := Scalar.addi c0_i32 v2
  let c1_i32 : BitVec 32 := 1#32
  let v4 : BitVec 32 := Scalar.subi v3 c1_i32
  let c0_i32_0 : BitVec 32 := 0#32
  let v5 : BitVec 32 := Scalar.maxsi v4 c0_i32_0
  let c2_i32 : BitVec 32 := 2#32
  let c0_i32_1 : BitVec 32 := 0#32
  ![v5.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8x2048x11296 : Shape := ⟨3, ![8, 2048, 11296]⟩
abbrev S128x4x11296 : Shape := ⟨3, ![128, 4, 11296]⟩
abbrev S2x8x3x3072 : Shape := ⟨4, ![2, 8, 3, 3072]⟩
abbrev S4x3072 : Shape := ⟨2, ![4, 3072]⟩
abbrev S3072 : Shape := ⟨1, ![3072]⟩
abbrev S8x2048x3072 : Shape := ⟨3, ![8, 2048, 3072]⟩
abbrev S1x8x3x3072 : Shape := ⟨4, ![1, 8, 3, 3072]⟩
abbrev S8x3x3072 : Shape := ⟨3, ![8, 3, 3072]⟩
abbrev S8x2051x3072 : Shape := ⟨3, ![8, 2051, 3072]⟩
abbrev S1x3072 : Shape := ⟨2, ![1, 3072]⟩
abbrev S1x1x3072 : Shape := ⟨3, ![1, 1, 3072]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x11296, .f32⟩
  | .hbm, ⟨1, _⟩ => ⟨S128x4x11296, .f32⟩
  | .hbm, ⟨2, _⟩ => ⟨S2x8x3x3072, .f32⟩
  | .hbm, ⟨3, _⟩ => ⟨S4x3072, .f32⟩
  | .hbm, ⟨4, _⟩ => ⟨S3072, .f32⟩
  | .hbm, ⟨5, _⟩ => ⟨S8x2048x3072, .f32⟩
  | .hbm, ⟨6, _⟩ => ⟨S1x8x3x3072, .f32⟩
  | .hbm, ⟨7, _⟩ => ⟨S8x3x3072, .f32⟩
  | .hbm, ⟨8, _⟩ => ⟨S8x2051x3072, .f32⟩
  | .hbm, ⟨9, _⟩ => ⟨S1x3072, .f32⟩
  | .hbm, ⟨10, _⟩ => ⟨S3072, .f32⟩
  | .hbm, ⟨11, _⟩ => ⟨S8x2048x3072, .f32⟩
  | .hbm, ⟨12, _⟩ => ⟨S1x1x3072, .f32⟩
  | .hbm, ⟨13, _⟩ => ⟨S8x2048x3072, .f32⟩
  | .hbm, ⟨14, _⟩ => ⟨S8x2048x3072, .f32⟩
  | .hbm, ⟨15, _⟩ => ⟨S1x1x3072, .f32⟩
  | .hbm, ⟨16, _⟩ => ⟨S8x2048x3072, .f32⟩
  | .hbm, ⟨17, _⟩ => ⟨S8x2048x3072, .f32⟩
  | .hbm, ⟨18, _⟩ => ⟨S1x3072, .f32⟩
  | .hbm, ⟨19, _⟩ => ⟨S3072, .f32⟩
  | .hbm, ⟨20, _⟩ => ⟨S8x2048x3072, .f32⟩
  | .hbm, ⟨21, _⟩ => ⟨S1x1x3072, .f32⟩
  | .hbm, ⟨22, _⟩ => ⟨S8x2048x3072, .f32⟩
  | .hbm, ⟨23, _⟩ => ⟨S8x2048x3072, .f32⟩
  | .hbm, ⟨24, _⟩ => ⟨S8x2048x3072, .f32⟩
  | .hbm, ⟨25, _⟩ => ⟨S1x3072, .f32⟩
  | .hbm, ⟨26, _⟩ => ⟨S3072, .f32⟩
  | .hbm, ⟨27, _⟩ => ⟨S8x2048x3072, .f32⟩
  | .hbm, ⟨28, _⟩ => ⟨S1x1x3072, .f32⟩
  | .hbm, ⟨29, _⟩ => ⟨S8x2048x3072, .f32⟩
  | .hbm, ⟨30, _⟩ => ⟨S8x2048x3072, .f32⟩
  | .hbm, ⟨31, _⟩ => ⟨S8x2048x3072, .f32⟩
  | .hbm, ⟨32, _⟩ => ⟨S1x3072, .f32⟩
  | .hbm, ⟨33, _⟩ => ⟨S3072, .f32⟩
  | .hbm, ⟨34, _⟩ => ⟨S8x2048x3072, .f32⟩
  | .hbm, ⟨35, _⟩ => ⟨S1x1x3072, .f32⟩
  | .hbm, ⟨36, _⟩ => ⟨S8x2048x3072, .f32⟩
  | .hbm, ⟨37, _⟩ => ⟨S8x2048x3072, .f32⟩
  | .hbm, ⟨38, _⟩ => ⟨S8x2048x3072, .f32⟩
  | .hbm, ⟨39, _⟩ => ⟨S8x2048x3072, .f32⟩
  | .hbm, ⟨40, _⟩ => ⟨S8x2048x3072, .f32⟩
  | .hbm, ⟨41, _⟩ => ⟨S_, .f32⟩
  | .hbm, ⟨42, _⟩ => ⟨S8x2048x3072, .f32⟩
  | .hbm, ⟨43, _⟩ => ⟨S8x2048x3072, .f32⟩
  | .hbm, ⟨44, _⟩ => ⟨S_, .f32⟩
  | .hbm, ⟨45, _⟩ => ⟨S8x2048x3072, .f32⟩
  | .hbm, ⟨46, _⟩ => ⟨S8x2048x3072, .f32⟩
  | .hbm, ⟨47, _⟩ => ⟨S8x2048x3072, .f32⟩
  | _, _ => ⟨S8x2048x11296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel5.lean ====
abbrev S8x2048x11296 : Shape := ⟨3, ![8, 2048, 11296]⟩
abbrev S128x4x11296 : Shape := ⟨3, ![128, 4, 11296]⟩
abbrev S2x128x3x3072 : Shape := ⟨4, ![2, 128, 3, 3072]⟩
abbrev S4x3072 : Shape := ⟨2, ![4, 3072]⟩
abbrev S3072 : Shape := ⟨1, ![3072]⟩
abbrev S_ : Shape := ⟨0, ![]⟩
abbrev S128x8x11296 : Shape := ⟨3, ![128, 8, 11296]⟩
abbrev S16384x11296 : Shape := ⟨2, ![16384, 11296]⟩
abbrev S1024x11296 : Shape := ⟨2, ![1024, 11296]⟩
abbrev S17408x11296 : Shape := ⟨2, ![17408, 11296]⟩
abbrev S17408x1024 : Shape := ⟨2, ![17408, 1024]⟩
abbrev S17408x2048 : Shape := ⟨2, ![17408, 2048]⟩
abbrev S17408x3072 : Shape := ⟨2, ![17408, 3072]⟩
abbrev S17408x32 : Shape := ⟨2, ![17408, 32]⟩
abbrev S17408x4x8 : Shape := ⟨3, ![17408, 4, 8]⟩
abbrev S17408x4x128 : Shape := ⟨3, ![17408, 4, 128]⟩
abbrev S17408x512 : Shape := ⟨2, ![17408, 512]⟩
abbrev S17408x11776 : Shape := ⟨2, ![17408, 11776]⟩
abbrev S1x128x3x3072 : Shape := ⟨4, ![1, 128, 3, 3072]⟩
abbrev S128x3x3072 : Shape := ⟨3, ![128, 3, 3072]⟩
abbrev S128x8x3072 : Shape := ⟨3, ![128, 8, 3072]⟩
abbrev S1x3072 : Shape := ⟨2, ![1, 3072]⟩
abbrev S1024x3072 : Shape := ⟨2, ![1024, 3072]⟩
abbrev S128x3072 : Shape := ⟨2, ![128, 3072]⟩
abbrev S128x4x3072 : Shape := ⟨3, ![128, 4, 3072]⟩

abbrev nBuf : Space → Nat
  | .hbm => 36
  | .vmem => 8
  | .smem => 0
  | _ => 0

abbrev bufTy : (tb : Table) → Fin (tcTables nBuf tb) → BufTy
  | .hbm, ⟨0, _⟩ => ⟨S8x2048x11296, .f32⟩
  | .hbm, ⟨1, _⟩ => ⟨S128x4x11296, .f32⟩
  | .hbm, ⟨2, _⟩ => ⟨S2x128x3x3072, .f32⟩
  | .hbm, ⟨3, _⟩ => ⟨S4x3072, .f32⟩
  | .hbm, ⟨4, _⟩ => ⟨S3072, .f32⟩
  | .hbm, ⟨5, _⟩ => ⟨S_, .i32⟩
  | .hbm, ⟨6, _⟩ => ⟨S_, .f32⟩
  | .hbm, ⟨7, _⟩ => ⟨S128x8x11296, .f32⟩
  | .hbm, ⟨8, _⟩ => ⟨S16384x11296, .f32⟩
  | .hbm, ⟨9, _⟩ => ⟨S1024x11296, .f32⟩
  | .hbm, ⟨10, _⟩ => ⟨S17408x11296, .f32⟩
  | .hbm, ⟨11, _⟩ => ⟨S17408x1024, .f32⟩
  | .hbm, ⟨12, _⟩ => ⟨S17408x1024, .f32⟩
  | .hbm, ⟨13, _⟩ => ⟨S17408x1024, .f32⟩
  | .hbm, ⟨14, _⟩ => ⟨S17408x1024, .f32⟩
  | .hbm, ⟨15, _⟩ => ⟨S17408x2048, .f32⟩
  | .hbm, ⟨16, _⟩ => ⟨S17408x3072, .f32⟩
  | .hbm, ⟨17, _⟩ => ⟨S17408x32, .f32⟩
  | .hbm, ⟨18, _⟩ => ⟨S17408x1024, .f32⟩
  | .hbm, ⟨19, _⟩ => ⟨S17408x1024, .f32⟩
  | .hbm, ⟨20, _⟩ => ⟨S17408x4x8, .f32⟩
  | .hbm, ⟨21, _⟩ => ⟨S_, .i32⟩
  | .hbm, ⟨22, _⟩ => ⟨S_, .f32⟩
  | .hbm, ⟨23, _⟩ => ⟨S17408x4x128, .f32⟩
  | .hbm, ⟨24, _⟩ => ⟨S17408x512, .f32⟩
  | .hbm, ⟨25, _⟩ => ⟨S17408x11776, .f32⟩
  | .hbm, ⟨26, _⟩ => ⟨S1x128x3x3072, .f32⟩
  | .hbm, ⟨27, _⟩ => ⟨S128x3x3072, .f32⟩
  | .hbm, ⟨28, _⟩ => ⟨S_, .i32⟩
  | .hbm, ⟨29, _⟩ => ⟨S_, .f32⟩
  | .hbm, ⟨30, _⟩ => ⟨S128x8x3072, .f32⟩
  | .hbm, ⟨31, _⟩ => ⟨S1x3072, .f32⟩
  | .hbm, ⟨32, _⟩ => ⟨S1024x3072, .f32⟩
  | .hbm, ⟨33, _⟩ => ⟨S1024x3072, .f32⟩
  | .hbm, ⟨34, _⟩ => ⟨S128x8x3072, .f32⟩
  | .hbm, ⟨35, _⟩ => ⟨S128x4x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S4x3072, .f32⟩
  | .local _ .vmem, ⟨5, _⟩ => ⟨S1x3072, .f32⟩
  | .local _ .vmem, ⟨6, _⟩ => ⟨S128x3072, .f32⟩
  | .local _ .vmem, ⟨7, _⟩ => ⟨S128x3072, .f32⟩
  | _, _ => ⟨S8x2048x11296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_call2_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c128_i32 : BitVec 32 := 128#32
  let v0 : BitVec 32 := Scalar.addi c128_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8x2048x11296 : Shape := ⟨3, ![8, 2048, 11296]⟩
abbrev S128x4x11296 : Shape := ⟨3, ![128, 4, 11296]⟩
abbrev S2x128x3x3072 : Shape := ⟨4, ![2, 128, 3, 3072]⟩
abbrev S4x3072 : Shape := ⟨2, ![4, 3072]⟩
abbrev S3072 : Shape := ⟨1, ![3072]⟩
abbrev S128x4x3072 : Shape := ⟨3, ![128, 4, 3072]⟩
abbrev S1x128x3x3072 : Shape := ⟨4, ![1, 128, 3, 3072]⟩
abbrev S128x3x3072 : Shape := ⟨3, ![128, 3, 3072]⟩
abbrev S128x7x3072 : Shape := ⟨3, ![128, 7, 3072]⟩
abbrev S1x3072 : Shape := ⟨2, ![1, 3072]⟩
abbrev S1x1x3072 : Shape := ⟨3, ![1, 1, 3072]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x11296, .f32⟩
  | .hbm, ⟨1, _⟩ => ⟨S128x4x11296, .f32⟩
  | .hbm, ⟨2, _⟩ => ⟨S2x128x3x3072, .f32⟩
  | .hbm, ⟨3, _⟩ => ⟨S4x3072, .f32⟩
  | .hbm, ⟨4, _⟩ => ⟨S3072, .f32⟩
  | .hbm, ⟨5, _⟩ => ⟨S128x4x3072, .f32⟩
  | .hbm, ⟨6, _⟩ => ⟨S1x128x3x3072, .f32⟩
  | .hbm, ⟨7, _⟩ => ⟨S128x3x3072, .f32⟩
  | .hbm, ⟨8, _⟩ => ⟨S128x7x3072, .f32⟩
  | .hbm, ⟨9, _⟩ => ⟨S1x3072, .f32⟩
  | .hbm, ⟨10, _⟩ => ⟨S3072, .f32⟩
  | .hbm, ⟨11, _⟩ => ⟨S128x4x3072, .f32⟩
  | .hbm, ⟨12, _⟩ => ⟨S1x1x3072, .f32⟩
  | .hbm, ⟨13, _⟩ => ⟨S128x4x3072, .f32⟩
  | .hbm, ⟨14, _⟩ => ⟨S128x4x3072, .f32⟩
  | .hbm, ⟨15, _⟩ => ⟨S1x1x3072, .f32⟩
  | .hbm, ⟨16, _⟩ => ⟨S128x4x3072, .f32⟩
  | .hbm, ⟨17, _⟩ => ⟨S128x4x3072, .f32⟩
  | .hbm, ⟨18, _⟩ => ⟨S1x3072, .f32⟩
  | .hbm, ⟨19, _⟩ => ⟨S3072, .f32⟩
  | .hbm, ⟨20, _⟩ => ⟨S128x4x3072, .f32⟩
  | .hbm, ⟨21, _⟩ => ⟨S1x1x3072, .f32⟩
  | .hbm, ⟨22, _⟩ => ⟨S128x4x3072, .f32⟩
  | .hbm, ⟨23, _⟩ => ⟨S128x4x3072, .f32⟩
  | .hbm, ⟨24, _⟩ => ⟨S128x4x3072, .f32⟩
  | .hbm, ⟨25, _⟩ => ⟨S1x3072, .f32⟩
  | .hbm, ⟨26, _⟩ => ⟨S3072, .f32⟩
  | .hbm, ⟨27, _⟩ => ⟨S128x4x3072, .f32⟩
  | .hbm, ⟨28, _⟩ => ⟨S1x1x3072, .f32⟩
  | .hbm, ⟨29, _⟩ => ⟨S128x4x3072, .f32⟩
  | .hbm, ⟨30, _⟩ => ⟨S128x4x3072, .f32⟩
  | .hbm, ⟨31, _⟩ => ⟨S128x4x3072, .f32⟩
  | .hbm, ⟨32, _⟩ => ⟨S1x3072, .f32⟩
  | .hbm, ⟨33, _⟩ => ⟨S3072, .f32⟩
  | .hbm, ⟨34, _⟩ => ⟨S128x4x3072, .f32⟩
  | .hbm, ⟨35, _⟩ => ⟨S1x1x3072, .f32⟩
  | .hbm, ⟨36, _⟩ => ⟨S128x4x3072, .f32⟩
  | .hbm, ⟨37, _⟩ => ⟨S128x4x3072, .f32⟩
  | .hbm, ⟨38, _⟩ => ⟨S128x4x3072, .f32⟩
  | .hbm, ⟨39, _⟩ => ⟨S128x4x3072, .f32⟩
  | .hbm, ⟨40, _⟩ => ⟨S128x4x3072, .f32⟩
  | .hbm, ⟨41, _⟩ => ⟨S_, .f32⟩
  | .hbm, ⟨42, _⟩ => ⟨S128x4x3072, .f32⟩
  | .hbm, ⟨43, _⟩ => ⟨S128x4x3072, .f32⟩
  | .hbm, ⟨44, _⟩ => ⟨S_, .f32⟩
  | .hbm, ⟨45, _⟩ => ⟨S128x4x3072, .f32⟩
  | .hbm, ⟨46, _⟩ => ⟨S128x4x3072, .f32⟩
  | .hbm, ⟨47, _⟩ => ⟨S128x4x3072, .f32⟩
  | _, _ => ⟨S8x2048x11296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel6.lean ====
abbrev S8x2048x1024 : Shape := ⟨3, ![8, 2048, 1024]⟩
abbrev S128x4x1024 : Shape := ⟨3, ![128, 4, 1024]⟩
abbrev S8x2048x32 : Shape := ⟨3, ![8, 2048, 32]⟩
abbrev S128x4x32 : Shape := ⟨3, ![128, 4, 32]⟩
abbrev S8x2048x4x1024 : Shape := ⟨4, ![8, 2048, 4, 1024]⟩
abbrev S128x4x4x1024 : Shape := ⟨4, ![128, 4, 4, 1024]⟩
abbrev S1024 : Shape := ⟨1, ![1024]⟩
abbrev S_ : Shape := ⟨0, ![]⟩
abbrev S128x8x32 : Shape := ⟨3, ![128, 8, 32]⟩
abbrev S16384x32 : Shape := ⟨2, ![16384, 32]⟩
abbrev S1024x32 : Shape := ⟨2, ![1024, 32]⟩
abbrev S17408x32 : Shape := ⟨2, ![17408, 32]⟩
abbrev S17408x4 : Shape := ⟨2, ![17408, 4]⟩
abbrev S17408 : Shape := ⟨1, ![17408]⟩
abbrev S17408x1 : Shape := ⟨2, ![17408, 1]⟩
abbrev S128x8x1024 : Shape := ⟨3, ![128, 8, 1024]⟩
abbrev S16384x1024 : Shape := ⟨2, ![16384, 1024]⟩
abbrev S1024x1024 : Shape := ⟨2, ![1024, 1024]⟩
abbrev S17408x1024 : Shape := ⟨2, ![17408, 1024]⟩
abbrev S8x2048x4096 : Shape := ⟨3, ![8, 2048, 4096]⟩
abbrev S128x4x4096 : Shape := ⟨3, ![128, 4, 4096]⟩
abbrev S128x8x4096 : Shape := ⟨3, ![128, 8, 4096]⟩
abbrev S16384x4096 : Shape := ⟨2, ![16384, 4096]⟩
abbrev S1024x4096 : Shape := ⟨2, ![1024, 4096]⟩
abbrev S17408x4096 : Shape := ⟨2, ![17408, 4096]⟩
abbrev S17408x4x1024 : Shape := ⟨3, ![17408, 4, 1024]⟩
abbrev S4x17408x1024 : Shape := ⟨3, ![4, 17408, 1024]⟩
abbrev S69632x8x128 : Shape := ⟨3, ![69632, 8, 128]⟩
abbrev S70144x8x128 : Shape := ⟨3, ![70144, 8, 128]⟩
abbrev S1x1024 : Shape := ⟨2, ![1, 1024]⟩
abbrev S256x1024 : Shape := ⟨2, ![256, 1024]⟩
abbrev S256x8x128 : Shape := ⟨3, ![256, 8, 128]⟩
abbrev S256x4 : Shape := ⟨2, ![256, 4]⟩
abbrev S256x1 : Shape := ⟨2, ![256, 1]⟩
abbrev S256 : Shape := ⟨1, ![256]⟩

abbrev nBuf : Space → Nat
  | .hbm => 64
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S8x2048x32, .f32⟩
  | .hbm, ⟨3, _⟩ => ⟨S128x4x32, .f32⟩
  | .hbm, ⟨4, _⟩ => ⟨S8x2048x4x1024, .f32⟩
  | .hbm, ⟨5, _⟩ => ⟨S128x4x4x1024, .f32⟩
  | .hbm, ⟨6, _⟩ => ⟨S1024, .f32⟩
  | .hbm, ⟨7, _⟩ => ⟨S1024, .f32⟩
  | .hbm, ⟨8, _⟩ => ⟨S_, .i32⟩
  | .hbm, ⟨9, _⟩ => ⟨S_, .f32⟩
  | .hbm, ⟨10, _⟩ => ⟨S128x8x32, .f32⟩
  | .hbm, ⟨11, _⟩ => ⟨S16384x32, .f32⟩
  | .hbm, ⟨12, _⟩ => ⟨S1024x32, .f32⟩
  | .hbm, ⟨13, _⟩ => ⟨S17408x32, .f32⟩
  | .hbm, ⟨14, _⟩ => ⟨S17408x4, .f32⟩
  | .hbm, ⟨15, _⟩ => ⟨S17408x4, .i32⟩
  | .hbm, ⟨16, _⟩ => ⟨S_, .f32⟩
  | .hbm, ⟨17, _⟩ => ⟨S17408, .f32⟩
  | .hbm, ⟨18, _⟩ => ⟨S_, .f32⟩
  | .hbm, ⟨19, _⟩ => ⟨S17408, .f32⟩
  | .hbm, ⟨20, _⟩ => ⟨S17408, .f32⟩
  | .hbm, ⟨21, _⟩ => ⟨S17408x1, .f32⟩
  | .hbm, ⟨22, _⟩ => ⟨S17408x4, .f32⟩
  | .hbm, ⟨23, _⟩ => ⟨S17408x4, .f32⟩
  | .hbm, ⟨24, _⟩ => ⟨S17408x4, .f32⟩
  | .hbm, ⟨25, _⟩ => ⟨S_, .f32⟩
  | .hbm, ⟨26, _⟩ => ⟨S17408, .f32⟩
  | .hbm, ⟨27, _⟩ => ⟨S17408x1, .f32⟩
  | .hbm, ⟨28, _⟩ => ⟨S17408x4, .f32⟩
  | .hbm, ⟨29, _⟩ => ⟨S17408x4, .f32⟩
  | .hbm, ⟨30, _⟩ => ⟨S_, .i32⟩
  | .hbm, ⟨31, _⟩ => ⟨S_, .f32⟩
  | .hbm, ⟨32, _⟩ => ⟨S128x8x1024, .f32⟩
  | .hbm, ⟨33, _⟩ => ⟨S16384x1024, .f32⟩
  | .hbm, ⟨34, _⟩ => ⟨S1024x1024, .f32⟩
  | .hbm, ⟨35, _⟩ => ⟨S17408x1024, .f32⟩
  | .hbm, ⟨36, _⟩ => ⟨S8x2048x4096, .f32⟩
  | .hbm, ⟨37, _⟩ => ⟨S128x4x4096, .f32⟩
  | .hbm, ⟨38, _⟩ => ⟨S_, .i32⟩
  | .hbm, ⟨39, _⟩ => ⟨S_, .f32⟩
  | .hbm, ⟨40, _⟩ => ⟨S128x8x4096, .f32⟩
  | .hbm, ⟨41, _⟩ => ⟨S16384x4096, .f32⟩
  | .hbm, ⟨42, _⟩ => ⟨S1024x4096, .f32⟩
  | .hbm, ⟨43, _⟩ => ⟨S17408x4096, .f32⟩
  | .hbm, ⟨44, _⟩ => ⟨S17408x4x1024, .f32⟩
  | .hbm, ⟨45, _⟩ => ⟨S4x17408x1024, .f32⟩
  | .hbm, ⟨46, _⟩ => ⟨S69632x8x128, .f32⟩
  | .hbm, ⟨47, _⟩ => ⟨S_, .i32⟩
  | .hbm, ⟨48, _⟩ => ⟨S_, .f32⟩
  | .hbm, ⟨49, _⟩ => ⟨S70144x8x128, .f32⟩
  | .hbm, ⟨50, _⟩ => ⟨S1x1024, .f32⟩
  | .hbm, ⟨51, _⟩ => ⟨S1x1024, .f32⟩
  | .hbm, ⟨52, _⟩ => ⟨S17408x1024, .f32⟩
  | .hbm, ⟨53, _⟩ => ⟨S17408x1024, .bf16⟩
  | .hbm, ⟨54, _⟩ => ⟨S16384x1024, .f32⟩
  | .hbm, ⟨55, _⟩ => ⟨S8x2048x1024, .f32⟩
  | .hbm, ⟨56, _⟩ => ⟨S1024x1024, .f32⟩
  | .hbm, ⟨57, _⟩ => ⟨S128x8x1024, .f32⟩
  | .hbm, ⟨58, _⟩ => ⟨S128x4x1024, .f32⟩
  | .hbm, ⟨59, _⟩ => ⟨S16384x1024, .bf16⟩
  | .hbm, ⟨60, _⟩ => ⟨S8x2048x1024, .bf16⟩
  | .hbm, ⟨61, _⟩ => ⟨S1024x1024, .bf16⟩
  | .hbm, ⟨62, _⟩ => ⟨S128x8x1024, .bf16⟩
  | .hbm, ⟨63, _⟩ => ⟨S128x4x1024, .bf16⟩
  | .local _ .vmem, ⟨0, _⟩ => ⟨S256x1024, .f32⟩
  | .local _ .vmem, ⟨1, _⟩ => ⟨S256x1024, .f32⟩
  | .local _ .vmem, ⟨2, _⟩ => ⟨S256x8x128, .f32⟩
  | .local _ .vmem, ⟨3, _⟩ => ⟨S256x8x128, .f32⟩
  | .local _ .vmem, ⟨4, _⟩ => ⟨S256x8x128, .f32⟩
  | .local _ .vmem, ⟨5, _⟩ => ⟨S256x8x128, .f32⟩
  | .local _ .vmem, ⟨6, _⟩ => ⟨S256x8x128, .f32⟩
  | .local _ .vmem, ⟨7, _⟩ => ⟨S256x8x128, .f32⟩
  | .local _ .vmem, ⟨8, _⟩ => ⟨S256x8x128, .f32⟩
  | .local _ .vmem, ⟨9, _⟩ => ⟨S256x8x128, .f32⟩
  | .local _ .vmem, ⟨10, _⟩ => ⟨S256x4, .f32⟩
  | .local _ .vmem, ⟨11, _⟩ => ⟨S256x4, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_values : Ref sig .tc := ⟨.hbm, 14, rfl⟩
abbrev main_indices : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_call2_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_call3_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let c68_i32 : BitVec 32 := 68#32
  let v0 : BitVec 32 := Scalar.addi c68_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c136_i32 : BitVec 32 := 136#32
  let v0 : BitVec 32 := Scalar.addi c136_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c204_i32 : BitVec 32 := 204#32
  let v0 : BitVec 32 := Scalar.addi c204_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S8x2048x1024 : Shape := ⟨3, ![8, 2048, 1024]⟩
abbrev S128x4x1024 : Shape := ⟨3, ![128, 4, 1024]⟩
abbrev S8x2048x32 : Shape := ⟨3, ![8, 2048, 32]⟩
abbrev S128x4x32 : Shape := ⟨3, ![128, 4, 32]⟩
abbrev S8x2048x4x1024 : Shape := ⟨4, ![8, 2048, 4, 1024]⟩
abbrev S128x4x4x1024 : Shape := ⟨4, ![128, 4, 4, 1024]⟩
abbrev S1024 : Shape := ⟨1, ![1024]⟩
abbrev S8x2048x4 : Shape := ⟨3, ![8, 2048, 4]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S128x4x4 : Shape := ⟨3, ![128, 4, 4]⟩
abbrev S128x4 : Shape := ⟨2, ![128, 4]⟩
abbrev S128x4x1 : Shape := ⟨3, ![128, 4, 1]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S8x2048x32, .f32⟩
  | .hbm, ⟨3, _⟩ => ⟨S128x4x32, .f32⟩
  | .hbm, ⟨4, _⟩ => ⟨S8x2048x4x1024, .f32⟩
  | .hbm, ⟨5, _⟩ => ⟨S128x4x4x1024, .f32⟩
  | .hbm, ⟨6, _⟩ => ⟨S1024, .f32⟩
  | .hbm, ⟨7, _⟩ => ⟨S1024, .f32⟩
  | .hbm, ⟨8, _⟩ => ⟨S8x2048x4, .f32⟩
  | .hbm, ⟨9, _⟩ => ⟨S8x2048x4, .i32⟩
  | .hbm, ⟨10, _⟩ => ⟨S_, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048x1, .f32⟩
  | .hbm, ⟨16, _⟩ => ⟨S8x2048x4, .f32⟩
  | .hbm, ⟨17, _⟩ => ⟨S8x2048x4, .f32⟩
  | .hbm, ⟨18, _⟩ => ⟨S8x2048x4, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S8x2048x4, .f32⟩
  | .hbm, ⟨23, _⟩ => ⟨S8x2048x4, .f32⟩
  | .hbm, ⟨24, _⟩ => ⟨S_, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S8x2048x1, .f32⟩
  | .hbm, ⟨50, _⟩ => ⟨S8x2048x1024, .f32⟩
  | .hbm, ⟨51, _⟩ => ⟨S8x2048x1024, .f32⟩
  | .hbm, ⟨52, _⟩ => ⟨S1x1x1024, .f32⟩
  | .hbm, ⟨53, _⟩ => ⟨S8x2048x1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S128x4x4, .f32⟩
  | .hbm, ⟨59, _⟩ => ⟨S128x4x4, .i32⟩
  | .hbm, ⟨60, _⟩ => ⟨S_, .f32⟩
  | .hbm, ⟨61, _⟩ => ⟨S128x4, .f32⟩
  | .hbm, ⟨62, _⟩ => ⟨S_, .f32⟩
  | .hbm, ⟨63, _⟩ => ⟨S128x4, .f32⟩
  | .hbm, ⟨64, _⟩ => ⟨S128x4, .f32⟩
  | .hbm, ⟨65, _⟩ => ⟨S128x4x1, .f32⟩
  | .hbm, ⟨66, _⟩ => ⟨S128x4x4, .f32⟩
  | .hbm, ⟨67, _⟩ => ⟨S128x4x4, .f32⟩
  | .hbm, ⟨68, _⟩ => ⟨S128x4x4, .f32⟩
  | .hbm, ⟨69, _⟩ => ⟨S_, .f32⟩
  | .hbm, ⟨70, _⟩ => ⟨S128x4, .f32⟩
  | .hbm, ⟨71, _⟩ => ⟨S128x4x1, .f32⟩
  | .hbm, ⟨72, _⟩ => ⟨S128x4x4, .f32⟩
  | .hbm, ⟨73, _⟩ => ⟨S128x4x4, .f32⟩
  | .hbm, ⟨74, _⟩ => ⟨S_, .f32⟩
  | .hbm, ⟨75, _⟩ => ⟨S128x4x1024, .f32⟩
  | .hbm, ⟨76, _⟩ => ⟨S128x4x1024, .f32⟩
  | .hbm, ⟨77, _⟩ => ⟨S128x4x1024, .f32⟩
  | .hbm, ⟨78, _⟩ => ⟨S128x4x1024, .f32⟩
  | .hbm, ⟨79, _⟩ => ⟨S_, .f32⟩
  | .hbm, ⟨80, _⟩ => ⟨S128x4, .f32⟩
  | .hbm, ⟨81, _⟩ => ⟨S128x4x1, .f32⟩
  | .hbm, ⟨82, _⟩ => ⟨S_, .f32⟩
  | .hbm, ⟨83, _⟩ => ⟨S128x4x1, .f32⟩
  | .hbm, ⟨84, _⟩ => ⟨S128x4x1, .f32⟩
  | .hbm, ⟨85, _⟩ => ⟨S128x4x1024, .f32⟩
  | .hbm, ⟨86, _⟩ => ⟨S128x4x1024, .f32⟩
  | .hbm, ⟨87, _⟩ => ⟨S128x4x1024, .f32⟩
  | .hbm, ⟨88, _⟩ => ⟨S_, .f32⟩
  | .hbm, ⟨89, _⟩ => ⟨S128x4, .f32⟩
  | .hbm, ⟨90, _⟩ => ⟨S128x4x1, .f32⟩
  | .hbm, ⟨91, _⟩ => ⟨S_, .f32⟩
  | .hbm, ⟨92, _⟩ => ⟨S128x4x1, .f32⟩
  | .hbm, ⟨93, _⟩ => ⟨S128x4x1, .f32⟩
  | .hbm, ⟨94, _⟩ => ⟨S128x4x1024, .f32⟩
  | .hbm, ⟨95, _⟩ => ⟨S128x4x1024, .f32⟩
  | .hbm, ⟨96, _⟩ => ⟨S_, .f32⟩
  | .hbm, ⟨97, _⟩ => ⟨S128x4x1, .f32⟩
  | .hbm, ⟨98, _⟩ => ⟨S128x4x1, .f32⟩
  | .hbm, ⟨99, _⟩ => ⟨S128x4x1, .f32⟩
  | .hbm, ⟨100, _⟩ => ⟨S128x4x1024, .f32⟩
  | .hbm, ⟨101, _⟩ => ⟨S128x4x1024, .f32⟩
  | .hbm, ⟨102, _⟩ => ⟨S1x1x1024, .f32⟩
  | .hbm, ⟨103, _⟩ => ⟨S128x4x1024, .f32⟩
  | .hbm, ⟨104, _⟩ => ⟨S128x4x1024, .f32⟩
  | .hbm, ⟨105, _⟩ => ⟨S1x1x1024, .f32⟩
  | .hbm, ⟨106, _⟩ => ⟨S128x4x1024, .f32⟩
  | .hbm, ⟨107, _⟩ => ⟨S128x4x1024, .f32⟩
  | .hbm, ⟨108, _⟩ => ⟨S8x2048x1024, .bf16⟩
  | .hbm, ⟨109, _⟩ => ⟨S128x4x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_values_8 : Ref sig .tc := ⟨.hbm, 58, rfl⟩
abbrev main_indices_9 : Ref sig .tc := ⟨.hbm, 59, rfl⟩
abbrev main_cst_10 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_16 : Ref sig .tc := ⟨.hbm, 88, rfl⟩
abbrev main_v61 : Ref sig .tc := ⟨.hbm, 89, rfl⟩
abbrev main_v62 : Ref sig .tc := ⟨.hbm, 90, rfl⟩
abbrev main_cst_17 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_18 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== Proof.Pair.lean ====
/- One group of eight heads and one pair of heads of the state-space kernel, as functions of the arrays a grid point reads:
   the definitions the kernel's stored values are instances of, whichever group, pair and case stored them. -/
module

public import proofs.«01_k».proof.Proof.Gen.KernelIdeal.Value
public import Idealize.ShloMosaic.Lib.Pipeline.ReadBack
public import Idealize.ShloMosaic.Lib.Pipeline.ValueKit

@[expose] public section

set_option maxRecDepth 16384

noncomputable section

namespace Cert.KernelIdeal.Pair

open Cert.KernelIdeal Cert.KernelIdeal.Gen Idealize.ShloMosaic Idealize.SL.Sem

variable {F : FTy → Type} [FloatOps F]

/-- The row number of an entry of a square block. -/
def rows : IVec S128x128 32 := iota .tc S128x128 32 [0] iota_S128x128_d0_w32

/-- The column number of an entry of a square block. -/
def lanes : IVec S128x128 32 := iota .tc S128x128 32 [1] iota_S128x128_d1_w32

/-- The running sum of the decay exponents down a block, one column a head. -/
def acum (dt : Vec F S128x128 .f32) (dtb a : Vec F S1x128 .f32) : FVec F S128x128 .f32 :=
  k0_pay11 k0_pay7 (k0_pay8 dt dtb a) (k0_pay9 dt dtb a) (k0_pay10 dt dtb a)

/-- One head's weights: what position `j` adds to the output at position `i`. -/
def headW (hd : ℕ) (h1 : S128x128.Slices ![0, hd] S128x1) (h2 : S128x128.Slices ![hd, 0] S1x128)
    (ac dts cb : FVec F S128x128 .f32) : FVec F S128x128 .f32 :=
  mulf (mulf cb (exp (select k0_pay6
      (subf (broadcastTo S128x128 (extractStridedSlice S128x1 ![0, hd] ac h1) broadcasts_S128x1_S128x128)
        (broadcastTo S128x128 (extractStridedSlice S1x128 ![hd, 0] (transpose S128x128 [1, 0] ac transposes_S128x128_p1_0_S128x128) h2) broadcasts_S1x128_S128x128))
      (broadcast S128x128 (Scalar.ofBits .f32 0xFF800000#32)))))
    (broadcastTo S128x128 (extractStridedSlice S1x128 ![hd, 0] (transpose S128x128 [1, 0] dts transposes_S128x128_p1_0_S128x128) h2) broadcasts_S1x128_S128x128)

/-- A pair's two columns of a per-head array, each spread over its head's 64 lanes. -/
def spread (h0 h1 : ℕ) (s0 : S128x128.Slices ![0, h0] S128x1) (s1 : S128x128.Slices ![0, h1] S128x1) (v : FVec F S128x128 .f32) :
    FVec F S128x128 .f32 :=
  select (k0_pay14 lanes)
    (broadcastTo S128x128 (shapeCast S128x1 (extractStridedSlice S128x1 ![0, h0] v s0) shapeCasts_S128x1_S128x1) broadcasts_S128x1_S128x128)
    (broadcastTo S128x128 (shapeCast S128x1 (extractStridedSlice S128x1 ![0, h1] v s1) shapeCasts_S128x1_S128x1) broadcasts_S128x1_S128x128)

/-- A pair's 128 columns of the group's 512. -/
def cols (o : ℕ) (s : S128x512.Slices ![0, o] S128x128) (x : Vec F S1x128x512 .f32) : FVec F S128x128 .f32 :=
  extractStridedSlice S128x128 ![0, o] (k0_pay20 x) s

/-- The pair's output before the gate: the skip term, each head's sum over the block's own positions, and what the carried state adds. -/
def pairY (h0 h1 o : ℕ) (s0 : S128x128.Slices ![0, h0] S128x1) (s1 : S128x128.Slices ![0, h1] S128x1)
    (t0 : S128x128.Slices ![h0, 0] S1x128) (t1 : S128x128.Slices ![h1, 0] S1x128) (so : S128x512.Slices ![0, o] S128x128)
    (x : Vec F S1x128x512 .f32) (b c : Vec F S1x128x128 .f32) (dt : Vec F S128x128 .f32) (dtb a dsk : Vec F S1x128 .f32)
    (h : Vec F S1x1x128x128 .f32) : FVec F S128x128 .f32 :=
  k0_pay32 (k0_pay18 c)
    (addf (addf (mulf (k0_pay35 dsk) (cols o so x))
      (matmul dot_S128x128_S128x128_S128x128_1_0_0_1_n_n none (truncf .bf16 (headW h0 s0 t0 (acum dt dtb a) (k0_pay5 dt dtb) (k0_pay19 b c)) bitsLt_bf16_f32)
        (truncf .bf16 (select (k0_pay14 lanes) (cols o so x) (broadcast S128x128 (Scalar.ofBits .f32 0x00000000#32))) bitsLt_bf16_f32)
        (constant S128x128 .f32 0x00000000#32)))
      (matmul dot_S128x128_S128x128_S128x128_1_0_0_1_n_n none (truncf .bf16 (headW h1 s1 t1 (acum dt dtb a) (k0_pay5 dt dtb) (k0_pay19 b c)) bitsLt_bf16_f32)
        (truncf .bf16 (select (xori (k0_pay14 lanes) (constantI S128x128 1 1#1)) (cols o so x) (broadcast S128x128 (Scalar.ofBits .f32 0x00000000#32))) bitsLt_bf16_f32)
        (constant S128x128 .f32 0x00000000#32)))
    (exp (spread h0 h1 s0 s1 (acum dt dtb a))) (k0_pay29 rows) h

/-- The pair's state after the block. -/
def pairH (h0 h1 o : ℕ) (s0 : S128x128.Slices ![0, h0] S128x1) (s1 : S128x128.Slices ![0, h1] S128x1) (so : S128x512.Slices ![0, o] S128x128)
    (x : Vec F S1x128x512 .f32) (b : Vec F S1x128x128 .f32) (dt : Vec F S128x128 .f32) (dtb a : Vec F S1x128 .f32)
    (h : Vec F S1x1x128x128 .f32) : FVec F S1x1x128x128 .f32 :=
  k0_pay33 (k0_pay15 rows) (k0_pay17 b) (cols o so x) (spread h0 h1 s0 s1 (acum dt dtb a)) (spread h0 h1 s0 s1 (k0_pay5 dt dtb))
    (k0_pay29 rows) (k0_pay30 rows (k0_pay16 k0_pay4)) h

/-! ## The blocks of a grid point, cut into groups and pairs -/

theorem inbX (g : Fin 4) : ∀ a, (![0, 0, 512 * g.val] : Fin 3 → ℕ) a + (![1, 128, 512] : Fin 3 → ℕ) a ≤ S1x128x2048.size a := by
  intro a; fin_cases a <;> simp [S1x128x2048]; omega
theorem inbB (g : Fin 4) : ∀ a, (![0, 0, 128 * g.val] : Fin 3 → ℕ) a + (![1, 128, 128] : Fin 3 → ℕ) a ≤ S1x128x512.size a := by
  intro a; fin_cases a <;> simp [S1x128x512]; omega
theorem inbD (g : Fin 4) : ∀ a, (![0, 128 * g.val] : Fin 2 → ℕ) a + (![128, 128] : Fin 2 → ℕ) a ≤ S128x512.size a := by
  intro a; fin_cases a <;> simp [S128x512]; omega
theorem inbV (g : Fin 4) : ∀ a, (![0, 128 * g.val] : Fin 2 → ℕ) a + (![1, 128] : Fin 2 → ℕ) a ≤ S1x512.size a := by
  intro a; fin_cases a <;> simp [S1x512]; omega
theorem inbZ (g : Fin 4) : ∀ a, (![0, 512 * g.val] : Fin 2 → ℕ) a + (![128, 512] : Fin 2 → ℕ) a ≤ S128x2048.size a := by
  intro a; fin_cases a <;> simp [S128x2048]; omega
theorem inbW (g : Fin 4) : ∀ a, (![0, 512 * g.val] : Fin 2 → ℕ) a + (![1, 512] : Fin 2 → ℕ) a ≤ S1x2048.size a := by
  intro a; fin_cases a <;> simp [S1x2048]; omega
theorem inbK (g q : Fin 4) : ∀ a, (![0, 512 * g.val + 128 * q.val] : Fin 2 → ℕ) a + (![1, 128] : Fin 2 → ℕ) a ≤ S1x2048.size a := by
  intro a; fin_cases a <;> simp [S1x2048]; omega
theorem inbS (g q : Fin 4) : ∀ a, (![0, 4 * g.val + q.val, 0, 0] : Fin 4 → ℕ) a + (![1, 1, 128, 128] : Fin 4 → ℕ) a ≤ S1x16x128x128.size a := by
  intro a; fin_cases a <;> simp [S1x16x128x128]; omega
theorem slC (q : Fin 4) (e : Fin 2) : S128x128.Slices ![0, 2 * q.val + e.val] S128x1 := by
  revert q e; decide
theorem slR (q : Fin 4) (e : Fin 2) : S128x128.Slices ![2 * q.val + e.val, 0] S1x128 := by
  revert q e; decide
theorem slX (q : Fin 4) : S128x512.Slices ![0, 128 * q.val] S128x128 := by
  revert q; decide

/-- The state of pair `q` of group `g` after a block, from the block's arrays and the state before it. -/
def stPair (x0 : Vec F S1x128x2048 .f32) (x1 : Vec F S1x128x512 .f32) (x4 : Vec F S128x512 .f32) (x5 x6 : Vec F S1x512 .f32)
    (h : Vec F S1x16x128x128 .f32) (g q : Fin 4) : FVec F S1x1x128x128 .f32 :=
  pairH (2 * q.val + (0 : Fin 2).val) (2 * q.val + (1 : Fin 2).val) (128 * q.val) (slC q 0) (slC q 1) (slX q)
    (View.ld x0 (Rect.unit ![0, 0, 512 * g.val] ![1, 128, 512] (inbX g))) (View.ld x1 (Rect.unit ![0, 0, 128 * g.val] ![1, 128, 128] (inbB g)))
    (View.ld x4 (Rect.unit ![0, 128 * g.val] ![128, 128] (inbD g))) (View.ld x5 (Rect.unit ![0, 128 * g.val] ![1, 128] (inbV g)))
    (View.ld x6 (Rect.unit ![0, 128 * g.val] ![1, 128] (inbV g))) (View.ld h (Rect.unit ![0, 4 * g.val + q.val, 0, 0] ![1, 1, 128, 128] (inbS g q)))

/-- … as a piece of the state's scratch. -/
def stPiece (x0 : Vec F S1x128x2048 .f32) (x1 : Vec F S1x128x512 .f32) (x4 : Vec F S128x512 .f32) (x5 x6 : Vec F S1x512 .f32)
    (h : Vec F S1x16x128x128 .f32) (g q : Fin 4) : View.Piece (Elt F) S1x16x128x128 .f32 :=
  ⟨Rect.unit ![0, 4 * g.val + q.val, 0, 0] ![1, 1, 128, 128] (inbS g q), stPair x0 x1 x4 x5 x6 h g q⟩

end Cert.KernelIdeal.Pair

end
-- ==== Proof.Real.lean ====
/- Extended reals that are real numbers: sums, selections and the constants the two programs spell in bits. -/
module

public import Idealize.ShloMosaic.Lib.Pointwise
public import Idealize.ShloMosaic.PureOps.Ideal

@[expose] public section

noncomputable section

namespace Cert.Rec

open Idealize.ShloMosaic

/-- A finite sum of real numbers, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A selection between two numbers by a decided bit. -/
theorem sel_if {α : Type} (p : Prop) [Decidable p] (a b : α) : Scalar.select (if p then 1#1 else 0#1) a b = if p then a else b := by
  unfold Scalar.select; split_ifs <;> simp_all

theorem half_bits : Ideal.ofBits .f32 0x3F000000#32 = ((1 / 2 : ℝ) : EReal) := by
  simp [Ideal.ofBits, Ideal.ieee, -EReal.coe_mul]; norm_num

theorem neg_inf_bits : Ideal.ofBits .f32 0xFF800000#32 = ⊥ := by
  simp [Ideal.ofBits, Ideal.ieee]

/-- The logistic function by the hyperbolic tangent. -/
theorem logistic_tanh (r : ℝ) : 1 / 2 * Real.tanh (1 / 2 * r) + 1 / 2 = 1 / (1 + Real.exp (-r)) := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  rw [Real.tanh_eq_sinh_div_cosh, Real.sinh_eq, Real.cosh_eq, h1]
  have p1 := Real.exp_pos (1 / 2 * r)
  have p2 := Real.exp_pos (-(1 / 2 * r))
  generalize Real.exp (1 / 2 * r) = u at *
  generalize Real.exp (-(1 / 2 * r)) = v at *
  have : u + v ≠ 0 := by positivity
  have : 1 + v * v ≠ 0 := by positivity
  field_simp
  linear_combination (2 * v) * h2

/-- The gate's two spellings, by the hyperbolic tangent and by the logistic function, at every extended real. -/
theorem gate_eq (z : EReal) : z * (((1 / 2 : ℝ) : EReal) * Ideal.tanh (((1 / 2 : ℝ) : EReal) * z) + ((1 / 2 : ℝ) : EReal)) = z * Ideal.logistic z := by
  have hp : (0 : ℝ) < 1 / 2 := by norm_num
  induction z using EReal.rec with
  | bot =>
    rw [EReal.coe_mul_bot_of_pos hp, Ideal.logistic, EReal.neg_bot]
    show ⊥ * (((1 / 2 : ℝ) : EReal) * (-1) + ((1 / 2 : ℝ) : EReal)) = ⊥ * Ideal.div 1 (1 + ⊤)
    have h1 : ((1 / 2 : ℝ) : EReal) * (-1) + ((1 / 2 : ℝ) : EReal) = 0 := by
      rw [show (-1 : EReal) = ((-1 : ℝ) : EReal) by simp, ← EReal.coe_mul, ← EReal.coe_add]; norm_num
    have h2 : (1 : EReal) + ⊤ = ⊤ := rfl
    rw [h1, h2, Ideal.div, if_neg (by simp), EReal.inv_top]; simp
  | top =>
    rw [EReal.coe_mul_top_of_pos hp, Ideal.logistic, EReal.neg_top]
    show ⊤ * (((1 / 2 : ℝ) : EReal) * 1 + ((1 / 2 : ℝ) : EReal)) = ⊤ * Ideal.div 1 (1 + 0)
    have h1 : ((1 / 2 : ℝ) : EReal) * 1 + ((1 / 2 : ℝ) : EReal) = 1 := by
      rw [mul_one, ← EReal.coe_add]; norm_num
    rw [h1, add_zero, Ideal.div, if_neg (by simp)]; simp
  | coe r =>
    rw [← EReal.coe_mul, Ideal.logistic, ← EReal.coe_neg]
    show (r : EReal) * (((1 / 2 : ℝ) : EReal) * ((Real.tanh (1 / 2 * r) : ℝ) : EReal) + ((1 / 2 : ℝ) : EReal)) = r * Ideal.div 1 (1 + ((Real.exp (-r) : ℝ) : EReal))
    rw [← EReal.coe_mul, ← EReal.coe_add, logistic_tanh, ← EReal.coe_one, ← EReal.coe_add, Ideal.div,
      if_neg (by rw [← EReal.coe_zero, EReal.coe_eq_coe_iff]; have := Real.exp_pos (-r); linarith), ← EReal.coe_inv, ← EReal.coe_mul]
    rw [one_div, EReal.coe_one, one_mul, EReal.coe_mul]

/-- The softplus function, as both programs spell it. -/
def softplus (x : ℝ) : ℝ := max x 0 + Real.log (1 + Real.exp (-|x|))

theorem log_one_add (r : ℝ) : Ideal.log (1 + ((Real.exp r : ℝ) : EReal)) = ((Real.log (1 + Real.exp r) : ℝ) : EReal) := by
  have h := Real.exp_pos r
  rw [← EReal.coe_one, ← EReal.coe_add]
  show (if 1 + Real.exp r ≤ 0 then (⊥ : EReal) else _) = _
  rw [if_neg (by linarith)]

theorem coe_max' (a b : ℝ) : max (a : EReal) (b : EReal) = ((max a b : ℝ) : EReal) :=
  ((EReal.coe_strictMono.monotone).map_max (a := a) (b := b)).symm

theorem softplus_eq (r : ℝ) : max ((r : ℝ) : EReal) 0 + Ideal.log (1 + Ideal.exp (0 - FloatOps.absf (F := Ideal) (φ := .f32) ((r : ℝ) : EReal))) = ((softplus r : ℝ) : EReal) := by
  have h : FloatOps.absf (F := Ideal) (φ := .f32) ((r : ℝ) : EReal) = ((|r| : ℝ) : EReal) := by
    show max ((r : ℝ) : EReal) (-((r : ℝ) : EReal)) = _
    rw [← EReal.coe_neg, coe_max']; rfl
  rw [h, ← EReal.coe_zero, ← EReal.coe_sub, zero_sub, Ideal.exp_coe, log_one_add, coe_max', ← EReal.coe_add, softplus]

/-- An output times its gate. -/
def gated (Y z : EReal) : EReal := Y * (z * Ideal.logistic z)

/-- A group's 512 gated outputs over their root mean square. -/
def normed (G : Fin 512 → EReal) (l : Fin 512) : EReal :=
  G l * Ideal.rsqrt (Ideal.div (∑ k, G k * G k) (Ideal.ofBits .f32 0x44000000#32) + Ideal.ofBits .f32 0x358637BD#32)

end Cert.Rec

end
-- ==== Proof.Entry.lean ====
/- The contents of the launch's operand arrays, and what a grid point reads of them, in terms of the kernel's arguments. -/
module

public import proofs.«01_k».proof.Proof.Gen.KernelIdeal.Value
public import proofs.«01_k».proof.Proof.Pair
public import proofs.«01_k».proof.Proof.Real
public import Idealize.ShloMosaic.Lib.Claim

@[expose] public section
set_option maxRecDepth 16384
set_option maxHeartbeats 1600000
noncomputable section
namespace Cert.KernelIdeal.Value
open Cert.KernelIdeal Cert.KernelIdeal.Gen Idealize.ShloMosaic Idealize.ShloMosaic.TcCoe Idealize.SL.Sem
variable (m : (ℓ : Loc nD τ sig) → Buf (Elt Ideal) ℓ)

/-- The nine stretches of columns laid side by side. -/
def cat9 (a0 a1 a2 a3 : Vec Ideal S17408x1024 .f32) (a4 : Vec Ideal S17408x2048 .f32) (a5 : Vec Ideal S17408x3072 .f32)
    (a6 a7 : Vec Ideal S17408x1024 .f32) (a8 : Vec Ideal S17408x512 .f32) : Vec Ideal S17408x11776 .f32 :=
  concatenate S17408x11776 1 [⟨S17408x1024, a0⟩, ⟨S17408x1024, a1⟩, ⟨S17408x1024, a2⟩, ⟨S17408x1024, a3⟩, ⟨S17408x2048, a4⟩,
    ⟨S17408x3072, a5⟩, ⟨S17408x1024, a6⟩, ⟨S17408x1024, a7⟩, ⟨S17408x512, a8⟩] concatenates_S17408x1024_S17408x1024_S17408x1024_S17408x1024_S17408x2048_S17408x3072_S17408x1024_S17408x1024_S17408x512_S17408x11776_d1

/-- The columns of the projected rows in the order the launch reads them. -/
theorem V_12 (c : Dev nD) : V m c main_v12 = cat9 (extractStridedSlice S17408x1024 ![0, 0] (m ((c : Thread nD τ).loc main_arg1)) slices_S17408x11296_S17408x1024_0_0)
    (extractStridedSlice S17408x1024 ![0, 1024] (m ((c : Thread nD τ).loc main_arg1)) slices_S17408x11296_S17408x1024_0_1024)
    (extractStridedSlice S17408x1024 ![0, 2048] (m ((c : Thread nD τ).loc main_arg1)) slices_S17408x11296_S17408x1024_0_2048)
    (extractStridedSlice S17408x1024 ![0, 3072] (m ((c : Thread nD τ).loc main_arg1)) slices_S17408x11296_S17408x1024_0_3072)
    (extractStridedSlice S17408x2048 ![0, 4096] (m ((c : Thread nD τ).loc main_arg1)) slices_S17408x11296_S17408x2048_0_4096)
    (extractStridedSlice S17408x3072 ![0, 6144] (m ((c : Thread nD τ).loc main_arg1)) slices_S17408x11296_S17408x3072_0_6144)
    (extractStridedSlice S17408x1024 ![0, 9248] (m ((c : Thread nD τ).loc main_arg1)) slices_S17408x11296_S17408x1024_0_9248)
    (extractStridedSlice S17408x1024 ![0, 10272] (m ((c : Thread nD τ).loc main_arg1)) slices_S17408x11296_S17408x1024_0_10272)
    (shapeCast S17408x512 (pad S17408x4x128 ![0, 0, 0] ![0, 0, 120] ![0, 0, 0]
      (shapeCast S17408x4x8 (extractStridedSlice S17408x32 ![0, 9216] (m ((c : Thread nD τ).loc main_arg1)) slices_S17408x11296_S17408x32_0_9216) shapeCasts_S17408x32_S17408x4x8)
      (sitofp (F := Ideal) FTy.f32 (constantI S_ 32 0#32)) pads_S17408x4x8_S17408x4x128_000_000_01200 h_S_) shapeCasts_S17408x4x128_S17408x512) := by
  simp only [V, hostOps0, hostOps0_1, hostOps0_2, hostOps0_3, hostOps0_4, hostOps0_5, hostOps0_6, List.flatten_cons, List.flatten_nil, List.cons_append, List.nil_append, List.append_nil]
  after_results_simp
  refine (show cat9 _ _ _ _ _ _ _ _ _ = _ from ?_)
  simp only [Matrix.cons_val]
  after_results_simp
  rfl

/-- The convolved rows, cut into chunks of 128. -/
theorem V_13 (c : Dev nD) : V m c main_v13 = shapeCast S128x128x3072 (m ((c : Thread nD τ).loc main_arg0)) shapeCasts_S8x2048x3072_S128x128x3072 := by
  simp only [V, hostOps0, hostOps0_1, hostOps0_2, hostOps0_3, hostOps0_4, hostOps0_5, hostOps0_6, List.flatten_cons, List.flatten_nil, List.cons_append, List.nil_append, List.append_nil]
  after_results_simp
  rfl

/-- The entering state, its heads in pairs. -/
theorem V_14 (c : Dev nD) : V m c main_v14 = shapeCast S2x8x16x128x128 (m ((c : Thread nD τ).loc main_arg6)) shapeCasts_S2x8x32x64x128_S2x8x16x128x128 := by
  simp only [V, hostOps0, hostOps0_1, hostOps0_2, hostOps0_3, hostOps0_4, hostOps0_5, hostOps0_6, List.flatten_cons, List.flatten_nil, List.cons_append, List.nil_append, List.append_nil]
  after_results_simp
  rfl

/-- The state array the launch writes into, its heads in pairs. -/
theorem V_28_1 (c : Dev nD) : V m c main_v28_1 = shapeCast S2x8x16x128x128 (m ((c : Thread nD τ).loc main_arg7)) shapeCasts_S2x8x32x64x128_S2x8x16x128x128 := by
  simp only [V, hostOps0, hostOps0_1, hostOps0_2, hostOps0_3, hostOps0_4, hostOps0_5, hostOps0_6, List.flatten_cons, List.flatten_nil, List.cons_append, List.nil_append, List.append_nil]
  after_results_simp
  rfl

/-- The step biases, eight to a stretch of 128 columns. -/
theorem V_18 (c : Dev nD) : V m c main_v18 = shapeCast S1x512 (pad S4x128 ![0, 0] ![0, 120] ![0, 0] (shapeCast S4x8 (m ((c : Thread nD τ).loc main_arg2)) shapeCasts_S32_S4x8) (sitofp (F := Ideal) FTy.f32 (constantI S_ 32 0#32)) pads_S4x8_S4x128_000_01200 h_S_) shapeCasts_S4x128_S1x512 := by
  simp only [V, hostOps0, hostOps0_1, hostOps0_2, hostOps0_3, hostOps0_4, hostOps0_5, hostOps0_6, List.flatten_cons, List.flatten_nil, List.cons_append, List.nil_append, List.append_nil]
  after_results_simp
  rfl

/-- The decay rates, eight to a stretch of 128 columns. -/
theorem V_23 (c : Dev nD) : V m c main_v23 = shapeCast S1x512 (pad S4x128 ![0, 0] ![0, 120] ![0, 0] (shapeCast S4x8 (Host.negf (F := Ideal) (Host.exp (m ((c : Thread nD τ).loc main_arg3)))) shapeCasts_S32_S4x8) (sitofp (F := Ideal) FTy.f32 (constantI S_ 32 0#32)) pads_S4x8_S4x128_000_01200 h_S_) shapeCasts_S4x128_S1x512 := by
  simp only [V, hostOps0, hostOps0_1, hostOps0_2, hostOps0_3, hostOps0_4, hostOps0_5, hostOps0_6, List.flatten_cons, List.flatten_nil, List.cons_append, List.nil_append, List.append_nil]
  after_results_simp
  rfl

/-- The skip weights, one head over its 64 columns. -/
theorem V_26 (c : Dev nD) : V m c main_v26 = shapeCast S1x2048 (shapeCast S2048 (broadcastInDim S32x64 ![0] bcast_S32_S32x64_0 (m ((c : Thread nD τ).loc main_arg4))) shapeCasts_S32x64_S2048) shapeCasts_S2048_S1x2048 := by
  simp only [V, hostOps0, hostOps0_1, hostOps0_2, hostOps0_3, hostOps0_4, hostOps0_5, hostOps0_6, List.flatten_cons, List.flatten_nil, List.cons_append, List.nil_append, List.append_nil]
  after_results_simp
  rfl

/-- The norm weights. -/
theorem V_27 (c : Dev nD) : V m c main_v27 = shapeCast S1x2048 (m ((c : Thread nD τ).loc main_arg5)) shapeCasts_S2048_S1x2048 := by
  simp only [V, hostOps0, hostOps0_1, hostOps0_2, hostOps0_3, hostOps0_4, hostOps0_5, hostOps0_6, List.flatten_cons, List.flatten_nil, List.cons_append, List.nil_append, List.append_nil]
  after_results_simp
  rfl

/-- The block each operand is read at, decided over the grid. -/
theorem idx_val : ∀ t : Fin cfg0.N, win0_0.index t = ![t.val, 0, 0] ∧ win0_1.index t = ![t.val, 0, 4] ∧ win0_2.index t = ![t.val, 0, 5] ∧ win0_3.index t = ![t.val, 2] ∧ win0_4.index t = ![t.val, 22] ∧ win0_5.index t = ![0, 0] ∧ win0_6.index t = ![0, 0] ∧ win0_7.index t = ![0, 0] ∧ win0_8.index t = ![0, 0] ∧ win0_9.index t = ![1, t.val / 16, 0, 0, 0] ∧ win0_10.index t = ![t.val, 0] ∧ win0_11.index t = ![1, t.val / 16, 0, 0, 0] :=
  (by decide +kernel : ∀ t : Fin grid0.N, _)

/-- There are 128 grid points. -/
theorem pt_lt (t : Fin cfg0.N) : t.val < 128 := lt_of_lt_of_eq t.isLt (by decide +kernel)

/-- The sequence a grid point works on. -/
def rb (t : Fin cfg0.N) : Fin 8 := ⟨t.val / 16, by have := pt_lt t; omega⟩
/-- A row of a grid point's block, within its sequence. -/
def rt (t : Fin cfg0.N) (s : Fin 128) : Fin 2048 := ⟨128 * (t.val % 16) + s.val, by omega⟩
/-- A row of a grid point's block, among all rows. -/
def rr (t : Fin cfg0.N) (s : Fin 128) : Fin 17408 := ⟨128 * t.val + s.val, by have := pt_lt t; omega⟩

/-- The fifth stretch of columns. -/
theorem cat9_4 (a0 a1 a2 a3 a4 a5 a6 a7 a8) (r : Fin 17408) (j : Fin 2048) :
    cat9 a0 a1 a2 a3 a4 a5 a6 a7 a8 (ix2 r ⟨4096 + j.val, by omega⟩) = a4 (ix2 r j) := by
  have key : ∀ k : Fin 11776, (h4 : 4096 ≤ k.val) → (h6 : k.val < 6144) → cat9 a0 a1 a2 a3 a4 a5 a6 a7 a8 (ix2 r k) = a4 (ix2 r ⟨k.val - 4096, by omega⟩) := by
    intro k h4 h6
    pointwise [cat9]
    rw [dif_neg (by omega), dif_neg (by omega), dif_neg (by omega), dif_neg (by omega), dif_pos (by omega)]
    exact congrArg (fun k => a4 (ix2 r k)) (Fin.ext (by simp; omega))
  rw [key _ (by simp) (by simp; omega)]
  exact congrArg (fun k => a4 (ix2 r k)) (Fin.ext (by simp))

/-- The last stretch of columns. -/
theorem cat9_8 (a0 a1 a2 a3 a4 a5 a6 a7 a8) (r : Fin 17408) (j : Fin 512) :
    cat9 a0 a1 a2 a3 a4 a5 a6 a7 a8 (ix2 r ⟨11264 + j.val, by omega⟩) = a8 (ix2 r j) := by
  have key : ∀ k : Fin 11776, (h4 : 11264 ≤ k.val) → cat9 a0 a1 a2 a3 a4 a5 a6 a7 a8 (ix2 r k) = a8 (ix2 r ⟨k.val - 11264, by omega⟩) := by
    intro k h4
    pointwise [cat9]
    rw [dif_neg (by omega), dif_neg (by omega), dif_neg (by omega), dif_neg (by omega), dif_neg (by omega), dif_neg (by omega), dif_neg (by omega), dif_neg (by omega)]
    exact congrArg (fun k => a8 (ix2 r k)) (Fin.ext (by simp; omega))
  rw [key _ (by simp)]
  exact congrArg (fun k => a8 (ix2 r k)) (Fin.ext (by simp))

/-- Rows cut into chunks of 128. -/
theorem chunked (x : Vec Ideal S8x2048x3072 .f32) (a s : Fin 128) (j : Fin 3072) :
    shapeCast S128x128x3072 x shapeCasts_S8x2048x3072_S128x128x3072 (ix3 a s j) = x (ix3 ⟨a.val / 16, by omega⟩ ⟨a.val % 16 * 128 + s.val, by omega⟩ j) := by
  pointwise
/-- Heads taken in pairs. -/
theorem paired (x : Vec Ideal S2x8x32x64x128 .f32) (u : Fin 2) (b : Fin 8) (p : Fin 16) (l n : Fin 128) :
    shapeCast S2x8x16x128x128 x shapeCasts_S2x8x32x64x128_S2x8x16x128x128 (ix5 u b p l n) = x (ix5 u b ⟨p.val * 2 + l.val / 64, by omega⟩ ⟨l.val % 64, by omega⟩ n) := by
  pointwise
/-- Groups of eight columns spread to stretches of 128. -/
theorem stretched (x : Vec Ideal S17408x32 .f32) (v : Vec Ideal S_ .f32) (i : Fin 17408) (j : Fin 512) (h : j.val % 128 < 8) :
    (shapeCast S17408x512 (pad S17408x4x128 ![0, 0, 0] ![0, 0, 120] ![0, 0, 0]
      (shapeCast S17408x4x8 x shapeCasts_S17408x32_S17408x4x8)
      v pads_S17408x4x8_S17408x4x128_000_000_01200 h_S_) shapeCasts_S17408x4x128_S17408x512) (ix2 i j) = x (ix2 i ⟨j.val / 128 * 8 + j.val % 128, by omega⟩) := by
  pointwise
  rw [dif_pos (by omega)]
/-- Groups of eight entries spread to stretches of 128. -/
theorem stretched1 (x : Vec Ideal S32 .f32) (v : Vec Ideal S_ .f32) (j : Fin 512) (h : j.val % 128 < 8) :
    (shapeCast S1x512 (pad S4x128 ![0, 0] ![0, 120] ![0, 0]
      (shapeCast S4x8 x shapeCasts_S32_S4x8)
      v pads_S4x8_S4x128_000_01200 h_S_) shapeCasts_S4x128_S1x512) (ix2 0 j) = x (ix1 ⟨j.val / 128 * 8 + j.val % 128, by omega⟩) := by
  pointwise
  rw [dif_pos (by omega)]

/-- Skip weights spread over the columns of their head. -/
theorem spread1 (x : Vec Ideal S32 .f32) (j : Fin 2048) :
    shapeCast S1x2048 (shapeCast S2048 (broadcastInDim S32x64 ![0] bcast_S32_S32x64_0 x) shapeCasts_S32x64_S2048) shapeCasts_S2048_S1x2048 (ix2 0 j) = x (ix1 ⟨j.val / 64, by omega⟩) := by
  pointwise
/-- A vector as a row. -/
theorem row1 (x : Vec Ideal S2048 .f32) (j : Fin 2048) : shapeCast S1x2048 x shapeCasts_S2048_S1x2048 (ix2 0 j) = x (ix1 j) := by
  pointwise

/-- The convolved values read at a grid point. -/
theorem blk0 (c : Dev nD) (t : Fin cfg0.N) (s : Fin 128) (j : Fin 2048) : X0_0 m c t (ix3 0 s j) = (m ((c : Thread nD τ).loc main_arg0)) (ix3 (rb t) (rt t s) ⟨j.val, by omega⟩) := by
  have hlt := pt_lt t
  have h := (idx_val t).1
  have e : X0_0 m c t (ix3 0 s j) = V m c main_v13 (ix3 ⟨t.val, pt_lt t⟩ s ⟨j.val, by omega⟩) := by
    unfold X0_0 Pipeline.Window.fill
    rw [dif_pos (moved0_0 t (ix3 0 s j))]
    blk_simp [iblk]
    refine congrArg (V m c main_v13) ?_
    blk_ext
    all_goals simp [h, rb, rr]
    all_goals first | done | omega
  rw [e, V_13]
  rw [chunked]
  exact congrArg₂ (fun a b => (m ((c : Thread nD τ).loc main_arg0)) (ix3 a b _)) (Fin.ext rfl) (Fin.ext (by simp [rt]; omega))

/-- The input maps read at a grid point. -/
theorem blk1 (c : Dev nD) (t : Fin cfg0.N) (s : Fin 128) (j : Fin 512) : iblk m c 1 t (ix3 0 s j) = (m ((c : Thread nD τ).loc main_arg0)) (ix3 (rb t) (rt t s) ⟨2048 + j.val, by omega⟩) := by
  have hlt := pt_lt t
  have h := (idx_val t).2.1
  have e : iblk m c 1 t (ix3 0 s j) = V m c main_v13 (ix3 ⟨t.val, pt_lt t⟩ s ⟨2048 + j.val, by omega⟩) := by
    blk_simp [iblk]
    refine congrArg (V m c main_v13) ?_
    blk_ext
    all_goals simp [h, rb, rr]
    all_goals first | done | omega
  rw [e, V_13]
  rw [chunked]
  exact congrArg₂ (fun a b => (m ((c : Thread nD τ).loc main_arg0)) (ix3 a b _)) (Fin.ext rfl) (Fin.ext (by simp [rt]; omega))

/-- The output maps read at a grid point. -/
theorem blk2 (c : Dev nD) (t : Fin cfg0.N) (s : Fin 128) (j : Fin 512) : iblk m c 2 t (ix3 0 s j) = (m ((c : Thread nD τ).loc main_arg0)) (ix3 (rb t) (rt t s) ⟨2560 + j.val, by omega⟩) := by
  have hlt := pt_lt t
  have h := (idx_val t).2.2.1
  have e : iblk m c 2 t (ix3 0 s j) = V m c main_v13 (ix3 ⟨t.val, pt_lt t⟩ s ⟨2560 + j.val, by omega⟩) := by
    blk_simp [iblk]
    refine congrArg (V m c main_v13) ?_
    blk_ext
    all_goals simp [h, rb, rr]
    all_goals first | done | omega
  rw [e, V_13]
  rw [chunked]
  exact congrArg₂ (fun a b => (m ((c : Thread nD τ).loc main_arg0)) (ix3 a b _)) (Fin.ext rfl) (Fin.ext (by simp [rt]; omega))

/-- The gates read at a grid point. -/
theorem blk3 (c : Dev nD) (t : Fin cfg0.N) (s : Fin 128) (j : Fin 2048) : X0_3 m c t (ix2 s j) = (m ((c : Thread nD τ).loc main_arg1)) (ix2 (rr t s) ⟨4096 + j.val, by omega⟩) := by
  have hlt := pt_lt t
  have h := (idx_val t).2.2.2.1
  have e : X0_3 m c t (ix2 s j) = V m c main_v12 (ix2 (rr t s) ⟨4096 + j.val, by omega⟩) := by
    unfold X0_3 Pipeline.Window.fill
    rw [dif_pos (moved0_3 t (ix2 s j))]
    blk_simp [iblk]
    refine congrArg (V m c main_v12) ?_
    blk_ext
    all_goals simp [h, rb, rr]
    all_goals first | done | omega
  rw [e, V_12]
  rw [cat9_4]
  pointwise

/-- The step sizes read at a grid point. -/
theorem blk4 (c : Dev nD) (t : Fin cfg0.N) (s : Fin 128) (g : Fin 4) (r : Fin 8) : iblk m c 4 t (ix2 s ⟨128 * g.val + r.val, by omega⟩) = (m ((c : Thread nD τ).loc main_arg1)) (ix2 (rr t s) ⟨9216 + (8 * g.val + r.val), by omega⟩) := by
  have hlt := pt_lt t
  have h := (idx_val t).2.2.2.2.1
  have e : iblk m c 4 t (ix2 s ⟨128 * g.val + r.val, by omega⟩) = V m c main_v12 (ix2 (rr t s) ⟨11264 + (128 * g.val + r.val), by omega⟩) := by
    blk_simp [iblk]
    refine congrArg (V m c main_v12) ?_
    blk_ext
    all_goals simp [h, rb, rr]
    all_goals first | done | omega
  rw [e, V_12]
  rw [show (⟨11264 + (128 * g.val + r.val), by omega⟩ : Fin 11776) = ⟨11264 + (⟨128 * g.val + r.val, by omega⟩ : Fin 512).val, by simp; omega⟩ from rfl, cat9_8, stretched _ _ _ _ (by simp; omega)]
  pointwise
  exact congrArg (fun b => (m ((c : Thread nD τ).loc main_arg1)) (ix2 (rr t s) b)) (Fin.ext (by simp; omega))

/-- The step biases read at a grid point. -/
theorem blk5 (c : Dev nD) (t : Fin cfg0.N) (g : Fin 4) (r : Fin 8) : iblk m c 5 t (ix2 0 ⟨128 * g.val + r.val, by omega⟩) = (m ((c : Thread nD τ).loc main_arg2)) (ix1 ⟨8 * g.val + r.val, by omega⟩) := by
  have hlt := pt_lt t
  have h := (idx_val t).2.2.2.2.2.1
  have e : iblk m c 5 t (ix2 0 ⟨128 * g.val + r.val, by omega⟩) = V m c main_v18 (ix2 0 ⟨128 * g.val + r.val, by omega⟩) := by
    blk_simp [iblk]
    refine congrArg (V m c main_v18) ?_
    blk_ext
    all_goals simp [h, rb, rr]
    all_goals first | done | omega
  rw [e, V_18]
  rw [stretched1 _ _ _ (by simp; omega)]
  exact congrArg (fun b => (m ((c : Thread nD τ).loc main_arg2)) (ix1 b)) (Fin.ext (by simp; omega))

/-- The decay rates read at a grid point. -/
theorem blk6 (c : Dev nD) (t : Fin cfg0.N) (g : Fin 4) (r : Fin 8) : iblk m c 6 t (ix2 0 ⟨128 * g.val + r.val, by omega⟩) = -(Ideal.exp ((m ((c : Thread nD τ).loc main_arg3)) (ix1 ⟨8 * g.val + r.val, by omega⟩))) := by
  have hlt := pt_lt t
  have h := (idx_val t).2.2.2.2.2.2.1
  have e : iblk m c 6 t (ix2 0 ⟨128 * g.val + r.val, by omega⟩) = V m c main_v23 (ix2 0 ⟨128 * g.val + r.val, by omega⟩) := by
    blk_simp [iblk]
    refine congrArg (V m c main_v23) ?_
    blk_ext
    all_goals simp [h, rb, rr]
    all_goals first | done | omega
  rw [e, V_23]
  rw [stretched1 _ _ _ (by simp; omega)]
  exact congrArg (fun b => -(Ideal.exp ((m ((c : Thread nD τ).loc main_arg3)) (ix1 b)))) (Fin.ext (by simp; omega))

/-- The skip weights read at a grid point. -/
theorem blk7 (c : Dev nD) (t : Fin cfg0.N) (j : Fin 2048) : iblk m c 7 t (ix2 0 j) = (m ((c : Thread nD τ).loc main_arg4)) (ix1 ⟨j.val / 64, by omega⟩) := by
  have hlt := pt_lt t
  have h := (idx_val t).2.2.2.2.2.2.2.1
  have e : iblk m c 7 t (ix2 0 j) = V m c main_v26 (ix2 0 j) := by
    blk_simp [iblk]
    refine congrArg (V m c main_v26) ?_
    blk_ext
    all_goals simp [h, rb, rr]
    all_goals first | done | omega
  rw [e, V_26]
  exact spread1 _ _

/-- The norm weights read at a grid point. -/
theorem blk8 (c : Dev nD) (t : Fin cfg0.N) (j : Fin 2048) : iblk m c 8 t (ix2 0 j) = (m ((c : Thread nD τ).loc main_arg5)) (ix1 j) := by
  have hlt := pt_lt t
  have h := (idx_val t).2.2.2.2.2.2.2.2.1
  have e : iblk m c 8 t (ix2 0 j) = V m c main_v27 (ix2 0 j) := by
    blk_simp [iblk]
    refine congrArg (V m c main_v27) ?_
    blk_ext
    all_goals simp [h, rb, rr]
    all_goals first | done | omega
  rw [e, V_27]
  exact row1 _ _

/-- The entering state read at a grid point. -/
theorem blk9 (c : Dev nD) (t : Fin cfg0.N) (p : Fin 16) (l n : Fin 128) : iblk m c 9 t (ix5 0 0 p l n) = (m ((c : Thread nD τ).loc main_arg6)) (ix5 1 (rb t) ⟨2 * p.val + l.val / 64, by omega⟩ ⟨l.val % 64, by omega⟩ n) := by
  have hlt := pt_lt t
  have h := (idx_val t).2.2.2.2.2.2.2.2.2.1
  have e : iblk m c 9 t (ix5 0 0 p l n) = V m c main_v14 (ix5 1 (rb t) p l n) := by
    blk_simp [iblk]
    refine congrArg (V m c main_v14) ?_
    blk_ext
    all_goals simp [h, rb, rr]
    all_goals first | done | omega
  rw [e, V_14]
  rw [paired]
  exact congrArg (fun b => (m ((c : Thread nD τ).loc main_arg6)) (ix5 1 (rb t) b _ n)) (Fin.ext (by simp; omega))
end Cert.KernelIdeal.Value

end
-- ==== Proof.Pieces.lean ====
/- What a grid point leaves in the state's scratch and in the two output blocks, by group and pair: the kernel's stored values are instances
   of one definition, in the first, the middle and the last point of a sequence alike. -/
module

public import proofs.«01_k».proof.Proof.Pair

@[expose] public section

set_option maxRecDepth 16384

noncomputable section

namespace Cert.KernelIdeal.Pair

open Cert.KernelIdeal Cert.KernelIdeal.Gen Idealize.ShloMosaic Idealize.ShloMosaic.TcCoe Idealize.SL.Sem

variable {F : FTy → Type} [FloatOps F]

/-- The output of pair `q` of group `g` before the gate. -/
def yPair (x0 : Vec F S1x128x2048 .f32) (x1 x2 : Vec F S1x128x512 .f32) (x4 : Vec F S128x512 .f32) (x5 x6 : Vec F S1x512 .f32)
    (x7 : Vec F S1x2048 .f32) (h : Vec F S1x16x128x128 .f32) (g q : Fin 4) : FVec F S128x128 .f32 :=
  pairY (2 * q.val + (0 : Fin 2).val) (2 * q.val + (1 : Fin 2).val) (128 * q.val) (slC q 0) (slC q 1) (slR q 0) (slR q 1) (slX q)
    (View.ld x0 (Rect.unit ![0, 0, 512 * g.val] ![1, 128, 512] (inbX g))) (View.ld x1 (Rect.unit ![0, 0, 128 * g.val] ![1, 128, 128] (inbB g)))
    (View.ld x2 (Rect.unit ![0, 0, 128 * g.val] ![1, 128, 128] (inbB g)))
    (View.ld x4 (Rect.unit ![0, 128 * g.val] ![128, 128] (inbD g))) (View.ld x5 (Rect.unit ![0, 128 * g.val] ![1, 128] (inbV g)))
    (View.ld x6 (Rect.unit ![0, 128 * g.val] ![1, 128] (inbV g))) (View.ld x7 (Rect.unit ![0, 512 * g.val + 128 * q.val] ![1, 128] (inbK g q)))
    (View.ld h (Rect.unit ![0, 4 * g.val + q.val, 0, 0] ![1, 1, 128, 128] (inbS g q)))

/-- Four 128-wide arrays side by side. -/
def joinY (P : Fin 4 → Vec F S128x128 .f32) : Vec F S128x512 .f32 := fun j =>
  P ⟨(j 1).val / 128, by have h : (j 1).val < 512 := (j 1).isLt; omega⟩ (ix2 ⟨(j 0).val, (j 0).isLt⟩ ⟨(j 1).val % 128, by omega⟩)

/-- A load of 512 columns over the four stores of 128 columns made just before: the four arrays side by side. -/
theorem readCov_four {κ : Kind} {sp : Space} (v : View sig κ sp S128x2048 .f32) {o0 o1 o2 o3 : ℕ}
    (i0 : ∀ a, (![0, o0] : Fin 2 → ℕ) a + (![128, 128] : Fin 2 → ℕ) a ≤ S128x2048.size a)
    (i1 : ∀ a, (![0, o1] : Fin 2 → ℕ) a + (![128, 128] : Fin 2 → ℕ) a ≤ S128x2048.size a)
    (i2 : ∀ a, (![0, o2] : Fin 2 → ℕ) a + (![128, 128] : Fin 2 → ℕ) a ≤ S128x2048.size a)
    (i3 : ∀ a, (![0, o3] : Fin 2 → ℕ) a + (![128, 128] : Fin 2 → ℕ) a ≤ S128x2048.size a)
    (i : ∀ a, (![0, o0] : Fin 2 → ℕ) a + (![128, 512] : Fin 2 → ℕ) a ≤ S128x2048.size a)
    (w0 w1 w2 w3 : Vec F S128x128 .f32) (L : List (View.Piece (Elt F) S128x2048 .f32))
    (h1 : o1 = o0 + 128) (h2 : o2 = o0 + 256) (h3 : o3 = o0 + 384) :
    v.readCov ((⟨Rect.unit ![0, o3] ![128, 128] i3, w3⟩ : View.Piece (Elt F) S128x2048 .f32) :: ⟨Rect.unit ![0, o2] ![128, 128] i2, w2⟩
        :: ⟨Rect.unit ![0, o1] ![128, 128] i1, w1⟩ :: ⟨Rect.unit ![0, o0] ![128, 128] i0, w0⟩ :: L) (Rect.unit ![0, o0] ![128, 512] i).toLoadRect
      = joinY ![w0, w1, w2, w3] := by
  subst h1 h2 h3
  rw [View.readCov_eq_canon']
  funext j
  show View.canon _ ((Rect.unit (s := S128x2048) ![0, o0] ![128, 512] i).idx j) = _
  have hj0 : (j 0).val < 128 := (j 0).isLt
  have hj1 : (j 1).val < 512 := (j 1).isLt
  generalize hy : (Rect.unit (s := S128x2048) ![0, o0] ![128, 512] i).idx j = y
  have y0 : (y 0).val = (j 0).val := by
    have := Rect.idx_unit_val (s := S128x2048) ![0, o0] ![128, 512] i j 0
    rw [← hy]; simpa using this
  have y1 : (y 1).val = o0 + (j 1).val := by
    have := Rect.idx_unit_val (s := S128x2048) ![0, o0] ![128, 512] i j 1
    rw [← hy]; simpa using this
  have hit : ∀ (o k : ℕ) (hk : k < 4) (io : ∀ a, (![0, o] : Fin 2 → ℕ) a + (![128, 128] : Fin 2 → ℕ) a ≤ S128x2048.size a) (w : Vec F S128x128 .f32)
      (L : List (View.Piece (Elt F) S128x2048 .f32)), o = o0 + 128 * k → (j 1).val / 128 = k → (![w0, w1, w2, w3] : Fin 4 → Vec F S128x128 .f32) ⟨k, hk⟩ = w →
      View.canon (⟨Rect.unit ![0, o] ![128, 128] io, w⟩ :: L) y = joinY ![w0, w1, w2, w3] j := by
    intro o k hk io w L ho hd hw
    have e : y = (Rect.unit ![0, o] ![128, 128] io).emb (ix2 ⟨(j 0).val, hj0⟩ ⟨(j 1).val % 128, by omega⟩) := by
      funext a
      refine Fin.ext ?_
      rw [show ((Rect.unit ![0, o] ![128, 128] io).emb (ix2 ⟨(j 0).val, hj0⟩ ⟨(j 1).val % 128, by omega⟩) a).val
        = _ from Rect.idx_unit_val (s := S128x2048) ![0, o] ![128, 128] io _ a]
      fin_cases a
      · simpa using y0
      · show (y 1).val = o + (j 1).val % 128
        omega
    rw [e, View.canon_cons_emb]
    subst hd
    show w _ = (![w0, w1, w2, w3] : Fin 4 → Vec F S128x128 .f32) _ _
    rw [hw]
  have skip : ∀ (o : ℕ) (io : ∀ a, (![0, o] : Fin 2 → ℕ) a + (![128, 128] : Fin 2 → ℕ) a ≤ S128x2048.size a) (w : Vec F S128x128 .f32)
      (L : List (View.Piece (Elt F) S128x2048 .f32)), o0 + (j 1).val < o →
      View.canon (⟨Rect.unit ![0, o] ![128, 128] io, w⟩ :: L) y = View.canon L y := by
    intro o io w L ho
    refine View.canon_cons_of_not_mem _ _ fun hm => ?_
    have : o ≤ (y 1).val := (Rect.mem_set_unit.mp (show y ∈ (Rect.unit (s := S128x2048) ![0, o] ![128, 128] io).set from hm) 1).1
    omega
  by_cases c3 : (j 1).val / 128 = 3
  · exact hit _ 3 (by decide) _ _ _ rfl c3 rfl
  rw [skip _ _ _ _ (by omega)]
  by_cases c2 : (j 1).val / 128 = 2
  · exact hit _ 2 (by decide) _ _ _ rfl c2 rfl
  rw [skip _ _ _ _ (by omega)]
  by_cases c1 : (j 1).val / 128 = 1
  · exact hit _ 1 (by decide) _ _ _ rfl c1 rfl
  rw [skip _ _ _ _ (by omega)]
  exact hit _ 0 (by decide) _ _ _ rfl (by omega) rfl

theorem inbY (g q : Fin 4) : ∀ a, (![0, 512 * g.val + 128 * q.val] : Fin 2 → ℕ) a + (![128, 128] : Fin 2 → ℕ) a ≤ S128x2048.size a := by
  intro a; fin_cases a <;> simp [S128x2048]; omega

/-- The stores a point makes into group `g`'s 512 columns of the output block, the last first: the gated and normed group, then its four pairs. -/
def yList (x0 : Vec F S1x128x2048 .f32) (x1 x2 : Vec F S1x128x512 .f32) (x3 : Vec F S128x2048 .f32) (x4 : Vec F S128x512 .f32) (x5 x6 : Vec F S1x512 .f32)
    (x7 x8 : Vec F S1x2048 .f32) (h : Vec F S1x16x128x128 .f32) (g : Fin 4) : List (View.Piece (Elt F) S128x2048 .f32) :=
  ⟨Rect.unit ![0, 512 * g.val] ![128, 512] (inbZ g),
    k0_pay64 (k0_pay21 (View.ld x3 (Rect.unit ![0, 512 * g.val] ![128, 512] (inbZ g))))
      (joinY ![yPair x0 x1 x2 x4 x5 x6 x7 h g 0, yPair x0 x1 x2 x4 x5 x6 x7 h g 1, yPair x0 x1 x2 x4 x5 x6 x7 h g 2, yPair x0 x1 x2 x4 x5 x6 x7 h g 3])
      (View.ld x8 (Rect.unit ![0, 512 * g.val] ![1, 512] (inbW g)))⟩
  :: (List.finRange 4).reverse.map fun q => ⟨Rect.unit ![0, 512 * g.val + 128 * q.val] ![128, 128] (inbY g q), yPair x0 x1 x2 x4 x5 x6 x7 h g q⟩

/-- … into the state's scratch, the last first. -/
def stList (x0 : Vec F S1x128x2048 .f32) (x1 : Vec F S1x128x512 .f32) (x4 : Vec F S128x512 .f32) (x5 x6 : Vec F S1x512 .f32)
    (h : Vec F S1x16x128x128 .f32) : List (View.Piece (Elt F) S1x16x128x128 .f32) :=
  (List.finRange 16).reverse.map fun k => stPiece x0 x1 x4 x5 x6 h ⟨k.val / 4, by omega⟩ ⟨k.val % 4, by omega⟩

/-- The output block after a point. -/
def yBlock (x0 : Vec F S1x128x2048 .f32) (x1 x2 : Vec F S1x128x512 .f32) (x3 : Vec F S128x2048 .f32) (x4 : Vec F S128x512 .f32) (x5 x6 : Vec F S1x512 .f32)
    (x7 x8 : Vec F S1x2048 .f32) (h : Vec F S1x16x128x128 .f32) : Vec F S128x2048 .f32 :=
  View.canon ((List.finRange 4).reverse.flatMap fun g => yList x0 x1 x2 x3 x4 x5 x6 x7 x8 h g)

/-- A load of the whole scratch reads what the stores left. -/
theorem readCov_whole {κ : Kind} {sp : Space} (v : View sig κ sp S1x16x128x128 .f32)
    (inb : ∀ a, (![0, 0, 0, 0] : Fin 4 → ℕ) a + (![1, 16, 128, 128] : Fin 4 → ℕ) a ≤ S1x16x128x128.size a)
    (L : List (View.Piece (Elt F) S1x16x128x128 .f32)) :
    v.readCov L (Rect.unit ![0, 0, 0, 0] ![1, 16, 128, 128] inb).toLoadRect = View.canon L := by
  rw [View.readCov_eq_canon']
  funext j
  refine congrArg (View.canon L) (funext fun a => Fin.ext ?_)
  refine (Rect.idx_unit_val (s := S1x16x128x128) ![0, 0, 0, 0] ![1, 16, 128, 128] inb j a).trans ?_
  fin_cases a <;> exact Nat.zero_add _

section Stores

variable (c : Dev nD)
  (i : grid0.Coords)
  (arg3 : Memref sig .tc .vmem S1x128x2048 .f32)
  (harg3 : arg3.IsWhole)
  (arg4 : Memref sig .tc .vmem S1x128x512 .f32)
  (harg4 : arg4.IsWhole)
  (arg5 : Memref sig .tc .vmem S1x128x512 .f32)
  (harg5 : arg5.IsWhole)
  (arg6 : Memref sig .tc .vmem S128x2048 .f32)
  (harg6 : arg6.IsWhole)
  (arg7 : Memref sig .tc .vmem S128x512 .f32)
  (harg7 : arg7.IsWhole)
  (arg8 : Memref sig .tc .vmem S1x512 .f32)
  (harg8 : arg8.IsWhole)
  (arg9 : Memref sig .tc .vmem S1x512 .f32)
  (harg9 : arg9.IsWhole)
  (arg10 : Memref sig .tc .vmem S1x2048 .f32)
  (harg10 : arg10.IsWhole)
  (arg11 : Memref sig .tc .vmem S1x2048 .f32)
  (harg11 : arg11.IsWhole)
  (arg12 : Memref sig .tc .vmem S1x1x16x128x128 .f32)
  (harg12 : arg12.IsWhole)
  (arg14 : Memref sig .tc .vmem S128x2048 .f32)
  (harg14 : arg14.IsWhole)
  (arg15 : Memref sig .tc .vmem S1x1x16x128x128 .f32)
  (harg15 : arg15.IsWhole)
  (arg16 : Memref sig .tc .vmem S1x16x128x128 .f32)
  (harg16 : arg16.IsWhole)
  (arg17 : Memref sig .tc .vmem S4x128x128 .f32)
  (harg17 : arg17.IsWhole)
  (arg18 : Memref sig .tc .vmem S4x128x128 .f32)
  (harg18 : arg18.IsWhole)
  (x0 : Vec F S1x128x2048 .f32) (x1 : Vec F S1x128x512 .f32) (x2 : Vec F S1x128x512 .f32) (x3 : Vec F S128x2048 .f32) (x4 : Vec F S128x512 .f32) (x5 : Vec F S1x512 .f32) (x6 : Vec F S1x512 .f32) (x7 : Vec F S1x2048 .f32) (x8 : Vec F S1x2048 .f32) (x9 : Vec F S1x1x16x128x128 .f32) (xs0 : Vec F S1x16x128x128 .f32)

/-- The scratch after a sequence's first point. -/
theorem sout0_A_0_eq (hc0 : cond0_0 i) (hc1 : ¬cond0_1 i) :
    sout0_A_0 c i arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 = View.canon (stList x0 x1 x4 x5 x6 (k0_pay3 x9) ++ [⟨Rect.unit ![0, 0, 0, 0] ![1, 16, 128, 128] inb_S1x16x128x128_S1x16x128x128_0_0_0_0, k0_pay3 x9⟩]) := by
  frame_open
  simp (disch := decide) only [↓ readCov_four, ↓ View.readCov_skip, ↓ View.readCov_cons_toLoadRect, ↓ View.readCov_fill]
  frame_out
  rfl

/-- The scratch after a middle point. -/
theorem sout0_B_0_eq (hc0 : ¬cond0_0 i) (hc1 : ¬cond0_1 i) :
    sout0_B_0 c i arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 xs0 = View.canon (stList x0 x1 x4 x5 x6 xs0) := by
  frame_open
  simp (disch := decide) only [↓ readCov_four, ↓ View.readCov_skip, ↓ View.readCov_cons_toLoadRect, ↓ View.readCov_fill]
  frame_out
  rfl

/-- The scratch after a sequence's last point. -/
theorem sout0_C_0_eq (hc0 : ¬cond0_0 i) (hc1 : cond0_1 i) :
    sout0_C_0 c i arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 xs0 = View.canon (stList x0 x1 x4 x5 x6 xs0) := by
  frame_open
  simp (disch := decide) only [↓ readCov_four, ↓ View.readCov_skip, ↓ View.readCov_cons_toLoadRect, ↓ View.readCov_fill]
  frame_out
  rfl

/-- The output block of a sequence's first point. -/
theorem out0_A_10_eq (hc0 : cond0_0 i) (hc1 : ¬cond0_1 i) :
    out0_A_10 c i arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 = yBlock x0 x1 x2 x3 x4 x5 x6 x7 x8 (k0_pay3 x9) := by
  frame_open
  simp (disch := decide) only [↓ readCov_four, ↓ View.readCov_skip, ↓ View.readCov_cons_toLoadRect, ↓ View.readCov_fill]
  frame_out
  rfl

/-- The output block of a middle point. -/
theorem out0_B_10_eq (hc0 : ¬cond0_0 i) (hc1 : ¬cond0_1 i) :
    out0_B_10 c i arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 xs0 = yBlock x0 x1 x2 x3 x4 x5 x6 x7 x8 xs0 := by
  frame_open
  simp (disch := decide) only [↓ readCov_four, ↓ View.readCov_skip, ↓ View.readCov_cons_toLoadRect, ↓ View.readCov_fill]
  frame_out
  rfl

/-- The output block of a sequence's last point. -/
theorem out0_C_10_eq (hc0 : ¬cond0_0 i) (hc1 : cond0_1 i) :
    out0_C_10 c i arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 xs0 = yBlock x0 x1 x2 x3 x4 x5 x6 x7 x8 xs0 := by
  frame_open
  simp (disch := decide) only [↓ readCov_four, ↓ View.readCov_skip, ↓ View.readCov_cons_toLoadRect, ↓ View.readCov_fill]
  frame_out
  rfl

/-- The state block written at a sequence's last point. -/
theorem out0_C_11_eq (hc0 : ¬cond0_0 i) (hc1 : cond0_1 i) :
    out0_C_11 c i arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 xs0 = k0_pay2 (View.canon (stList x0 x1 x4 x5 x6 xs0)) := by
  frame_open
  simp (disch := decide) only [↓ readCov_four, ↓ View.readCov_skip, ↓ View.readCov_cons_toLoadRect, ↓ View.readCov_fill]
  frame_out
  refine congrArg k0_pay2 ((readCov_whole _ _ _).trans ?_)
  rfl

end Stores

end Cert.KernelIdeal.Pair

end
-- ==== Proof.Rec.lean ====
/- The recurrence of one head over the real numbers, token by token, and its closed form over a block of tokens of any length:
   what both the kernel (blocks of 128) and the reference (chunks of 64) compute. -/
module

public import Mathlib.Analysis.SpecialFunctions.Exp
public import Mathlib.Algebra.BigOperators.Fin

@[expose] public section

noncomputable section

namespace Cert.Rec

open Finset

/-- What one head's recurrence reads: a decay exponent and a step size per token, the token's 64 inputs, its two vectors of 128 numbers,
    and the state it starts from. -/
structure Seq where
  /-- the exponent of the decay from token to token -/
  da : ℕ → ℝ
  /-- the step size -/
  dt : ℕ → ℝ
  /-- the inputs -/
  x : ℕ → Fin 64 → ℝ
  /-- what a token writes into the state -/
  B : ℕ → Fin 128 → ℝ
  /-- what a token reads from the state -/
  C : ℕ → Fin 128 → ℝ
  /-- the initial state -/
  h0 : Fin 64 → Fin 128 → ℝ

variable (Q : Seq)

/-- The state before token `t`. -/
def Seq.st : ℕ → Fin 64 → Fin 128 → ℝ
  | 0 => Q.h0
  | t + 1 => fun p n => Real.exp (Q.da t) * Seq.st t p n + Q.dt t * Q.x t p * Q.B t n

/-- The output of token `t`. -/
def Seq.out (t : ℕ) (p : Fin 64) : ℝ := ∑ n, Q.C t n * Q.st (t + 1) p n

/-- The sum of the first `k` exponents from token `o` on. -/
def Seq.cum (o k : ℕ) : ℝ := ∑ i ∈ range k, Q.da (o + i)

theorem Seq.cum_succ (o k : ℕ) : Q.cum o (k + 1) = Q.cum o k + Q.da (o + k) := sum_range_succ _ _

/-- The state `k` tokens after token `o`, from the state at `o`. -/
theorem Seq.st_add (o : ℕ) (p : Fin 64) (n : Fin 128) : ∀ k, Q.st (o + k) p n =
    Real.exp (Q.cum o k) * Q.st o p n + ∑ s ∈ range k, Real.exp (Q.cum o k - Q.cum o (s + 1)) * (Q.dt (o + s) * Q.x (o + s) p * Q.B (o + s) n)
  | 0 => by simp [Seq.cum]
  | k + 1 => by
    show Real.exp (Q.da (o + k)) * Q.st (o + k) p n + Q.dt (o + k) * Q.x (o + k) p * Q.B (o + k) n = _
    rw [Seq.st_add o p n k, sum_range_succ, Q.cum_succ, sub_self, Real.exp_zero, one_mul, Real.exp_add, mul_add, mul_sum]
    have : ∀ s, Real.exp (Q.cum o k + Q.da (o + k) - Q.cum o (s + 1)) = Real.exp (Q.da (o + k)) * Real.exp (Q.cum o k - Q.cum o (s + 1)) := fun s => by
      rw [← Real.exp_add]; congr 1; ring
    simp only [this, mul_assoc]
    ring

/-- The state after a whole block, the sum over the block's positions. -/
theorem Seq.st_block (o k : ℕ) (p : Fin 64) (n : Fin 128) : Q.st (o + (k + 1)) p n =
    Real.exp (Q.cum o (k + 1)) * Q.st o p n
      + ∑ s : Fin (k + 1), Q.x (o + s) p * (Real.exp (Q.cum o (k + 1) - Q.cum o (s + 1)) * Q.dt (o + s)) * Q.B (o + s) n := by
  rw [Q.st_add, ← Fin.sum_univ_eq_sum_range (fun s => Real.exp (Q.cum o (k + 1) - Q.cum o (s + 1)) * (Q.dt (o + s) * Q.x (o + s) p * Q.B (o + s) n))]
  congr 1
  exact sum_congr rfl fun s _ => by ring

/-- A sum over a block's positions up to `i`. -/
theorem sum_fin_le (k i : ℕ) (hi : i < k) (f : ℕ → ℝ) : (∑ s : Fin k, if (s : ℕ) ≤ i then f s else 0) = ∑ s ∈ range (i + 1), f s := by
  rw [Fin.sum_univ_eq_sum_range (fun s => if s ≤ i then f s else 0) k, ← sum_filter]
  refine sum_congr ?_ fun _ _ => rfl
  ext s; simp only [mem_filter, mem_range]; omega

/-- The output at position `t` of a block of `k` tokens: the block's own tokens up to `t`, and what the state at its start adds. -/
theorem Seq.out_block (o k t : ℕ) (ht : t < k) (p : Fin 64) : Q.out (o + t) p =
    (∑ s : Fin k, if (s : ℕ) ≤ t then (∑ n, Q.C (o + t) n * Q.B (o + s) n) * Real.exp (Q.cum o (t + 1) - Q.cum o (s + 1)) * Q.dt (o + s) * Q.x (o + s) p else 0)
      + (∑ n, Q.C (o + t) n * Q.st o p n) * Real.exp (Q.cum o (t + 1)) := by
  have h1 := sum_fin_le k t ht fun s => (∑ n, Q.C (o + t) n * Q.B (o + s) n) * Real.exp (Q.cum o (t + 1) - Q.cum o (s + 1)) * Q.dt (o + s) * Q.x (o + s) p
  rw [h1]
  unfold Seq.out
  rw [show o + t + 1 = o + (t + 1) from rfl]
  simp only [Q.st_add o p _ (t + 1), mul_add, sum_add_distrib, mul_sum, sum_mul]
  rw [add_comm, sum_comm]
  congr 1
  · exact sum_congr rfl fun s _ => sum_congr rfl fun n _ => by ring
  · exact sum_congr rfl fun n _ => by ring

/-- The head a lane of a pair belongs to. -/
def hs (S : Fin 2 → Seq) (l : Fin 128) : Seq := S ⟨l / 64, by omega⟩

/-- The lane's place within its head. -/
def hp (l : Fin 128) : Fin 64 := ⟨l % 64, by omega⟩

theorem hs_even (S : Fin 2 → Seq) {l : Fin 128} (h : (l : ℕ) < 64) : hs S l = S 0 :=
  congrArg S (Fin.ext (Nat.div_eq_of_lt h))

theorem hs_odd (S : Fin 2 → Seq) {l : Fin 128} (h : ¬ (l : ℕ) < 64) : hs S l = S 1 :=
  congrArg S (Fin.ext (show (l : ℕ) / 64 = 1 by omega))

end Cert.Rec

end
-- ==== Proof.PairPt.lean ====
/- The kernel's group and pair definitions read at an entry: over blocks of real numbers they are the recurrence's closed form. -/
module

public import proofs.«01_k».proof.Proof.Pair
public import proofs.«01_k».proof.Proof.Rec
public import proofs.«01_k».proof.Proof.Real
public import Idealize.ShloMosaic.Lib.Pointwise

@[expose] public section

set_option maxRecDepth 16384

noncomputable section

namespace Cert.KernelIdeal.Pair

open Cert.KernelIdeal Cert.KernelIdeal.Gen Cert.Rec Idealize.ShloMosaic Idealize.SL.Sem

/-! ## The masks, decided -/

theorem mask_le : ∀ i j : Fin 128, IntOp.andi (IntOp.cmpi CmpIPredicate.sle (BitVec.ofNat 32 ↑j) (BitVec.ofNat 32 ↑i))
      (IntOp.cmpi CmpIPredicate.eq (IntOp.shrsi ArithUnit.vector (BitVec.ofNat 32 ↑i) 7#32) (IntOp.shrsi ArithUnit.vector (BitVec.ofNat 32 ↑j) 7#32))
    = if (j : ℕ) ≤ i then 1#1 else 0#1 := by decide +kernel

theorem mask_even : ∀ j : Fin 128, IntOp.cmpi CmpIPredicate.slt (BitVec.ofNat 32 ↑j) 64#32 = if (j : ℕ) < 64 then 1#1 else 0#1 := by decide +kernel

theorem mask_odd : ∀ j : Fin 128, IntOp.xori (IntOp.cmpi CmpIPredicate.slt (BitVec.ofNat 32 ↑j) 64#32) 1#1 = if ¬ (j : ℕ) < 64 then 1#1 else 0#1 := by decide +kernel

theorem mask_seq : ∀ i : Fin 128, IntOp.cmpi CmpIPredicate.eq (IntOp.shrsi ArithUnit.vector (BitVec.ofNat 32 ↑i) 7#32) 0#32 = if True then 1#1 else 0#1 := by decide +kernel

theorem mask_last : ∀ i : Fin 128, IntOp.andi (IntOp.cmpi CmpIPredicate.eq (IntOp.shrsi ArithUnit.vector (BitVec.ofNat 32 ↑i) 7#32) 0#32)
      (IntOp.cmpi CmpIPredicate.eq (IntOp.andi (BitVec.ofNat 32 ↑i) 127#32) 127#32) = if i = 127 then 1#1 else 0#1 := by decide +kernel

theorem mask_last' : ∀ i : Fin 128, IntOp.andi 1#1 (IntOp.cmpi CmpIPredicate.eq (IntOp.andi (BitVec.ofNat 32 ↑i) 127#32) 127#32)
    = if i = 127 then 1#1 else 0#1 := by decide +kernel

theorem mask_odd' (p : Prop) [Decidable p] : IntOp.xori (if p then 1#1 else 0#1) 1#1 = if ¬ p then 1#1 else 0#1 := by
  by_cases h : p <;> simp [h, IntOp.xori]

theorem sel_one {α : Type} (a b : α) : Scalar.select 1#1 a b = a := rfl

/-! ## The running sum, the weights, the pair's columns -/

theorem acum_pt (dt : Vec Ideal S128x128 .f32) (dtb a : Vec Ideal S1x128 .f32) (i j : Fin 128) (d : ℕ → ℝ)
    (hd : ∀ s : Fin 128, k0_pay5 dt dtb (ix2 s j) * a (ix2 0 j) = ((d s : ℝ) : EReal)) :
    acum dt dtb a (ix2 i j) = ((∑ s ∈ Finset.range (i + 1), d s : ℝ) : EReal) := by
  pointwise [acum, k0_pay11, k0_pay7, k0_pay6, k0_pay8, k0_pay9, k0_pay10]
  simp only [mask_le, sel_if, hd]
  simp only [← EReal.coe_sub, sub_self, EReal.coe_zero, ite_self, Finset.sum_const_zero, add_zero]
  rw [← sum_fin_le 128 i i.isLt, coe_sum]
  simp only [sub_zero, ite_self, Finset.sum_const_zero, add_zero]
  exact Finset.sum_congr rfl fun s _ => by split_ifs <;> simp

variable (q : Fin 4)

theorem spread_pt (v : FVec Ideal S128x128 .f32) (i j : Fin 128) (f : Fin 2 → ℝ)
    (hv : ∀ e : Fin 2, v (ix2 i ⟨2 * q.val + e.val, by omega⟩) = ((f e : ℝ) : EReal)) :
    spread (2 * q.val + (0 : Fin 2).val) (2 * q.val + (1 : Fin 2).val) (slC q 0) (slC q 1) v (ix2 i j) = ((f ⟨j / 64, by omega⟩ : ℝ) : EReal) := by
  have h0 := hv 0
  have h1 := hv 1
  pointwise [spread, lanes, k0_pay14]
  rw [mask_even, sel_if]
  split_ifs with h
  · rw [show (⟨j / 64, by omega⟩ : Fin 2) = 0 from Fin.ext (Nat.div_eq_of_lt h)]
    exact h0
  · rw [show (⟨j / 64, by omega⟩ : Fin 2) = 1 from Fin.ext (show (j : ℕ) / 64 = 1 by omega)]
    exact h1

theorem cols_pt (x : Vec Ideal S1x128x512 .f32) (i j : Fin 128) :
    cols (128 * q.val) (slX q) x (ix2 i j) = x (ix3 0 i ⟨128 * q.val + j, by omega⟩) := by
  pointwise [cols, k0_pay20]

theorem headW_pt (e : Fin 2) (ac dts cb : FVec Ideal S128x128 .f32) (i j : Fin 128) (A : ℕ → ℝ) (D W : ℝ)
    (ha : ∀ s : Fin 128, ac (ix2 s ⟨2 * q.val + e.val, by omega⟩) = ((A s : ℝ) : EReal))
    (hD : dts (ix2 j ⟨2 * q.val + e.val, by omega⟩) = ((D : ℝ) : EReal)) (hW : cb (ix2 i j) = ((W : ℝ) : EReal)) :
    headW (2 * q.val + e.val) (slC q e) (slR q e) ac dts cb (ix2 i j)
      = ((if (j : ℕ) ≤ i then W * Real.exp (A i - A j) * D else 0 : ℝ) : EReal) := by
  pointwise [headW, k0_pay6]
  rw [mask_le, sel_if, ha, ha, hD, hW, neg_inf_bits]
  split_ifs
  · rw [← EReal.coe_sub, Ideal.exp_coe, ← EReal.coe_mul, ← EReal.coe_mul]
  · simp

theorem cb_pt (b c : Vec Ideal S1x128x128 .f32) (i j : Fin 128) (B C : Fin 128 → ℝ) (hb : ∀ n, b (ix3 0 j n) = ((B n : ℝ) : EReal))
    (hc : ∀ n, c (ix3 0 i n) = ((C n : ℝ) : EReal)) : k0_pay19 b c (ix2 i j) = ((∑ n, C n * B n : ℝ) : EReal) := by
  pointwise [k0_pay19, k0_pay18, k0_pay17]
  rw [coe_sum]
  exact Finset.sum_congr rfl fun n _ => by rw [hb, hc, EReal.coe_mul]

/-! ## The pair over real blocks -/

/-- What a block's arrays must be for the pair's two heads `S`, the block starting at token `o`. -/
structure Blk (S : Fin 2 → Seq) (o : ℕ) (x : Vec Ideal S1x128x512 .f32) (b : Vec Ideal S1x128x128 .f32) (dt : Vec Ideal S128x128 .f32)
    (dtb a : Vec Ideal S1x128 .f32) (h : Vec Ideal S1x1x128x128 .f32) : Prop where
  hx : ∀ s l : Fin 128, x (ix3 0 s ⟨128 * q.val + l, by omega⟩) = (((hs S l).x (o + s) (hp l) : ℝ) : EReal)
  hb : ∀ (e : Fin 2) (s n : Fin 128), b (ix3 0 s n) = (((S e).B (o + s) n : ℝ) : EReal)
  hdt : ∀ (e : Fin 2) (s : Fin 128), k0_pay5 dt dtb (ix2 s ⟨2 * q.val + e.val, by omega⟩) = (((S e).dt (o + s) : ℝ) : EReal)
  hda : ∀ (e : Fin 2) (s : Fin 128), k0_pay5 dt dtb (ix2 s ⟨2 * q.val + e.val, by omega⟩) * a (ix2 0 ⟨2 * q.val + e.val, by omega⟩) = (((S e).da (o + s) : ℝ) : EReal)
  hh : ∀ l n : Fin 128, h (ix4 0 0 l n) = (((hs S l).st o (hp l) n : ℝ) : EReal)

variable {q}
variable {S : Fin 2 → Seq} {o : ℕ} {x : Vec Ideal S1x128x512 .f32} {b : Vec Ideal S1x128x128 .f32} {dt : Vec Ideal S128x128 .f32}
  {dtb a : Vec Ideal S1x128 .f32} {h : Vec Ideal S1x1x128x128 .f32}

theorem Blk.hac (H : Blk q S o x b dt dtb a h) (e : Fin 2) (i : Fin 128) :
    acum dt dtb a (ix2 i ⟨2 * q.val + e.val, by omega⟩) = (((S e).cum o (i + 1) : ℝ) : EReal) :=
  acum_pt dt dtb a i _ (fun s => (S e).da (o + s)) (H.hda e)

theorem Blk.hsp (H : Blk q S o x b dt dtb a h) (s0 : S128x128.Slices ![0, 2 * q.val] S128x1) (s1 : S128x128.Slices ![0, 2 * q.val + 1] S128x1) (i j : Fin 128) :
    spread (2 * q.val) (2 * q.val + 1) s0 s1 (acum dt dtb a) (ix2 i j) = (((hs S j).cum o (i + 1) : ℝ) : EReal) :=
  spread_pt q _ i j (fun e => (S e).cum o (i + 1)) fun e => H.hac e i

theorem Blk.hsd (H : Blk q S o x b dt dtb a h) (s0 : S128x128.Slices ![0, 2 * q.val] S128x1) (s1 : S128x128.Slices ![0, 2 * q.val + 1] S128x1) (i j : Fin 128) :
    spread (2 * q.val) (2 * q.val + 1) s0 s1 (k0_pay5 dt dtb) (ix2 i j) = (((hs S j).dt (o + i) : ℝ) : EReal) :=
  spread_pt q _ i j (fun e => (S e).dt (o + i)) fun e => H.hdt e i

/-- The pair's state after the block is the recurrence's, 128 tokens on. -/
theorem pairH_pt (H : Blk q S o x b dt dtb a h) (l n : Fin 128) :
    pairH (2 * q.val + (0 : Fin 2).val) (2 * q.val + (1 : Fin 2).val) (128 * q.val) (slC q 0) (slC q 1) (slX q) x b dt dtb a h (ix4 0 0 l n)
      = (((hs S l).st (o + 128) (hp l) n : ℝ) : EReal) := by
  have hb : ∀ s, b (ix3 0 s n) = (((hs S l).B (o + s) n : ℝ) : EReal) := fun s => H.hb _ s n
  pointwise [pairH, k0_pay33, k0_pay31, k0_pay17, k0_pay15, k0_pay29, k0_pay30, k0_pay16, k0_pay4, rows, lanes]
  simp only [mask_even, mask_seq, if_true, mask_last', sel_if, sel_one, Finset.sum_ite_eq', Finset.mem_univ, cols_pt, H.hsp, H.hsd, H.hx, H.hh, hb, Ideal.exp_coe]
  rw [show o + 128 = o + (127 + 1) from rfl, Seq.st_block, EReal.coe_add, coe_sum]
  refine congrArg₂ (· + ·) ?_ ?_
  · split_ifs with hl
    · rw [hs_even S (l := 0) (by decide), hs_even S hl, ← EReal.coe_mul]; rfl
    · rw [hs_odd S (l := 127) (by decide), hs_odd S hl, ← EReal.coe_mul]; rfl
  · refine Finset.sum_congr rfl fun s _ => ?_
    rw [← EReal.coe_sub, Ideal.exp_coe]
    simp only [← EReal.coe_mul]
    rfl

/-- The pair's output before the gate: the skip term and the recurrence's output. -/
theorem pairY_pt (H : Blk q S o x b dt dtb a h) (c : Vec Ideal S1x128x128 .f32) (hc : ∀ (e : Fin 2) (s n : Fin 128), c (ix3 0 s n) = (((S e).C (o + s) n : ℝ) : EReal))
    (dsk : Vec Ideal S1x128 .f32) (i l : Fin 128) :
    pairY (2 * q.val + (0 : Fin 2).val) (2 * q.val + (1 : Fin 2).val) (128 * q.val) (slC q 0) (slC q 1) (slR q 0) (slR q 1) (slX q) x b c dt dtb a dsk h (ix2 i l)
      = (((hs S l).out (o + i) (hp l) : ℝ) : EReal) + dsk (ix2 0 l) * x (ix3 0 i ⟨128 * q.val + l, by omega⟩) := by
  have hcb : ∀ s, k0_pay19 b c (ix2 i s) = ((∑ n, (hs S l).C (o + i) n * (hs S l).B (o + s) n : ℝ) : EReal) := fun s =>
    cb_pt b c i s _ _ (H.hb _ s) (hc _ i)
  have hc' : ∀ n, c (ix3 0 i n) = (((hs S l).C (o + i) n : ℝ) : EReal) := fun n => hc _ i n
  pointwise [pairY, k0_pay32, k0_pay31, k0_pay18, k0_pay35, k0_pay14, k0_pay29, rows, lanes]
  have hw0 : ∀ s : Fin 128, headW (2 * q.val) (slC q 0) (slR q 0) (acum dt dtb a) (k0_pay5 dt dtb) (k0_pay19 b c) (ix2 i s)
      = ((if (s : ℕ) ≤ i then (∑ n, (hs S l).C (o + i) n * (hs S l).B (o + s) n) * Real.exp ((S 0).cum o (i + 1) - (S 0).cum o (s + 1)) * (S 0).dt (o + s) else 0 : ℝ) : EReal) :=
    fun s => headW_pt q 0 _ _ _ i s (fun t => (S 0).cum o (t + 1)) _ _ (fun t => H.hac 0 t) (H.hdt 0 s) (hcb s)
  have hw1 : ∀ s : Fin 128, headW (2 * q.val + 1) (slC q 1) (slR q 1) (acum dt dtb a) (k0_pay5 dt dtb) (k0_pay19 b c) (ix2 i s)
      = ((if (s : ℕ) ≤ i then (∑ n, (hs S l).C (o + i) n * (hs S l).B (o + s) n) * Real.exp ((S 1).cum o (i + 1) - (S 1).cum o (s + 1)) * (S 1).dt (o + s) else 0 : ℝ) : EReal) :=
    fun s => headW_pt q 1 _ _ _ i s (fun t => (S 1).cum o (t + 1)) _ _ (fun t => H.hac 1 t) (H.hdt 1 s) (hcb s)
  simp only [mask_even, mask_odd', mask_seq, if_true, sel_if, sel_one, cols_pt, H.hsp, H.hh, hc', Ideal.exp_coe, hw0, hw1]
  rw [Seq.out_block _ _ 128 i i.isLt, EReal.coe_add, coe_sum, EReal.coe_mul, coe_sum]
  have hx : ∀ (Q : Seq) (s : Fin 128), hs S l = Q → ((if (s : ℕ) ≤ i then (∑ n, Q.C (o + i) n * Q.B (o + s) n) * Real.exp (Q.cum o (i + 1) - Q.cum o (s + 1)) * Q.dt (o + s) else 0 : ℝ) : EReal)
        * x (ix3 0 s ⟨128 * q.val + l, by omega⟩)
      = ((if (s : ℕ) ≤ i then (∑ n, Q.C (o + i) n * Q.B (o + s) n) * Real.exp (Q.cum o (i + 1) - Q.cum o (s + 1)) * Q.dt (o + s) * Q.x (o + s) (hp l) else 0 : ℝ) : EReal) := by
    rintro Q s rfl
    rw [H.hx, ← EReal.coe_mul, ite_mul, zero_mul]
  simp only [EReal.coe_mul (Seq.C _ _ _)]
  by_cases hl : (l : ℕ) < 64
  · simp only [hl, if_true, not_true_eq_false, if_false, Finset.sum_const_zero, add_zero, hs_even S hl, hx _ _ (hs_even S hl)]
    rw [add_assoc, add_comm]
  · simp only [hl, if_false, not_false_eq_true, if_true, Finset.sum_const_zero, add_zero, hs_odd S hl, hx _ _ (hs_odd S hl)]
    rw [add_assoc, add_comm]

end Cert.KernelIdeal.Pair

end
-- ==== Proof.PointPt.lean ====
/- A grid point over blocks of real numbers: the state's scratch and the output block it leaves, read at an entry. -/
module

public import proofs.«01_k».proof.Proof.Pieces
public import proofs.«01_k».proof.Proof.PairPt

@[expose] public section

set_option maxRecDepth 16384

noncomputable section

namespace Cert.KernelIdeal.Pair

open Cert.KernelIdeal Cert.KernelIdeal.Gen Cert.Rec Idealize.ShloMosaic Idealize.SL.Sem

/-- A block's step sizes: the softplus of its two summands. -/
theorem pay5_pt (dt : Vec Ideal S128x128 .f32) (dtb : Vec Ideal S1x128 .f32) (i j : Fin 128) (u v : ℝ) (hu : dt (ix2 i j) = (u : EReal)) (hv : dtb (ix2 0 j) = (v : EReal)) :
    k0_pay5 dt dtb (ix2 i j) = ((softplus (u + v) : ℝ) : EReal) := by
  pointwise [k0_pay5]
  rw [hu, hv, ← EReal.coe_add, softplus_eq]

/-- A group's gate and norm. -/
theorem norm_pt (z : Vec Ideal S128x512 .f32) (Y : Vec Ideal S128x512 .f32) (w : Vec Ideal S1x512 .f32) (i : Fin 128) (j : Fin 512) :
    k0_pay64 (k0_pay21 z) Y w (ix2 i j) = normed (fun l => gated (Y (ix2 i l)) (z (ix2 i l))) j * w (ix2 0 j) := by
  pointwise [k0_pay64, k0_pay21]
  simp only [half_bits, gate_eq]
  rfl

/-- What the arrays a point reads must be: `T g r` the recurrence of head `r` of group `g`, `o` the block's first token. -/
structure Pt (T : Fin 4 → Fin 8 → Seq) (o : ℕ) (x0 : Vec Ideal S1x128x2048 .f32) (x1 : Vec Ideal S1x128x512 .f32) (x4 : Vec Ideal S128x512 .f32)
    (x5 x6 : Vec Ideal S1x512 .f32) (h : Vec Ideal S1x16x128x128 .f32) : Prop where
  hx : ∀ (g : Fin 4) (s : Fin 128) (l : Fin 512), x0 (ix3 0 s ⟨512 * g.val + l, by omega⟩) = (((T g ⟨l / 64, by omega⟩).x (o + s) ⟨l % 64, by omega⟩ : ℝ) : EReal)
  hb : ∀ (g : Fin 4) (r : Fin 8) (s n : Fin 128), x1 (ix3 0 s ⟨128 * g.val + n, by omega⟩) = (((T g r).B (o + s) n : ℝ) : EReal)
  hd : ∀ (g : Fin 4) (r : Fin 8) (s : Fin 128), ∃ u v a : ℝ, x4 (ix2 s ⟨128 * g.val + r, by omega⟩) = (u : EReal) ∧ x5 (ix2 0 ⟨128 * g.val + r, by omega⟩) = (v : EReal)
    ∧ x6 (ix2 0 ⟨128 * g.val + r, by omega⟩) = (a : EReal) ∧ (T g r).dt (o + s) = softplus (u + v) ∧ (T g r).da (o + s) = softplus (u + v) * a
  hh : ∀ (g q : Fin 4) (l n : Fin 128), h (ix4 0 ⟨4 * g.val + q.val, by omega⟩ l n) = (((T g ⟨2 * q.val + l / 64, by omega⟩).st o (hp l) n : ℝ) : EReal)

/-- The two heads of a pair. -/
def pairS (T : Fin 4 → Fin 8 → Seq) (g q : Fin 4) : Fin 2 → Seq := fun e => T g ⟨2 * q.val + e.val, by omega⟩

variable {T : Fin 4 → Fin 8 → Seq} {o : ℕ} {x0 : Vec Ideal S1x128x2048 .f32} {x1 : Vec Ideal S1x128x512 .f32} {x4 : Vec Ideal S128x512 .f32}
  {x5 x6 : Vec Ideal S1x512 .f32} {h : Vec Ideal S1x16x128x128 .f32}

theorem Pt.blk (P : Pt T o x0 x1 x4 x5 x6 h) (g q : Fin 4) :
    Blk q (pairS T g q) o (View.ld x0 (Rect.unit ![0, 0, 512 * g.val] ![1, 128, 512] (inbX g))) (View.ld x1 (Rect.unit ![0, 0, 128 * g.val] ![1, 128, 128] (inbB g)))
      (View.ld x4 (Rect.unit ![0, 128 * g.val] ![128, 128] (inbD g))) (View.ld x5 (Rect.unit ![0, 128 * g.val] ![1, 128] (inbV g)))
      (View.ld x6 (Rect.unit ![0, 128 * g.val] ![1, 128] (inbV g))) (View.ld h (Rect.unit ![0, 4 * g.val + q.val, 0, 0] ![1, 1, 128, 128] (inbS g q))) where
  hx s l := by
    rw [View.ld_unit_apply_of _ _ _ _ _ (ix3 0 s ⟨512 * g.val + (128 * q.val + l), by omega⟩) (by intro a; fin_cases a <;> simp),
      P.hx g s ⟨128 * q.val + l, by omega⟩]
    congr 2
    · exact congrArg (T g) (Fin.ext (show (128 * q.val + l.val) / 64 = 2 * q.val + l.val / 64 by omega))
    · exact Fin.ext (show (128 * q.val + l.val) % 64 = l.val % 64 by omega)
  hb e s n := by
    rw [View.ld_unit_apply_of _ _ _ _ _ (ix3 0 s ⟨128 * g.val + n, by omega⟩) (by intro a; fin_cases a <;> simp)]
    exact P.hb g _ s n
  hdt e s := by
    obtain ⟨u, v, a, hu, hv, ha, hdt, hda⟩ := P.hd g ⟨2 * q.val + e.val, by omega⟩ s
    refine (pay5_pt _ _ _ _ u v ?_ ?_).trans (congrArg _ hdt.symm)
    · rw [View.ld_unit_apply_of _ _ _ _ _ (ix2 s ⟨128 * g.val + (2 * q.val + e.val), by omega⟩) (by intro a; fin_cases a <;> simp)]
      exact hu
    · rw [View.ld_unit_apply_of _ _ _ _ _ (ix2 0 ⟨128 * g.val + (2 * q.val + e.val), by omega⟩) (by intro a; fin_cases a <;> simp)]
      exact hv
  hda e s := by
    obtain ⟨u, v, a, hu, hv, ha, hdt, hda⟩ := P.hd g ⟨2 * q.val + e.val, by omega⟩ s
    rw [View.ld_unit_apply_of x6 _ _ _ _ (ix2 0 ⟨128 * g.val + (2 * q.val + e.val), by omega⟩) (by intro a; fin_cases a <;> simp)]
    rw [ha, pay5_pt _ _ _ _ u v ?_ ?_, ← EReal.coe_mul]
    · exact congrArg _ hda.symm
    · rw [View.ld_unit_apply_of _ _ _ _ _ (ix2 s ⟨128 * g.val + (2 * q.val + e.val), by omega⟩) (by intro a; fin_cases a <;> simp)]
      exact hu
    · rw [View.ld_unit_apply_of _ _ _ _ _ (ix2 0 ⟨128 * g.val + (2 * q.val + e.val), by omega⟩) (by intro a; fin_cases a <;> simp)]
      exact hv
  hh l n := by
    rw [View.ld_unit_apply_of _ _ _ _ _ (ix4 0 ⟨4 * g.val + q.val, by omega⟩ l n) (by intro a; fin_cases a <;> simp)]
    exact P.hh g q l n

/-- One stored pair of the state, wherever it lies. -/
theorem stPiece_at (P : Pt T o x0 x1 x4 x5 x6 h) (g q : Fin 4) (l n : Fin 128) :
    stPair x0 x1 x4 x5 x6 h g q (ix4 0 0 l n) = (((T g ⟨2 * q.val + l / 64, by omega⟩).st (o + 128) (hp l) n : ℝ) : EReal) :=
  pairH_pt (P.blk g q) l n

/-- The state's scratch after a point: every pair's state, 128 tokens on. -/
theorem st_at (P : Pt T o x0 x1 x4 x5 x6 h) (L : List (View.Piece (Elt Ideal) S1x16x128x128 .f32)) (g q : Fin 4) (l n : Fin 128) :
    View.canon (stList x0 x1 x4 x5 x6 h ++ L) (ix4 0 ⟨4 * g.val + q.val, by omega⟩ l n)
      = (((T g ⟨2 * q.val + l / 64, by omega⟩).st (o + 128) (hp l) n : ℝ) : EReal) := by
  have key : ∀ ks : List (Fin 16), ⟨4 * g.val + q.val, by omega⟩ ∈ ks →
      View.canon ((ks.map fun k => stPiece x0 x1 x4 x5 x6 h ⟨k.val / 4, by omega⟩ ⟨k.val % 4, by omega⟩) ++ L) (ix4 0 ⟨4 * g.val + q.val, by omega⟩ l n)
        = (((T g ⟨2 * q.val + l / 64, by omega⟩).st (o + 128) (hp l) n : ℝ) : EReal) := by
    intro ks
    induction ks with
    | nil => intro hk; exact absurd hk List.not_mem_nil
    | cons k ks ih =>
      intro hk
      rw [List.map_cons, List.cons_append]
      by_cases e : k = ⟨4 * g.val + q.val, by omega⟩
      · subst e
        have eg : (⟨(4 * g.val + q.val) / 4, by omega⟩ : Fin 4) = g := Fin.ext (show (4 * g.val + q.val) / 4 = g.val by omega)
        have eq : (⟨(4 * g.val + q.val) % 4, by omega⟩ : Fin 4) = q := Fin.ext (show (4 * g.val + q.val) % 4 = q.val by omega)
        simp only [eg, eq]
        have ey : (ix4 0 ⟨4 * g.val + q.val, by omega⟩ l n : S1x16x128x128.Idx)
            = (Rect.unit (s := S1x16x128x128) ![0, 4 * g.val + q.val, 0, 0] ![1, 1, 128, 128] (inbS g q)).emb (ix4 0 0 l n) := by
          funext a
          refine Fin.ext (Eq.trans ?_ (Rect.idx_unit_val (s := S1x16x128x128) ![0, 4 * g.val + q.val, 0, 0] ![1, 1, 128, 128] (inbS g q) (ix4 0 0 l n) a).symm)
          fin_cases a <;> simp
        rw [ey]
        exact (View.canon_cons_emb _ _ _ _).trans (stPiece_at P g q l n)
      · rw [View.canon_cons_of_not_mem]
        · exact ih ((List.mem_cons.mp hk).resolve_left (Ne.symm e))
        · intro hm
          have hm' := Rect.mem_set_unit.mp (show (ix4 0 ⟨4 * g.val + q.val, by omega⟩ l n : S1x16x128x128.Idx)
            ∈ (Rect.unit (s := S1x16x128x128) ![0, 4 * (k.val / 4) + k.val % 4, 0, 0] ![1, 1, 128, 128] (inbS ⟨k.val / 4, by omega⟩ ⟨k.val % 4, by omega⟩)).set from hm) 1
          have h1 : 4 * (k.val / 4) + k.val % 4 ≤ 4 * g.val + q.val := hm'.1
          have h2 : 4 * g.val + q.val < 4 * (k.val / 4) + k.val % 4 + 1 := hm'.2
          exact e (Fin.ext (show k.val = 4 * g.val + q.val by omega))
  exact key _ (List.mem_reverse.mpr (List.mem_finRange _))

theorem joinY_at (Y : Fin 4 → Vec Ideal S128x128 .f32) (i : Fin 128) (l : Fin 512) :
    joinY Y (ix2 i l) = Y ⟨l / 128, by omega⟩ (ix2 i ⟨l % 128, by omega⟩) := rfl

/-- The four pairs' outputs before the gate, by column of the group. -/
theorem joinY_pt (P : Pt T o x0 x1 x4 x5 x6 h) (x2 : Vec Ideal S1x128x512 .f32) (x7 : Vec Ideal S1x2048 .f32)
    (hc : ∀ (g : Fin 4) (r : Fin 8) (s n : Fin 128), x2 (ix3 0 s ⟨128 * g.val + n, by omega⟩) = (((T g r).C (o + s) n : ℝ) : EReal)) (g : Fin 4) (i : Fin 128) (l : Fin 512) :
    joinY ![yPair x0 x1 x2 x4 x5 x6 x7 h g 0, yPair x0 x1 x2 x4 x5 x6 x7 h g 1, yPair x0 x1 x2 x4 x5 x6 x7 h g 2, yPair x0 x1 x2 x4 x5 x6 x7 h g 3] (ix2 i l)
      = (((T g ⟨l / 64, by omega⟩).out (o + i) ⟨l % 64, by omega⟩ : ℝ) : EReal) + x7 (ix2 0 ⟨512 * g.val + l, by omega⟩) * x0 (ix3 0 i ⟨512 * g.val + l, by omega⟩) := by
  have e : (![yPair x0 x1 x2 x4 x5 x6 x7 h g 0, yPair x0 x1 x2 x4 x5 x6 x7 h g 1, yPair x0 x1 x2 x4 x5 x6 x7 h g 2, yPair x0 x1 x2 x4 x5 x6 x7 h g 3] : Fin 4 → Vec Ideal S128x128 .f32)
      = fun q => yPair x0 x1 x2 x4 x5 x6 x7 h g q := by
    funext q; fin_cases q <;> rfl
  rw [e, joinY_at]
  have H := pairY_pt (P.blk g ⟨l / 128, by omega⟩) (View.ld x2 (Rect.unit ![0, 0, 128 * g.val] ![1, 128, 128] (inbB g)))
    (fun e s n => by
      rw [View.ld_unit_apply_of _ _ _ _ _ (ix3 0 s ⟨128 * g.val + n, by omega⟩) (by intro a; fin_cases a <;> simp)]
      exact hc g _ s n)
    (View.ld x7 (Rect.unit ![0, 512 * g.val + 128 * (l.val / 128)] ![1, 128] (inbK g ⟨l / 128, by omega⟩))) i ⟨l % 128, by omega⟩
  refine H.trans ?_
  rw [View.ld_unit_apply_of x7 _ _ _ _ (ix2 0 ⟨512 * g.val + l, by omega⟩) (by intro a; fin_cases a <;> simp; omega),
    View.ld_unit_apply_of x0 _ _ _ _ (ix3 0 i ⟨512 * g.val + l, by omega⟩) (by intro a; fin_cases a <;> simp; omega)]
  congr 3
  · exact congrArg (T g) (Fin.ext (show 2 * (l.val / 128) + l.val % 128 / 64 = l.val / 64 by omega))
  · exact Fin.ext (show l.val % 128 % 64 = l.val % 64 by omega)

/-- The output block after a point: the recurrence's output with the skip term, gated and normed within its group. -/
theorem y_at (P : Pt T o x0 x1 x4 x5 x6 h) (x2 : Vec Ideal S1x128x512 .f32) (x3 : Vec Ideal S128x2048 .f32) (x7 x8 : Vec Ideal S1x2048 .f32)
    (hc : ∀ (g : Fin 4) (r : Fin 8) (s n : Fin 128), x2 (ix3 0 s ⟨128 * g.val + n, by omega⟩) = (((T g r).C (o + s) n : ℝ) : EReal)) (g : Fin 4) (i : Fin 128) (l : Fin 512) :
    yBlock x0 x1 x2 x3 x4 x5 x6 x7 x8 h (ix2 i ⟨512 * g.val + l, by omega⟩)
      = normed (fun k => gated ((((T g ⟨k / 64, by omega⟩).out (o + i) ⟨k % 64, by omega⟩ : ℝ) : EReal)
          + x7 (ix2 0 ⟨512 * g.val + k, by omega⟩) * x0 (ix3 0 i ⟨512 * g.val + k, by omega⟩)) (x3 (ix2 i ⟨512 * g.val + k, by omega⟩))) l
        * x8 (ix2 0 ⟨512 * g.val + l, by omega⟩) := by
  have key : ∀ gs : List (Fin 4), g ∈ gs →
      View.canon (gs.flatMap fun g => yList x0 x1 x2 x3 x4 x5 x6 x7 x8 h g) (ix2 i ⟨512 * g.val + l, by omega⟩)
      = normed (fun k => gated ((((T g ⟨k / 64, by omega⟩).out (o + i) ⟨k % 64, by omega⟩ : ℝ) : EReal)
          + x7 (ix2 0 ⟨512 * g.val + k, by omega⟩) * x0 (ix3 0 i ⟨512 * g.val + k, by omega⟩)) (x3 (ix2 i ⟨512 * g.val + k, by omega⟩))) l
        * x8 (ix2 0 ⟨512 * g.val + l, by omega⟩) := by
    intro gs
    induction gs with
    | nil => intro hk; exact absurd hk List.not_mem_nil
    | cons k gs ih =>
      intro hk
      rw [List.flatMap_cons]
      by_cases e : k = g
      · subst e
        have ey : (ix2 i ⟨512 * k.val + l, by omega⟩ : S128x2048.Idx)
            = (Rect.unit (s := S128x2048) ![0, 512 * k.val] ![128, 512] (inbZ k)).emb (ix2 i l) := by
          funext a
          refine Fin.ext (Eq.trans ?_ (Rect.idx_unit_val (s := S128x2048) ![0, 512 * k.val] ![128, 512] (inbZ k) (ix2 i l) a).symm)
          fin_cases a <;> simp
        rw [ey, yList, List.cons_append]
        refine (View.canon_cons_emb _ _ _ _).trans ((norm_pt _ _ _ i l).trans ?_)
        rw [View.ld_unit_apply_of x8 _ _ _ _ (ix2 0 ⟨512 * k.val + l, by omega⟩) (by intro a; fin_cases a <;> simp)]
        congr 2
        funext k'
        rw [joinY_pt P x2 x7 hc k i k', View.ld_unit_apply_of x3 _ _ _ _ (ix2 i ⟨512 * k.val + k', by omega⟩) (by intro a; fin_cases a <;> simp)]
      · have skip : ∀ ps : List (View.Piece (Elt Ideal) S128x2048 .f32), (∀ p ∈ ps, (ix2 i ⟨512 * g.val + l, by omega⟩ : S128x2048.Idx) ∉ p.1.set) →
            ∀ qs, View.canon (ps ++ qs) (ix2 i ⟨512 * g.val + l, by omega⟩ : S128x2048.Idx) = View.canon qs (ix2 i ⟨512 * g.val + l, by omega⟩ : S128x2048.Idx) := by
          intro ps
          induction ps with
          | nil => intro _ qs; rfl
          | cons p ps ihp =>
            intro hp qs
            rw [List.cons_append, View.canon_cons_of_not_mem _ _ (hp p List.mem_cons_self)]
            exact ihp (fun p' hp' => hp p' (List.mem_cons_of_mem _ hp')) qs
        have hne : k.val ≠ g.val := fun h => e (Fin.ext h)
        rw [skip _ ?_, ih ((List.mem_cons.mp hk).resolve_left (Ne.symm e))]
        intro p hp hm
        rcases List.mem_cons.mp hp with rfl | hp
        · have hm' := Rect.mem_set_unit.mp (show (ix2 i ⟨512 * g.val + l, by omega⟩ : S128x2048.Idx)
            ∈ (Rect.unit (s := S128x2048) ![0, 512 * k.val] ![128, 512] (inbZ k)).set from hm) 1
          have h1 : 512 * k.val ≤ 512 * g.val + l := hm'.1
          have h2 : 512 * g.val + l < 512 * k.val + 512 := hm'.2
          omega
        · obtain ⟨q, -, rfl⟩ := List.mem_map.mp hp
          have hm' := Rect.mem_set_unit.mp (show (ix2 i ⟨512 * g.val + l, by omega⟩ : S128x2048.Idx)
            ∈ (Rect.unit (s := S128x2048) ![0, 512 * k.val + 128 * q.val] ![128, 128] (inbY k q)).set from hm) 1
          have h1 : 512 * k.val + 128 * q.val ≤ 512 * g.val + l := hm'.1
          have h2 : 512 * g.val + l < 512 * k.val + 128 * q.val + 128 := hm'.2
          omega
  exact key _ (List.mem_reverse.mpr (List.mem_finRange _))

end Cert.KernelIdeal.Pair

end
-- ==== Proof.Model.lean ====
/- The layer's state-space recurrence over real numbers, read off the arrays it is applied to, and the two results over it. -/
module

public import proofs.«01_k».proof.Proof.Rec
public import proofs.«01_k».proof.Proof.Real

@[expose] public section

noncomputable section

namespace Cert.Model

open Cert.Rec Idealize.ShloMosaic

/-- The arrays the recurrence and its gate take: the convolved columns, the projected rows, the step biases, the logarithms of
    the decay rates, the skip weights, the norm's weights, the entering state and the state array written into. -/
structure Args where
  xc : (⟨3, ![8, 2048, 3072]⟩ : Shape).Idx → EReal
  proj : (⟨2, ![17408, 11296]⟩ : Shape).Idx → EReal
  dtb : (⟨1, ![32]⟩ : Shape).Idx → EReal
  alog : (⟨1, ![32]⟩ : Shape).Idx → EReal
  dsk : (⟨1, ![32]⟩ : Shape).Idx → EReal
  w : (⟨1, ![2048]⟩ : Shape).Idx → EReal
  st : (⟨5, ![2, 8, 32, 64, 128]⟩ : Shape).Idx → EReal
  nst : (⟨5, ![2, 8, 32, 64, 128]⟩ : Shape).Idx → EReal

variable (A : Args)

/-- What the recurrence reads is finite. -/
structure Args.Finite : Prop where
  xc : ∀ i, ∃ r : ℝ, A.xc i = (r : EReal)
  proj : ∀ (i : Fin 16384) (j : Fin 32), ∃ r : ℝ, A.proj (ix2 ⟨i.val, by omega⟩ ⟨9216 + j.val, by omega⟩) = (r : EReal)
  dtb : ∀ i, ∃ r : ℝ, A.dtb i = (r : EReal)
  alog : ∀ i, ∃ r : ℝ, A.alog i = (r : EReal)
  st : ∀ (b : Fin 8) (h : Fin 32) (p : Fin 64) (n : Fin 128), ∃ r : ℝ, A.st (ix5 1 b h p n) = (r : EReal)

/-- A finite value is the one of its real number. -/
theorem coe_of {x : EReal} (h : ∃ r : ℝ, x = (r : EReal)) : x = ((x.toReal : ℝ) : EReal) := by
  obtain ⟨r, rfl⟩ := h
  rfl

/-- A token's number, past the last one taken around. -/
def tk (t : ℕ) : Fin 2048 := ⟨t % 2048, Nat.mod_lt _ (by decide)⟩

theorem tk_val (t : Fin 2048) : tk t.val = t := Fin.ext (Nat.mod_eq_of_lt t.isLt)

/-- The row of a token among all projected rows. -/
def row (b : Fin 8) (t : Fin 2048) : Fin 17408 := ⟨2048 * b.val + t.val, by omega⟩

/-- A head among all heads. -/
def head (g : Fin 4) (r : Fin 8) : Fin 32 := ⟨8 * g.val + r.val, by omega⟩

/-- The recurrence of one head of one sequence. -/
def Args.seq (b : Fin 8) (g : Fin 4) (r : Fin 8) : Seq where
  da t := softplus ((A.proj (ix2 (row b (tk t)) ⟨9216 + (8 * g.val + r.val), by omega⟩)).toReal + (A.dtb (ix1 (head g r))).toReal)
    * -(Real.exp (A.alog (ix1 (head g r))).toReal)
  dt t := softplus ((A.proj (ix2 (row b (tk t)) ⟨9216 + (8 * g.val + r.val), by omega⟩)).toReal + (A.dtb (ix1 (head g r))).toReal)
  x t p := (A.xc (ix3 b (tk t) ⟨512 * g.val + 64 * r.val + p.val, by omega⟩)).toReal
  B t n := (A.xc (ix3 b (tk t) ⟨2048 + (128 * g.val + n.val), by omega⟩)).toReal
  C t n := (A.xc (ix3 b (tk t) ⟨2560 + (128 * g.val + n.val), by omega⟩)).toReal
  h0 p n := (A.st (ix5 1 b (head g r) p n)).toReal

/-- The gated output of a token in one column of a group: the recurrence's output and the skip, times the gate. -/
def Args.gate (b : Fin 8) (t : Fin 2048) (g : Fin 4) (k : Fin 512) : EReal :=
  gated ((((A.seq b g ⟨k.val / 64, by omega⟩).out t.val ⟨k.val % 64, by omega⟩ : ℝ) : EReal)
    + A.dsk (ix1 (head g ⟨k.val / 64, by omega⟩)) * A.xc (ix3 b t ⟨512 * g.val + k.val, by omega⟩))
    (A.proj (ix2 (row b t) ⟨4096 + (512 * g.val + k.val), by omega⟩))

/-- The first result: the gated outputs, each group of columns normed and weighted. -/
def Args.y (i : (⟨2, ![16384, 2048]⟩ : Shape).Idx) : EReal :=
  normed (A.gate ⟨(i 0).val / 2048, by have := (i 0).isLt; simp at this; omega⟩ ⟨(i 0).val % 2048, by omega⟩
    ⟨(i 1).val / 512, by have := (i 1).isLt; simp at this; omega⟩) ⟨(i 1).val % 512, by omega⟩ * A.w (ix1 ⟨(i 1).val, (i 1).isLt⟩)

/-- The second result: the state array with its second layer replaced by the states after the last token, two heads to a row of
    lanes. -/
def Args.state (i : (⟨5, ![2, 8, 16, 128, 128]⟩ : Shape).Idx) : EReal :=
  if (i 0).val = 1 then
    (((A.seq ⟨(i 1).val, (i 1).isLt⟩ ⟨(i 2).val / 4, by have := (i 2).isLt; simp at this; omega⟩
      ⟨2 * ((i 2).val % 4) + (i 3).val / 64, by have := (i 3).isLt; simp at this; omega⟩).st 2048 ⟨(i 3).val % 64, by omega⟩ ⟨(i 4).val, (i 4).isLt⟩ : ℝ) : EReal)
  else A.nst (ix5 ⟨(i 0).val, (i 0).isLt⟩ ⟨(i 1).val, (i 1).isLt⟩
    ⟨2 * (i 2).val + (i 3).val / 64, by have h2 := (i 2).isLt; have h3 := (i 3).isLt; simp at h2 h3; omega⟩ ⟨(i 3).val % 64, by omega⟩ ⟨(i 4).val, (i 4).isLt⟩)

end Cert.Model

end
-- ==== Proof.Points.lean ====
/- The launch's grid points over the recurrence: what the state's scratch and the two output blocks hold after each. -/
module

public import proofs.«01_k».proof.Proof.Entry
public import proofs.«01_k».proof.Proof.PointPt
public import proofs.«01_k».proof.Proof.Model

@[expose] public section

set_option maxRecDepth 16384
set_option maxHeartbeats 1600000

noncomputable section

namespace Cert.KernelIdeal.Value

open Cert.KernelIdeal Cert.KernelIdeal.Gen Cert.KernelIdeal.Pair Cert.Rec Cert.Model Idealize.ShloMosaic Idealize.ShloMosaic.TcCoe Idealize.SL.Sem

variable (m : (ℓ : Loc nD τ sig) → Buf (Elt Ideal) ℓ)

/-- The kernel's arrays. -/
def args (c : Dev nD) : Args where
  xc := m ((c : Thread nD τ).loc main_arg0)
  proj := m ((c : Thread nD τ).loc main_arg1)
  dtb := m ((c : Thread nD τ).loc main_arg2)
  alog := m ((c : Thread nD τ).loc main_arg3)
  dsk := m ((c : Thread nD τ).loc main_arg4)
  w := m ((c : Thread nD τ).loc main_arg5)
  st := m ((c : Thread nD τ).loc main_arg6)
  nst := m ((c : Thread nD τ).loc main_arg7)

variable {m}

theorem tk_rt (t : Fin cfg0.N) (s : Fin 128) : tk (128 * (t.val % 16) + s.val) = rt t s := Fin.ext (Nat.mod_eq_of_lt (rt t s).isLt)

theorem row_rr (t : Fin cfg0.N) (s : Fin 128) : row (rb t) (rt t s) = rr t s := Fin.ext (by simp [row, rb, rt, rr]; omega)

/-- The blocks a grid point reads are the recurrence's over the point's tokens. -/
theorem pt_of {c : Dev nD} (F : (args m c).Finite) (t : Fin cfg0.N) (h : Vec Ideal S1x16x128x128 .f32)
    (hh : ∀ (g q : Fin 4) (l n : Fin 128), h (ix4 0 ⟨4 * g.val + q.val, by omega⟩ l n)
      = ((((args m c).seq (rb t) g ⟨2 * q.val + l / 64, by omega⟩).st (128 * (t.val % 16)) (hp l) n : ℝ) : EReal)) :
    Pt ((args m c).seq (rb t)) (128 * (t.val % 16)) (X0_0 m c t) (iblk m c 1 t) (iblk m c 4 t) (iblk m c 5 t) (iblk m c 6 t) h where
  hx g s l := by
    rw [blk0 m c t s ⟨512 * g.val + l, by omega⟩]
    refine (coe_of (F.xc _)).trans ?_
    simp only [Args.seq, tk_rt]
    exact congrArg (fun k => (((args m c).xc (ix3 (rb t) (rt t s) k)).toReal : EReal)) (Fin.ext (by simp; omega))
  hb g r s n := by
    rw [blk1 m c t s ⟨128 * g.val + n, by omega⟩]
    refine (coe_of (F.xc _)).trans ?_
    simp only [Args.seq, tk_rt]
  hd g r s := by
    refine ⟨_, _, -(Real.exp ((args m c).alog (ix1 (head g r))).toReal), (blk4 m c t s g r).trans (coe_of ?_), (blk5 m c t g r).trans (coe_of (F.dtb (ix1 (head g r)))), ?_, ?_, ?_⟩
    · exact F.proj ⟨(rr t s).val, by have := pt_lt t; simp [rr]; omega⟩ ⟨8 * g.val + r.val, by omega⟩
    · rw [blk6 m c t g r]
      refine (congrArg (fun a => -(Ideal.exp a)) (coe_of (F.alog (ix1 (head g r))))).trans ?_
      rw [Ideal.exp_coe, ← EReal.coe_neg]
    · simp only [Args.seq, tk_rt, row_rr]
      rfl
    · simp only [Args.seq, tk_rt, row_rr]
      rfl
  hh := hh

/-- What the scratch holds before a sequence's first point writes it: the entering state. -/
theorem first_at {c : Dev nD} (F : (args m c).Finite) (t : Fin cfg0.N) (h0 : t.val % 16 = 0) (g q : Fin 4) (l n : Fin 128) :
    k0_pay3 (iblk m c 9 t : Vec Ideal S1x1x16x128x128 .f32) (ix4 0 ⟨4 * g.val + q.val, by omega⟩ l n)
      = ((((args m c).seq (rb t) g ⟨2 * q.val + l / 64, by omega⟩).st (128 * (t.val % 16)) (hp l) n : ℝ) : EReal) := by
  have e : ∀ (x : Vec Ideal S1x1x16x128x128 .f32) (p : Fin 16), k0_pay3 x (ix4 0 p l n) = x (ix5 0 0 p l n) := by
    intro x p
    pointwise [k0_pay3]
  rw [e, blk9 m c t, h0]
  refine (coe_of (F.st _ _ _ _)).trans ?_
  simp only [Nat.mul_zero, Seq.st, Args.seq]
  exact congrArg (fun k => (((args m c).st (ix5 1 (rb t) k (hp l) n)).toReal : EReal)) (Fin.ext (by simp [head]; omega))

/-- The state that a scratch holds, the tokens before `o` taken. -/
def Holds (T : Fin 4 → Fin 8 → Seq) (o : ℕ) (h : Vec Ideal S1x16x128x128 .f32) : Prop :=
  ∀ (g q : Fin 4) (l n : Fin 128), h (ix4 0 ⟨4 * g.val + q.val, by omega⟩ l n) = (((T g ⟨2 * q.val + l / 64, by omega⟩).st o (hp l) n : ℝ) : EReal)

/-- What a grid point leaves, from the state `h` it starts at. -/
def Leaves (c : Dev nD) (t : Fin cfg0.N) (h : Vec Ideal S1x16x128x128 .f32) : Prop :=
  (outsAt0 m c t.val t.isLt).1 = yBlock (X0_0 m c t) (iblk m c 1 t) (iblk m c 2 t) (X0_3 m c t) (iblk m c 4 t) (iblk m c 5 t) (iblk m c 6 t) (iblk m c 7 t) (iblk m c 8 t) h
    ∧ ∃ L, (outsAt0 m c t.val t.isLt).2.2 = View.canon (stList (X0_0 m c t) (iblk m c 1 t) (iblk m c 4 t) (iblk m c 5 t) (iblk m c 6 t) h ++ L)

/-- The first point of a sequence starts at the entering state. -/
theorem leaves_first (c : Dev nD) (t : Fin cfg0.N) (h0 : t.val % 16 = 0) : Leaves (m := m) c t (k0_pay3 (iblk m c 9 t)) := by
  have e := outsAt0_A m c t h0 (by omega)
  rw [Leaves, e]
  dsimp only
  exact ⟨out0_A_10_eq .., _, sout0_A_0_eq ..⟩

/-- Every other point starts at what the point before it left. -/
theorem leaves_next (c : Dev nD) (t : Fin cfg0.N) (h0 : ¬ t.val % 16 = 0) :
    Leaves (m := m) c t (outsAt0 m c (t.val - 1) (Nat.lt_of_le_of_lt (Nat.sub_le _ _) t.isLt)).2.2 := by
  by_cases h1 : t.val % 16 = 15
  · have e := outsAt0_C m c t h0 h1
    rw [Leaves, e]
    dsimp only
    exact ⟨out0_C_10_eq .., [], (sout0_C_0_eq ..).trans (congrArg View.canon (List.append_nil _).symm)⟩
  · have e := outsAt0_B m c t h0 h1
    rw [Leaves, e]
    dsimp only
    exact ⟨out0_B_10_eq .., [], (sout0_B_0_eq ..).trans (congrArg View.canon (List.append_nil _).symm)⟩

/-- What a point leaves in the scratch, if it starts at the state before its tokens. -/
theorem Leaves.holds {c : Dev nD} (F : (args m c).Finite) {t : Fin cfg0.N} {h : Vec Ideal S1x16x128x128 .f32} (H : Leaves (m := m) c t h)
    (hh : Holds ((args m c).seq (rb t)) (128 * (t.val % 16)) h) :
    Holds ((args m c).seq (rb t)) (128 * (t.val % 16) + 128) (outsAt0 m c t.val t.isLt).2.2 := by
  obtain ⟨_, L, e⟩ := H
  intro g q l n
  rw [e]
  exact st_at (pt_of F t h hh) L g q l n

/-- Every point starts at the state before its tokens. -/
theorem start_at {c : Dev nD} (F : (args m c).Finite) : ∀ (k : ℕ) (t : Fin cfg0.N), t.val = k →
    ∃ h, Holds ((args m c).seq (rb t)) (128 * (t.val % 16)) h ∧ Leaves (m := m) c t h := by
  intro k
  induction k with
  | zero => exact fun t ht => ⟨_, first_at F t (by omega), leaves_first c t (by omega)⟩
  | succ k ih =>
    intro t ht
    by_cases h0 : t.val % 16 = 0
    · exact ⟨_, first_at F t h0, leaves_first c t h0⟩
    · refine ⟨_, ?_, leaves_next c t h0⟩
      obtain ⟨h', hh', H'⟩ := ih ⟨t.val - 1, Nat.lt_of_le_of_lt (Nat.sub_le _ _) t.isLt⟩ (by simp; omega)
      have e := H'.holds F hh'
      rw [show rb ⟨t.val - 1, Nat.lt_of_le_of_lt (Nat.sub_le _ _) t.isLt⟩ = rb t from Fin.ext (by simp [rb]; omega),
        show 128 * ((t.val - 1) % 16) + 128 = 128 * (t.val % 16) by omega] at e
      exact e

/-- The output block of a grid point. -/
theorem yblk_at {c : Dev nD} (F : (args m c).Finite) (t : Fin cfg0.N) (g : Fin 4) (i : Fin 128) (l : Fin 512) :
    (outsAt0 m c t.val t.isLt).1 (ix2 i ⟨512 * g.val + l, by omega⟩)
      = normed ((args m c).gate (rb t) (rt t i) g) l * (args m c).w (ix1 ⟨512 * g.val + l, by omega⟩) := by
  obtain ⟨h, hh, e, _⟩ := start_at F t.val t rfl
  rw [e, y_at (pt_of F t h hh) _ _ _ _ (fun g r s n => ?_) g i l, blk8 m c t]
  · refine congrArg (fun G => normed G l * _) (funext fun k => ?_)
    rw [blk0 m c t i ⟨512 * g.val + k, by omega⟩, blk3 m c t i ⟨512 * g.val + k, by omega⟩, blk7 m c t, ← row_rr]
    unfold Args.gate
    rw [show head g ⟨k.val / 64, by omega⟩ = ⟨(512 * g.val + k.val) / 64, by omega⟩ from Fin.ext (by simp [head]; omega)]
    rfl
  · rw [blk2 m c t s ⟨128 * g.val + n, by omega⟩]
    refine (coe_of (F.xc _)).trans ?_
    simp only [Args.seq, tk_rt]

/-- The state block a sequence's last point writes. -/
theorem stblk_at {c : Dev nD} (F : (args m c).Finite) (t : Fin cfg0.N) (h1 : t.val % 16 = 15) (g q : Fin 4) (l n : Fin 128) :
    (outsAt0 m c t.val t.isLt).2.1 (ix5 0 0 ⟨4 * g.val + q.val, by omega⟩ l n)
      = ((((args m c).seq (rb t) g ⟨2 * q.val + l / 64, by omega⟩).st 2048 (hp l) n : ℝ) : EReal) := by
  obtain ⟨h, hh, H⟩ := start_at F t.val t rfl
  have e := outsAt0_C m c t (by omega) h1
  have e1 : (outsAt0 m c t.val t.isLt).2.1 = k0_pay2 (outsAt0 m c t.val t.isLt).2.2 := by
    rw [e]
    dsimp only
    exact (out0_C_11_eq ..).trans (congrArg k0_pay2 (sout0_C_0_eq ..).symm)
  have e2 : ∀ (x : Vec Ideal S1x16x128x128 .f32) (p : Fin 16), k0_pay2 x (ix5 0 0 p l n) = x (ix4 0 p l n) := by
    intro x p
    pointwise [k0_pay2]
  rw [e1, e2, H.holds F hh g q l n, h1]

end Cert.KernelIdeal.Value

end
-- ==== Proof.Finals.lean ====
/- The kernel's two results after the run, over the recurrence. -/
module

public import proofs.«01_k».proof.Proof.Points
public import Idealize.ShloMosaic.Lib.Claim
public import Idealize.ShloMosaic.Lib.Pipeline.ValueKit

@[expose] public section

set_option maxRecDepth 16384
noncomputable section
namespace Cert.KernelIdeal.Value
open Cert.KernelIdeal Cert.KernelIdeal.Gen Cert.KernelIdeal.Pair Cert.Rec Cert.Model Idealize.ShloMosaic Idealize.ShloMosaic.TcCoe Idealize.SL.Sem
variable {m : (ℓ : Loc nD τ sig) → Buf (Elt Ideal) ℓ}
open Idealize.ShloMosaic.Pipeline (Dat)

/-- An output block's rows. -/
theorem y_rows {c : Dev nD} (F : (args m c).Finite) (t : Fin cfg0.N) (i : Fin 128) (j : Fin 2048) :
    (outsAt0 m c t.val t.isLt).1 (ix2 i j) = (args m c).y (ix2 ⟨128 * t.val + i, by have := pt_lt t; omega⟩ j) := by
  have e := yblk_at F t ⟨j.val / 512, by omega⟩ i ⟨j.val % 512, by omega⟩
  have hj : (⟨512 * (j.val / 512) + j.val % 512, by omega⟩ : Fin 2048) = j := Fin.ext (by simp; omega)
  simp only [hj] at e
  rw [e]
  unfold Args.y
  have h1 : rb t = ⟨(128 * t.val + i.val) / 2048, by have := pt_lt t; omega⟩ := Fin.ext (by simp [rb]; omega)
  have h2 : rt t i = ⟨(128 * t.val + i.val) % 2048, by omega⟩ := Fin.ext (by simp [rt]; omega)
  rw [h1, h2]
  rfl

/-- The first result. -/
theorem fin10 {c : Dev nD} (F : (args m c).Finite) : (dats m 0 c).arrAt 10 cfg0.N = (args m c).y := by
  refine (dats m 0 c).arrAt_eq_of_covers 10 _ (by decide +kernel) fun t hf y => ?_
  have h := (idx_val t).2.2.2.2.2.2.2.2.2.2.1
  blk_simp
  rw [after0_10]
  idx_vars y
  rw [y_rows F t]
  refine congrArg (args m c).y ?_
  blk_ext
  all_goals simp [h]
  all_goals first | done | omega

/-- The state array at the launch's start. -/
theorem V_28_1' (c : Dev nD) : V m c main_v28_1 = shapeCast S2x8x16x128x128 (args m c).nst shapeCasts_S2x8x32x64x128_S2x8x16x128x128 := V_28_1 m c

/-- Only a sequence's last point writes its state block back. -/
theorem flush11 : ∀ t : Fin cfg0.N, (cfg0.win 11).flush t = true → t.val % 16 = 15 :=
  (by decide +kernel : ∀ t : Fin grid0.N, (cfg0.win 11).flush t = true → t.val % 16 = 15)

/-- A state block's rows. -/
theorem st_rows {c : Dev nD} (F : (args m c).Finite) (t : Fin cfg0.N) (h1 : t.val % 16 = 15) (p : Fin 16) (l n : Fin 128) :
    (outsAt0 m c t.val t.isLt).2.1 (ix5 0 0 p l n) = (args m c).state (ix5 1 (rb t) p l n) := by
  have e := stblk_at F t h1 ⟨p.val / 4, by omega⟩ ⟨p.val % 4, by omega⟩ l n
  have hp : (⟨4 * (p.val / 4) + p.val % 4, by omega⟩ : Fin 16) = p := Fin.ext (by simp; omega)
  simp only [hp] at e
  rw [e]
  unfold Args.state
  rw [if_pos (by rfl)]
  rfl

/-- The second result: the layer the launch writes, and the other as it was. -/
theorem fin11 {c : Dev nD} (F : (args m c).Finite) : (dats m 0 c).arrAt 11 cfg0.N = (args m c).state := by
  refine (dats m 0 c).arrAt_eq_of_coversWhere_of_agree 11 _ (fun β => β (0 : Fin 5) = 1) (by decide +kernel) (fun t hf y => ?_) (fun j hj => ?_)
  · have h := (idx_val t).2.2.2.2.2.2.2.2.2.2.2
    have hf' := flush11 t hf
    blk_simp
    rw [after0_11]
    idx_vars y
    obtain rfl : y0 = 0 := Subsingleton.elim _ _
    obtain rfl : y1 = 0 := Subsingleton.elim _ _
    rw [st_rows F t hf']
    refine congrArg (args m c).state ?_
    blk_ext
    all_goals simp [h, rb]
    all_goals first | done | omega
  · blk_simp [Pipeline.Window.cell_apply] at hj
    rw [A_eq]
    idx_vars j
    show V m c main_v28_1 (ix5 j0 j1 j2 j3 j4) = (args m c).state (ix5 j0 j1 j2 j3 j4)
    refine Eq.trans (b := (args m c).nst (ix5 j0 j1 ⟨j2.val * 2 + j3.val / 64, by omega⟩ ⟨j3.val % 64, by omega⟩ j4)) ?_ ?_
    · exact (congrFun (V_28_1' c) (ix5 j0 j1 j2 j3 j4)).trans (paired _ j0 j1 j2 j3 j4)
    · unfold Args.state
      rw [if_neg (by simpa using hj)]
      exact congrArg (fun k => (args m c).nst (ix5 j0 j1 k _ j4)) (Fin.ext (by simp; omega))
end Cert.KernelIdeal.Value

end
-- ==== Proof.RefTrip.lean ====
/- One trip of the reference's loop over real numbers: the values of its operations at an entry, over arrays given by a recurrence. -/
module

public import proofs.«01_k».proof.Proof.Gen.ReferenceIdeal.Run
public import proofs.«01_k».proof.Proof.Rec
public import proofs.«01_k».proof.Proof.Real
public import Idealize.ShloMosaic.Lib.Pointwise
public import Idealize.ShloMosaic.Lib.DynamicIndex

@[expose] public section

set_option maxRecDepth 16384

noncomputable section

namespace Cert.ReferenceIdeal.Trip

open Cert.ReferenceIdeal Cert.ReferenceIdeal.Gen Cert.Rec Idealize.ShloMosaic Idealize.SL.Sem

/-! ## The running sum -/

/-- A fold of additions over all numbers below `n` is the sum, added to the start. -/
theorem foldl_add {n : ℕ} (g : Fin n → EReal) (v : EReal) : (List.finRange n).foldl (fun r k => r + g k) v = v + ∑ k, g k := by
  have : ∀ (l : List (Fin n)) (v : EReal), l.foldl (fun r k => r + g k) v = v + (l.map g).sum := by
    intro l
    induction l with
    | nil => intro v; simp
    | cons a l ih => intro v; simp [ih, add_assoc]
  rw [this, ← List.ofFn_eq_map, List.sum_ofFn]

/-- The window's positions are the numbers along its second axis. -/
def win : Fin 64 ≃ (⟨4, ![1, 64, 1, 1]⟩ : Shape).Idx where
  toFun k := ix4 0 k 0 0
  invFun w := w 1
  left_inv _ := rfl
  right_inv w := by
    funext a
    fin_cases a
    · exact Subsingleton.elim (α := Fin 1) _ _
    · rfl
    · exact Subsingleton.elim (α := Fin 1) _ _
    · exact Subsingleton.elim (α := Fin 1) _ _

/-- A sum over a window ending at `t` is the sum of the first `t + 1` terms. -/
theorem sum_window (f : ℕ → ℝ) (t : ℕ) (ht : t < 64) : (∑ k : Fin 64, if 63 ≤ t + k.val then f (t + k.val - 63) else 0) = ∑ i ∈ Finset.range (t + 1), f i := by
  rw [Fin.sum_univ_eq_sum_range (fun k => if 63 ≤ t + k then f (t + k - 63) else 0) 64, ← Finset.sum_filter]
  refine Finset.sum_nbij' (fun k => t + k - 63) (fun i => i + 63 - t) ?_ ?_ ?_ ?_ ?_
  all_goals intro a ha
  all_goals simp only [Finset.mem_filter, Finset.mem_range] at ha ⊢
  all_goals omega

/-- What a window's position adds: the chunk's entry there, or zero outside the chunk. -/
def term (x : FVec Ideal S8x64x4x8 .f32) (b : Fin 8) (t : Fin 64) (g : Fin 4) (r : Fin 8) (w : (⟨4, ![1, 64, 1, 1]⟩ : Shape).Idx) : EReal :=
  if hin : ∀ a : Fin 4, (![0, 63, 0, 0] : Fin 4 → ℕ) a ≤ ((ix4 b t g r : S8x64x4x8.Idx) a).val * (![1, 1, 1, 1] : Fin 4 → ℕ) a + (w a).val
      ∧ ((ix4 b t g r : S8x64x4x8.Idx) a).val * (![1, 1, 1, 1] : Fin 4 → ℕ) a + (w a).val - (![0, 63, 0, 0] : Fin 4 → ℕ) a < S8x64x4x8.size a then
    x (fun a => ⟨((ix4 b t g r : S8x64x4x8.Idx) a).val * (![1, 1, 1, 1] : Fin 4 → ℕ) a + (w a).val - (![0, 63, 0, 0] : Fin 4 → ℕ) a, (hin a).2⟩) else 0

/-- The running sum of a chunk of real numbers at a position. -/
theorem cumsum_apply (x : FVec Ideal S8x64x4x8 .f32) (v : FVec Ideal S_ .f32) (hv : v (Shape.Idx.first h_S_) = 0)
    (f : ℕ → ℝ) (b : Fin 8) (t : Fin 64) (g : Fin 4) (r : Fin 8) (hx : ∀ s : Fin 64, x (ix4 b s g r) = (f s.val : ℝ)) :
    Host.reduceWindowAdd ![1, 64, 1, 1] ![1, 1, 1, 1] ![0, 63, 0, 0] ![0, 0, 0, 0] x v
      reduceWindows_S8x64x4x8_S8x64x4x8_w1s1p0_0_w64s1p63_0_w1s1p0_0_w1s1p0_0 h_S_ (ix4 b t g r)
      = ((∑ i ∈ Finset.range (t.val + 1), f i : ℝ) : EReal) := by
  show (List.finRange _).foldl (fun (r' : EReal) n => r' + _) _ = _
  rw [foldl_add, hv, zero_add]
  refine (Finset.sum_congr rfl fun k _ => ?_).trans ((Equiv.sum_comp (Shape.rowMajor ⟨4, ![1, 64, 1, 1]⟩).symm (term x b t g r)).trans ?_)
  · unfold term
    exact dite_congr rfl (fun _ => rfl) fun _ => rfl
  rw [← Equiv.sum_comp win, ← sum_window f t.val t.isLt, coe_sum]
  refine Finset.sum_congr rfl fun k _ => ?_
  show term x b t g r (ix4 0 k 0 0) = _
  unfold term
  by_cases hk : 63 ≤ t.val + k.val
  · rw [if_pos hk, dif_pos ?_]
    · rw [← hx ⟨t.val + k.val - 63, by omega⟩]
      refine congrArg x (funext fun a => Fin.ext ?_)
      fin_cases a <;> simp [ix4]
    · intro a
      fin_cases a <;> simp [ix4] <;> omega
  · rw [if_neg hk, dif_neg ?_]
    · rfl
    · intro h
      have := h 1
      simp [ix4] at this
      omega

/-! ## The operations at an entry -/

/-- The last running sum of a chunk. -/
def lastOf (cu : FVec Ideal S8x64x4x8 .f32) : FVec Ideal S8x4x8 .f32 :=
  shapeCast S8x4x8 (extractStridedSlice S8x1x4x8 ![0, 63, 0, 0] cu slices_S8x64x4x8_S8x1x4x8_0_63_0_0) shapeCasts_S8x1x4x8_S8x4x8

/-- The weights of a chunk's tokens for one another. -/
def weights (B C : FVec Ideal S8x64x4x128 .f32) (M : IVec S1x64x64x1x1 1) (cu d : FVec Ideal S8x64x4x8 .f32) : FVec Ideal S8x64x64x4x8 .f32 :=
  mulf (mulf (broadcastInDim S8x64x64x4x8 ![0, 1, 2, 3, 4] bcast_S8x64x64x4x1_S8x64x64x4x8_0_1_2_3_4 (broadcastInDim S8x64x64x4x1 ![0, 1, 2, 3] bcast_S8x64x64x4_S8x64x64x4x1_0_1_2_3 (transpose S8x64x64x4 [0, 3, 2, 1] (Host.dotGeneral dot_S8x64x4x128_S8x64x4x128_S8x4x64x64_3_3_1_1_02_02 none B C) transposes_S8x4x64x64_S8x64x64x4_0_3_2_1))) (Host.exp (select (broadcastInDim S8x64x64x4x8 ![0, 1, 2, 3, 4] bcast_S1x64x64x1x1_S8x64x64x4x8_0_1_2_3_4 M) (subf (broadcastInDim S8x64x64x4x8 ![0, 1, 2, 3, 4] bcast_S8x64x1x4x8_S8x64x64x4x8_0_1_2_3_4 (broadcastInDim S8x64x1x4x8 ![0, 1, 3, 4] bcast_S8x64x4x8_S8x64x1x4x8_0_1_3_4 cu)) (broadcastInDim S8x64x64x4x8 ![0, 1, 2, 3, 4] bcast_S8x1x64x4x8_S8x64x64x4x8_0_1_2_3_4 (broadcastInDim S8x1x64x4x8 ![0, 2, 3, 4] bcast_S8x64x4x8_S8x1x64x4x8_0_2_3_4 cu))) (broadcastInDim S8x64x64x4x8 ![] bcast_S_S8x64x64x4x8 (id (constant S_ .f32 0xFF800000#32)))))) (broadcastInDim S8x64x64x4x8 ![0, 1, 2, 3, 4] bcast_S8x1x64x4x8_S8x64x64x4x8_0_1_2_3_4 (broadcastInDim S8x1x64x4x8 ![0, 2, 3, 4] bcast_S8x64x4x8_S8x1x64x4x8_0_2_3_4 d))

/-- A chunk's inputs, scaled by their steps and decayed to the chunk's end. -/
def decayed (cu d : FVec Ideal S8x64x4x8 .f32) (x : FVec Ideal S8x64x4x8x64 .f32) : FVec Ideal S8x64x4x8x64 .f32 :=
  mulf (broadcastInDim S8x64x4x8x64 ![0, 1, 2, 3, 4] bcast_S8x64x4x8x1_S8x64x4x8x64_0_1_2_3_4 (broadcastInDim S8x64x4x8x1 ![0, 1, 2, 3] bcast_S8x64x4x8_S8x64x4x8x1_0_1_2_3 (mulf (Host.exp (subf (broadcastInDim S8x64x4x8 ![0, 1, 2, 3] bcast_S8x1x4x8_S8x64x4x8_0_1_2_3 (broadcastInDim S8x1x4x8 ![0, 2, 3] bcast_S8x4x8_S8x1x4x8_0_2_3 (lastOf cu))) cu)) d))) x

/-- The state after a chunk. -/
def newState (x : FVec Ideal S8x64x4x8x64 .f32) (d : FVec Ideal S8x64x4x8 .f32) (B : FVec Ideal S8x64x4x128 .f32) (cu : FVec Ideal S8x64x4x8 .f32)
    (h : FVec Ideal S8x4x8x64x128 .f32) : FVec Ideal S8x4x8x64x128 .f32 :=
  addf (mulf (broadcastInDim S8x4x8x64x128 ![0, 1, 2, 3, 4] bcast_S8x4x8x1x1_S8x4x8x64x128_0_1_2_3_4 (broadcastInDim S8x4x8x1x1 ![0, 1, 2] bcast_S8x4x8_S8x4x8x1x1_0_1_2 (Host.exp (lastOf cu)))) h) (Host.dotGeneral dot_S8x64x4x8x64_S8x64x4x128_S8x4x8x64x128_1_1_34_3_02_02 none (decayed cu d x) B)

/-- A chunk's outputs. -/
def newOut (x : FVec Ideal S8x64x4x8x64 .f32) (d : FVec Ideal S8x64x4x8 .f32) (B C : FVec Ideal S8x64x4x128 .f32) (M : IVec S1x64x64x1x1 1) (cu : FVec Ideal S8x64x4x8 .f32)
    (h : FVec Ideal S8x4x8x64x128 .f32) : FVec Ideal S8x64x4x8x64 .f32 :=
  addf (transpose S8x64x4x8x64 [0, 4, 1, 2, 3] (Host.dotGeneral dot_S8x64x4x8x64_S8x64x64x4x8_S8x4x8x64x64_1_2_4_1_023_034 none x (weights B C M cu d)) transposes_S8x4x8x64x64_S8x64x4x8x64_0_4_1_2_3) (mulf (transpose S8x64x4x8x64 [0, 4, 1, 2, 3] (Host.dotGeneral dot_S8x4x8x64x128_S8x64x4x128_S8x4x8x64x64_4_3_23_1_01_02 none h C) transposes_S8x4x8x64x64_S8x64x4x8x64_0_4_1_2_3) (broadcastInDim S8x64x4x8x64 ![0, 1, 2, 3, 4] bcast_S8x64x4x8x1_S8x64x4x8x64_0_1_2_3_4 (broadcastInDim S8x64x4x8x1 ![0, 1, 2, 3] bcast_S8x64x4x8_S8x64x4x8x1_0_1_2_3 (Host.exp cu))))

theorem cb_apply (B C : FVec Ideal S8x64x4x128 .f32) (b : Fin 8) (t s : Fin 64) (g : Fin 4) :
    transpose S8x64x64x4 [0, 3, 2, 1] (Host.dotGeneral dot_S8x64x4x128_S8x64x4x128_S8x4x64x64_3_3_1_1_02_02 none B C) transposes_S8x4x64x64_S8x64x64x4_0_3_2_1
      (ix4 b t s g) = ∑ n : Fin 128, B (ix4 b s g n) * C (ix4 b t g n) := by
  pointwise

theorem intra_apply (x : FVec Ideal S8x64x4x8x64 .f32) (w : FVec Ideal S8x64x64x4x8 .f32) (b : Fin 8) (t : Fin 64) (g : Fin 4) (r : Fin 8) (p : Fin 64) :
    transpose S8x64x4x8x64 [0, 4, 1, 2, 3] (Host.dotGeneral dot_S8x64x4x8x64_S8x64x64x4x8_S8x4x8x64x64_1_2_4_1_023_034 none x w) transposes_S8x4x8x64x64_S8x64x4x8x64_0_4_1_2_3
      (ix5 b t g r p) = ∑ s : Fin 64, x (ix5 b s g r p) * w (ix5 b t s g r) := by
  pointwise

theorem inter_apply (h : FVec Ideal S8x4x8x64x128 .f32) (C : FVec Ideal S8x64x4x128 .f32) (b : Fin 8) (t : Fin 64) (g : Fin 4) (r : Fin 8) (p : Fin 64) :
    transpose S8x64x4x8x64 [0, 4, 1, 2, 3] (Host.dotGeneral dot_S8x4x8x64x128_S8x64x4x128_S8x4x8x64x64_4_3_23_1_01_02 none h C) transposes_S8x4x8x64x64_S8x64x4x8x64_0_4_1_2_3
      (ix5 b t g r p) = ∑ n : Fin 128, h (ix5 b g r p n) * C (ix4 b t g n) := by
  pointwise

theorem outer_apply (x : FVec Ideal S8x64x4x8x64 .f32) (B : FVec Ideal S8x64x4x128 .f32) (b : Fin 8) (g : Fin 4) (r : Fin 8) (p : Fin 64) (n : Fin 128) :
    Host.dotGeneral dot_S8x64x4x8x64_S8x64x4x128_S8x4x8x64x128_1_1_34_3_02_02 none x B (ix5 b g r p n)
      = ∑ s : Fin 64, x (ix5 b s g r p) * B (ix4 b s g n) := by
  pointwise

theorem w_apply (B C : FVec Ideal S8x64x4x128 .f32) (M : IVec S1x64x64x1x1 1) (cu d : FVec Ideal S8x64x4x8 .f32) (b : Fin 8) (t s : Fin 64) (g : Fin 4) (r : Fin 8) :
    weights B C M cu d (ix5 b t s g r)
      = (∑ n : Fin 128, B (ix4 b s g n) * C (ix4 b t g n)) * Ideal.exp (Scalar.select (M (ix5 0 t s 0 0)) (cu (ix4 b t g r) - cu (ix4 b s g r)) (Ideal.ofBits .f32 0xFF800000#32))
        * d (ix4 b s g r) := by
  rw [← cb_apply B C]
  unfold weights
  pointwise
  rfl

theorem dec_apply (cu d : FVec Ideal S8x64x4x8 .f32) (x : FVec Ideal S8x64x4x8x64 .f32) (b : Fin 8) (s : Fin 64) (g : Fin 4) (r : Fin 8) (p : Fin 64) :
    decayed cu d x (ix5 b s g r p)
      = Ideal.exp (cu (ix4 b 63 g r) - cu (ix4 b s g r)) * d (ix4 b s g r) * x (ix5 b s g r p) := by
  unfold decayed lastOf
  pointwise

theorem newState_apply (x : FVec Ideal S8x64x4x8x64 .f32) (d : FVec Ideal S8x64x4x8 .f32) (B : FVec Ideal S8x64x4x128 .f32) (cu : FVec Ideal S8x64x4x8 .f32)
    (h : FVec Ideal S8x4x8x64x128 .f32) (b : Fin 8) (g : Fin 4) (r : Fin 8) (p : Fin 64) (n : Fin 128) :
    newState x d B cu h (ix5 b g r p n) = Ideal.exp (cu (ix4 b 63 g r)) * h (ix5 b g r p n)
      + ∑ s : Fin 64, decayed cu d x (ix5 b s g r p) * B (ix4 b s g n) := by
  rw [← outer_apply]
  unfold newState lastOf
  pointwise

theorem newOut_apply (x : FVec Ideal S8x64x4x8x64 .f32) (d : FVec Ideal S8x64x4x8 .f32) (B C : FVec Ideal S8x64x4x128 .f32) (M : IVec S1x64x64x1x1 1) (cu : FVec Ideal S8x64x4x8 .f32)
    (h : FVec Ideal S8x4x8x64x128 .f32) (b : Fin 8) (t : Fin 64) (g : Fin 4) (r : Fin 8) (p : Fin 64) :
    newOut x d B C M cu h (ix5 b t g r p) = (∑ s : Fin 64, x (ix5 b s g r p) * weights B C M cu d (ix5 b t s g r))
      + (∑ n : Fin 128, h (ix5 b g r p n) * C (ix4 b t g n)) * Ideal.exp (cu (ix4 b t g r)) := by
  rw [← intra_apply, ← inter_apply]
  unfold newOut
  pointwise

/-! ## A chunk of real numbers -/

/-- What a chunk starting at token `o` holds, for the recurrences `Q` of all heads: inputs, steps, the two vectors and the decay rates. -/
structure Chunk (Q : Fin 8 → Fin 4 → Fin 8 → Seq) (o : ℕ) (x : FVec Ideal S8x64x4x8x64 .f32) (d : FVec Ideal S8x64x4x8 .f32) (B C : FVec Ideal S8x64x4x128 .f32)
    (a : FVec Ideal S4x8 .f32) : Prop where
  hx : ∀ b s g r p, x (ix5 b s g r p) = (((Q b g r).x (o + s.val) p : ℝ) : EReal)
  hd : ∀ b s g r, d (ix4 b s g r) = (((Q b g r).dt (o + s.val) : ℝ) : EReal)
  hB : ∀ b s g r n, B (ix4 b s g n) = (((Q b g r).B (o + s.val) n : ℝ) : EReal)
  hC : ∀ b s g r n, C (ix4 b s g n) = (((Q b g r).C (o + s.val) n : ℝ) : EReal)
  ha : ∀ b g r (s : Fin 64), d (ix4 b s g r) * a (ix2 g r) = (((Q b g r).da (o + s.val) : ℝ) : EReal)

variable {Q : Fin 8 → Fin 4 → Fin 8 → Seq} {o : ℕ} {x : FVec Ideal S8x64x4x8x64 .f32} {d : FVec Ideal S8x64x4x8 .f32} {B C : FVec Ideal S8x64x4x128 .f32}
  {a : FVec Ideal S4x8 .f32}

/-- The running sums of a chunk's decay exponents. -/
def sums (d : FVec Ideal S8x64x4x8 .f32) (a : FVec Ideal S4x8 .f32) : FVec Ideal S8x64x4x8 .f32 :=
  Host.reduceWindowAdd ![1, 64, 1, 1] ![1, 1, 1, 1] ![0, 63, 0, 0] ![0, 0, 0, 0] (mulf d (broadcastInDim S8x64x4x8 ![0, 1, 2, 3] bcast_S1x1x4x8_S8x64x4x8_0_1_2_3 (broadcastInDim S1x1x4x8 ![2, 3] bcast_S4x8_S1x1x4x8_2_3 a))) (broadcastInDim S_ ![] bcast_S_S_ (constant S_ .f32 0x00000000#32)) reduceWindows_S8x64x4x8_S8x64x4x8_w1s1p0_0_w64s1p63_0_w1s1p0_0_w1s1p0_0 h_S_

theorem prod_apply (d : FVec Ideal S8x64x4x8 .f32) (a : FVec Ideal S4x8 .f32) (b : Fin 8) (s : Fin 64) (g : Fin 4) (r : Fin 8) :
    mulf d (broadcastInDim S8x64x4x8 ![0, 1, 2, 3] bcast_S1x1x4x8_S8x64x4x8_0_1_2_3 (broadcastInDim S1x1x4x8 ![2, 3] bcast_S4x8_S1x1x4x8_2_3 a)) (ix4 b s g r)
      = d (ix4 b s g r) * a (ix2 g r) := by
  pointwise

theorem Chunk.sums (H : Chunk Q o x d B C a) (b : Fin 8) (t : Fin 64) (g : Fin 4) (r : Fin 8) :
    sums d a (ix4 b t g r) = (((Q b g r).cum o (t.val + 1) : ℝ) : EReal) :=
  cumsum_apply _ _ (by show Ideal.ofBits .f32 0x00000000#32 = 0; simp [Ideal.ofBits, Ideal.ieee]) (fun i => (Q b g r).da (o + i)) b t g r
    fun s => by rw [prod_apply, H.ha]

/-- The state after a chunk, over the state before it. -/
theorem Chunk.newState (H : Chunk Q o x d B C a) {h : FVec Ideal S8x4x8x64x128 .f32} (b : Fin 8) (g : Fin 4) (r : Fin 8) (p : Fin 64) (n : Fin 128)
    (hh : h (ix5 b g r p n) = (((Q b g r).st o p n : ℝ) : EReal)) :
    newState x d B (Trip.sums d a) h (ix5 b g r p n) = (((Q b g r).st (o + 64) p n : ℝ) : EReal) := by
  rw [newState_apply, show o + 64 = o + (63 + 1) from rfl, Seq.st_block, EReal.coe_add, coe_sum, H.sums, hh, Ideal.exp_coe, EReal.coe_mul]
  congr 1
  refine Finset.sum_congr rfl fun s _ => ?_
  rw [dec_apply, H.sums, H.sums, H.hd, H.hx, H.hB b s g r, ← EReal.coe_sub, Ideal.exp_coe]
  simp only [← EReal.coe_mul]
  refine congrArg _ ?_
  show Real.exp ((Q b g r).cum o (63 + 1) - _) * _ * _ * _ = _
  ring

/-- A chunk's outputs, over the state before it. -/
theorem Chunk.newOut (H : Chunk Q o x d B C a) {h : FVec Ideal S8x4x8x64x128 .f32} {M : IVec S1x64x64x1x1 1}
    (hM : ∀ t s : Fin 64, M (ix5 0 t s 0 0) = if s.val ≤ t.val then 1#1 else 0#1) (b : Fin 8) (t : Fin 64) (g : Fin 4) (r : Fin 8) (p : Fin 64)
    (hh : ∀ n, h (ix5 b g r p n) = (((Q b g r).st o p n : ℝ) : EReal)) :
    newOut x d B C M (Trip.sums d a) h (ix5 b t g r p) = (((Q b g r).out (o + t.val) p : ℝ) : EReal) := by
  rw [newOut_apply, Seq.out_block _ _ 64 t.val t.isLt, EReal.coe_add, coe_sum, EReal.coe_mul, coe_sum, H.sums, Ideal.exp_coe]
  congr 1
  · refine Finset.sum_congr rfl fun s _ => ?_
    have hcb : (∑ n : Fin 128, B (ix4 b s g n) * C (ix4 b t g n)) = ((∑ n, (Q b g r).C (o + t.val) n * (Q b g r).B (o + s.val) n : ℝ) : EReal) := by
      rw [coe_sum]
      exact Finset.sum_congr rfl fun n _ => by rw [H.hB b s g r, H.hC b t g r, ← EReal.coe_mul, mul_comm]
    rw [w_apply, hcb, hM, sel_if, H.sums, H.sums, H.hd, H.hx, ← EReal.coe_sub]
    by_cases hst : s.val ≤ t.val
    · rw [if_pos hst, if_pos hst, Ideal.exp_coe]
      simp only [← EReal.coe_mul]
      exact congrArg _ (by ring)
    · rw [if_neg hst, if_neg hst, show Ideal.ofBits .f32 0xFF800000#32 = ⊥ from by simp [Ideal.ofBits, Ideal.ieee], show Ideal.exp ⊥ = 0 from rfl]
      simp
  · refine congrArg (· * _) (Finset.sum_congr rfl fun n _ => ?_)
    rw [hh, H.hC b t g r, ← EReal.coe_mul, mul_comm]

end Cert.ReferenceIdeal.Trip

end
-- ==== Proof.RefLoop.lean ====
/- The reference's loop over real numbers: before its trip `k` the carried state is the recurrence's at token `64 * k`, and the collected
   outputs are the recurrence's up to there. -/
module

public import proofs.«01_k».proof.Proof.RefTrip

@[expose] public section

set_option maxRecDepth 16384

noncomputable section

namespace Cert.ReferenceIdeal.Trip

open Cert.ReferenceIdeal Cert.ReferenceIdeal.Gen Cert.ReferenceIdeal.Value Cert.Rec Idealize.ShloMosaic Idealize.ShloMosaic.TcCoe Idealize.SL.Sem
open Idealize.ShloMosaic.StableHlo

/-! ## The chunk a trip reads -/

theorem read6 (X : FVec Ideal S32x8x64x4x8x64 .f32) (i : Fin 6 → ℤ) (k : Fin 32) (hi : ∀ a, i a = ((![k.val, 0, 0, 0, 0, 0] : Fin 6 → ℕ) a : ℤ))
    (b : Fin 8) (s : Fin 64) (g : Fin 4) (r : Fin 8) (p : Fin 64) :
    shapeCast S8x64x4x8x64 (Host.dynamicSlice S1x8x64x4x8x64 X i sliceFits_S32x8x64x4x8x64_S1x8x64x4x8x64) shapeCasts_S1x8x64x4x8x64_S8x64x4x8x64 (ix5 b s g r p)
      = X (ix6 k b s g r p) := by
  rw [Host.dynamicSlice_eq_extractStridedSlice S1x8x64x4x8x64 X i ![k.val, 0, 0, 0, 0, 0] _ ⟨rfl, fun a => by fin_cases a <;> simp <;> omega⟩ hi]
  pointwise

theorem read5 (X : FVec Ideal S32x8x64x4x8 .f32) (i : Fin 5 → ℤ) (k : Fin 32) (hi : ∀ a, i a = ((![k.val, 0, 0, 0, 0] : Fin 5 → ℕ) a : ℤ))
    (b : Fin 8) (s : Fin 64) (g : Fin 4) (r : Fin 8) :
    shapeCast S8x64x4x8 (Host.dynamicSlice S1x8x64x4x8 X i sliceFits_S32x8x64x4x8_S1x8x64x4x8) shapeCasts_S1x8x64x4x8_S8x64x4x8 (ix4 b s g r)
      = X (ix5 k b s g r) := by
  rw [Host.dynamicSlice_eq_extractStridedSlice S1x8x64x4x8 X i ![k.val, 0, 0, 0, 0] _ ⟨rfl, fun a => by fin_cases a <;> simp <;> omega⟩ hi]
  pointwise

theorem read5' (X : FVec Ideal S32x8x64x4x128 .f32) (i : Fin 5 → ℤ) (k : Fin 32) (hi : ∀ a, i a = ((![k.val, 0, 0, 0, 0] : Fin 5 → ℕ) a : ℤ))
    (b : Fin 8) (s : Fin 64) (g : Fin 4) (n : Fin 128) :
    shapeCast S8x64x4x128 (Host.dynamicSlice S1x8x64x4x128 X i sliceFits_S32x8x64x4x128_S1x8x64x4x128) shapeCasts_S1x8x64x4x128_S8x64x4x128 (ix4 b s g n)
      = X (ix5 k b s g n) := by
  rw [Host.dynamicSlice_eq_extractStridedSlice S1x8x64x4x128 X i ![k.val, 0, 0, 0, 0] _ ⟨rfl, fun a => by fin_cases a <;> simp <;> omega⟩ hi]
  pointwise

/-- A trip's outputs put in their place among all. -/
theorem put6 (Y : FVec Ideal S32x8x64x4x8x64 .f32) (u : FVec Ideal S8x64x4x8x64 .f32) (i : Fin 6 → ℤ) (k : Fin 32) (hi : ∀ a, i a = ((![k.val, 0, 0, 0, 0, 0] : Fin 6 → ℕ) a : ℤ))
    (c : Fin 32) (b : Fin 8) (s : Fin 64) (g : Fin 4) (r : Fin 8) (p : Fin 64) :
    Host.dynamicUpdateSlice Y (broadcastInDim S1x8x64x4x8x64 ![1, 2, 3, 4, 5] bcast_S8x64x4x8x64_S1x8x64x4x8x64_1_2_3_4_5 u) i updateFits_S32x8x64x4x8x64_S1x8x64x4x8x64 (ix6 c b s g r p)
      = if c = k then u (ix5 b s g r p) else Y (ix6 c b s g r p) := by
  have hcl : ∀ a, Host.clampedStart S32x8x64x4x8x64 S1x8x64x4x8x64 updateFits_S32x8x64x4x8x64_S1x8x64x4x8x64.1 i a = (![k.val, 0, 0, 0, 0, 0] : Fin 6 → ℕ) a := fun a =>
    Host.clampedStart_of_le _ _ _ _ (hi a) (by fin_cases a <;> simp <;> omega)
  rw [Host.dynamicUpdateSlice_apply]
  by_cases hc : c = k
  · subst hc
    rw [if_pos rfl, dif_pos ?_]
    · show u _ = u _
      refine congrArg u (funext fun a => Fin.ext ?_)
      fin_cases a <;> simp [hcl, ix5, ix6, Shape.Idx.norm]
    · intro a
      rw [hcl]
      fin_cases a <;> simp [ix6] <;> omega
  · rw [if_neg hc, dif_neg ?_]
    intro h
    have := h 0
    rw [hcl] at this
    simp [ix6] at this
    exact hc (Fin.ext (by omega))

/-! ## What the loop carries -/

/-- A token's decay exponent: its step times its head's rate. -/
def expo (d : FVec Ideal S32x8x64x4x8 .f32) (a : FVec Ideal S4x8 .f32) (c : Fin 32) (b : Fin 8) (g : Fin 4) (r : Fin 8) (s : Fin 64) : EReal :=
  d (ix5 c b s g r) * a (ix2 g r)

/-- Before trip `k`: the chunks are the recurrences' inputs, the state is theirs at token `64 * k`, and the outputs collected so far are theirs. -/
structure Carry (Q : Fin 8 → Fin 4 → Fin 8 → Seq) (k : ℕ) (V : Valuation τ sig (Elt Ideal)) : Prop where
  hx : ∀ c b s g r p, (V (Proc.devRef .tc main_v33_0) : FVec Ideal S32x8x64x4x8x64 .f32) (ix6 c b s g r p) = (((Q b g r).x (64 * c.val + s.val) p : ℝ) : EReal)
  hd : ∀ c b s g r, (V (Proc.devRef .tc main_v33_1) : FVec Ideal S32x8x64x4x8 .f32) (ix5 c b s g r) = (((Q b g r).dt (64 * c.val + s.val) : ℝ) : EReal)
  hB : ∀ c b s g r n, (V (Proc.devRef .tc main_v33_2) : FVec Ideal S32x8x64x4x128 .f32) (ix5 c b s g n) = (((Q b g r).B (64 * c.val + s.val) n : ℝ) : EReal)
  hC : ∀ c b s g r n, (V (Proc.devRef .tc main_v33_3) : FVec Ideal S32x8x64x4x128 .f32) (ix5 c b s g n) = (((Q b g r).C (64 * c.val + s.val) n : ℝ) : EReal)
  ha : ∀ c b g r (s : Fin 64), expo (V (Proc.devRef .tc main_v33_1)) (V (Proc.devRef .tc main_v33_4)) c b g r s = (((Q b g r).da (64 * c.val + s.val) : ℝ) : EReal)
  hM : ∀ t s : Fin 64, (V (Proc.devRef .tc main_v33_5) : IVec S1x64x64x1x1 1) (ix5 0 t s 0 0) = if s.val ≤ t.val then 1#1 else 0#1
  hk : V (Proc.devRef .tc main_v33_6) = fun _ => Scf.iv 0#32 1#32 k
  hh : ∀ b g r p n, (V (Proc.devRef .tc main_v33_7) : FVec Ideal S8x4x8x64x128 .f32) (ix5 b g r p n) = (((Q b g r).st (64 * k) p n : ℝ) : EReal)
  hy : ∀ c b s g r p, c.val < k → (V (Proc.devRef .tc main_v33_8) : FVec Ideal S32x8x64x4x8x64 .f32) (ix6 c b s g r p) = (((Q b g r).out (64 * c.val + s.val) p : ℝ) : EReal)

variable {Q : Fin 8 → Fin 4 → Fin 8 → Seq} {V V' : Valuation τ sig (Elt Ideal)}

/-- The counter as a number. -/
theorem iv_toInt (k : Fin 32) : (Scf.iv 0#32 1#32 k.val).toInt = (k.val : ℤ) := by
  revert k; decide

theorem Carry.chunk {k : Fin 32} (H : Carry Q k.val V) : Chunk Q (64 * k.val) (res_main_while0b_v68 V) (res_main_while0b_v69 V) (res_main_while0b_v70 V)
    (res_main_while0b_v71 V) (V (Proc.devRef .tc main_v33_4)) := by
  have hi : (V (Proc.devRef .tc main_v33_6) (Shape.Idx.first h_S_) : BitVec 32).toInt = (k.val : ℤ) := by rw [H.hk]; exact iv_toInt k
  have e69 : ∀ b s g r, res_main_while0b_v69 V (ix4 b s g r) = (V (Proc.devRef .tc main_v33_1) : FVec Ideal S32x8x64x4x8 .f32) (ix5 k b s g r) := fun b s g r =>
    read5 _ _ k (fun a => by fin_cases a; exact hi; all_goals rfl) b s g r
  refine ⟨fun b s g r p => ?_, fun b s g r => ?_, fun b s g r n => ?_, fun b s g r n => ?_, fun b g r s => ?_⟩
  · exact (read6 _ _ k (fun a => by fin_cases a; exact hi; all_goals rfl) b s g r p).trans (H.hx k b s g r p)
  · exact (e69 b s g r).trans (H.hd k b s g r)
  · exact (read5' _ _ k (fun a => by fin_cases a; exact hi; all_goals rfl) b s g n).trans (H.hB k b s g r n)
  · exact (read5' _ _ k (fun a => by fin_cases a; exact hi; all_goals rfl) b s g n).trans (H.hC k b s g r n)
  · rw [e69]; exact H.ha k b g r s

/-- One trip. -/
theorem Carry.step {k : Fin 32} (H : Carry Q k.val V) : Carry Q (k.val + 1) (STEP V) := by
  have hi : (V (Proc.devRef .tc main_v33_6) (Shape.Idx.first h_S_) : BitVec 32).toInt = (k.val : ℤ) := by rw [H.hk]; exact iv_toInt k
  refine ⟨?_, ?_, ?_, ?_, ?_, ?_, ?_, ?_, ?_⟩
  · rw [STEP_main_v33_0]; exact H.hx
  · rw [STEP_main_v33_1]; exact H.hd
  · rw [STEP_main_v33_2]; exact H.hB
  · rw [STEP_main_v33_3]; exact H.hC
  · rw [STEP_main_v33_1, STEP_main_v33_4]; exact H.ha
  · rw [STEP_main_v33_5]; exact H.hM
  · rw [STEP_main_v33_6, step_main_v33_6, H.hk]
    exact funext fun _ => (Scf.iv_succ _ _ _).symm
  · intro b g r p n
    rw [STEP_main_v33_7]
    exact H.chunk.newState b g r p n (H.hh b g r p n)
  · intro c b s g r p hc
    rw [STEP_main_v33_8]
    refine (put6 _ (newOut _ _ _ _ _ _ _) _ k (fun a => by fin_cases a; exact hi; all_goals rfl) c b s g r p).trans ?_
    by_cases e : c = k
    · subst e
      rw [if_pos rfl]
      exact H.chunk.newOut H.hM b s g r p (fun n => H.hh b g r p n)
    · rw [if_neg e]
      exact H.hy c b s g r p (by have : c.val ≠ k.val := fun h => e (Fin.ext h); omega)

/-- The carried buffers decide it. -/
theorem Carry.congr {k : ℕ} (h : Agree V V') (H : Carry Q k V') : Carry Q k V := by
  refine ⟨?_, ?_, ?_, ?_, ?_, ?_, ?_, ?_, ?_⟩
  · rw [h main_v33_0 (by decide)]; exact H.hx
  · rw [h main_v33_1 (by decide)]; exact H.hd
  · rw [h main_v33_2 (by decide)]; exact H.hB
  · rw [h main_v33_3 (by decide)]; exact H.hC
  · rw [h main_v33_1 (by decide), h main_v33_4 (by decide)]; exact H.ha
  · rw [h main_v33_5 (by decide)]; exact H.hM
  · rw [h main_v33_6 (by decide)]; exact H.hk
  · rw [h main_v33_7 (by decide)]; exact H.hh
  · rw [h main_v33_8 (by decide)]; exact H.hy

/-- All the trips up to `k`. -/
theorem Carry.iterate (H : Carry Q 0 V) : ∀ k ≤ 32, Carry Q k (STEP^[k] V)
  | 0, _ => H
  | k + 1, hk => by
    rw [Function.iterate_succ_apply']
    exact Carry.step (k := ⟨k, by omega⟩) (Carry.iterate H k (by omega))

/-- The loop's exit. -/
theorem Carry.atExit {m : (ℓ : Loc nD τ sig) → Buf (Elt Ideal) ℓ} {c : Dev nD} (H : Carry Q 0 (entryContents preI m c)) :
    Carry Q 32 (after condOps (atK m 32 c)) :=
  Carry.congr (cond_keeps _) (Carry.congr (atK_agree m c 32) (H.iterate 32 le_rfl))

end Cert.ReferenceIdeal.Trip

end
-- ==== Proof.RefEntry.lean ====
/- What the reference's loop starts from, in terms of the program's arguments. -/
module

public import proofs.«01_k».proof.Proof.RefLoop
public import proofs.«01_k».proof.Proof.Model
public import Idealize.ShloMosaic.Lib.Claim

@[expose] public section

set_option maxRecDepth 16384
set_option maxHeartbeats 1600000

noncomputable section

namespace Cert.ReferenceIdeal.Trip

open Cert.ReferenceIdeal Cert.ReferenceIdeal.Gen Cert.ReferenceIdeal.Value Cert.Rec Idealize.ShloMosaic Idealize.ShloMosaic.TcCoe Idealize.SL.Sem
open Idealize.ShloMosaic.StableHlo

/-! ## The arrays before the loop -/

/-- The inputs, a head's 64 columns apart. -/
def heads (xc : FVec Ideal S8x2048x3072 .f32) : FVec Ideal S8x2048x4x8x64 .f32 :=
  shapeCast S8x2048x4x8x64 (extractStridedSlice S8x2048x2048 ![0, 0, 0] xc slices_S8x2048x3072_S8x2048x2048_0_0_0) shapeCasts_S8x2048x2048_S8x2048x4x8x64

/-- The inputs by chunks. -/
def xs (xc : FVec Ideal S8x2048x3072 .f32) : FVec Ideal S32x8x64x4x8x64 .f32 :=
  transpose S32x8x64x4x8x64 [1, 0, 2, 3, 4, 5] (shapeCast S8x32x64x4x8x64 (heads xc) shapeCasts_S8x2048x4x8x64_S8x32x64x4x8x64) transposes_S8x32x64x4x8x64_S32x8x64x4x8x64_1_0_2_3_4_5

/-- A stretch of 512 columns by chunks, a group's 128 columns apart. -/
def vecs (v : FVec Ideal S8x2048x512 .f32) : FVec Ideal S32x8x64x4x128 .f32 :=
  transpose S32x8x64x4x128 [1, 0, 2, 3, 4] (shapeCast S8x32x64x4x128 (shapeCast S8x2048x4x128 v shapeCasts_S8x2048x512_S8x2048x4x128) shapeCasts_S8x2048x4x128_S8x32x64x4x128) transposes_S8x32x64x4x128_S32x8x64x4x128_1_0_2_3_4

/-- The step sizes before their softplus. -/
def pre (proj : FVec Ideal S17408x11296 .f32) (bias : FVec Ideal S32 .f32) : FVec Ideal S8x2048x32 .f32 :=
  addf (shapeCast S8x2048x32 (extractStridedSlice S16384x32 ![0, 9216] proj slices_S17408x11296_S16384x32_0_9216) shapeCasts_S16384x32_S8x2048x32)
    (broadcastInDim S8x2048x32 ![0, 1, 2] bcast_S1x1x32_S8x2048x32_0_1_2 (broadcastInDim S1x1x32 ![2] bcast_S32_S1x1x32_2 bias))

/-- The softplus as the program spells it. -/
def sp (v : FVec Ideal S8x2048x32 .f32) : FVec Ideal S8x2048x32 .f32 :=
  select (cmpf .une (subf v (broadcastInDim S8x2048x32 ![] bcast_S_S8x2048x32 (constant S_ .f32 0x00000000#32))) (subf v (broadcastInDim S8x2048x32 ![] bcast_S_S8x2048x32 (constant S_ .f32 0x00000000#32))))
    (addf v (broadcastInDim S8x2048x32 ![] bcast_S_S8x2048x32 (constant S_ .f32 0x00000000#32)))
    (addf (maximumf v (broadcastInDim S8x2048x32 ![] bcast_S_S8x2048x32 (constant S_ .f32 0x00000000#32)))
      (Host.log1p (Host.exp (Host.negf (Host.absf (subf v (broadcastInDim S8x2048x32 ![] bcast_S_S8x2048x32 (constant S_ .f32 0x00000000#32))))))))

/-- The steps by chunks. -/
def steps (v : FVec Ideal S8x2048x32 .f32) : FVec Ideal S32x8x64x4x8 .f32 :=
  transpose S32x8x64x4x8 [1, 0, 2, 3, 4] (shapeCast S8x32x64x4x8 (shapeCast S8x2048x4x8 v shapeCasts_S8x2048x32_S8x2048x4x8) shapeCasts_S8x2048x4x8_S8x32x64x4x8) transposes_S8x32x64x4x8_S32x8x64x4x8_1_0_2_3_4

/-- The decay rates by groups. -/
def rates (al : FVec Ideal S32 .f32) : FVec Ideal S4x8 .f32 := Host.negf (shapeCast S4x8 (Host.exp al) shapeCasts_S32_S4x8)

/-- The causal mask. -/
def mask : IVec S1x64x64x1x1 1 :=
  broadcastInDim S1x64x64x1x1 ![1, 2] bcast_S64x64_S1x64x64x1x1_1_2
    (select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1)))

/-- The entering state of the second layer by groups. -/
def enter (st : FVec Ideal S2x8x32x64x128 .f32) : FVec Ideal S8x4x8x64x128 .f32 :=
  shapeCast S8x4x8x64x128 (shapeCast S8x32x64x128 (extractStridedSlice S1x8x32x64x128 ![1, 0, 0, 0, 0] st slices_S2x8x32x64x128_S1x8x32x64x128_1_0_0_0_0) shapeCasts_S1x8x32x64x128_S8x32x64x128) shapeCasts_S8x32x64x128_S8x4x8x64x128

/-! ## At an entry -/

theorem xs_apply (xc : FVec Ideal S8x2048x3072 .f32) (c : Fin 32) (b : Fin 8) (s : Fin 64) (g : Fin 4) (r : Fin 8) (p : Fin 64) :
    xs xc (ix6 c b s g r p) = xc (ix3 b ⟨64 * c.val + s.val, by omega⟩ ⟨512 * g.val + 64 * r.val + p.val, by omega⟩) := by
  unfold xs heads
  pointwise
  simp only [Nat.mul_comm 2048, Nat.mul_comm 512, Nat.mul_comm 128, Nat.mul_comm 64, Nat.mul_comm 8]

theorem vecs_apply (v : FVec Ideal S8x2048x512 .f32) (c : Fin 32) (b : Fin 8) (s : Fin 64) (g : Fin 4) (n : Fin 128) :
    vecs v (ix5 c b s g n) = v (ix3 b ⟨64 * c.val + s.val, by omega⟩ ⟨128 * g.val + n.val, by omega⟩) := by
  unfold vecs
  pointwise
  simp only [Nat.mul_comm 2048, Nat.mul_comm 512, Nat.mul_comm 128, Nat.mul_comm 64, Nat.mul_comm 8]

theorem steps_apply (v : FVec Ideal S8x2048x32 .f32) (c : Fin 32) (b : Fin 8) (s : Fin 64) (g : Fin 4) (r : Fin 8) :
    steps v (ix5 c b s g r) = v (ix3 b ⟨64 * c.val + s.val, by omega⟩ ⟨8 * g.val + r.val, by omega⟩) := by
  unfold steps
  pointwise
  simp only [Nat.mul_comm 2048, Nat.mul_comm 512, Nat.mul_comm 128, Nat.mul_comm 64, Nat.mul_comm 8]

theorem pre_apply (proj : FVec Ideal S17408x11296 .f32) (bias : FVec Ideal S32 .f32) (b : Fin 8) (t : Fin 2048) (h : Fin 32) :
    pre proj bias (ix3 b t h) = proj (ix2 ⟨2048 * b.val + t.val, by omega⟩ ⟨9216 + h.val, by omega⟩) + bias (ix1 h) := by
  unfold pre
  pointwise
  simp only [Nat.mul_comm 2048, Nat.mul_comm 512, Nat.mul_comm 128, Nat.mul_comm 64, Nat.mul_comm 8]

theorem rates_apply (al : FVec Ideal S32 .f32) (g : Fin 4) (r : Fin 8) : rates al (ix2 g r) = -(Ideal.exp (al (ix1 ⟨8 * g.val + r.val, by omega⟩))) := by
  unfold rates
  pointwise
  simp only [Nat.mul_comm 2048, Nat.mul_comm 512, Nat.mul_comm 128, Nat.mul_comm 64, Nat.mul_comm 8]

theorem mask_apply (t s : Fin 64) : mask (ix5 0 t s 0 0) = if s.val ≤ t.val then 1#1 else 0#1 := by
  unfold mask
  pointwise
  revert t s
  decide +kernel

theorem enter_apply (st : FVec Ideal S2x8x32x64x128 .f32) (b : Fin 8) (g : Fin 4) (r : Fin 8) (p : Fin 64) (n : Fin 128) :
    enter st (ix5 b g r p n) = st (ix5 1 b ⟨8 * g.val + r.val, by omega⟩ p n) := by
  unfold enter
  pointwise
  simp only [Nat.mul_comm 2048, Nat.mul_comm 512, Nat.mul_comm 128, Nat.mul_comm 64, Nat.mul_comm 8]

theorem sp_apply (v : FVec Ideal S8x2048x32 .f32) (b : Fin 8) (t : Fin 2048) (h : Fin 32) (x : ℝ) (hx : v (ix3 b t h) = (x : EReal)) :
    sp v (ix3 b t h) = ((softplus x : ℝ) : EReal) := by
  unfold sp
  pointwise
  rw [hx]
  rw [if_neg fun h => h rfl, ← softplus_eq, sub_eq_add_neg 0, zero_add]
  rfl

variable (m : (ℓ : Loc nD τ sig) → Buf (Elt Ideal) ℓ) (c : Dev nD)

theorem entry_0 : entryContents preI m c (Proc.devRef .tc main_v33_0) = xs (m ((c : Thread nD τ).loc main_arg0)) := by
  simp only [entryContents, preI, afterL_eq_after_flatten, hostOps0, hostOps0_1, hostOps0_2, hostOps0_3, hostOps0_4, List.flatten_cons, List.flatten_nil, List.cons_append, List.nil_append, List.append_nil]
  after_results_simp
  rfl

theorem entry_1 : entryContents preI m c (Proc.devRef .tc main_v33_1) = steps (sp (pre (m ((c : Thread nD τ).loc main_arg1)) (m ((c : Thread nD τ).loc main_arg2)))) := by
  simp only [entryContents, preI, afterL_eq_after_flatten, hostOps0, hostOps0_1, hostOps0_2, hostOps0_3, hostOps0_4, List.flatten_cons, List.flatten_nil, List.cons_append, List.nil_append, List.append_nil]
  after_results_simp
  rfl

theorem entry_2 : entryContents preI m c (Proc.devRef .tc main_v33_2) = vecs (extractStridedSlice S8x2048x512 ![0, 0, 2048] (m ((c : Thread nD τ).loc main_arg0)) slices_S8x2048x3072_S8x2048x512_0_0_2048) := by
  simp only [entryContents, preI, afterL_eq_after_flatten, hostOps0, hostOps0_1, hostOps0_2, hostOps0_3, hostOps0_4, List.flatten_cons, List.flatten_nil, List.cons_append, List.nil_append, List.append_nil]
  after_results_simp
  rfl

theorem entry_3 : entryContents preI m c (Proc.devRef .tc main_v33_3) = vecs (extractStridedSlice S8x2048x512 ![0, 0, 2560] (m ((c : Thread nD τ).loc main_arg0)) slices_S8x2048x3072_S8x2048x512_0_0_2560) := by
  simp only [entryContents, preI, afterL_eq_after_flatten, hostOps0, hostOps0_1, hostOps0_2, hostOps0_3, hostOps0_4, List.flatten_cons, List.flatten_nil, List.cons_append, List.nil_append, List.append_nil]
  after_results_simp
  rfl

theorem entry_4 : entryContents preI m c (Proc.devRef .tc main_v33_4) = rates (m ((c : Thread nD τ).loc main_arg3)) := by
  simp only [entryContents, preI, afterL_eq_after_flatten, hostOps0, hostOps0_1, hostOps0_2, hostOps0_3, hostOps0_4, List.flatten_cons, List.flatten_nil, List.cons_append, List.nil_append, List.append_nil]
  after_results_simp
  rfl

theorem entry_5 : entryContents preI m c (Proc.devRef .tc main_v33_5) = mask := by
  simp only [entryContents, preI, afterL_eq_after_flatten, hostOps0, hostOps0_1, hostOps0_2, hostOps0_3, hostOps0_4, List.flatten_cons, List.flatten_nil, List.cons_append, List.nil_append, List.append_nil]
  after_results_simp
  rfl

theorem entry_7 : entryContents preI m c (Proc.devRef .tc main_v33_7) = enter (m ((c : Thread nD τ).loc main_arg6)) := by
  simp only [entryContents, preI, afterL_eq_after_flatten, hostOps0, hostOps0_1, hostOps0_2, hostOps0_3, hostOps0_4, List.flatten_cons, List.flatten_nil, List.cons_append, List.nil_append, List.append_nil]
  after_results_simp
  rfl

/-- The reference's arguments. -/
def args : Model.Args where
  xc := m ((c : Thread nD τ).loc main_arg0)
  proj := m ((c : Thread nD τ).loc main_arg1)
  dtb := m ((c : Thread nD τ).loc main_arg2)
  alog := m ((c : Thread nD τ).loc main_arg3)
  dsk := m ((c : Thread nD τ).loc main_arg4)
  w := m ((c : Thread nD τ).loc main_arg5)
  st := m ((c : Thread nD τ).loc main_arg6)
  nst := m ((c : Thread nD τ).loc main_arg7)

theorem tk_chunk (k : Fin 32) (s : Fin 64) : Model.tk (64 * k.val + s.val) = ⟨64 * k.val + s.val, by omega⟩ :=
  Fin.ext (Nat.mod_eq_of_lt (by omega))

variable {m c}

/-- The step of a token of a chunk. -/
theorem step_at (F : (args m c).Finite) (k : Fin 32) (b : Fin 8) (s : Fin 64) (g : Fin 4) (r : Fin 8) :
    steps (sp (pre (args m c).proj (args m c).dtb)) (ix5 k b s g r) = ((((args m c).seq b g r).dt (64 * k.val + s.val) : ℝ) : EReal) := by
  rw [steps_apply]
  refine sp_apply _ _ _ _ _ ?_
  rw [pre_apply, tk_chunk, EReal.coe_add, ← Model.coe_of (F.dtb _)]
  refine congrArg (· + _) ?_
  have := F.proj ⟨2048 * b.val + (64 * k.val + s.val), by omega⟩ ⟨8 * g.val + r.val, by omega⟩
  exact Model.coe_of this

/-- What the loop starts from. -/
theorem carry_entry (F : (args m c).Finite) : Carry (fun b g r => (args m c).seq b g r) 0 (entryContents preI m c) where
  hx k b s g r p := by
    rw [entry_0]
    refine (xs_apply _ k b s g r p).trans ?_
    show (args m c).xc _ = (((args m c).xc (ix3 b (Model.tk (64 * k.val + s.val)) _)).toReal : EReal)
    rw [tk_chunk]
    exact Model.coe_of (F.xc _)
  hd k b s g r := by
    rw [entry_1]
    exact step_at F k b s g r
  hB k b s g r n := by
    rw [entry_2]
    refine (vecs_apply _ k b s g n).trans ?_
    show extractStridedSlice _ _ (args m c).xc _ _ = (((args m c).xc (ix3 b (Model.tk (64 * k.val + s.val)) _)).toReal : EReal)
    rw [tk_chunk]
    refine Eq.trans ?_ (Model.coe_of (F.xc _))
    pointwise
  hC k b s g r n := by
    rw [entry_3]
    refine (vecs_apply _ k b s g n).trans ?_
    show extractStridedSlice _ _ (args m c).xc _ _ = (((args m c).xc (ix3 b (Model.tk (64 * k.val + s.val)) _)).toReal : EReal)
    rw [tk_chunk]
    refine Eq.trans ?_ (Model.coe_of (F.xc _))
    pointwise
  ha k b g r s := by
    rw [entry_1, entry_4]
    show steps (sp (pre (args m c).proj (args m c).dtb)) (ix5 k b s g r) * rates (args m c).alog (ix2 g r) = _
    rw [step_at F, rates_apply, Model.coe_of (F.alog _), Ideal.exp_coe, ← EReal.coe_neg, ← EReal.coe_mul]
    rfl
  hM t s := by
    rw [entry_5]
    exact mask_apply t s
  hk := by
    rw [ctr_entry, Scf.iv_zero]
  hh b g r p n := by
    rw [entry_7]
    refine (enter_apply _ b g r p n).trans ?_
    exact Model.coe_of (F.st b (Model.head g r) p n)
  hy k b s g r p h := absurd h (Nat.not_lt_zero _)

end Cert.ReferenceIdeal.Trip

end
-- ==== Proof.RefFinal.lean ====
/- The reference's results in terms of its arguments. -/
module

public import proofs.«01_k».proof.Proof.RefEntry

@[expose] public section

set_option maxRecDepth 16384
set_option maxHeartbeats 1600000

noncomputable section

namespace Cert.ReferenceIdeal.Trip

open Cert.ReferenceIdeal Cert.ReferenceIdeal.Gen Cert.ReferenceIdeal.Value Cert.Rec Idealize.ShloMosaic Idealize.ShloMosaic.TcCoe Idealize.SL.Sem
open Idealize.ShloMosaic.StableHlo

variable (m : (ℓ : Loc nD τ sig) → Buf (Elt Ideal) ℓ) (c : Dev nD)

/-! ## What the loop leaves alone -/

/-- The buffers a trip writes. -/
abbrev tripW : List (Ref sig .tc) := while0Ops0_W ++ while0Ops0_1_W ++ while0Ops0_2_W ++ while0Ops0_3_W ++ while0Ops0_4_W ++ while0Ops0_5_W ++ while0Ops0_6_W
  ++ while0Ops0_7_W ++ while0Ops0_8_W ++ while0Ops0_9_W ++ while0Ops0_10_W ++ condOps_W

theorem trip_keep (V : Valuation τ sig (Elt Ideal)) (r : Ref sig .tc) (h : r ∉ tripW) : afterL bodyI (after condOps V) (Proc.devRef .tc r) = V (Proc.devRef .tc r) := by
  simp only [tripW, List.mem_append, not_or] at h
  obtain ⟨⟨⟨⟨⟨⟨⟨⟨⟨⟨⟨h0, h1⟩, h2⟩, h3⟩, h4⟩, h5⟩, h6⟩, h7⟩, h8⟩, h9⟩, h10⟩, hc⟩ := h
  simp only [bodyI, afterL_cons, afterL_nil]
  rw [after_of_writes_sub _ _ while0Ops0_10_writes h10, after_of_writes_sub _ _ while0Ops0_9_writes h9, after_of_writes_sub _ _ while0Ops0_8_writes h8,
    after_of_writes_sub _ _ while0Ops0_7_writes h7, after_of_writes_sub _ _ while0Ops0_6_writes h6, after_of_writes_sub _ _ while0Ops0_5_writes h5,
    after_of_writes_sub _ _ while0Ops0_4_writes h4, after_of_writes_sub _ _ while0Ops0_3_writes h3, after_of_writes_sub _ _ while0Ops0_2_writes h2,
    after_of_writes_sub _ _ while0Ops0_1_writes h1, after_of_writes_sub _ _ while0Ops0_writes h0, after_of_writes_sub _ _ condOps_writes hc]

theorem loop_keep (r : Ref sig .tc) (h : r ∉ tripW) : ∀ k, atK m k c (Proc.devRef .tc r) = entryContents preI m c (Proc.devRef .tc r)
  | 0 => rfl
  | k + 1 => (trip_keep _ r h).trans (loop_keep r h k)

/-- The buffers at the loop's exit. -/
def exit : Valuation τ sig (Elt Ideal) := after condOps (atK m 32 c)

theorem exit_keep (r : Ref sig .tc) (h : r ∉ tripW) : exit m c (Proc.devRef .tc r) = entryContents preI m c (Proc.devRef .tc r) :=
  (after_of_writes_sub _ _ condOps_writes (by simp only [tripW, List.mem_append, not_or] at h; exact h.2)).trans (loop_keep m c r h 32)

theorem exit_v5 : exit m c (Proc.devRef .tc main_v5) = heads (m ((c : Thread nD τ).loc main_arg0)) := by
  rw [exit_keep _ _ _ (by decide)]
  simp only [entryContents, preI, afterL_eq_after_flatten, hostOps0, hostOps0_1, hostOps0_2, hostOps0_3, hostOps0_4, List.flatten_cons, List.flatten_nil, List.cons_append, List.nil_append, List.append_nil]
  after_results_simp
  rfl

/-- The gate's columns. -/
def zcols (proj : FVec Ideal S17408x11296 .f32) : FVec Ideal S8x2048x2048 .f32 :=
  shapeCast S8x2048x2048 (extractStridedSlice S16384x2048 ![0, 4096] proj slices_S17408x11296_S16384x2048_0_4096) shapeCasts_S16384x2048_S8x2048x2048

theorem exit_v1 : exit m c (Proc.devRef .tc main_v1) = zcols (m ((c : Thread nD τ).loc main_arg1)) := by
  rw [exit_keep _ _ _ (by decide)]
  simp only [entryContents, preI, afterL_eq_after_flatten, hostOps0, hostOps0_1, hostOps0_2, hostOps0_3, hostOps0_4, List.flatten_cons, List.flatten_nil, List.cons_append, List.nil_append, List.append_nil]
  after_results_simp
  rfl

/-- The program's arguments. -/
abbrev argRefs : List (Ref sig .tc) := [main_arg0, main_arg1, main_arg2, main_arg3, main_arg4, main_arg5, main_arg6, main_arg7]

theorem entry_arg : ∀ r ∈ argRefs, entryContents preI m c (Proc.devRef .tc r) = m ((c : Thread nD τ).loc r) := by
  intro r hr
  simp only [entryContents, preI, afterL_cons, afterL_nil]
  rw [after_of_writes_sub _ _ hostOps0_4_writes ((by decide : ∀ a ∈ argRefs, a ∉ hostOps0_4_W) r hr), after_of_writes_sub _ _ hostOps0_3_writes ((by decide : ∀ a ∈ argRefs, a ∉ hostOps0_3_W) r hr),
    after_of_writes_sub _ _ hostOps0_2_writes ((by decide : ∀ a ∈ argRefs, a ∉ hostOps0_2_W) r hr), after_of_writes_sub _ _ hostOps0_1_writes ((by decide : ∀ a ∈ argRefs, a ∉ hostOps0_1_W) r hr),
    after_of_writes_sub _ _ hostOps0_writes ((by decide : ∀ a ∈ argRefs, a ∉ hostOps0_W) r hr)]

theorem exit_arg (r : Ref sig .tc) (hr : r ∈ argRefs) : exit m c (Proc.devRef .tc r) = m ((c : Thread nD τ).loc r) :=
  (exit_keep m c r ((by decide : ∀ a ∈ argRefs, a ∉ tripW) r hr)).trans (entry_arg m c r hr)

/-! ## After the loop -/

/-- The outputs with the skip, by groups of 512 columns. -/
def skipped (Y : FVec Ideal S32x8x64x4x8x64 .f32) (dsk : FVec Ideal S32 .f32) (x : FVec Ideal S8x2048x4x8x64 .f32) : FVec Ideal S8x2048x4x512 .f32 :=
  shapeCast S8x2048x4x512 (addf (shapeCast S8x2048x4x8x64 (transpose S8x32x64x4x8x64 [1, 0, 2, 3, 4, 5] Y transposes_S32x8x64x4x8x64_S8x32x64x4x8x64_1_0_2_3_4_5) shapeCasts_S8x32x64x4x8x64_S8x2048x4x8x64)
    (mulf (broadcastInDim S8x2048x4x8x64 ![0, 1, 2, 3, 4] bcast_S1x1x4x8x1_S8x2048x4x8x64_0_1_2_3_4 (broadcastInDim S1x1x4x8x1 ![2, 3, 4] bcast_S4x8x1_S1x1x4x8x1_2_3_4 (broadcastInDim S4x8x1 ![0, 1] bcast_S4x8_S4x8x1_0_1 (shapeCast S4x8 dsk shapeCasts_S32_S4x8)))) x)) shapeCasts_S8x2048x4x8x64_S8x2048x4x512

/-- The gate. -/
def gates (z : FVec Ideal S8x2048x2048 .f32) : FVec Ideal S8x2048x4x512 .f32 :=
  shapeCast S8x2048x4x512 (mulf z (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf z))))) shapeCasts_S8x2048x2048_S8x2048x4x512

/-- Each group of 512 columns over its root mean square, weighted. -/
def rms (G : FVec Ideal S8x2048x4x512 .f32) (w : FVec Ideal S2048 .f32) : FVec Ideal S16384x2048 .f32 :=
  shapeCast S16384x2048 (mulf (mulf G (broadcastInDim S8x2048x4x512 ![0, 1, 2, 3] bcast_S8x2048x4x1_S8x2048x4x512_0_1_2_3 (Host.rsqrt (addf (Host.divf (broadcastInDim S8x2048x4x1 ![0, 1, 2] bcast_S8x2048x4_S8x2048x4x1_0_1_2 (Host.reduceAdd (mulf G G) (constant S_ .f32 0x00000000#32) reducesTo_S8x2048x4x512_S8x2048x4_d3 h_S_))
    (broadcastInDim S8x2048x4x1 ![] bcast_S_S8x2048x4x1 (constant S_ .f32 0x44000000#32))) (broadcastInDim S8x2048x4x1 ![] bcast_S_S8x2048x4x1 (constant S_ .f32 0x358637BD#32))))))
    (broadcastInDim S8x2048x4x512 ![0, 1, 2, 3] bcast_S1x1x4x512_S8x2048x4x512_0_1_2_3 (broadcastInDim S1x1x4x512 ![2, 3] bcast_S4x512_S1x1x4x512_2_3 (shapeCast S4x512 w shapeCasts_S2048_S4x512)))) shapeCasts_S8x2048x4x512_S16384x2048

/-- The state array with its second layer replaced. -/
def stacked (nst : FVec Ideal S2x8x32x64x128 .f32) (h : FVec Ideal S8x4x8x64x128 .f32) : FVec Ideal S2x8x16x128x128 .f32 :=
  shapeCast S2x8x16x128x128 (concatenate S2x8x32x64x128 0 [⟨S1x8x32x64x128, broadcastInDim S1x8x32x64x128 ![1, 2, 3, 4] bcast_S8x32x64x128_S1x8x32x64x128_1_2_3_4 (shapeCast S8x32x64x128 (extractStridedSlice S1x8x32x64x128 ![0, 0, 0, 0, 0] nst slices_S2x8x32x64x128_S1x8x32x64x128_0_0_0_0_0) shapeCasts_S1x8x32x64x128_S8x32x64x128)⟩,
    ⟨S1x8x32x64x128, broadcastInDim S1x8x32x64x128 ![1, 2, 3, 4] bcast_S8x32x64x128_S1x8x32x64x128_1_2_3_4 (shapeCast S8x32x64x128 h shapeCasts_S8x4x8x64x128_S8x32x64x128)⟩] concatenates_S1x8x32x64x128_S1x8x32x64x128_S2x8x32x64x128_d0) shapeCasts_S2x8x32x64x128_S2x8x16x128x128

theorem final_60 : finalContents condOps preI bodyI postI 32 m c (Proc.devRef .tc main_v60)
    = rms (mulf (skipped (exit m c (Proc.devRef .tc main_v33_8)) (exit m c (Proc.devRef .tc main_arg4)) (exit m c (Proc.devRef .tc main_v5))) (gates (exit m c (Proc.devRef .tc main_v1)))) (exit m c (Proc.devRef .tc main_arg5)) := by
  show afterL postI (exit m c) _ = _
  generalize exit m c = W
  simp only [postI, afterL_eq_after_flatten, hostOps0_5, hostOps0_6, hostOps0_7, List.flatten_cons, List.flatten_nil, List.cons_append, List.nil_append, List.append_nil]
  after_results_simp
  rfl

theorem final_67 : finalContents condOps preI bodyI postI 32 m c (Proc.devRef .tc main_v67)
    = stacked (exit m c (Proc.devRef .tc main_arg7)) (exit m c (Proc.devRef .tc main_v33_7)) := by
  show afterL postI (exit m c) _ = _
  generalize exit m c = W
  simp only [postI, afterL_eq_after_flatten, hostOps0_5, hostOps0_6, hostOps0_7, List.flatten_cons, List.flatten_nil, List.cons_append, List.nil_append, List.append_nil]
  after_results_simp
  rfl

/-- A head's column among a group's, written either way. -/
theorem col (g : Fin 4) (k : Fin 512) : (⟨g.val * 512 + k.val / 64 * 64 + k.val % 64, by omega⟩ : Fin 3072) = ⟨512 * g.val + k.val, by omega⟩ := Fin.ext (by simp; omega)

theorem skipped_apply (Y : FVec Ideal S32x8x64x4x8x64 .f32) (dsk : FVec Ideal S32 .f32) (xc : FVec Ideal S8x2048x3072 .f32) (b : Fin 8) (t : Fin 2048) (g : Fin 4) (k : Fin 512) :
    skipped Y dsk (heads xc) (ix4 b t g k) = Y (ix6 ⟨t.val / 64, by omega⟩ b ⟨t.val % 64, by omega⟩ g ⟨k.val / 64, by omega⟩ ⟨k.val % 64, by omega⟩)
      + dsk (ix1 ⟨8 * g.val + k.val / 64, by omega⟩) * xc (ix3 b t ⟨512 * g.val + k.val, by omega⟩) := by
  unfold skipped heads
  pointwise
  rw [col]
  simp only [Nat.mul_comm 8]

theorem gates_apply (proj : FVec Ideal S17408x11296 .f32) (b : Fin 8) (t : Fin 2048) (g : Fin 4) (k : Fin 512) :
    gates (zcols proj) (ix4 b t g k) = proj (ix2 (Model.row b t) ⟨4096 + (512 * g.val + k.val), by omega⟩)
      * Ideal.logistic (proj (ix2 (Model.row b t) ⟨4096 + (512 * g.val + k.val), by omega⟩)) := by
  unfold gates zcols Model.row
  pointwise
  simp only [Nat.mul_comm 2048, Nat.mul_comm 512]
  rfl

theorem rms_apply (G : FVec Ideal S8x2048x4x512 .f32) (w : FVec Ideal S2048 .f32) (i : Fin 16384) (j : Fin 2048) :
    rms G w (ix2 i j) = normed (fun k => G (ix4 ⟨i.val / 2048, by omega⟩ ⟨i.val % 2048, by omega⟩ ⟨j.val / 512, by omega⟩ k)) ⟨j.val % 512, by omega⟩ * w (ix1 j) := by
  unfold rms normed
  pointwise

theorem stacked_apply (nst : FVec Ideal S2x8x32x64x128 .f32) (h : FVec Ideal S8x4x8x64x128 .f32) (u : Fin 2) (b : Fin 8) (p : Fin 16) (l n : Fin 128) :
    stacked nst h (ix5 u b p l n) = if u.val = 1 then h (ix5 b ⟨p.val / 4, by omega⟩ ⟨2 * (p.val % 4) + l.val / 64, by omega⟩ ⟨l.val % 64, by omega⟩ n)
      else nst (ix5 u b ⟨2 * p.val + l.val / 64, by omega⟩ ⟨l.val % 64, by omega⟩ n) := by
  unfold stacked
  pointwise
  by_cases hu : u.val = 1
  · rw [dif_neg (by omega), if_pos hu]
    exact congrArg₂ (fun g r => h (ix5 b g r _ n)) (Fin.ext (by simp; omega)) (Fin.ext (by simp; omega))
  · obtain rfl : u = 0 := Fin.ext (by have := u.isLt; simp; omega)
    rw [dif_pos (by decide), if_neg (by decide)]
    exact congrArg (fun k => nst (ix5 0 b k _ n)) (Fin.ext (by simp; omega))

/-- The gated outputs, from the recurrence's. -/
theorem gate_of (A : Model.Args) (Y : FVec Ideal S32x8x64x4x8x64 .f32)
    (hY : ∀ b (t : Fin 2048) g r p, Y (ix6 ⟨t.val / 64, by omega⟩ b ⟨t.val % 64, by omega⟩ g r p) = (((A.seq b g r).out t.val p : ℝ) : EReal))
    (b : Fin 8) (t : Fin 2048) (g : Fin 4) (k : Fin 512) :
    mulf (skipped Y A.dsk (heads A.xc)) (gates (zcols A.proj)) (ix4 b t g k) = A.gate b t g k := by
  unfold Model.Args.gate gated Model.head
  refine congrArg₂ (· * ·) ((skipped_apply _ _ _ b t g k).trans ?_) (gates_apply _ b t g k)
  rw [hY]

/-- The first result, from the recurrence's outputs. -/
theorem y_of (A : Model.Args) (Y : FVec Ideal S32x8x64x4x8x64 .f32)
    (hY : ∀ b (t : Fin 2048) g r p, Y (ix6 ⟨t.val / 64, by omega⟩ b ⟨t.val % 64, by omega⟩ g r p) = (((A.seq b g r).out t.val p : ℝ) : EReal)) :
    rms (mulf (skipped Y A.dsk (heads A.xc)) (gates (zcols A.proj))) A.w = A.y := by
  funext i
  idx_vars i
  refine (rms_apply _ _ i0 i1).trans ?_
  unfold Model.Args.y
  exact congrArg (fun G => normed G ⟨i1.val % 512, by omega⟩ * A.w (ix1 i1)) (funext fun k => gate_of A Y hY _ _ _ k)

end Cert.ReferenceIdeal.Trip

end
-- ==== Proof.RefResult.lean ====
/- The reference's two results are the recurrence's, and its run. -/
module

public import proofs.«01_k».proof.Proof.RefFinal

@[expose] public section

set_option maxRecDepth 16384
set_option maxHeartbeats 1600000

noncomputable section

namespace Cert.ReferenceIdeal.Trip

open Cert.ReferenceIdeal Cert.ReferenceIdeal.Gen Cert.ReferenceIdeal.Value Cert.Rec Idealize.ShloMosaic Idealize.ShloMosaic.TcCoe Idealize.SL.Sem
open Idealize.ShloMosaic.StableHlo

variable (m : (ℓ : Loc nD τ sig) → Buf (Elt Ideal) ℓ) (c : Dev nD)

/-! ## The results -/

variable {m c}

/-- The outputs at the loop's exit. -/
theorem exit_y (F : (args m c).Finite) (b : Fin 8) (t : Fin 2048) (g : Fin 4) (r : Fin 8) (p : Fin 64) :
    (exit m c (Proc.devRef .tc main_v33_8) : FVec Ideal S32x8x64x4x8x64 .f32) (ix6 ⟨t.val / 64, by omega⟩ b ⟨t.val % 64, by omega⟩ g r p)
      = ((((args m c).seq b g r).out t.val p : ℝ) : EReal) := by
  have h := ((carry_entry F).atExit).hy ⟨t.val / 64, by omega⟩ b ⟨t.val % 64, by omega⟩ g r p (by show t.val / 64 < 32; omega)
  have e : 64 * (t.val / 64) + t.val % 64 = t.val := by omega
  simp only [e] at h
  exact h

/-- The first result. -/
theorem final_y (F : (args m c).Finite) : finalContents condOps preI bodyI postI 32 m c (Proc.devRef .tc main_v60) = (args m c).y := by
  rw [final_60, exit_v5, exit_v1, exit_arg m c main_arg4 (by decide), exit_arg m c main_arg5 (by decide)]
  exact y_of (args m c) _ (exit_y F)

/-- The second result. -/
theorem final_state (F : (args m c).Finite) : finalContents condOps preI bodyI postI 32 m c (Proc.devRef .tc main_v67) = (args m c).state := by
  rw [final_67, exit_arg m c main_arg7 (by decide)]
  funext i
  idx_vars i
  refine (stacked_apply _ _ i0 i1 i2 i3 i4).trans ?_
  unfold Model.Args.state
  refine ite_congr rfl (fun _ => ?_) (fun _ => rfl)
  exact ((carry_entry F).atExit).hh _ _ _ _ _

/-- The references the operations of `hostOps0_5` write. -/
abbrev postW5 : List (Ref sig .tc) := [main_v34, main_v35, main_v36, main_v37, main_v38, main_v39, main_v40, main_v41, main_v42]
theorem post_writes5 : (hostOps0_5 : List (HloOp τ sig (Elt Ideal))).Forall fun op => op.writes ⊆ (postW5.map (Proc.devRef (τ := τ) .tc)).toFinset :=
  StableHlo.forall_writes_sub_of_map rfl

/-- The references the operations of `hostOps0_6` write. -/
abbrev postW6 : List (Ref sig .tc) := [main_call9_v0, main_call9_v1, main_call9_cst, main_call9_v2, main_call9_v3, main_call9_cst_0, main_call9_v4, main_call9_v5, main_v43]
theorem post_writes6 : (hostOps0_6 : List (HloOp τ sig (Elt Ideal))).Forall fun op => op.writes ⊆ (postW6.map (Proc.devRef (τ := τ) .tc)).toFinset :=
  StableHlo.forall_writes_sub_of_map rfl

/-- The references the operations of `hostOps0_7` write. -/
abbrev postW7 : List (Ref sig .tc) := [main_v44, main_v45, main_v46, main_v47, main_cst_1, main_v48, main_v49, main_cst_2, main_v50, main_v51, main_cst_3, main_v52, main_v53, main_v54, main_v55, main_v56, main_v57, main_v58, main_v59, main_v60, main_v61, main_v62, main_v63, main_v64, main_v65, main_v66, main_v67]
theorem post_writes7 : (hostOps0_7 : List (HloOp τ sig (Elt Ideal))).Forall fun op => op.writes ⊆ (postW7.map (Proc.devRef (τ := τ) .tc)).toFinset :=
  StableHlo.forall_writes_sub_of_map rfl

/-- An argument at the program's end. -/
theorem final_arg (r : Ref sig .tc) (hr : r ∈ argRefs) : finalContents condOps preI bodyI postI 32 m c (Proc.devRef .tc r) = m ((c : Thread nD τ).loc r) := by
  show afterL postI (exit m c) _ = _
  simp only [postI, afterL_cons, afterL_nil]
  rw [after_of_writes_sub _ _ post_writes7 ((by decide : ∀ a ∈ argRefs, a ∉ postW7) r hr), after_of_writes_sub _ _ post_writes6 ((by decide : ∀ a ∈ argRefs, a ∉ postW6) r hr),
    after_of_writes_sub _ _ post_writes5 ((by decide : ∀ a ∈ argRefs, a ∉ postW5) r hr)]
  exact exit_arg m c r hr

variable (m)

/-- The reference's run: its results left open, its arguments unchanged. -/
theorem run_main (ρ : Dev nD → PrngReg) : θ_run (defs (F := Ideal)) (onTc (τ := τ) (main (F := Ideal))) ⟨m, fun _ => 0, ρ⟩ fun r => ∀ c : Dev nD,
    r.2.mem ((c.tc : Thread nD τ).loc main_v60) = finalContents condOps preI bodyI postI 32 m c (Proc.devRef .tc main_v60)
    ∧ r.2.mem ((c.tc : Thread nD τ).loc main_v67) = finalContents condOps preI bodyI postI 32 m c (Proc.devRef .tc main_v67)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run _ _ _).mono (fun _ h c => ⟨h c main_v60 rfl, h c main_v67 rfl, (h c main_arg0 rfl).trans (final_arg _ (by decide)), (h c main_arg1 rfl).trans (final_arg _ (by decide)),
    (h c main_arg2 rfl).trans (final_arg _ (by decide)), (h c main_arg3 rfl).trans (final_arg _ (by decide)), (h c main_arg4 rfl).trans (final_arg _ (by decide)),
    (h c main_arg5 rfl).trans (final_arg _ (by decide)), (h c main_arg6 rfl).trans (final_arg _ (by decide)), (h c main_arg7 rfl).trans (final_arg _ (by decide))⟩) (run_fold m ρ)

end Cert.ReferenceIdeal.Trip

end
-- ==== Proof.Finite.lean ====
/- The precondition says that what the recurrence reads is finite. -/
module

public import proofs.«01_k».proof.Pre_finite
public import proofs.«01_k».proof.Proof.Model
public import Idealize.ShloMosaic.Lib.ReduceAll

@[expose] public section

noncomputable section

namespace Cert.Pre_finite.Says

open Cert.Pre_finite Idealize.ShloMosaic

/-- The shape relations the predicate states. -/
theorem facts : Cert.Pre_finite.Facts where
  slices_S17408x11296_S16384x32_0_9216 := by decide
  bcast_S_S8x2048x3072 := by decide
  reducesTo_S8x2048x3072_S_d0_1_2 := by decide
  h_S_ := by decide
  bcast_S_S16384x32 := by decide
  reducesTo_S16384x32_S_d0_1 := by decide
  bcast_S_S32 := by decide
  reducesTo_S32_S_d0 := by decide
  slices_S2x8x32x64x128_S1x8x32x64x128_1_0_0_0_0 := by decide
  shapeCasts_S1x8x32x64x128_S8x32x64x128 := by decide
  bcast_S_S8x32x64x128 := by decide
  reducesTo_S8x32x64x128_S_d0_1_2_3 := by decide

/-- Below the format's infinity in absolute value is a real number. -/
theorem real_of (x : EReal) (h : FloatOps.cmpf (F := Ideal) (φ := .f32) .olt (FloatOps.absf (F := Ideal) (φ := .f32) x) (Ideal.ofBits .f32 0x7F800000#32) = 1#1) : ∃ r : ℝ, x = (r : EReal) := by
  have e : Ideal.ofBits .f32 0x7F800000#32 = ⊤ := by simp [Ideal.ofBits, Ideal.ieee]
  rw [e] at h
  change Ideal.cmp .olt (max x (-x)) ⊤ = 1#1 at h
  induction x with
  | bot => exact absurd h (by simp [Ideal.cmp])
  | top => exact absurd h (by simp [Ideal.cmp])
  | coe r => exact ⟨r, rfl⟩

/-- An array whose printed finiteness test is one. -/
theorem real_all {s : Shape} {axes : List (Fin s.rank)} (x : FVec Ideal s .f32) (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) (i : s.Idx) :
    ∃ r : ℝ, x i = (r : EReal) :=
  real_of _ (Host.reduce_andi_all _ _ _ _ j h i)

/-- The precondition's content. -/
theorem finite [Cert.Pre_finite.Facts] (A : Model.Args) (h : Cert.Pre_finite.fn (F := Ideal) A.xc A.proj A.dtb A.alog A.dsk A.w A.st A.nst = fun _ => 1#1) : A.Finite := by
  have h' := congrFun h (fun a => a.elim0)
  simp only [fn, fn_part1] at h'
  obtain ⟨h4, hst⟩ := IntOp.andi_eq_one.1 h'
  obtain ⟨h3, halog⟩ := IntOp.andi_eq_one.1 h4
  obtain ⟨h2, hdtb⟩ := IntOp.andi_eq_one.1 h3
  obtain ⟨hxc, hproj⟩ := IntOp.andi_eq_one.1 h2
  refine ⟨fun i => real_all _ _ _ _ _ hxc i, fun i j => ?_, fun i => real_all _ _ _ _ _ hdtb i, fun i => real_all _ _ _ _ _ halog i, fun b h p n => ?_⟩
  · have := real_all _ _ _ _ _ hproj (ix2 i j)
    pointwise at this
    exact this
  · have := real_all _ _ _ _ _ hst (ix4 b h p n)
    pointwise at this
    exact this

end Cert.Pre_finite.Says

end
-- ==== Proof.ProjEntry.lean ====
/- The input projection's operand arrays and results, in terms of the kernel's arguments. -/
module

public import proofs.«01_k».proof.Proof.Gen.Kernel2Ideal.Frame
public import Idealize.ShloMosaic.Lib.Claim
public import Idealize.ShloMosaic.Lib.Pipeline.ValueKit

@[expose] public section
set_option maxRecDepth 16384
set_option maxHeartbeats 1600000
noncomputable section
namespace Cert.Kernel2Ideal.Value
open Cert.Kernel2Ideal Cert.Kernel2Ideal.Gen Idealize.ShloMosaic Idealize.ShloMosaic.TcCoe Idealize.SL.Sem

/-- Nine stretches of columns laid side by side. -/
def cat9 (a0 a1 a2 a3 : Vec Ideal S1024x1024 .f32) (a4 : Vec Ideal S1024x2048 .f32) (a5 : Vec Ideal S1024x3072 .f32)
    (a6 a7 : Vec Ideal S1024x1024 .f32) (a8 : Vec Ideal S1024x512 .f32) : Vec Ideal S1024x11776 .f32 :=
  concatenate S1024x11776 1 [⟨S1024x1024, a0⟩, ⟨S1024x1024, a1⟩, ⟨S1024x1024, a2⟩, ⟨S1024x1024, a3⟩, ⟨S1024x2048, a4⟩,
    ⟨S1024x3072, a5⟩, ⟨S1024x1024, a6⟩, ⟨S1024x1024, a7⟩, ⟨S1024x512, a8⟩]
    concatenates_S1024x1024_S1024x1024_S1024x1024_S1024x1024_S1024x2048_S1024x3072_S1024x1024_S1024x1024_S1024x512_S1024x11776_d1

/-- The weight's columns in the order the launch reads them: the step columns last with room after every eighth. -/
def cols (w : Vec Ideal S1024x11296 .f32) : Vec Ideal S1024x11776 .f32 :=
  cat9 (extractStridedSlice S1024x1024 ![0, 0] w slices_S1024x11296_S1024x1024_0_0)
    (extractStridedSlice S1024x1024 ![0, 1024] w slices_S1024x11296_S1024x1024_0_1024)
    (extractStridedSlice S1024x1024 ![0, 2048] w slices_S1024x11296_S1024x1024_0_2048)
    (extractStridedSlice S1024x1024 ![0, 3072] w slices_S1024x11296_S1024x1024_0_3072)
    (extractStridedSlice S1024x2048 ![0, 4096] w slices_S1024x11296_S1024x2048_0_4096)
    (extractStridedSlice S1024x3072 ![0, 6144] w slices_S1024x11296_S1024x3072_0_6144)
    (extractStridedSlice S1024x1024 ![0, 9248] w slices_S1024x11296_S1024x1024_0_9248)
    (extractStridedSlice S1024x1024 ![0, 10272] w slices_S1024x11296_S1024x1024_0_10272)
    (shapeCast S1024x512 (pad S1024x4x128 ![0, 0, 0] ![0, 0, 120] ![0, 0, 0]
      (shapeCast S1024x4x8 (extractStridedSlice S1024x32 ![0, 9216] w slices_S1024x11296_S1024x32_0_9216) shapeCasts_S1024x32_S1024x4x8)
      (sitofp (F := Ideal) FTy.f32 (constantI S_ 32 0#32)) pads_S1024x4x8_S1024x4x128_000_000_01200 h_S_) shapeCasts_S1024x4x128_S1024x512)

/-- Prompt rows above sample rows. -/
def cat2 (a : Vec Ideal S16384x1024 .f32) (b : Vec Ideal S1024x1024 .f32) : Vec Ideal S17408x1024 .f32 :=
  concatenate S17408x1024 0 [⟨S16384x1024, a⟩, ⟨S1024x1024, b⟩] concatenates_S16384x1024_S1024x1024_S17408x1024_d0

/-- The rows the launch reads: the prompt's, then the samples', each sample's four rows with room for eight. -/
def rows (x : Vec Ideal S8x2048x1024 .f32) (s : Vec Ideal S128x4x1024 .f32) : Vec Ideal S17408x1024 .f32 :=
  cat2 (shapeCast S16384x1024 x shapeCasts_S8x2048x1024_S16384x1024)
    (shapeCast S1024x1024 (pad S128x8x1024 ![0, 0, 0] ![0, 4, 0] ![0, 0, 0] s (sitofp (F := Ideal) FTy.f32 (constantI S_ 32 0#32))
      pads_S128x4x1024_S128x8x1024_000_040_000 h_S_) shapeCasts_S128x8x1024_S1024x1024)

/-- Three stretches of columns laid side by side. -/
def cat3 (a : Vec Ideal S17408x9216 .f32) (b : Vec Ideal S17408x32 .f32) (c : Vec Ideal S17408x2048 .f32) : Vec Ideal S17408x11296 .f32 :=
  concatenate S17408x11296 1 [⟨S17408x9216, a⟩, ⟨S17408x32, b⟩, ⟨S17408x2048, c⟩] concatenates_S17408x9216_S17408x32_S17408x2048_S17408x11296_d1

/-- The launch's result with its columns back in the weight's order. -/
def back (p : Vec Ideal S17408x11776 .f32) : Vec Ideal S17408x11296 .f32 :=
  cat3 (extractStridedSlice S17408x9216 ![0, 0] p slices_S17408x11776_S17408x9216_0_0)
    (shapeCast S17408x32 (extractStridedSlice S17408x4x8 ![0, 0, 0] (shapeCast S17408x4x128
      (extractStridedSlice S17408x512 ![0, 11264] p slices_S17408x11776_S17408x512_0_11264) shapeCasts_S17408x512_S17408x4x128) slices_S17408x4x128_S17408x4x8_0_0_0) shapeCasts_S17408x4x8_S17408x32)
    (extractStridedSlice S17408x2048 ![0, 9216] p slices_S17408x11776_S17408x2048_0_9216)

/-- The prompt's rows of it. -/
def promptOf (p : Vec Ideal S17408x11776 .f32) : Vec Ideal S8x2048x11296 .f32 :=
  shapeCast S8x2048x11296 (extractStridedSlice S16384x11296 ![0, 0] (back p) slices_S17408x11296_S16384x11296_0_0) shapeCasts_S16384x11296_S8x2048x11296

/-- The samples' rows of it. -/
def sampleOf (p : Vec Ideal S17408x11776 .f32) : Vec Ideal S128x4x11296 .f32 :=
  extractStridedSlice S128x4x11296 ![0, 0, 0] (shapeCast S128x8x11296 (extractStridedSlice S1024x11296 ![16384, 0] (back p) slices_S17408x11296_S1024x11296_16384_0)
    shapeCasts_S1024x11296_S128x8x11296) slices_S128x8x11296_S128x4x11296_0_0_0

variable (m : (ℓ : Loc nD τ sig) → Buf (Elt Ideal) ℓ)

/-- The launch's rows. -/
theorem V_18 (c : Dev nD) : V m c main_v18 = truncf (F := Ideal) .bf16 (rows (m ((c : Thread nD τ).loc main_arg0)) (m ((c : Thread nD τ).loc main_arg1))) bitsLt_bf16_f32 := by
  simp only [V, V0, hostOps0, hostOps0_1, hostOps0_2, hostOps0_3, hostOps0_4, List.flatten_cons, List.flatten_nil, List.cons_append, List.nil_append, List.append_nil]
  after_results_simp
  rfl

/-- The launch's weight. -/
theorem V_13 (c : Dev nD) : V m c main_v13 = truncf (F := Ideal) .bf16 (cols (m ((c : Thread nD τ).loc main_arg2))) bitsLt_bf16_f32 := by
  simp only [V, V0, hostOps0, hostOps0_1, hostOps0_2, hostOps0_3, hostOps0_4, List.flatten_cons, List.flatten_nil, List.cons_append, List.nil_append, List.append_nil]
  after_results_simp
  refine congrArg (fun z => truncf (F := Ideal) .bf16 z bitsLt_bf16_f32) ?_
  refine (show cat9 _ _ _ _ _ _ _ _ _ = _ from ?_)
  simp only [Matrix.cons_val]
  after_results_simp
  rfl

/-- The lines after the launch, from any contents that hold the launch's result. -/
theorem tail_28 (W : Valuation τ sig (Elt Ideal)) : StableHlo.after hostOps1 W (Proc.devRef .tc main_v28) = promptOf (W (Proc.devRef .tc main_v19)) := by
  simp only [hostOps1]
  after_results_simp
  refine (show promptOf _ = _ from ?_)
  rfl

theorem tail_31 (W : Valuation τ sig (Elt Ideal)) : StableHlo.after hostOps1 W (Proc.devRef .tc main_v31) = sampleOf (W (Proc.devRef .tc main_v19)) := by
  simp only [hostOps1]
  after_results_simp
  rfl

/-- The two results after the run. -/
theorem run_results (ρ : Dev nD → PrngReg) : θ_run defs (onTc (τ := τ) (main (F := Ideal))) ⟨m, fun _ => 0, ρ⟩ (fun r => ∀ c : Dev nD,
      r.2.mem ((c.tc : Thread nD τ).loc main_v28) = promptOf ((dats m 0 c).arrAt 2 cfg0.N)
      ∧ r.2.mem ((c.tc : Thread nD τ).loc main_v31) = sampleOf ((dats m 0 c).arrAt 2 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_⟩) (θ_run_and (run_main m ρ) (unchanged m ρ))
  · refine ((h.1 c).2 main_v28 (Pipeline.mem_restRefs_of main_v28 (by decide) (by decide))).trans ?_
    unfold Pipeline.afterTail₀
    refine (tail_28 _).trans (congrArg promptOf ?_)
    exact Pipeline.withArrays_arr spec0 launch0.win.arr_inj c _ _ 2
  · refine ((h.1 c).2 main_v31 (Pipeline.mem_restRefs_of main_v31 (by decide) (by decide))).trans ?_
    unfold Pipeline.afterTail₀
    refine (tail_31 _).trans (congrArg sampleOf ?_)
    exact Pipeline.withArrays_arr spec0 launch0.win.arr_inj c _ _ 2
  · exact h.2 c

end Cert.Kernel2Ideal.Value
end
-- ==== Proof.ProjRead.lean ====
/- The input projection's arrays read at an index. -/
module

public import proofs.«01_k».proof.Proof.ProjEntry
public import proofs.«01_k».proof.Proof.Gen.Reference2Ideal.Run
public import Idealize.ShloMosaic.Lib.Pointwise

@[expose] public section
set_option maxRecDepth 16384
set_option maxHeartbeats 1600000
noncomputable section
namespace Cert.Kernel2Ideal.Value
open Cert.Kernel2Ideal Cert.Kernel2Ideal.Gen Idealize.ShloMosaic Idealize.ShloMosaic.TcCoe Idealize.SL.Sem

/-- The column of the launch's weight that holds the weight's column `q`. -/
def place (q : Nat) : Nat := if q < 9216 then q else if q < 9248 then 11264 + 128 * ((q - 9216) / 8) + (q - 9216) % 8 else q - 32

/-- It lies inside. -/
theorem place_lt (q : Fin 11296) : place q.val < 11776 := by
  unfold place; split_ifs <;> omega

/-- Nine stretches read at a column. -/
theorem cat9_at (w : Vec Ideal S1024x11296 .f32) {a0 a1 a2 a3 : Vec Ideal S1024x1024 .f32} {a4 : Vec Ideal S1024x2048 .f32} {a5 : Vec Ideal S1024x3072 .f32}
    {a6 a7 : Vec Ideal S1024x1024 .f32} {a8 : Vec Ideal S1024x512 .f32}
    (h0 : ∀ k (j : Fin 1024), a0 (ix2 k j) = w (ix2 k ⟨0 + j.val, by omega⟩)) (h1 : ∀ k (j : Fin 1024), a1 (ix2 k j) = w (ix2 k ⟨1024 + j.val, by omega⟩))
    (h2 : ∀ k (j : Fin 1024), a2 (ix2 k j) = w (ix2 k ⟨2048 + j.val, by omega⟩)) (h3 : ∀ k (j : Fin 1024), a3 (ix2 k j) = w (ix2 k ⟨3072 + j.val, by omega⟩))
    (h4 : ∀ k (j : Fin 2048), a4 (ix2 k j) = w (ix2 k ⟨4096 + j.val, by omega⟩)) (h5 : ∀ k (j : Fin 3072), a5 (ix2 k j) = w (ix2 k ⟨6144 + j.val, by omega⟩))
    (h6 : ∀ k (j : Fin 1024), a6 (ix2 k j) = w (ix2 k ⟨9248 + j.val, by omega⟩)) (h7 : ∀ k (j : Fin 1024), a7 (ix2 k j) = w (ix2 k ⟨10272 + j.val, by omega⟩))
    (h8 : ∀ k (j : Fin 512) (h : j.val % 128 < 8), a8 (ix2 k j) = w (ix2 k ⟨9216 + (8 * (j.val / 128) + j.val % 128), by omega⟩))
    (k : Fin 1024) (q : Fin 11296) (p : Fin 11776) (hv : p.val = place q.val) : cat9 a0 a1 a2 a3 a4 a5 a6 a7 a8 (ix2 k p) = w (ix2 k q) := by
  unfold place at hv
  pointwise [cat9]
  split_ifs at hv <;> split_ifs <;> first | omega | skip
  all_goals first | rw [h0] | rw [h1] | rw [h2] | rw [h3] | rw [h4] | rw [h5] | rw [h6] | rw [h7] | rw [h8 _ _ (by simp; omega)]
  all_goals exact congrArg (fun z => w (ix2 k z)) (Fin.ext (by simp; omega))

/-- The step columns, eight to a stretch of 128. -/
theorem steps_at (x : Vec Ideal S1024x32 .f32) (v : Vec Ideal S_ .f32) (k : Fin 1024) (j : Fin 512) (h : j.val % 128 < 8) :
    shapeCast S1024x512 (pad S1024x4x128 ![0, 0, 0] ![0, 0, 120] ![0, 0, 0] (shapeCast S1024x4x8 x shapeCasts_S1024x32_S1024x4x8) v
      pads_S1024x4x8_S1024x4x128_000_000_01200 h_S_) shapeCasts_S1024x4x128_S1024x512 (ix2 k j) = x (ix2 k ⟨8 * (j.val / 128) + j.val % 128, by omega⟩) := by
  pointwise
  rw [dif_pos (by omega)]
  exact congrArg (fun z => x (ix2 k z)) (Fin.ext (by simp; omega))

/-- The launch's weight there. -/
theorem cols_at (w : Vec Ideal S1024x11296 .f32) (k : Fin 1024) (q : Fin 11296) : cols w (ix2 k ⟨place q.val, place_lt q⟩) = w (ix2 k q) := by
  refine cat9_at w ?_ ?_ ?_ ?_ ?_ ?_ ?_ ?_ ?_ k q _ rfl
  all_goals intro k j
  · pointwise
  · pointwise
  · pointwise
  · pointwise
  · pointwise
  · pointwise
  · pointwise
  · pointwise
  · intro h
    rw [steps_at _ _ _ _ h]
    pointwise

/-- Three stretches read at a column. -/
theorem cat3_at (p : Vec Ideal S17408x11776 .f32) {a : Vec Ideal S17408x9216 .f32} {b : Vec Ideal S17408x32 .f32} {c : Vec Ideal S17408x2048 .f32}
    (h0 : ∀ k (j : Fin 9216), a (ix2 k j) = p (ix2 k ⟨0 + j.val, by omega⟩)) (h1 : ∀ k (j : Fin 32), b (ix2 k j) = p (ix2 k ⟨11264 + (j.val / 8 * 128 + j.val % 8), by omega⟩))
    (h2 : ∀ k (j : Fin 2048), c (ix2 k j) = p (ix2 k ⟨9216 + j.val, by omega⟩)) (r : Fin 17408) (q : Fin 11296) :
    cat3 a b c (ix2 r q) = p (ix2 r ⟨place q.val, place_lt q⟩) := by
  have hp : (⟨place q.val, place_lt q⟩ : Fin 11776).val = place q.val := rfl
  generalize (⟨place q.val, place_lt q⟩ : Fin 11776) = z at hp ⊢
  unfold place at hp
  pointwise [cat3]
  split_ifs at hp <;> split_ifs <;> first | omega | skip
  all_goals first | rw [h0] | rw [h1] | rw [h2]
  all_goals exact congrArg (fun z => p (ix2 r z)) (Fin.ext (by simp; omega))

/-- The step columns of the result. -/
theorem unsteps_at (p : Vec Ideal S17408x512 .f32) (k : Fin 17408) (j : Fin 32) :
    shapeCast S17408x32 (extractStridedSlice S17408x4x8 ![0, 0, 0] (shapeCast S17408x4x128 p shapeCasts_S17408x512_S17408x4x128) slices_S17408x4x128_S17408x4x8_0_0_0)
      shapeCasts_S17408x4x8_S17408x32 (ix2 k j) = p (ix2 k ⟨j.val / 8 * 128 + j.val % 8, by omega⟩) := by
  pointwise

/-- The launch's result back in the weight's order. -/
theorem back_at (p : Vec Ideal S17408x11776 .f32) (r : Fin 17408) (q : Fin 11296) : back p (ix2 r q) = p (ix2 r ⟨place q.val, place_lt q⟩) := by
  refine cat3_at p ?_ ?_ ?_ r q
  all_goals intro k j
  · pointwise
  · rw [unsteps_at]
    pointwise
  · pointwise

/-- Two stacks of rows read at a row. -/
theorem cat2_lo (a : Vec Ideal S16384x1024 .f32) (b : Vec Ideal S1024x1024 .f32) (r : Fin 17408) (h : r.val < 16384) (k : Fin 1024) : cat2 a b (ix2 r k) = a (ix2 ⟨r.val, h⟩ k) := by
  pointwise [cat2]
  rw [dif_pos h]

theorem cat2_hi (a : Vec Ideal S16384x1024 .f32) (b : Vec Ideal S1024x1024 .f32) (r : Fin 17408) (h : ¬ r.val < 16384) (k : Fin 1024) : cat2 a b (ix2 r k) = b (ix2 ⟨r.val - 16384, by omega⟩ k) := by
  pointwise [cat2]
  rw [dif_neg h]

/-- A sequence's rows one after another. -/
theorem flat_at (x : Vec Ideal S8x2048x1024 .f32) (r : Fin 16384) (k : Fin 1024) :
    shapeCast S16384x1024 x shapeCasts_S8x2048x1024_S16384x1024 (ix2 r k) = x (ix3 ⟨r.val / 2048, by omega⟩ ⟨r.val % 2048, by omega⟩ k) := by
  pointwise

/-- Samples' rows one after another, with room for eight of each. -/
theorem room_at (s : Vec Ideal S128x4x1024 .f32) (v : Vec Ideal S_ .f32) (r : Fin 1024) (h : r.val % 8 < 4) (k : Fin 1024) :
    shapeCast S1024x1024 (pad S128x8x1024 ![0, 0, 0] ![0, 4, 0] ![0, 0, 0] s v pads_S128x4x1024_S128x8x1024_000_040_000 h_S_) shapeCasts_S128x8x1024_S1024x1024 (ix2 r k)
      = s (ix3 ⟨r.val / 8, by omega⟩ ⟨r.val % 8, h⟩ k) := by
  pointwise
  rw [dif_pos (by omega)]

/-- The prompt's rows of the launch's operand. -/
theorem rows_prompt (x : Vec Ideal S8x2048x1024 .f32) (s : Vec Ideal S128x4x1024 .f32) (b : Fin 8) (t : Fin 2048) (k : Fin 1024) :
    rows x s (ix2 ⟨2048 * b.val + t.val, by omega⟩ k) = x (ix3 b t k) := by
  unfold rows
  rw [cat2_lo _ _ _ (by simp; omega), flat_at]
  have e1 : (⟨(2048 * b.val + t.val) / 2048, by omega⟩ : Fin 8) = b := Fin.ext (by simp; omega)
  have e2 : (⟨(2048 * b.val + t.val) % 2048, by omega⟩ : Fin 2048) = t := Fin.ext (by simp)
  simp only [e1, e2]

/-- The samples' rows of the launch's operand. -/
theorem rows_sample (x : Vec Ideal S8x2048x1024 .f32) (s : Vec Ideal S128x4x1024 .f32) (b : Fin 128) (t : Fin 4) (k : Fin 1024) :
    rows x s (ix2 ⟨16384 + 8 * b.val + t.val, by omega⟩ k) = s (ix3 b t k) := by
  unfold rows
  rw [cat2_hi _ _ _ (by simp; omega), room_at _ _ _ (by simp; omega)]
  have e1 : (⟨(16384 + 8 * b.val + t.val - 16384) / 8, by omega⟩ : Fin 128) = b := Fin.ext (by simp; omega)
  have e2 : (⟨(16384 + 8 * b.val + t.val - 16384) % 8, by omega⟩ : Fin 4) = t := Fin.ext (by simp; omega)
  simp only [e1, e2]

/-- The prompt's result. -/
theorem promptOf_at (p : Vec Ideal S17408x11776 .f32) (b : Fin 8) (t : Fin 2048) (q : Fin 11296) :
    promptOf p (ix3 b t q) = back p (ix2 ⟨2048 * b.val + t.val, by omega⟩ q) := by
  unfold promptOf
  generalize back p = z
  pointwise
  exact congrArg (fun k => z (ix2 k q)) (Fin.ext (by simp; omega))

/-- The samples' result. -/
theorem sampleOf_at (p : Vec Ideal S17408x11776 .f32) (b : Fin 128) (t : Fin 4) (q : Fin 11296) :
    sampleOf p (ix3 b t q) = back p (ix2 ⟨16384 + 8 * b.val + t.val, by omega⟩ q) := by
  unfold sampleOf
  generalize back p = z
  pointwise
  exact congrArg (fun k => z (ix2 k q)) (Fin.ext (by simp; omega))

/-- The launch's result as an array: rows by columns. -/
def prod (X : Vec Ideal S17408x1024 .f32) (W : Vec Ideal S1024x11776 .f32) : Vec Ideal S17408x11776 .f32 :=
  fun i => ∑ k : Fin 1024, X (ix2 (i 0) k) * W (ix2 k (i 1))

/-- What the body computes of a block of rows and a block of columns. -/
theorem pay_at (x : Vec Ideal S1024x1024 .bf16) (w : Vec Ideal S1024x2944 .bf16) (r : Fin 1024) (j : Fin 2944) :
    k0_pay1 x w (ix2 r j) = ∑ k : Fin 1024, x (ix2 r k) * w (ix2 k j) := by
  unfold k0_pay1
  pointwise

/-- The prompt's reference. -/
theorem ref_prompt (x : Vec Ideal S8x2048x1024 .f32) (w : Vec Ideal S1024x11296 .f32) (b : Fin 8) (t : Fin 2048) (q : Fin 11296) :
    Host.dotGeneral (F := Ideal) (φ₁ := .f32) (φ₂ := .f32) Cert.Reference2Ideal.dot_S8x2048x1024_S1024x11296_S8x2048x11296_2_0_01_1_n_n none x w (ix3 b t q) = ∑ k : Fin 1024, x (ix3 b t k) * w (ix2 k q) := by
  pointwise

/-- The samples' reference. -/
theorem ref_sample (x : Vec Ideal S128x4x1024 .f32) (w : Vec Ideal S1024x11296 .f32) (b : Fin 128) (t : Fin 4) (q : Fin 11296) :
    Host.dotGeneral (F := Ideal) (φ₁ := .f32) (φ₂ := .f32) Cert.Reference2Ideal.dot_S128x4x1024_S1024x11296_S128x4x11296_2_0_01_1_n_n none x w (ix3 b t q) = ∑ k : Fin 1024, x (ix3 b t k) * w (ix2 k q) := by
  pointwise
end Cert.Kernel2Ideal.Value
end
-- ==== Proof.ProjFin.lean ====
/- The input projection's two results are the two products. -/
module

public import proofs.«01_k».proof.Proof.ProjRead

@[expose] public section
set_option maxRecDepth 16384
set_option maxHeartbeats 1600000
noncomputable section
namespace Cert.Kernel2Ideal.Value
open Cert.Kernel2Ideal Cert.Kernel2Ideal.Gen Idealize.ShloMosaic Idealize.ShloMosaic.TcCoe Idealize.SL.Sem
variable (m : (ℓ : Loc nD τ sig) → Buf (Elt Ideal) ℓ)

/-- The block a grid point is on, array by array. -/
theorem idx_val (t : Fin cfg0.N) : (win0_0.index t 0 = t.val % 17 ∧ win0_0.index t 1 = 0) ∧ (win0_1.index t 0 = 0 ∧ win0_1.index t 1 = t.val / 17)
    ∧ (win0_2.index t 0 = t.val % 17 ∧ win0_2.index t 1 = t.val / 17) := by
  revert t; decide +kernel

theorem pt_lt (t : Fin cfg0.N) : t.val < 68 := t.isLt

/-- A block of the launch's rows. -/
theorem blk0 (c : Dev nD) (t : Fin cfg0.N) (r k : Fin 1024) : iblk m c 0 t (ix2 r k)
    = rows (m ((c : Thread nD τ).loc main_arg0)) (m ((c : Thread nD τ).loc main_arg1)) (ix2 ⟨1024 * (t.val % 17) + r.val, by have := pt_lt t; omega⟩ k) := by
  have h := (idx_val t).1
  refine Eq.trans (b := V m c main_v18 (ix2 ⟨1024 * (t.val % 17) + r.val, by omega⟩ k)) ?_ ?_
  · blk_simp [iblk]
    refine congrArg (V m c main_v18) ?_
    blk_ext
    all_goals simp [h]
    all_goals first | done | omega
  · rw [V_18]; rfl

/-- A block of the launch's columns. -/
theorem blk1 (c : Dev nD) (t : Fin cfg0.N) (k : Fin 1024) (j : Fin 2944) : iblk m c 1 t (ix2 k j)
    = cols (m ((c : Thread nD τ).loc main_arg2)) (ix2 k ⟨2944 * (t.val / 17) + j.val, by have := pt_lt t; omega⟩) := by
  have hlt := pt_lt t
  have h := (idx_val t).2.1
  refine Eq.trans (b := V m c main_v13 (ix2 k ⟨2944 * (t.val / 17) + j.val, by omega⟩)) ?_ ?_
  · blk_simp [iblk]
    refine congrArg (V m c main_v13) ?_
    blk_ext
    all_goals simp [h]
    all_goals first | done | omega
  · rw [V_13]; rfl

/-- What the body leaves of its blocks. -/
theorem out_at (x : Vec Ideal S1024x1024 .bf16) (w : Vec Ideal S1024x2944 .bf16) (r : Fin 1024) (j : Fin 2944) :
    out0_2 x w (ix2 r j) = ∑ k : Fin 1024, x (ix2 r k) * w (ix2 k j) := by
  rw [← pay_at]
  unfold out0_2
  frame_out

/-- The launch's result. -/
theorem final (c : Dev nD) : (dats m 0 c).arrAt 2 cfg0.N
    = prod (rows (m ((c : Thread nD τ).loc main_arg0)) (m ((c : Thread nD τ).loc main_arg1))) (cols (m ((c : Thread nD τ).loc main_arg2))) := by
  refine (dats m 0 c).arrAt_eq_of_covers 2 _ (by decide +kernel) fun t hf y => ?_
  have h := (idx_val t).2.2
  have hlt := pt_lt t
  blk_simp
  rw [after0_2]
  idx_vars y
  refine (out_at _ _ _ _).trans ?_
  refine Eq.trans (b := prod (rows (m ((c : Thread nD τ).loc main_arg0)) (m ((c : Thread nD τ).loc main_arg1))) (cols (m ((c : Thread nD τ).loc main_arg2)))
    (ix2 ⟨1024 * (t.val % 17) + y0.val, by omega⟩ ⟨2944 * (t.val / 17) + y1.val, by omega⟩)) ?_ ?_
  · exact Finset.sum_congr rfl fun k _ => congrArg₂ (· * ·) (blk0 m c t y0 k) (blk1 m c t k y1)
  · refine congrArg (prod _ _) ?_
    blk_ext
    all_goals simp [h]
    all_goals first | done | omega

/-- The prompt's result is the prompt's product. -/
theorem prompt_eq (x : Vec Ideal S8x2048x1024 .f32) (s : Vec Ideal S128x4x1024 .f32) (w : Vec Ideal S1024x11296 .f32) :
    promptOf (prod (rows x s) (cols w)) = Host.dotGeneral (F := Ideal) (φ₁ := .f32) (φ₂ := .f32) Cert.Reference2Ideal.dot_S8x2048x1024_S1024x11296_S8x2048x11296_2_0_01_1_n_n none x w := by
  funext i
  idx_vars i
  rw [promptOf_at, back_at, ref_prompt]
  refine Finset.sum_congr rfl fun k _ => ?_
  exact congrArg₂ (· * ·) (rows_prompt x s i0 i1 k) (cols_at w k i2)

/-- The samples' result is the samples' product. -/
theorem sample_eq (x : Vec Ideal S8x2048x1024 .f32) (s : Vec Ideal S128x4x1024 .f32) (w : Vec Ideal S1024x11296 .f32) :
    sampleOf (prod (rows x s) (cols w)) = Host.dotGeneral (F := Ideal) (φ₁ := .f32) (φ₂ := .f32) Cert.Reference2Ideal.dot_S128x4x1024_S1024x11296_S128x4x11296_2_0_01_1_n_n none s w := by
  funext i
  idx_vars i
  rw [sampleOf_at, back_at, ref_sample]
  refine Finset.sum_congr rfl fun k _ => ?_
  exact congrArg₂ (· * ·) (rows_sample x s i0 i1 k) (cols_at w k i2)
end Cert.Kernel2Ideal.Value
end
-- ==== Proof.ProjConv.lean ====
/- The input projection's last rows of the convolved columns: what the lines after the launch take of its result. -/
module

public import proofs.«01_k».proof.Proof.ProjRead

@[expose] public section
set_option maxRecDepth 16384
set_option maxHeartbeats 1600000
noncomputable section
namespace Cert.Kernel2Ideal.Value
open Cert.Kernel2Ideal Cert.Kernel2Ideal.Gen Idealize.ShloMosaic Idealize.ShloMosaic.TcCoe Idealize.SL.Sem

/-- The rows taken for the prompt, before an index below zero is counted from the end. -/
def last8 : Vec Ideal S24 .i32 :=
  shapeCast S24 (addi (broadcastInDim S8x3 ![0, 1] bcast_S8x1_S8x3_0_1 (addi (broadcastInDim S8x1 ![] bcast_S_S8x1 (constantI S_ 32 0#32))
      (muli (broadcastInDim S8x1 ![0] bcast_S8_S8x1_0 (iotaInDim S8 32 0)) (broadcastInDim S8x1 ![] bcast_S_S8x1 (constantI S_ 32 2048#32)))))
    (broadcastInDim S8x3 ![0, 1] bcast_S1x3_S8x3_0_1 (broadcastInDim S1x3 ![1] bcast_S3_S1x3_1
      (addi (broadcastInDim S3 ![] bcast_S_S3 (constantI S_ 32 2045#32)) (iotaInDim S3 32 0))))) shapeCasts_S8x3_S24

/-- The rows taken for the prompt: the last three of every sequence. -/
def pick8 : Vec Ideal S24x1 .i32 :=
  broadcastInDim S24x1 ![0] bcast_S24_S24x1_0 (select (cmpi .slt last8 (broadcastInDim S24 ![] bcast_S_S24 (constantI S_ 32 0#32)))
    (addi last8 (broadcastInDim S24 ![] bcast_S_S24 (constantI S_ 32 17408#32))) last8)

/-- The rows taken for the samples, before an index below zero is counted from the end. -/
def last128 : Vec Ideal S384 .i32 :=
  shapeCast S384 (addi (broadcastInDim S128x3 ![0, 1] bcast_S128x1_S128x3_0_1 (addi (broadcastInDim S128x1 ![] bcast_S_S128x1 (constantI S_ 32 16384#32))
      (muli (broadcastInDim S128x1 ![0] bcast_S128_S128x1_0 (iotaInDim S128 32 0)) (broadcastInDim S128x1 ![] bcast_S_S128x1 (constantI S_ 32 8#32)))))
    (broadcastInDim S128x3 ![0, 1] bcast_S1x3_S128x3_0_1 (broadcastInDim S1x3 ![1] bcast_S3_S1x3_1
      (addi (broadcastInDim S3 ![] bcast_S_S3 (constantI S_ 32 1#32)) (iotaInDim S3 32 0))))) shapeCasts_S128x3_S384

/-- The rows taken for the samples: the last three of every sample's four. -/
def pick128 : Vec Ideal S384x1 .i32 :=
  broadcastInDim S384x1 ![0] bcast_S384_S384x1_0 (select (cmpi .slt last128 (broadcastInDim S384 ![] bcast_S_S384 (constantI S_ 32 0#32)))
    (addi last128 (broadcastInDim S384 ![] bcast_S_S384 (constantI S_ 32 17408#32))) last128)

/-- The prompt's convolution state, of the launch's result. -/
def promptConv (p : Vec Ideal S17408x11776 .f32) : Vec Ideal S8x3x3072 .f32 :=
  shapeCast S8x3x3072 (extractStridedSlice S24x3072 ![0, 6144] (Host.gather gather_S17408x11776_S24x1_S24x11776_1_0_n_n_0_1_111776 p pick8)
    slices_S24x11776_S24x3072_0_6144) shapeCasts_S24x3072_S8x3x3072

/-- The samples' convolution state, of the launch's result. -/
def sampleConv (p : Vec Ideal S17408x11776 .f32) : Vec Ideal S128x3x3072 .f32 :=
  shapeCast S128x3x3072 (extractStridedSlice S384x3072 ![0, 6144] (Host.gather gather_S17408x11776_S384x1_S384x11776_1_0_n_n_0_1_111776 p pick128)
    slices_S384x11776_S384x3072_0_6144) shapeCasts_S384x3072_S128x3x3072

theorem tail_54 (W : Valuation τ sig (Elt Ideal)) : StableHlo.after hostOps1 W (Proc.devRef .tc main_v54) = promptConv (W (Proc.devRef .tc main_v19)) := by
  simp only [hostOps1]
  after_results_simp
  rfl

theorem tail_77 (W : Valuation τ sig (Elt Ideal)) : StableHlo.after hostOps1 W (Proc.devRef .tc main_v77) = sampleConv (W (Proc.devRef .tc main_v19)) := by
  simp only [hostOps1]
  after_results_simp
  rfl

/-- What a row number picks out of the launch's rows, and where it stands. -/
theorem pick8_at (r : Fin 24) : (pick8 (ix2 r 0)).toInt.toNat = 2048 * (r.val / 3) + 2045 + r.val % 3 := by
  revert r; decide +kernel

theorem pick128_at (r : Fin 384) : (pick128 (ix2 r 0)).toInt.toNat = 16384 + 8 * (r.val / 3) + 1 + r.val % 3 := by
  revert r; decide +kernel

/-- Rows taken by number, read at an index. -/
theorem take24_at (p : Vec Ideal S17408x11776 .f32) (i : Vec Ideal S24x1 .i32) (r : Fin 24) (q : Fin 11776) :
    Host.gather gather_S17408x11776_S24x1_S24x11776_1_0_n_n_0_1_111776 p i (ix2 r q) = p (ix2 ⟨min (i (ix2 r 0)).toInt.toNat 17407, by omega⟩ q) := by
  unfold Host.gather
  refine congrArg p ?_
  funext a
  refine Fin.ext ?_
  show GatherDims.start _ _ _ a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S17408x11776_S24x1_S24x11776_1_0_n_n_0_1_111776.startIndexMap from List.mem_singleton.mpr rfl)]
    have hsi : gather_S17408x11776_S24x1_S24x11776_1_0_n_n_0_1_111776.siIdx (ix2 r q) ⟨List.idxOf (0 : Fin 2) gather_S17408x11776_S24x1_S24x11776_1_0_n_n_0_1_111776.startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  · have h0 : GatherDims.start gather_S17408x11776_S24x1_S24x11776_1_0_n_n_0_1_111776 (ix2 r q) i (1 : Fin 2) = 0 := by
      unfold GatherDims.start
      rw [dif_neg (show ¬ (1 : Fin 2) ∈ gather_S17408x11776_S24x1_S24x11776_1_0_n_n_0_1_111776.startIndexMap from by decide)]
    rw [h0]
    simp only [Nat.zero_add, Nat.add_zero]
    rfl

/-- Rows taken by number, read at an index. -/
theorem take384_at (p : Vec Ideal S17408x11776 .f32) (i : Vec Ideal S384x1 .i32) (r : Fin 384) (q : Fin 11776) :
    Host.gather gather_S17408x11776_S384x1_S384x11776_1_0_n_n_0_1_111776 p i (ix2 r q) = p (ix2 ⟨min (i (ix2 r 0)).toInt.toNat 17407, by omega⟩ q) := by
  unfold Host.gather
  refine congrArg p ?_
  funext a
  refine Fin.ext ?_
  show GatherDims.start _ _ _ a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S17408x11776_S384x1_S384x11776_1_0_n_n_0_1_111776.startIndexMap from List.mem_singleton.mpr rfl)]
    have hsi : gather_S17408x11776_S384x1_S384x11776_1_0_n_n_0_1_111776.siIdx (ix2 r q) ⟨List.idxOf (0 : Fin 2) gather_S17408x11776_S384x1_S384x11776_1_0_n_n_0_1_111776.startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  · have h0 : GatherDims.start gather_S17408x11776_S384x1_S384x11776_1_0_n_n_0_1_111776 (ix2 r q) i (1 : Fin 2) = 0 := by
      unfold GatherDims.start
      rw [dif_neg (show ¬ (1 : Fin 2) ∈ gather_S17408x11776_S384x1_S384x11776_1_0_n_n_0_1_111776.startIndexMap from by decide)]
    rw [h0]
    simp only [Nat.zero_add, Nat.add_zero]
    rfl

/-- The prompt's convolution state at an index: the launch's result at the sequence's last rows. -/
theorem promptConv_at (p : Vec Ideal S17408x11776 .f32) (b : Fin 8) (j : Fin 3) (q : Fin 3072) :
    promptConv p (ix3 b j q) = p (ix2 ⟨2048 * b.val + (2045 + j.val), by omega⟩ ⟨6144 + q.val, by omega⟩) := by
  have hz : ∀ z : Vec Ideal S24x11776 .f32, shapeCast S8x3x3072 (extractStridedSlice S24x3072 ![0, 6144] z slices_S24x11776_S24x3072_0_6144)
      shapeCasts_S24x3072_S8x3x3072 (ix3 b j q) = z (ix2 ⟨3 * b.val + j.val, by omega⟩ ⟨6144 + q.val, by omega⟩) := by
    intro z
    pointwise
    exact congrArg (fun k => z (ix2 k ⟨6144 + q.val, by omega⟩)) (Fin.ext (by simp; omega))
  unfold promptConv
  rw [hz, take24_at]
  refine congrArg (fun k => p (ix2 k ⟨6144 + q.val, by omega⟩)) (Fin.ext ?_)
  show min _ _ = _
  rw [pick8_at]
  simp
  omega

/-- The samples' convolution state at an index: the launch's result at the sample's last rows. -/
theorem sampleConv_at (p : Vec Ideal S17408x11776 .f32) (b : Fin 128) (j : Fin 3) (q : Fin 3072) :
    sampleConv p (ix3 b j q) = p (ix2 ⟨16384 + 8 * b.val + (1 + j.val), by omega⟩ ⟨6144 + q.val, by omega⟩) := by
  have hz : ∀ z : Vec Ideal S384x11776 .f32, shapeCast S128x3x3072 (extractStridedSlice S384x3072 ![0, 6144] z slices_S384x11776_S384x3072_0_6144)
      shapeCasts_S384x3072_S128x3x3072 (ix3 b j q) = z (ix2 ⟨3 * b.val + j.val, by omega⟩ ⟨6144 + q.val, by omega⟩) := by
    intro z
    pointwise
    exact congrArg (fun k => z (ix2 k ⟨6144 + q.val, by omega⟩)) (Fin.ext (by simp; omega))
  unfold sampleConv
  rw [hz, take384_at]
  refine congrArg (fun k => p (ix2 k ⟨6144 + q.val, by omega⟩)) (Fin.ext ?_)
  show min _ _ = _
  rw [pick128_at]
  simp
  omega

end Cert.Kernel2Ideal.Value
end
-- ==== Proof.ProjRun.lean ====
/- The projection's results after the run, the convolution state among them. -/
module

public import proofs.«01_k».proof.Proof.ProjConv

@[expose] public section
set_option maxRecDepth 16384
set_option maxHeartbeats 1600000
noncomputable section
namespace Cert.Kernel2Ideal.Value
open Cert.Kernel2Ideal Cert.Kernel2Ideal.Gen Idealize.ShloMosaic Idealize.ShloMosaic.TcCoe Idealize.SL.Sem

/-- A slice of the prompt's result, read at an index. -/
theorem slice8_at (z : Vec Ideal S8x2048x11296 .f32) (b : Fin 8) (j : Fin 3) (q : Fin 3072) (t : Fin 2048) (k : Fin 11296) (ht : t.val = 2045 + j.val) (hk : k.val = 6144 + q.val) :
    extractStridedSlice S8x3x3072 ![0, 2045, 6144] z Cert.Reference2Ideal.Facts₀.slices_S8x2048x11296_S8x3x3072_0_2045_6144 (ix3 b j q) = z (ix3 b t k) := by
  refine congrArg z ?_
  blk_ext
  all_goals simp
  all_goals omega

/-- The prompt's convolution state is the last rows of the prompt's result. -/
theorem promptConv_eq (p : Vec Ideal S17408x11776 .f32) :
    promptConv p = extractStridedSlice S8x3x3072 ![0, 2045, 6144] (promptOf p) Cert.Reference2Ideal.Facts₀.slices_S8x2048x11296_S8x3x3072_0_2045_6144 := by
  funext i
  idx_vars i
  obtain ⟨t, ht⟩ : ∃ t : Fin 2048, t.val = 2045 + i1.val := ⟨⟨2045 + i1.val, by omega⟩, rfl⟩
  obtain ⟨k, hk⟩ : ∃ k : Fin 11296, k.val = 6144 + i2.val := ⟨⟨6144 + i2.val, by omega⟩, rfl⟩
  have hp : place k.val = k.val := if_pos (by omega)
  rw [promptConv_at, slice8_at _ i0 i1 i2 t k ht hk, promptOf_at, back_at]
  refine congrArg₂ (fun r c => p (ix2 r c)) (Fin.ext ?_) (Fin.ext ?_)
  · simp only [ht]
  · exact hk.symm.trans hp.symm

/-- A slice of the samples' result, read at an index. -/
theorem slice128_at (z : Vec Ideal S128x4x11296 .f32) (b : Fin 128) (j : Fin 3) (q : Fin 3072) (t : Fin 4) (k : Fin 11296) (ht : t.val = 1 + j.val) (hk : k.val = 6144 + q.val) :
    extractStridedSlice S128x3x3072 ![0, 1, 6144] z Cert.Reference2Ideal.Facts₀.slices_S128x4x11296_S128x3x3072_0_1_6144 (ix3 b j q) = z (ix3 b t k) := by
  refine congrArg z ?_
  blk_ext
  all_goals simp
  all_goals omega

/-- The samples' convolution state is the last rows of the samples' result. -/
theorem sampleConv_eq (p : Vec Ideal S17408x11776 .f32) :
    sampleConv p = extractStridedSlice S128x3x3072 ![0, 1, 6144] (sampleOf p) Cert.Reference2Ideal.Facts₀.slices_S128x4x11296_S128x3x3072_0_1_6144 := by
  funext i
  idx_vars i
  obtain ⟨t, ht⟩ : ∃ t : Fin 4, t.val = 1 + i1.val := ⟨⟨1 + i1.val, by omega⟩, rfl⟩
  obtain ⟨k, hk⟩ : ∃ k : Fin 11296, k.val = 6144 + i2.val := ⟨⟨6144 + i2.val, by omega⟩, rfl⟩
  have hp : place k.val = k.val := if_pos (by omega)
  rw [sampleConv_at, slice128_at _ i0 i1 i2 t k ht hk, sampleOf_at, back_at]
  refine congrArg₂ (fun r c => p (ix2 r c)) (Fin.ext ?_) (Fin.ext ?_)
  · simp only [ht]
  · exact hk.symm.trans hp.symm

variable (m : (ℓ : Loc nD τ sig) → Buf (Elt Ideal) ℓ)

/-- The four results after the run. -/
theorem run_four (ρ : Dev nD → PrngReg) : θ_run defs (onTc (τ := τ) (main (F := Ideal))) ⟨m, fun _ => 0, ρ⟩ (fun r => ∀ c : Dev nD,
      r.2.mem ((c.tc : Thread nD τ).loc main_v28) = promptOf ((dats m 0 c).arrAt 2 cfg0.N)
      ∧ r.2.mem ((c.tc : Thread nD τ).loc main_v31) = sampleOf ((dats m 0 c).arrAt 2 cfg0.N)
      ∧ r.2.mem ((c.tc : Thread nD τ).loc main_v54) = promptConv ((dats m 0 c).arrAt 2 cfg0.N)
      ∧ r.2.mem ((c.tc : Thread nD τ).loc main_v77) = sampleConv ((dats m 0 c).arrAt 2 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨(h.2 c).1, (h.2 c).2.1, ?_, ?_, (h.2 c).2.2⟩) (θ_run_and (run_main m ρ) (run_results m ρ))
  · refine ((h.1 c).2 main_v54 (Pipeline.mem_restRefs_of main_v54 (by decide) (by decide))).trans ?_
    unfold Pipeline.afterTail₀
    refine (tail_54 _).trans (congrArg promptConv ?_)
    exact Pipeline.withArrays_arr spec0 launch0.win.arr_inj c _ _ 2
  · refine ((h.1 c).2 main_v77 (Pipeline.mem_restRefs_of main_v77 (by decide) (by decide))).trans ?_
    unfold Pipeline.afterTail₀
    refine (tail_77 _).trans (congrArg sampleConv ?_)
    exact Pipeline.withArrays_arr spec0 launch0.win.arr_inj c _ _ 2

end Cert.Kernel2Ideal.Value
end
-- ==== Proof.MixEntry.lean ====
/- The merge's operand arrays and results, in terms of the kernel's arguments. -/
module

public import proofs.«01_k».proof.Proof.Gen.Kernel3Ideal.Frame
public import proofs.«01_k».proof.Proof.ProjRead
public import Idealize.ShloMosaic.Lib.Claim
public import Idealize.ShloMosaic.Lib.Pipeline.ValueKit

@[expose] public section
set_option maxRecDepth 16384
set_option maxHeartbeats 3200000
noncomputable section
namespace Cert.Kernel3Ideal.Value
open Cert.Kernel3Ideal Cert.Kernel3Ideal.Gen Idealize.ShloMosaic Idealize.ShloMosaic.TcCoe Idealize.SL.Sem
open Cert.Kernel2Ideal.Value (rows)

/-- Prompt rows above sample rows, of 2048 columns. -/
def catY (a : Vec Ideal S16384x2048 .f32) (b : Vec Ideal S1024x2048 .f32) : Vec Ideal S17408x2048 .f32 :=
  concatenate S17408x2048 0 [⟨S16384x2048, a⟩, ⟨S1024x2048, b⟩] concatenates_S16384x2048_S1024x2048_S17408x2048_d0

/-- The rows of 2048 columns: the prompt's, then the samples', each sample's four rows with room for eight. -/
def rowsY (x : Vec Ideal S8x2048x2048 .f32) (s : Vec Ideal S128x4x2048 .f32) : Vec Ideal S17408x2048 .f32 :=
  catY (shapeCast S16384x2048 x shapeCasts_S8x2048x2048_S16384x2048)
    (shapeCast S1024x2048 (pad S128x8x2048 ![0, 0, 0] ![0, 4, 0] ![0, 0, 0] s (sitofp (F := Ideal) FTy.f32 (constantI S_ 32 0#32))
      pads_S128x4x2048_S128x8x2048_000_040_000 h_S_) shapeCasts_S128x8x2048_S1024x2048)

/-- Prompt rows above sample rows, of the projection's columns. -/
def catW (a : Vec Ideal S16384x11296 .f32) (b : Vec Ideal S1024x11296 .f32) : Vec Ideal S17408x11296 .f32 :=
  concatenate S17408x11296 0 [⟨S16384x11296, a⟩, ⟨S1024x11296, b⟩] concatenates_S16384x11296_S1024x11296_S17408x11296_d0

/-- The projected rows: the prompt's, then the samples', each sample's four rows with room for eight. -/
def rowsW (x : Vec Ideal S8x2048x11296 .f32) (s : Vec Ideal S128x4x11296 .f32) : Vec Ideal S17408x11296 .f32 :=
  catW (shapeCast S16384x11296 x shapeCasts_S8x2048x11296_S16384x11296)
    (shapeCast S1024x11296 (pad S128x8x11296 ![0, 0, 0] ![0, 4, 0] ![0, 0, 0] s (sitofp (F := Ideal) FTy.f32 (constantI S_ 32 0#32))
      pads_S128x4x11296_S128x8x11296_000_040_000 h_S_) shapeCasts_S128x8x11296_S1024x11296)

/-- Nine stretches of columns laid side by side. -/
def cat9 (a0 a1 a2 a3 : Vec Ideal S17408x1024 .f32) (a4 : Vec Ideal S17408x2048 .f32) (a5 : Vec Ideal S17408x3072 .f32)
    (a6 a7 : Vec Ideal S17408x1024 .f32) (a8 : Vec Ideal S17408x512 .f32) : Vec Ideal S17408x11776 .f32 :=
  concatenate S17408x11776 1 [⟨S17408x1024, a0⟩, ⟨S17408x1024, a1⟩, ⟨S17408x1024, a2⟩, ⟨S17408x1024, a3⟩, ⟨S17408x2048, a4⟩,
    ⟨S17408x3072, a5⟩, ⟨S17408x1024, a6⟩, ⟨S17408x1024, a7⟩, ⟨S17408x512, a8⟩]
    concatenates_S17408x1024_S17408x1024_S17408x1024_S17408x1024_S17408x2048_S17408x3072_S17408x1024_S17408x1024_S17408x512_S17408x11776_d1

/-- The projected rows with their columns in the order the launch reads them. -/
def cols (w : Vec Ideal S17408x11296 .f32) : Vec Ideal S17408x11776 .f32 :=
  cat9 (extractStridedSlice S17408x1024 ![0, 0] w slices_S17408x11296_S17408x1024_0_0)
    (extractStridedSlice S17408x1024 ![0, 1024] w slices_S17408x11296_S17408x1024_0_1024)
    (extractStridedSlice S17408x1024 ![0, 2048] w slices_S17408x11296_S17408x1024_0_2048)
    (extractStridedSlice S17408x1024 ![0, 3072] w slices_S17408x11296_S17408x1024_0_3072)
    (extractStridedSlice S17408x2048 ![0, 4096] w slices_S17408x11296_S17408x2048_0_4096)
    (extractStridedSlice S17408x3072 ![0, 6144] w slices_S17408x11296_S17408x3072_0_6144)
    (extractStridedSlice S17408x1024 ![0, 9248] w slices_S17408x11296_S17408x1024_0_9248)
    (extractStridedSlice S17408x1024 ![0, 10272] w slices_S17408x11296_S17408x1024_0_10272)
    (shapeCast S17408x512 (pad S17408x4x128 ![0, 0, 0] ![0, 0, 120] ![0, 0, 0]
      (shapeCast S17408x4x8 (extractStridedSlice S17408x32 ![0, 9216] w slices_S17408x11296_S17408x32_0_9216) shapeCasts_S17408x32_S17408x4x8)
      (sitofp (F := Ideal) FTy.f32 (constantI S_ 32 0#32)) pads_S17408x4x8_S17408x4x128_000_000_01200 h_S_) shapeCasts_S17408x4x128_S17408x512)

/-- The router's weight with room for 128 experts. -/
def wide (w : Vec Ideal S1024x32 .f32) : Vec Ideal S1024x128 .f32 :=
  pad S1024x128 ![0, 0] ![0, 96] ![0, 0] w (sitofp (F := Ideal) FTy.f32 (constantI S_ 32 0#32)) pads_S1024x32_S1024x128_000_0960 h_S_

/-- The router's bias with room for 128 experts. -/
def wideB (b : Vec Ideal S32 .f32) : Vec Ideal S1x128 .f32 :=
  shapeCast S1x128 (pad S128 ![0] ![96] ![0] b (sitofp (F := Ideal) FTy.f32 (constantI S_ 32 0#32)) pads_S32_S128_0960 h_S_) shapeCasts_S128_S1x128

/-- The prompt's rows of a result. -/
def promptOf (p : Vec Ideal S17408x1024 .f32) : Vec Ideal S8x2048x1024 .f32 :=
  shapeCast S8x2048x1024 (extractStridedSlice S16384x1024 ![0, 0] p slices_S17408x1024_S16384x1024_0_0) shapeCasts_S16384x1024_S8x2048x1024

/-- The samples' rows of a result. -/
def sampleOf (p : Vec Ideal S17408x1024 .f32) : Vec Ideal S128x4x1024 .f32 :=
  extractStridedSlice S128x4x1024 ![0, 0, 0] (shapeCast S128x8x1024 (extractStridedSlice S1024x1024 ![16384, 0] p slices_S17408x1024_S1024x1024_16384_0)
    shapeCasts_S1024x1024_S128x8x1024) slices_S128x8x1024_S128x4x1024_0_0_0

/-- The rows of the result laid out in tiles. -/
def flat3 (p : Vec Ideal S17408x8x128 .f32) : Vec Ideal S17408x1024 .f32 := shapeCast S17408x1024 p shapeCasts_S17408x8x128_S17408x1024

/-- The router's numbers of the prompt's rows. -/
def promptLg (p : Vec Ideal S17408x128 .f32) : Vec Ideal S8x2048x32 .f32 :=
  shapeCast S8x2048x32 (extractStridedSlice S16384x32 ![0, 0] (extractStridedSlice S17408x32 ![0, 0] p slices_S17408x128_S17408x32_0_0) slices_S17408x32_S16384x32_0_0) shapeCasts_S16384x32_S8x2048x32

/-- The router's numbers of the samples' rows. -/
def sampleLg (p : Vec Ideal S17408x128 .f32) : Vec Ideal S128x4x32 .f32 :=
  extractStridedSlice S128x4x32 ![0, 0, 0] (shapeCast S128x8x32 (extractStridedSlice S1024x32 ![16384, 0] (extractStridedSlice S17408x32 ![0, 0] p slices_S17408x128_S17408x32_0_0) slices_S17408x32_S1024x32_16384_0)
    shapeCasts_S1024x32_S128x8x32) slices_S128x8x32_S128x4x32_0_0_0

variable (m : (ℓ : Loc nD τ sig) → Buf (Elt Ideal) ℓ)

/-- The launch's two blocks of the first branch's rows, of the second branch's rows, and the layer's input. -/
theorem V_13 (c : Dev nD) : V m c main_v13 = extractStridedSlice S16384x1024 ![0, 0] (rows (m ((c : Thread nD τ).loc main_arg0)) (m ((c : Thread nD τ).loc main_arg1))) slices_S17408x1024_S16384x1024_0_0 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  after_results_simp
  rfl

theorem V_14 (c : Dev nD) : V m c main_v14 = extractStridedSlice S1024x1024 ![16384, 0] (rows (m ((c : Thread nD τ).loc main_arg0)) (m ((c : Thread nD τ).loc main_arg1))) slices_S17408x1024_S1024x1024_16384_0 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  after_results_simp
  rfl

theorem V_15 (c : Dev nD) : V m c main_v15 = extractStridedSlice S16384x2048 ![0, 0] (rowsY (m ((c : Thread nD τ).loc main_arg2)) (m ((c : Thread nD τ).loc main_arg3))) slices_S17408x2048_S16384x2048_0_0 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  after_results_simp
  rfl

theorem V_16 (c : Dev nD) : V m c main_v16 = extractStridedSlice S1024x2048 ![16384, 0] (rowsY (m ((c : Thread nD τ).loc main_arg2)) (m ((c : Thread nD τ).loc main_arg3))) slices_S17408x2048_S1024x2048_16384_0 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  after_results_simp
  rfl

theorem V_37 (c : Dev nD) : V m c main_v37 = rows (m ((c : Thread nD τ).loc main_arg6)) (m ((c : Thread nD τ).loc main_arg7)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  after_results_simp
  rfl

/-- The launch's projected rows. -/
theorem V_33 (c : Dev nD) : V m c main_v33 = cols (rowsW (m ((c : Thread nD τ).loc main_arg4)) (m ((c : Thread nD τ).loc main_arg5))) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  after_results_simp
  refine (show cat9 _ _ _ _ _ _ _ _ _ = _ from ?_)
  simp only [Matrix.cons_val]
  after_results_simp
  rfl

/-- The three projections' weights. -/
theorem V_38 (c : Dev nD) : V m c main_v38 = truncf (F := Ideal) (φ := .f32) .bf16 (m ((c : Thread nD τ).loc main_arg8)) bitsLt_bf16_f32 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  after_results_simp

theorem V_39 (c : Dev nD) : V m c main_v39 = truncf (F := Ideal) (φ := .f32) .bf16 (m ((c : Thread nD τ).loc main_arg9)) bitsLt_bf16_f32 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  after_results_simp

theorem V_40 (c : Dev nD) : V m c main_v40 = truncf (F := Ideal) (φ := .f32) .bf16 (m ((c : Thread nD τ).loc main_arg10)) bitsLt_bf16_f32 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  after_results_simp

/-- The norm's weights. -/
theorem V_41 (c : Dev nD) : V m c main_v41 = shapeCast S1x1024 (m ((c : Thread nD τ).loc main_arg11)) shapeCasts_S1024_S1x1024 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  after_results_simp
  rfl

theorem V_42 (c : Dev nD) : V m c main_v42 = shapeCast S1x1024 (m ((c : Thread nD τ).loc main_arg12)) shapeCasts_S1024_S1x1024 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  after_results_simp
  rfl

/-- The router's weight, its rounding and what the rounding leaves, and the router's bias. -/
theorem V_1 (c : Dev nD) : V m c main_v1 = truncf (F := Ideal) .bf16 (wide (m ((c : Thread nD τ).loc main_arg13))) bitsLt_bf16_f32 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  after_results_simp
  rfl

theorem V_4 (c : Dev nD) : V m c main_v4 = truncf (F := Ideal) .bf16 (subf (wide (m ((c : Thread nD τ).loc main_arg13)))
    (extf (F := Ideal) .f32 (truncf (F := Ideal) .bf16 (wide (m ((c : Thread nD τ).loc main_arg13))) bitsLt_bf16_f32) bitsLt_bf16_f32)) bitsLt_bf16_f32 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  after_results_simp
  rfl

theorem V_44 (c : Dev nD) : V m c main_v44 = wideB (m ((c : Thread nD τ).loc main_arg14)) := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  after_results_simp
  rfl

/-- The lines after the launch, from any contents that hold the launch's results. -/
theorem tail_47 (W : Valuation τ sig (Elt Ideal)) : StableHlo.after hostOps1 W (Proc.devRef .tc main_v47) = promptOf (W (Proc.devRef .tc main_v45_0)) := by
  simp only [hostOps1]; after_results_simp; rfl

theorem tail_50 (W : Valuation τ sig (Elt Ideal)) : StableHlo.after hostOps1 W (Proc.devRef .tc main_v50) = sampleOf (W (Proc.devRef .tc main_v45_0)) := by
  simp only [hostOps1]; after_results_simp; rfl

theorem tail_53 (W : Valuation τ sig (Elt Ideal)) : StableHlo.after hostOps1 W (Proc.devRef .tc main_v53) = promptOf (flat3 (W (Proc.devRef .tc main_v45_1))) := by
  simp only [hostOps1]; after_results_simp; rfl

theorem tail_56 (W : Valuation τ sig (Elt Ideal)) : StableHlo.after hostOps1 W (Proc.devRef .tc main_v56) = sampleOf (flat3 (W (Proc.devRef .tc main_v45_1))) := by
  simp only [hostOps1]; after_results_simp; rfl

theorem tail_59 (W : Valuation τ sig (Elt Ideal)) : StableHlo.after hostOps1 W (Proc.devRef .tc main_v59) = promptLg (W (Proc.devRef .tc main_v45_2)) := by
  simp only [hostOps1]; after_results_simp; rfl

theorem tail_62 (W : Valuation τ sig (Elt Ideal)) : StableHlo.after hostOps1 W (Proc.devRef .tc main_v62) = sampleLg (W (Proc.devRef .tc main_v45_2)) := by
  simp only [hostOps1]; after_results_simp; rfl

/-- The lines after the launch start from each array's contents at the launch's end. -/
theorem at_exit (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  (dats m 0 c).withArrays_arrAt launch₀0.sharedIn (V0 m c) (A_eq m c) w

/-- The results after the run. -/
theorem run_results (ρ : Dev nD → PrngReg) : θ_run defs (onTc (τ := τ) (main (F := Ideal))) ⟨m, fun _ => 0, ρ⟩ (fun r => ∀ c : Dev nD,
      (r.2.mem ((c.tc : Thread nD τ).loc main_v47) = promptOf ((dats m 0 c).arrAt 15 cfg0.N)
      ∧ r.2.mem ((c.tc : Thread nD τ).loc main_v50) = sampleOf ((dats m 0 c).arrAt 15 cfg0.N)
      ∧ r.2.mem ((c.tc : Thread nD τ).loc main_v53) = promptOf (flat3 ((dats m 0 c).arrAt 16 cfg0.N))
      ∧ r.2.mem ((c.tc : Thread nD τ).loc main_v56) = sampleOf (flat3 ((dats m 0 c).arrAt 16 cfg0.N))
      ∧ r.2.mem ((c.tc : Thread nD τ).loc main_v59) = promptLg ((dats m 0 c).arrAt 17 cfg0.N)
      ∧ r.2.mem ((c.tc : Thread nD τ).loc main_v62) = sampleLg ((dats m 0 c).arrAt 17 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine (θ_run defs _ _).mono (fun r h c => ⟨⟨?_, ?_, ?_, ?_, ?_, ?_⟩, h.2 c⟩) (θ_run_and (run_main m ρ) (unchanged m ρ))
  · refine ((h.1 c).2 main_v47 (Pipeline.mem_restRefs_of main_v47 (by decide) (by decide))).trans ?_
    unfold Pipeline.afterTail₀
    exact (tail_47 _).trans (congrArg promptOf (at_exit m c 15))
  · refine ((h.1 c).2 main_v50 (Pipeline.mem_restRefs_of main_v50 (by decide) (by decide))).trans ?_
    unfold Pipeline.afterTail₀
    exact (tail_50 _).trans (congrArg sampleOf (at_exit m c 15))
  · refine ((h.1 c).2 main_v53 (Pipeline.mem_restRefs_of main_v53 (by decide) (by decide))).trans ?_
    unfold Pipeline.afterTail₀
    exact (tail_53 _).trans (congrArg (fun z => promptOf (flat3 z)) (at_exit m c 16))
  · refine ((h.1 c).2 main_v56 (Pipeline.mem_restRefs_of main_v56 (by decide) (by decide))).trans ?_
    unfold Pipeline.afterTail₀
    exact (tail_56 _).trans (congrArg (fun z => sampleOf (flat3 z)) (at_exit m c 16))
  · refine ((h.1 c).2 main_v59 (Pipeline.mem_restRefs_of main_v59 (by decide) (by decide))).trans ?_
    unfold Pipeline.afterTail₀
    exact (tail_59 _).trans (congrArg promptLg (at_exit m c 17))
  · refine ((h.1 c).2 main_v62 (Pipeline.mem_restRefs_of main_v62 (by decide) (by decide))).trans ?_
    unfold Pipeline.afterTail₀
    exact (tail_62 _).trans (congrArg sampleLg (at_exit m c 17))

end Cert.Kernel3Ideal.Value
end
-- ==== Proof.Mix.lean ====
/- One row of the merge of the two branches: the projections, the gates, the residual, the layer norm and the router. -/
module

public import proofs.«01_k».proof.Proof.Real

@[expose] public section

noncomputable section

namespace Cert.Mix

open Idealize.ShloMosaic Cert.Rec

/-- The layer norm of a row. -/
def lnorm (z g b : Fin 1024 → EReal) (j : Fin 1024) : EReal :=
  (z j - Ideal.div (∑ k, z k) (Ideal.ofBits .f32 0x44800000#32))
    * Ideal.rsqrt (Ideal.div (∑ k, (z k - Ideal.div (∑ k, z k) (Ideal.ofBits .f32 0x44800000#32)) * (z k - Ideal.div (∑ k, z k) (Ideal.ofBits .f32 0x44800000#32)))
        (Ideal.ofBits .f32 0x44800000#32) + Ideal.ofBits .f32 0x3727C5AC#32) * g j + b j

/-- The gated sum of the branches' projections. -/
def merged (o : Fin 1024 → EReal) (y : Fin 2048 → EReal) (ga gb : Fin 1024 → EReal) (hg : Fin 1024 → Fin 1024 → EReal) (sp : Fin 2048 → Fin 1024 → EReal)
    (j : Fin 1024) : EReal :=
  Ideal.logistic (ga j) * (∑ k, o k * hg k j) + Ideal.logistic (gb j) * ∑ k, y k * sp k j

/-- The residual added to its projection. -/
def resid (x u : Fin 1024 → EReal) (wo : Fin 1024 → Fin 1024 → EReal) (j : Fin 1024) : EReal :=
  Ideal.ofBits .f32 0x3FB504F3#32 * x j + ∑ k, u k * wo k j

/-- The row after the norm. -/
def hrow (o : Fin 1024 → EReal) (y : Fin 2048 → EReal) (ga gb x : Fin 1024 → EReal) (hg : Fin 1024 → Fin 1024 → EReal) (sp : Fin 2048 → Fin 1024 → EReal)
    (wo : Fin 1024 → Fin 1024 → EReal) (g b : Fin 1024 → EReal) : Fin 1024 → EReal :=
  lnorm (resid x (merged o y ga gb hg sp) wo) g b

/-- The router's number for one expert. -/
def route (h rw : Fin 1024 → EReal) (rb : EReal) : EReal := (∑ k, h k * rw k) + rb

/-- The logistic function by the hyperbolic tangent, at every extended real. -/
theorem sigm (z : EReal) : ((1 / 2 : ℝ) : EReal) * Ideal.tanh (((1 / 2 : ℝ) : EReal) * z) + ((1 / 2 : ℝ) : EReal) = Ideal.logistic z := by
  have hp : (0 : ℝ) < 1 / 2 := by norm_num
  induction z using EReal.rec with
  | bot =>
    rw [EReal.coe_mul_bot_of_pos hp, Ideal.logistic, EReal.neg_bot]
    show ((1 / 2 : ℝ) : EReal) * (-1) + ((1 / 2 : ℝ) : EReal) = Ideal.div 1 (1 + ⊤)
    have h1 : ((1 / 2 : ℝ) : EReal) * (-1) + ((1 / 2 : ℝ) : EReal) = 0 := by
      rw [show (-1 : EReal) = ((-1 : ℝ) : EReal) by simp, ← EReal.coe_mul, ← EReal.coe_add]; norm_num
    have h2 : (1 : EReal) + ⊤ = ⊤ := rfl
    rw [h1, h2, Ideal.div, if_neg (by simp), EReal.inv_top]; simp
  | top =>
    rw [EReal.coe_mul_top_of_pos hp, Ideal.logistic, EReal.neg_top]
    show ((1 / 2 : ℝ) : EReal) * 1 + ((1 / 2 : ℝ) : EReal) = Ideal.div 1 (1 + 0)
    have h1 : ((1 / 2 : ℝ) : EReal) * 1 + ((1 / 2 : ℝ) : EReal) = 1 := by
      rw [mul_one, ← EReal.coe_add]; norm_num
    rw [h1, add_zero, Ideal.div, if_neg (by simp)]; simp
  | coe r =>
    rw [← EReal.coe_mul, Ideal.logistic, ← EReal.coe_neg]
    show ((1 / 2 : ℝ) : EReal) * ((Real.tanh (1 / 2 * r) : ℝ) : EReal) + ((1 / 2 : ℝ) : EReal) = Ideal.div 1 (1 + ((Real.exp (-r) : ℝ) : EReal))
    rw [← EReal.coe_mul, ← EReal.coe_add, logistic_tanh, ← EReal.coe_one, ← EReal.coe_add, Ideal.div,
      if_neg (by rw [← EReal.coe_zero, EReal.coe_eq_coe_iff]; have := Real.exp_pos (-r); linarith), ← EReal.coe_inv, ← EReal.coe_mul]
    rw [one_div, one_mul]

/-- A number that is real. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

theorem IsReal.sub_self {x : EReal} (hx : IsReal x) : x - x = 0 := by
  obtain ⟨a, rfl⟩ := hx; rw [← EReal.coe_sub]; simp

/-- The logistic function's values are real, at the infinities too. -/
theorem logistic_real (z : EReal) : IsReal (Ideal.logistic z) := by
  rw [← sigm]
  have h : IsReal (Ideal.tanh (((1 / 2 : ℝ) : EReal) * z)) := by
    generalize ((1 / 2 : ℝ) : EReal) * z = u
    induction u using EReal.rec with
    | bot => exact ⟨-1, by show (-1 : EReal) = _; simp⟩
    | top => exact ⟨1, rfl⟩
    | coe r => exact ⟨Real.tanh r, rfl⟩
  exact IsReal.add (IsReal.mul ⟨_, rfl⟩ h) ⟨_, rfl⟩

theorem width_bits : Ideal.ofBits .f32 0x44800000#32 = ((1024 : ℝ) : EReal) := by
  simp [Ideal.ofBits, Ideal.ieee, -EReal.coe_mul]; norm_num

theorem eps_bits : ∃ e : ℝ, 0 < e ∧ Ideal.ofBits .f32 0x3727C5AC#32 = ((e : ℝ) : EReal) := by
  simp [Ideal.ofBits, Ideal.ieee, -EReal.coe_mul]

theorem scale_bits : IsReal (Ideal.ofBits .f32 0x3FB504F3#32) := by
  simp [IsReal, Ideal.ofBits, Ideal.ieee, -EReal.coe_mul]

/-- A real number over the row's width. -/
theorem div_width (r : ℝ) : Ideal.div (r : EReal) (Ideal.ofBits .f32 0x44800000#32) = ((r / 1024 : ℝ) : EReal) := by
  rw [width_bits, Ideal.div, if_neg (by rw [← EReal.coe_zero, EReal.coe_eq_coe_iff]; norm_num), ← EReal.coe_inv, ← EReal.coe_mul, div_eq_mul_inv]

/-- The norm of a real row is real. -/
theorem lnorm_real {z g b : Fin 1024 → EReal} (hz : ∀ k, IsReal (z k)) (hg : ∀ k, IsReal (g k)) (hb : ∀ k, IsReal (b k)) (j : Fin 1024) : IsReal (lnorm z g b j) := by
  have hm : IsReal (Ideal.div (∑ k, z k) (Ideal.ofBits .f32 0x44800000#32)) := by
    obtain ⟨r, hr⟩ := IsReal.sum (s := Finset.univ) hz
    rw [hr, div_width]; exact ⟨_, rfl⟩
  unfold lnorm
  generalize Ideal.div (∑ k, z k) (Ideal.ofBits .f32 0x44800000#32) = mu at hm
  refine (((((hz j).sub hm)).mul ?_).mul (hg j)).add (hb j)
  obtain ⟨e, he, hbits⟩ := eps_bits
  choose zr hzr using hz
  obtain ⟨mr, rfl⟩ := hm
  have hs : (∑ k, (z k - (mr : EReal)) * (z k - (mr : EReal))) = ((∑ k, (zr k - mr) * (zr k - mr) : ℝ) : EReal) := by
    rw [coe_sum]
    refine Finset.sum_congr rfl fun k _ => ?_
    rw [hzr k, ← EReal.coe_sub, ← EReal.coe_mul]
  have hpos : 0 ≤ ∑ k, (zr k - mr) * (zr k - mr) := Finset.sum_nonneg fun k _ => mul_self_nonneg _
  rw [hs, div_width, hbits, ← EReal.coe_add]
  have hq : 0 ≤ (∑ k, (zr k - mr) * (zr k - mr)) / 1024 := by positivity
  generalize hw : (∑ k, (zr k - mr) * (zr k - mr)) / 1024 + e = q
  have hq' : 0 < q := by linarith
  refine ⟨(Real.sqrt q)⁻¹, ?_⟩
  rw [Ideal.rsqrt_coe]
  rw [if_neg (by linarith), if_neg (by linarith)]

/-- The row after the norm is real where what it is computed of is. -/
theorem hrow_real {o : Fin 1024 → EReal} {y : Fin 2048 → EReal} {ga gb x : Fin 1024 → EReal} {hg : Fin 1024 → Fin 1024 → EReal} {sp : Fin 2048 → Fin 1024 → EReal}
    {wo : Fin 1024 → Fin 1024 → EReal} {g b : Fin 1024 → EReal} (ho : ∀ k, IsReal (o k)) (hy : ∀ k, IsReal (y k)) (hx : ∀ k, IsReal (x k)) (hhg : ∀ k j, IsReal (hg k j))
    (hsp : ∀ k j, IsReal (sp k j)) (hwo : ∀ k j, IsReal (wo k j)) (hgn : ∀ k, IsReal (g k)) (hbn : ∀ k, IsReal (b k)) (j : Fin 1024) :
    IsReal (hrow o y ga gb x hg sp wo g b j) :=
  lnorm_real (fun k => (scale_bits.mul (hx k)).add (IsReal.sum fun i => (((logistic_real _).mul (IsReal.sum fun l => (ho l).mul (hhg l i))).add
    ((logistic_real _).mul (IsReal.sum fun l => (hy l).mul (hsp l i)))).mul (hwo i k))) hgn hbn j

end Cert.Mix

end
-- ==== Proof.MixRead.lean ====
/- The merge's arrays read at an index. -/
module

public import proofs.«01_k».proof.Proof.MixEntry
public import proofs.«01_k».proof.Proof.Mix
public import Idealize.ShloMosaic.Lib.Pointwise

@[expose] public section
set_option maxRecDepth 16384
set_option maxHeartbeats 1600000
noncomputable section
namespace Cert.Kernel3Ideal.Value
open Cert.Kernel3Ideal Cert.Kernel3Ideal.Gen Cert.Mix Idealize.ShloMosaic Idealize.ShloMosaic.TcCoe Idealize.SL.Sem
open Cert.Kernel2Ideal.Value (rows)

/-- The rows of 2048 columns: two stacks, a sequence's rows, the samples' rows. -/
theorem catY_lo (a : Vec Ideal S16384x2048 .f32) (b : Vec Ideal S1024x2048 .f32) (r : Fin 17408) (h : r.val < 16384) (k : Fin 2048) : catY a b (ix2 r k) = a (ix2 ⟨r.val, h⟩ k) := by
  pointwise [catY]
  rw [dif_pos h]

theorem catY_hi (a : Vec Ideal S16384x2048 .f32) (b : Vec Ideal S1024x2048 .f32) (r : Fin 17408) (h : ¬ r.val < 16384) (k : Fin 2048) : catY a b (ix2 r k) = b (ix2 ⟨r.val - 16384, by omega⟩ k) := by
  pointwise [catY]
  rw [dif_neg h]

theorem flatY_at (x : Vec Ideal S8x2048x2048 .f32) (r : Fin 16384) (k : Fin 2048) :
    shapeCast S16384x2048 x shapeCasts_S8x2048x2048_S16384x2048 (ix2 r k) = x (ix3 ⟨r.val / 2048, by omega⟩ ⟨r.val % 2048, by omega⟩ k) := by
  pointwise

theorem roomY_at (s : Vec Ideal S128x4x2048 .f32) (v : Vec Ideal S_ .f32) (r : Fin 1024) (h : r.val % 8 < 4) (k : Fin 2048) :
    shapeCast S1024x2048 (pad S128x8x2048 ![0, 0, 0] ![0, 4, 0] ![0, 0, 0] s v pads_S128x4x2048_S128x8x2048_000_040_000 h_S_) shapeCasts_S128x8x2048_S1024x2048 (ix2 r k)
      = s (ix3 ⟨r.val / 8, by omega⟩ ⟨r.val % 8, h⟩ k) := by
  pointwise
  rw [dif_pos (by omega)]

/-- The prompt's rows, then the samples'. -/
theorem rowsY_prompt (x : Vec Ideal S8x2048x2048 .f32) (s : Vec Ideal S128x4x2048 .f32) (b : Fin 8) (t : Fin 2048) (k : Fin 2048) :
    rowsY x s (ix2 ⟨2048 * b.val + t.val, by omega⟩ k) = x (ix3 b t k) := by
  unfold rowsY
  rw [catY_lo _ _ _ (by simp; omega), flatY_at]
  have e1 : (⟨(2048 * b.val + t.val) / 2048, by omega⟩ : Fin 8) = b := Fin.ext (by simp; omega)
  have e2 : (⟨(2048 * b.val + t.val) % 2048, by omega⟩ : Fin 2048) = t := Fin.ext (by simp)
  simp only [e1, e2]

theorem rowsY_sample (x : Vec Ideal S8x2048x2048 .f32) (s : Vec Ideal S128x4x2048 .f32) (b : Fin 128) (t : Fin 4) (k : Fin 2048) :
    rowsY x s (ix2 ⟨16384 + 8 * b.val + t.val, by omega⟩ k) = s (ix3 b t k) := by
  unfold rowsY
  rw [catY_hi _ _ _ (by simp; omega), roomY_at _ _ _ (by simp; omega)]
  have e1 : (⟨(16384 + 8 * b.val + t.val - 16384) / 8, by omega⟩ : Fin 128) = b := Fin.ext (by simp; omega)
  have e2 : (⟨(16384 + 8 * b.val + t.val - 16384) % 8, by omega⟩ : Fin 4) = t := Fin.ext (by simp; omega)
  simp only [e1, e2]

/-- The projected rows: two stacks, a sequence's rows, the samples' rows. -/
theorem catW_lo (a : Vec Ideal S16384x11296 .f32) (b : Vec Ideal S1024x11296 .f32) (r : Fin 17408) (h : r.val < 16384) (k : Fin 11296) : catW a b (ix2 r k) = a (ix2 ⟨r.val, h⟩ k) := by
  pointwise [catW]
  rw [dif_pos h]

theorem catW_hi (a : Vec Ideal S16384x11296 .f32) (b : Vec Ideal S1024x11296 .f32) (r : Fin 17408) (h : ¬ r.val < 16384) (k : Fin 11296) : catW a b (ix2 r k) = b (ix2 ⟨r.val - 16384, by omega⟩ k) := by
  pointwise [catW]
  rw [dif_neg h]

theorem flatW_at (x : Vec Ideal S8x2048x11296 .f32) (r : Fin 16384) (k : Fin 11296) :
    shapeCast S16384x11296 x shapeCasts_S8x2048x11296_S16384x11296 (ix2 r k) = x (ix3 ⟨r.val / 2048, by omega⟩ ⟨r.val % 2048, by omega⟩ k) := by
  pointwise

theorem roomW_at (s : Vec Ideal S128x4x11296 .f32) (v : Vec Ideal S_ .f32) (r : Fin 1024) (h : r.val % 8 < 4) (k : Fin 11296) :
    shapeCast S1024x11296 (pad S128x8x11296 ![0, 0, 0] ![0, 4, 0] ![0, 0, 0] s v pads_S128x4x11296_S128x8x11296_000_040_000 h_S_) shapeCasts_S128x8x11296_S1024x11296 (ix2 r k)
      = s (ix3 ⟨r.val / 8, by omega⟩ ⟨r.val % 8, h⟩ k) := by
  pointwise
  rw [dif_pos (by omega)]

/-- The prompt's rows, then the samples'. -/
theorem rowsW_prompt (x : Vec Ideal S8x2048x11296 .f32) (s : Vec Ideal S128x4x11296 .f32) (b : Fin 8) (t : Fin 2048) (k : Fin 11296) :
    rowsW x s (ix2 ⟨2048 * b.val + t.val, by omega⟩ k) = x (ix3 b t k) := by
  unfold rowsW
  rw [catW_lo _ _ _ (by simp; omega), flatW_at]
  have e1 : (⟨(2048 * b.val + t.val) / 2048, by omega⟩ : Fin 8) = b := Fin.ext (by simp; omega)
  have e2 : (⟨(2048 * b.val + t.val) % 2048, by omega⟩ : Fin 2048) = t := Fin.ext (by simp)
  simp only [e1, e2]

theorem rowsW_sample (x : Vec Ideal S8x2048x11296 .f32) (s : Vec Ideal S128x4x11296 .f32) (b : Fin 128) (t : Fin 4) (k : Fin 11296) :
    rowsW x s (ix2 ⟨16384 + 8 * b.val + t.val, by omega⟩ k) = s (ix3 b t k) := by
  unfold rowsW
  rw [catW_hi _ _ _ (by simp; omega), roomW_at _ _ _ (by simp; omega)]
  have e1 : (⟨(16384 + 8 * b.val + t.val - 16384) / 8, by omega⟩ : Fin 128) = b := Fin.ext (by simp; omega)
  have e2 : (⟨(16384 + 8 * b.val + t.val - 16384) % 8, by omega⟩ : Fin 4) = t := Fin.ext (by simp; omega)
  simp only [e1, e2]

/-- The seventh and the eighth of nine stretches. -/
theorem cat9_6 (a0 a1 a2 a3 : Vec Ideal S17408x1024 .f32) (a4 : Vec Ideal S17408x2048 .f32) (a5 : Vec Ideal S17408x3072 .f32)
    (a6 a7 : Vec Ideal S17408x1024 .f32) (a8 : Vec Ideal S17408x512 .f32) (r : Fin 17408) (j : Fin 1024) :
    cat9 a0 a1 a2 a3 a4 a5 a6 a7 a8 (ix2 r ⟨9216 + j.val, by omega⟩) = a6 (ix2 r j) := by
  pointwise [cat9]
  split_ifs <;> first | omega | skip
  exact congrArg (fun z => a6 (ix2 r z)) (Fin.ext (by simp; omega))

theorem cat9_7 (a0 a1 a2 a3 : Vec Ideal S17408x1024 .f32) (a4 : Vec Ideal S17408x2048 .f32) (a5 : Vec Ideal S17408x3072 .f32)
    (a6 a7 : Vec Ideal S17408x1024 .f32) (a8 : Vec Ideal S17408x512 .f32) (r : Fin 17408) (j : Fin 1024) :
    cat9 a0 a1 a2 a3 a4 a5 a6 a7 a8 (ix2 r ⟨10240 + j.val, by omega⟩) = a7 (ix2 r j) := by
  pointwise [cat9]
  split_ifs <;> first | omega | skip
  exact congrArg (fun z => a7 (ix2 r z)) (Fin.ext (by simp; omega))

/-- The two gates' columns of the launch's projected rows. -/
theorem cols_ga (w : Vec Ideal S17408x11296 .f32) (r : Fin 17408) (j : Fin 1024) : cols w (ix2 r ⟨9216 + j.val, by omega⟩) = w (ix2 r ⟨9248 + j.val, by omega⟩) := by
  unfold cols
  rw [cat9_6]
  pointwise

theorem cols_gb (w : Vec Ideal S17408x11296 .f32) (r : Fin 17408) (j : Fin 1024) : cols w (ix2 r ⟨10240 + j.val, by omega⟩) = w (ix2 r ⟨10272 + j.val, by omega⟩) := by
  unfold cols
  rw [cat9_7]
  pointwise

/-- The router's weight and bias at one of its experts. -/
theorem wide_at (w : Vec Ideal S1024x32 .f32) (k : Fin 1024) (e : Fin 128) (h : e.val < 32) : wide w (ix2 k e) = w (ix2 k ⟨e.val, h⟩) := by
  unfold wide
  pointwise
  rw [dif_pos (by omega)]

theorem wideB_at (b : Vec Ideal S32 .f32) (e : Fin 128) (h : e.val < 32) : wideB b (ix2 0 e) = b (ix1 ⟨e.val, h⟩) := by
  unfold wideB
  pointwise
  rw [dif_pos (by omega)]

/-- The prompt's and the samples' results. -/
theorem promptOf_at (p : Vec Ideal S17408x1024 .f32) (b : Fin 8) (t : Fin 2048) (j : Fin 1024) : promptOf p (ix3 b t j) = p (ix2 ⟨2048 * b.val + t.val, by omega⟩ j) := by
  unfold promptOf
  pointwise
  all_goals exact congrArg (fun k => p (ix2 k j)) (Fin.ext (by simp; omega))

theorem sampleOf_at (p : Vec Ideal S17408x1024 .f32) (b : Fin 128) (t : Fin 4) (j : Fin 1024) : sampleOf p (ix3 b t j) = p (ix2 ⟨16384 + 8 * b.val + t.val, by omega⟩ j) := by
  unfold sampleOf
  pointwise
  all_goals exact congrArg (fun k => p (ix2 k j)) (Fin.ext (by simp; omega))

theorem promptLg_at (p : Vec Ideal S17408x128 .f32) (b : Fin 8) (t : Fin 2048) (e : Fin 32) : promptLg p (ix3 b t e) = p (ix2 ⟨2048 * b.val + t.val, by omega⟩ ⟨e.val, by omega⟩) := by
  unfold promptLg
  pointwise
  all_goals exact congrArg (fun k => p (ix2 k ⟨e.val, by omega⟩)) (Fin.ext (by simp; omega))

theorem sampleLg_at (p : Vec Ideal S17408x128 .f32) (b : Fin 128) (t : Fin 4) (e : Fin 32) : sampleLg p (ix3 b t e) = p (ix2 ⟨16384 + 8 * b.val + t.val, by omega⟩ ⟨e.val, by omega⟩) := by
  unfold sampleLg
  pointwise
  all_goals exact congrArg (fun k => p (ix2 k ⟨e.val, by omega⟩)) (Fin.ext (by simp; omega))

/-- The layer's arguments at their positions. -/
structure Ins where
  o : Vec Ideal S8x2048x1024 .f32
  os : Vec Ideal S128x4x1024 .f32
  y : Vec Ideal S8x2048x2048 .f32
  ys : Vec Ideal S128x4x2048 .f32
  p : Vec Ideal S8x2048x11296 .f32
  ps : Vec Ideal S128x4x11296 .f32
  x : Vec Ideal S8x2048x1024 .f32
  xs : Vec Ideal S128x4x1024 .f32
  hg : Vec Ideal S1024x1024 .f32
  sp : Vec Ideal S2048x1024 .f32
  wo : Vec Ideal S1024x1024 .f32
  g : Vec Ideal S1024 .f32
  d : Vec Ideal S1024 .f32
  rw : Vec Ideal S1024x32 .f32
  rb : Vec Ideal S32 .f32

/-- The row the merge leaves of one row of the stacked arrays. -/
def Ins.h (A : Ins) (r : Fin 17408) : Fin 1024 → EReal :=
  hrow (fun k => rows A.o A.os (ix2 r k)) (fun k => rowsY A.y A.ys (ix2 r k)) (fun j => rowsW A.p A.ps (ix2 r ⟨9248 + j.val, by omega⟩))
    (fun j => rowsW A.p A.ps (ix2 r ⟨10272 + j.val, by omega⟩)) (fun j => rows A.x A.xs (ix2 r j))
    (fun k j => A.hg (ix2 k j)) (fun k j => A.sp (ix2 k j)) (fun k j => A.wo (ix2 k j)) (fun j => A.g (ix1 j)) (fun j => A.d (ix1 j))

/-- The launch's three results as arrays. -/
def Ins.hArr (A : Ins) : Vec Ideal S17408x1024 .f32 := fun i => A.h (i 0) (i 1)

def Ins.tArr (A : Ins) : Vec Ideal S17408x8x128 .f32 := fun i => A.h (i 0) ⟨128 * (i 1).val + (i 2).val, by have h1 : (i 1).val < 8 := (i 1).isLt; have h2 : (i 2).val < 128 := (i 2).isLt; omega⟩

def Ins.lArr (A : Ins) : Vec Ideal S17408x128 .f32 := fun i =>
  ((∑ k : Fin 1024, A.h (i 0) k * wide A.rw (ix2 k (i 1))) + (∑ k : Fin 1024, (A.h (i 0) k - A.h (i 0) k) * wide A.rw (ix2 k (i 1)))
      + ∑ k : Fin 1024, A.h (i 0) k * (wide A.rw (ix2 k (i 1)) - wide A.rw (ix2 k (i 1)))) + wideB A.rb (ix2 0 (i 1))

/-- The tiles hold the same rows. -/
theorem flat3_tArr (A : Ins) : flat3 A.tArr = A.hArr := by
  funext i
  idx_vars i
  unfold flat3
  generalize hz : A.tArr = z
  pointwise
  rw [← hz]
  exact congrArg (A.h i0) (Fin.ext (by simp; omega))

end Cert.Kernel3Ideal.Value
end
-- ==== Proof.MixBody.lean ====
/- What the merge's body computes of its blocks, read at an index. -/
module

public import proofs.«01_k».proof.Proof.Mix
public import proofs.«01_k».proof.Proof.Gen.Kernel3Ideal.Skeleton
public import Idealize.ShloMosaic.Lib.Pointwise

@[expose] public section
set_option maxRecDepth 16384
set_option maxHeartbeats 1600000
noncomputable section
namespace Cert.Kernel3Ideal.Value
open Cert.Kernel3Ideal Cert.Kernel3Ideal.Gen Idealize.ShloMosaic Idealize.SL.Sem Cert.Mix

/-- Whether the point is on the prompt's rows. -/
def isFirst (i : grid0.Coords) : BitVec 1 := Scalar.cmpi .slt (BitVec.ofNat 32 (i 0).val) 64#32

theorem pay2_at (i : grid0.Coords) (v6 v8 : Vec Ideal S256x2048 .f32) (v16 : Vec Ideal S2048x1024 .bf16) (r : Fin 256) (j : Fin 1024) :
    k0_pay2 i v6 v8 v16 (ix2 r j) = ∑ k : Fin 2048, (Scalar.select (isFirst i) v6 v8 : Vec Ideal S256x2048 .f32) (ix2 r k) * v16 (ix2 k j) := by
  unfold k0_pay2
  generalize hs : (Scalar.select (isFirst i) v6 v8 : Vec Ideal S256x2048 .f32) = z
  simp only [shapeCast_self]
  rw [show (Scalar.select (Scalar.cmpi .slt (BitVec.ofNat 32 (i 0).val) 64#32) v6 v8 : Vec Ideal S256x2048 .f32) = z from hs]
  pointwise

theorem pay3_at (i : grid0.Coords) (v1 v3 : Vec Ideal S256x1024 .f32) (v12 : Vec Ideal S1024x1024 .bf16) (v19 : Vec Ideal S256x1024 .f32) (r : Fin 256) (j : Fin 1024) :
    k0_pay3 i v1 v3 v12 v19 (ix2 r j) = Ideal.logistic (v19 (ix2 r j)) * ∑ k : Fin 1024, (Scalar.select (isFirst i) v1 v3 : Vec Ideal S256x1024 .f32) (ix2 r k) * v12 (ix2 k j) := by
  unfold k0_pay3
  generalize hs : (Scalar.select (isFirst i) v1 v3 : Vec Ideal S256x1024 .f32) = z
  simp only [shapeCast_self]
  rw [show (Scalar.select (Scalar.cmpi .slt (BitVec.ofNat 32 (i 0).val) 64#32) v1 v3 : Vec Ideal S256x1024 .f32) = z from hs]
  rw [← sigm, ← Cert.Rec.half_bits]
  pointwise

theorem pay4_at (v29 : Vec Ideal S256x1024 .f32) (r : Fin 256) (j : Fin 1024) :
    k0_pay4 v29 (ix2 r j) = Ideal.tanh (Ideal.ofBits .f32 0x3F000000#32 * v29 (ix2 r j)) := by
  unfold k0_pay4
  pointwise

theorem pay5_at (r : Fin 256) (j : Fin 1024) : k0_pay5 (F := Ideal) (ix2 r j) = Ideal.ofBits .f32 0x3F000000#32 := by
  unfold k0_pay5
  pointwise

theorem pay6_at (v18 v28 v33 v34 : FVec Ideal S256x1024 .f32) (v41 : Vec Ideal S1024x1024 .bf16) (v44 : Vec Ideal S256x1024 .f32) (v49 v51 : Vec Ideal S1x1024 .f32) (r : Fin 256) (j : Fin 1024) :
    k0_pay6 v18 v28 v33 v34 v41 v44 v49 v51 (ix2 r j)
      = lnorm (resid (fun j => v44 (ix2 r j)) (fun j => v28 (ix2 r j) + (v34 (ix2 r j) * v33 (ix2 r j) + Ideal.ofBits .f32 0x3F000000#32) * v18 (ix2 r j)) (fun k j => v41 (ix2 k j)))
          (fun j => v49 (ix2 0 j)) (fun j => v51 (ix2 0 j)) j := by
  unfold k0_pay6 lnorm resid
  pointwise

theorem pay1_at (v72 : FVec Ideal S256x1024 .f32) (v80 v83 v87 : Vec Ideal S1024x128 .bf16) (v91 : Vec Ideal S1x128 .f32) (r : Fin 256) (e : Fin 128) :
    k0_pay1 v72 v80 v83 v87 v91 (ix2 r e) = ((∑ k : Fin 1024, v72 (ix2 r k) * v80 (ix2 k e)) + (∑ k : Fin 1024, (v72 (ix2 r k) - v72 (ix2 r k)) * v83 (ix2 k e))
      + ∑ k : Fin 1024, v72 (ix2 r k) * v87 (ix2 k e)) + v91 (ix2 0 e) := by
  unfold k0_pay1
  pointwise

theorem pay7_at (v18 v28 v33 v34 : FVec Ideal S256x1024 .f32) (v41 : Vec Ideal S1024x1024 .bf16) (v44 : Vec Ideal S256x1024 .f32) (v49 v51 : Vec Ideal S1x1024 .f32)
    (r : Fin 256) (s : Fin 8) (l : Fin 128) :
    k0_pay7 v18 v28 v33 v34 v41 v44 v49 v51 (ix3 r s l) = k0_pay6 v18 v28 v33 v34 v41 v44 v49 v51 (ix2 r ⟨128 * s.val + l.val, by omega⟩) := by
  unfold k0_pay7
  generalize k0_pay6 v18 v28 v33 v34 v41 v44 v49 v51 = z
  pointwise
  all_goals exact congrArg (fun k => z (ix2 r k)) (Fin.ext (by simp; omega))

end Cert.Kernel3Ideal.Value
end
-- ==== Proof.MixBlk.lean ====
/- The merge's blocks: what a grid point reads and what it leaves. -/
module

public import proofs.«01_k».proof.Proof.MixRead
public import proofs.«01_k».proof.Proof.MixBody

@[expose] public section
set_option maxRecDepth 16384
set_option maxHeartbeats 3200000
noncomputable section
namespace Cert.Kernel3Ideal.Value
open Cert.Kernel3Ideal Cert.Kernel3Ideal.Gen Cert.Mix Idealize.ShloMosaic Idealize.ShloMosaic.TcCoe Idealize.SL.Sem
open Cert.Kernel2Ideal.Value (rows)
open Idealize.ShloMosaic.Pipeline (Dat)

/-- The rows a grid point leaves. -/
def hblk (i : grid0.Coords) (x0 x1 : Vec Ideal S256x1024 .f32) (x2 x3 : Vec Ideal S256x2048 .f32) (x4 x5 x6 : Vec Ideal S256x1024 .f32) (x7 : Vec Ideal S1024x1024 .bf16) (x8 : Vec Ideal S2048x1024 .bf16) (x9 : Vec Ideal S1024x1024 .bf16) (x10 x11 : Vec Ideal S1x1024 .f32) : FVec Ideal S256x1024 .f32 :=
  k0_pay6 (k0_pay2 i x2 x3 x8) (k0_pay3 i x0 x1 x7 x4) (k0_pay4 x5) k0_pay5 x9 x6 x10 x11

/-- The same rows in tiles. -/
def tblk (i : grid0.Coords) (x0 x1 : Vec Ideal S256x1024 .f32) (x2 x3 : Vec Ideal S256x2048 .f32) (x4 x5 x6 : Vec Ideal S256x1024 .f32) (x7 : Vec Ideal S1024x1024 .bf16) (x8 : Vec Ideal S2048x1024 .bf16) (x9 : Vec Ideal S1024x1024 .bf16) (x10 x11 : Vec Ideal S1x1024 .f32) : FVec Ideal S256x8x128 .f32 :=
  k0_pay7 (k0_pay2 i x2 x3 x8) (k0_pay3 i x0 x1 x7 x4) (k0_pay4 x5) k0_pay5 x9 x6 x10 x11

theorem tblk_at (i : grid0.Coords) (x0 x1 : Vec Ideal S256x1024 .f32) (x2 x3 : Vec Ideal S256x2048 .f32) (x4 x5 x6 : Vec Ideal S256x1024 .f32) (x7 : Vec Ideal S1024x1024 .bf16) (x8 : Vec Ideal S2048x1024 .bf16) (x9 : Vec Ideal S1024x1024 .bf16) (x10 x11 : Vec Ideal S1x1024 .f32) (r : Fin 256) (s : Fin 8) (l : Fin 128) :
    tblk i x0 x1 x2 x3 x4 x5 x6 x7 x8 x9 x10 x11 (ix3 r s l) = hblk i x0 x1 x2 x3 x4 x5 x6 x7 x8 x9 x10 x11 (ix2 r ⟨128 * s.val + l.val, by omega⟩) := pay7_at ..

/-- One of them is the merged row of the blocks' rows. -/
theorem hblk_at (i : grid0.Coords) (x0 x1 : Vec Ideal S256x1024 .f32) (x2 x3 : Vec Ideal S256x2048 .f32) (x4 x5 x6 : Vec Ideal S256x1024 .f32) (x7 : Vec Ideal S1024x1024 .bf16) (x8 : Vec Ideal S2048x1024 .bf16) (x9 : Vec Ideal S1024x1024 .bf16) (x10 x11 : Vec Ideal S1x1024 .f32) (r : Fin 256) (j : Fin 1024) :
    hblk i x0 x1 x2 x3 x4 x5 x6 x7 x8 x9 x10 x11 (ix2 r j)
      = hrow (fun k => (Scalar.select (isFirst i) x0 x1 : Vec Ideal S256x1024 .f32) (ix2 r k)) (fun k => (Scalar.select (isFirst i) x2 x3 : Vec Ideal S256x2048 .f32) (ix2 r k))
          (fun j => x4 (ix2 r j)) (fun j => x5 (ix2 r j)) (fun j => x6 (ix2 r j)) (fun k j => x7 (ix2 k j)) (fun k j => x8 (ix2 k j)) (fun k j => x9 (ix2 k j))
          (fun j => x10 (ix2 0 j)) (fun j => x11 (ix2 0 j)) j := by
  unfold hblk hrow
  rw [pay6_at]
  refine congrArg (fun u => lnorm (resid (fun j => x6 (ix2 r j)) u (fun k j => x9 (ix2 k j))) (fun j => x10 (ix2 0 j)) (fun j => x11 (ix2 0 j)) j) (funext fun q => ?_)
  unfold merged
  rw [pay3_at, pay4_at, pay5_at, pay2_at, Cert.Rec.half_bits, sigm]

section Pieces
variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x2048 .f32) (harg3 : arg3.IsWhole)
  (arg4 : Memref sig .tc .vmem S256x2048 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S1024x1024 .bf16) (harg8 : arg8.IsWhole)
  (arg9 : Memref sig .tc .vmem S2048x1024 .bf16) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1024x128 .bf16) (harg13 : arg13.IsWhole)
  (arg14 : Memref sig .tc .vmem S1024x128 .bf16) (harg14 : arg14.IsWhole)
  (arg15 : Memref sig .tc .vmem S1x128 .f32) (harg15 : arg15.IsWhole)
  (arg16 : Memref sig .tc .vmem S256x1024 .f32) (harg16 : arg16.IsWhole)
  (arg17 : Memref sig .tc .vmem S256x8x128 .f32) (harg17 : arg17.IsWhole)
  (arg18 : Memref sig .tc .vmem S256x128 .f32) (harg18 : arg18.IsWhole)
  (x0 : Vec Ideal S256x1024 .f32) (x1 : Vec Ideal S256x1024 .f32) (x2 : Vec Ideal S256x2048 .f32) (x3 : Vec Ideal S256x2048 .f32) (x4 : Vec Ideal S256x1024 .f32) (x5 : Vec Ideal S256x1024 .f32) (x6 : Vec Ideal S256x1024 .f32) (x7 : Vec Ideal S1024x1024 .bf16) (x8 : Vec Ideal S2048x1024 .bf16) (x9 : Vec Ideal S1024x1024 .bf16) (x10 : Vec Ideal S1x1024 .f32) (x11 : Vec Ideal S1x1024 .f32) (x12 : Vec Ideal S1024x128 .bf16) (x13 : Vec Ideal S1024x128 .bf16) (x14 : Vec Ideal S1x128 .f32)

theorem out15_eq : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14
    = hblk i x0 x1 x2 x3 x4 x5 x6 x7 x8 x9 x10 x11 := by
  frame_open
  frame_out
  rfl

theorem out16_eq : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14
    = tblk i x0 x1 x2 x3 x4 x5 x6 x7 x8 x9 x10 x11 := by
  frame_open
  frame_out
  rfl

theorem out17_eq : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14
    = k0_pay1 (hblk i x0 x1 x2 x3 x4 x5 x6 x7 x8 x9 x10 x11) x12 x12 x13 x14 := by
  frame_open
  frame_out
  rfl
end Pieces

variable (m : (ℓ : Loc nD τ sig) → Buf (Elt Ideal) ℓ)

/-- The arguments. -/
def args (c : Dev nD) : Ins where
  o := m ((c : Thread nD τ).loc main_arg0)
  os := m ((c : Thread nD τ).loc main_arg1)
  y := m ((c : Thread nD τ).loc main_arg2)
  ys := m ((c : Thread nD τ).loc main_arg3)
  p := m ((c : Thread nD τ).loc main_arg4)
  ps := m ((c : Thread nD τ).loc main_arg5)
  x := m ((c : Thread nD τ).loc main_arg6)
  xs := m ((c : Thread nD τ).loc main_arg7)
  hg := m ((c : Thread nD τ).loc main_arg8)
  sp := m ((c : Thread nD τ).loc main_arg9)
  wo := m ((c : Thread nD τ).loc main_arg10)
  g := m ((c : Thread nD τ).loc main_arg11)
  d := m ((c : Thread nD τ).loc main_arg12)
  rw := m ((c : Thread nD τ).loc main_arg13)
  rb := m ((c : Thread nD τ).loc main_arg14)

theorem pt_lt (t : Fin cfg0.N) : t.val < 68 := t.isLt

/-- A grid point's choice between the prompt's block and the samples'. -/
theorem first_val : ∀ t : Fin cfg0.N, isFirst (grid0.coords t) = if t.val < 64 then 1#1 else 0#1 := by decide +kernel

/-- The block a grid point is on, array by array. -/
theorem idx_rows (t : Fin cfg0.N) : (win0_0.index t 0 = min t.val 63 ∧ win0_0.index t 1 = 0) ∧ (win0_1.index t 0 = t.val - 64 ∧ win0_1.index t 1 = 0)
    ∧ (win0_2.index t 0 = min t.val 63 ∧ win0_2.index t 1 = 0) ∧ (win0_3.index t 0 = t.val - 64 ∧ win0_3.index t 1 = 0)
    ∧ (win0_4.index t 0 = t.val ∧ win0_4.index t 1 = 9) ∧ (win0_5.index t 0 = t.val ∧ win0_5.index t 1 = 10) ∧ (win0_6.index t 0 = t.val ∧ win0_6.index t 1 = 0) := by
  revert t; decide +kernel

theorem idx_weights (t : Fin cfg0.N) : (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0) ∧ (win0_11.index t 0 = 0 ∧ win0_11.index t 1 = 0)
    ∧ (win0_12.index t 0 = 0 ∧ win0_12.index t 1 = 0) ∧ (win0_13.index t 0 = 0 ∧ win0_13.index t 1 = 0) ∧ (win0_14.index t 0 = 0 ∧ win0_14.index t 1 = 0) := by
  revert t; decide +kernel

theorem idx_out (t : Fin cfg0.N) : (win0_15.index t 0 = t.val ∧ win0_15.index t 1 = 0) ∧ (win0_16.index t 0 = t.val ∧ win0_16.index t 1 = 0 ∧ win0_16.index t 2 = 0)
    ∧ (win0_17.index t 0 = t.val ∧ win0_17.index t 1 = 0) := by
  revert t; decide +kernel

/-- A block of the branch's rows. -/
theorem blk0 (c : Dev nD) (t : Fin cfg0.N) (ht : t.val < 64) (r : Fin 256) (j : Fin 1024) : iblk m c 0 t (ix2 r j) = rows (args m c).o (args m c).os (ix2 ⟨256 * t.val + r.val, by have := pt_lt t; omega⟩ j) := by
  have hlt := pt_lt t
  have h := (idx_rows t).1
  refine Eq.trans (b := V m c main_v13 (ix2 ⟨256 * t.val + r.val, by omega⟩ j)) ?_ ?_
  · blk_simp [iblk]
    refine congrArg (V m c main_v13) ?_
    blk_ext
    all_goals simp [h]
    all_goals first | done | omega
  · rw [V_13]
    show extractStridedSlice _ _ (rows (args m c).o (args m c).os) _ _ = _
    generalize rows (args m c).o (args m c).os = z
    pointwise
    all_goals exact congrArg (fun k => z (ix2 k j)) (Fin.ext (by simp; omega))

theorem blk1 (c : Dev nD) (t : Fin cfg0.N) (ht : ¬ t.val < 64) (r : Fin 256) (j : Fin 1024) : iblk m c 1 t (ix2 r j) = rows (args m c).o (args m c).os (ix2 ⟨256 * t.val + r.val, by have := pt_lt t; omega⟩ j) := by
  have hlt := pt_lt t
  have h := (idx_rows t).2.1
  refine Eq.trans (b := V m c main_v14 (ix2 ⟨256 * (t.val - 64) + r.val, by omega⟩ j)) ?_ ?_
  · blk_simp [iblk]
    refine congrArg (V m c main_v14) ?_
    blk_ext
    all_goals simp [h]
    all_goals first | done | omega
  · rw [V_14]
    show extractStridedSlice _ _ (rows (args m c).o (args m c).os) _ _ = _
    generalize rows (args m c).o (args m c).os = z
    pointwise
    all_goals exact congrArg (fun k => z (ix2 k j)) (Fin.ext (by simp; omega))

theorem blk2 (c : Dev nD) (t : Fin cfg0.N) (ht : t.val < 64) (r : Fin 256) (j : Fin 2048) : iblk m c 2 t (ix2 r j) = rowsY (args m c).y (args m c).ys (ix2 ⟨256 * t.val + r.val, by have := pt_lt t; omega⟩ j) := by
  have hlt := pt_lt t
  have h := (idx_rows t).2.2.1
  refine Eq.trans (b := V m c main_v15 (ix2 ⟨256 * t.val + r.val, by omega⟩ j)) ?_ ?_
  · blk_simp [iblk]
    refine congrArg (V m c main_v15) ?_
    blk_ext
    all_goals simp [h]
    all_goals first | done | omega
  · rw [V_15]
    show extractStridedSlice _ _ (rowsY (args m c).y (args m c).ys) _ _ = _
    generalize rowsY (args m c).y (args m c).ys = z
    pointwise
    all_goals exact congrArg (fun k => z (ix2 k j)) (Fin.ext (by simp; omega))

theorem blk3 (c : Dev nD) (t : Fin cfg0.N) (ht : ¬ t.val < 64) (r : Fin 256) (j : Fin 2048) : iblk m c 3 t (ix2 r j) = rowsY (args m c).y (args m c).ys (ix2 ⟨256 * t.val + r.val, by have := pt_lt t; omega⟩ j) := by
  have hlt := pt_lt t
  have h := (idx_rows t).2.2.2.1
  refine Eq.trans (b := V m c main_v16 (ix2 ⟨256 * (t.val - 64) + r.val, by omega⟩ j)) ?_ ?_
  · blk_simp [iblk]
    refine congrArg (V m c main_v16) ?_
    blk_ext
    all_goals simp [h]
    all_goals first | done | omega
  · rw [V_16]
    show extractStridedSlice _ _ (rowsY (args m c).y (args m c).ys) _ _ = _
    generalize rowsY (args m c).y (args m c).ys = z
    pointwise
    all_goals exact congrArg (fun k => z (ix2 k j)) (Fin.ext (by simp; omega))

/-- A block of the layer's input. -/
theorem blk6 (c : Dev nD) (t : Fin cfg0.N) (r : Fin 256) (j : Fin 1024) : iblk m c 6 t (ix2 r j) = rows (args m c).x (args m c).xs (ix2 ⟨256 * t.val + r.val, by have := pt_lt t; omega⟩ j) := by
  have hlt := pt_lt t
  have h := (idx_rows t).2.2.2.2.2.2
  refine Eq.trans (b := V m c main_v37 (ix2 ⟨256 * t.val + r.val, by omega⟩ j)) ?_ ?_
  · blk_simp [iblk]
    refine congrArg (V m c main_v37) ?_
    blk_ext
    all_goals simp [h]
    all_goals first | done | omega
  · rw [V_37]
    rfl

/-- The weights. -/
theorem blk7 (c : Dev nD) (t : Fin cfg0.N) (r : Fin 1024) (j : Fin 1024) : iblk m c 7 t (ix2 r j) = (args m c).hg (ix2 r j) := by
  have hlt := pt_lt t
  have h := (idx_weights t).1
  refine Eq.trans (b := V m c main_v38 (ix2 r j)) ?_ ?_
  · blk_simp [iblk]
    refine congrArg (V m c main_v38) ?_
    blk_ext
    all_goals simp [h]
    all_goals first | done | omega
  · rw [V_38]
    rfl

theorem blk8 (c : Dev nD) (t : Fin cfg0.N) (r : Fin 2048) (j : Fin 1024) : iblk m c 8 t (ix2 r j) = (args m c).sp (ix2 r j) := by
  have hlt := pt_lt t
  have h := (idx_weights t).2.1
  refine Eq.trans (b := V m c main_v39 (ix2 r j)) ?_ ?_
  · blk_simp [iblk]
    refine congrArg (V m c main_v39) ?_
    blk_ext
    all_goals simp [h]
    all_goals first | done | omega
  · rw [V_39]
    rfl

theorem blk9 (c : Dev nD) (t : Fin cfg0.N) (r : Fin 1024) (j : Fin 1024) : iblk m c 9 t (ix2 r j) = (args m c).wo (ix2 r j) := by
  have hlt := pt_lt t
  have h := (idx_weights t).2.2.1
  refine Eq.trans (b := V m c main_v40 (ix2 r j)) ?_ ?_
  · blk_simp [iblk]
    refine congrArg (V m c main_v40) ?_
    blk_ext
    all_goals simp [h]
    all_goals first | done | omega
  · rw [V_40]
    rfl

theorem blk10 (c : Dev nD) (t : Fin cfg0.N) (r : Fin 1) (j : Fin 1024) : iblk m c 10 t (ix2 r j) = (args m c).g (ix1 j) := by
  have hlt := pt_lt t
  have h := (idx_weights t).2.2.2.1
  refine Eq.trans (b := V m c main_v41 (ix2 r j)) ?_ ?_
  · blk_simp [iblk]
    refine congrArg (V m c main_v41) ?_
    blk_ext
    all_goals simp [h]
    all_goals first | done | omega
  · rw [V_41]
    show shapeCast S1x1024 (args m c).g _ _ = _
    generalize (args m c).g = z
    pointwise

theorem blk11 (c : Dev nD) (t : Fin cfg0.N) (r : Fin 1) (j : Fin 1024) : iblk m c 11 t (ix2 r j) = (args m c).d (ix1 j) := by
  have hlt := pt_lt t
  have h := (idx_weights t).2.2.2.2.1
  refine Eq.trans (b := V m c main_v42 (ix2 r j)) ?_ ?_
  · blk_simp [iblk]
    refine congrArg (V m c main_v42) ?_
    blk_ext
    all_goals simp [h]
    all_goals first | done | omega
  · rw [V_42]
    show shapeCast S1x1024 (args m c).d _ _ = _
    generalize (args m c).d = z
    pointwise

theorem blk12 (c : Dev nD) (t : Fin cfg0.N) (r : Fin 1024) (j : Fin 128) : iblk m c 12 t (ix2 r j) = wide (args m c).rw (ix2 r j) := by
  have hlt := pt_lt t
  have h := (idx_weights t).2.2.2.2.2.1
  refine Eq.trans (b := V m c main_v1 (ix2 r j)) ?_ ?_
  · blk_simp [iblk]
    refine congrArg (V m c main_v1) ?_
    blk_ext
    all_goals simp [h]
    all_goals first | done | omega
  · rw [V_1]
    rfl

theorem blk13 (c : Dev nD) (t : Fin cfg0.N) (r : Fin 1024) (j : Fin 128) : iblk m c 13 t (ix2 r j) = wide (args m c).rw (ix2 r j) - wide (args m c).rw (ix2 r j) := by
  have hlt := pt_lt t
  have h := (idx_weights t).2.2.2.2.2.2.1
  refine Eq.trans (b := V m c main_v4 (ix2 r j)) ?_ ?_
  · blk_simp [iblk]
    refine congrArg (V m c main_v4) ?_
    blk_ext
    all_goals simp [h]
    all_goals first | done | omega
  · rw [V_4]
    rfl

theorem blk14 (c : Dev nD) (t : Fin cfg0.N) (r : Fin 1) (j : Fin 128) : iblk m c 14 t (ix2 r j) = wideB (args m c).rb (ix2 r j) := by
  have hlt := pt_lt t
  have h := (idx_weights t).2.2.2.2.2.2.2
  refine Eq.trans (b := V m c main_v44 (ix2 r j)) ?_ ?_
  · blk_simp [iblk]
    refine congrArg (V m c main_v44) ?_
    blk_ext
    all_goals simp [h]
    all_goals first | done | omega
  · rw [V_44]
    rfl

/-- A block of a gate's columns. -/
theorem blk4 (c : Dev nD) (t : Fin cfg0.N) (r : Fin 256) (j : Fin 1024) : X0_4 m c t (ix2 r j) = rowsW (args m c).p (args m c).ps (ix2 ⟨256 * t.val + r.val, by have := pt_lt t; omega⟩ ⟨9248 + j.val, by omega⟩) := by
  have hlt := pt_lt t
  have h := (idx_rows t).2.2.2.2.1
  unfold X0_4 Pipeline.Window.fill
  rw [dif_pos (moved0_4 t _)]
  refine Eq.trans (b := V m c main_v33 (ix2 ⟨256 * t.val + r.val, by omega⟩ ⟨9216 + j.val, by omega⟩)) ?_ ?_
  · blk_simp [iblk]
    refine congrArg (V m c main_v33) ?_
    blk_ext
    all_goals simp [h]
    all_goals first | done | omega
  · rw [V_33]
    exact cols_ga _ _ _

/-- A block of a gate's columns. -/
theorem blk5 (c : Dev nD) (t : Fin cfg0.N) (r : Fin 256) (j : Fin 1024) : X0_5 m c t (ix2 r j) = rowsW (args m c).p (args m c).ps (ix2 ⟨256 * t.val + r.val, by have := pt_lt t; omega⟩ ⟨10272 + j.val, by omega⟩) := by
  have hlt := pt_lt t
  have h := (idx_rows t).2.2.2.2.2.1
  unfold X0_5 Pipeline.Window.fill
  rw [dif_pos (moved0_5 t _)]
  refine Eq.trans (b := V m c main_v33 (ix2 ⟨256 * t.val + r.val, by omega⟩ ⟨10240 + j.val, by omega⟩)) ?_ ?_
  · blk_simp [iblk]
    refine congrArg (V m c main_v33) ?_
    blk_ext
    all_goals simp [h]
    all_goals first | done | omega
  · rw [V_33]
    exact cols_gb _ _ _

/-- The branches' rows a grid point works on. -/
theorem sel_o (c : Dev nD) (t : Fin cfg0.N) (r : Fin 256) (k : Fin 1024) :
    (Scalar.select (isFirst (grid0.coords t)) (iblk m c 0 t) (iblk m c 1 t) : Vec Ideal S256x1024 .f32) (ix2 r k) = rows (args m c).o (args m c).os (ix2 ⟨256 * t.val + r.val, by have := pt_lt t; omega⟩ k) := by
  rw [first_val]
  by_cases ht : t.val < 64
  · rw [if_pos ht]
    exact blk0 m c t ht r k
  · rw [if_neg ht]
    exact blk1 m c t ht r k

theorem sel_y (c : Dev nD) (t : Fin cfg0.N) (r : Fin 256) (k : Fin 2048) :
    (Scalar.select (isFirst (grid0.coords t)) (iblk m c 2 t) (iblk m c 3 t) : Vec Ideal S256x2048 .f32) (ix2 r k) = rowsY (args m c).y (args m c).ys (ix2 ⟨256 * t.val + r.val, by have := pt_lt t; omega⟩ k) := by
  rw [first_val]
  by_cases ht : t.val < 64
  · rw [if_pos ht]
    exact blk2 m c t ht r k
  · rw [if_neg ht]
    exact blk3 m c t ht r k

/-- The rows a grid point leaves, by the arguments. -/
theorem hblk_pt (c : Dev nD) (t : Fin cfg0.N) (r : Fin 256) (j : Fin 1024) :
    hblk (grid0.coords t) (iblk m c 0 t) (iblk m c 1 t) (iblk m c 2 t) (iblk m c 3 t) (X0_4 m c t) (X0_5 m c t) (iblk m c 6 t) (iblk m c 7 t) (iblk m c 8 t) (iblk m c 9 t) (iblk m c 10 t) (iblk m c 11 t) (ix2 r j)
      = (args m c).h ⟨256 * t.val + r.val, by have := pt_lt t; omega⟩ j := by
  refine (hblk_at ..).trans ?_
  have e0 := fun k => sel_o m c t r k
  have e2 := fun k => sel_y m c t r k
  have e4 := fun k => blk4 m c t r k
  have e5 := fun k => blk5 m c t r k
  have e6 := fun k => blk6 m c t r k
  have e7 := fun k j => blk7 m c t k j
  have e8 := fun k j => blk8 m c t k j
  have e9 := fun k j => blk9 m c t k j
  have e10 := fun j => blk10 m c t 0 j
  have e11 := fun j => blk11 m c t 0 j
  simp only [e0, e2, e4, e5, e6, e7, e8, e9, e10, e11]
  rfl

end Cert.Kernel3Ideal.Value
end
-- ==== Proof.MixRef.lean ====
/- The merge's reference read at an index. -/
module

public import proofs.«01_k».proof.Proof.Mix
public import proofs.«01_k».proof.Proof.Gen.Reference3Ideal.Run
public import Idealize.ShloMosaic.Lib.Pointwise

@[expose] public section
set_option maxRecDepth 16384
set_option maxHeartbeats 1600000
noncomputable section
namespace Cert.Reference3Ideal.Value
open Cert.Reference3Ideal Cert.Reference3Ideal.Gen Idealize.ShloMosaic Idealize.ShloMosaic.TcCoe Idealize.SL.Sem Cert.Mix

/-- The prompt's gated sum of projections, as an array. -/
def mergedP (o : Vec Ideal S8x2048x1024 .f32) (y : Vec Ideal S8x2048x2048 .f32) (p : Vec Ideal S8x2048x11296 .f32) (hg : Vec Ideal S1024x1024 .f32) (sp : Vec Ideal S2048x1024 .f32) : FVec Ideal S8x2048x1024 .f32 :=
  addf (mulf (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 9248] p slices_S8x2048x11296_S8x2048x1024_0_0_9248)))))
      (Host.dotGeneral (F := Ideal) (φ₁ := .f32) (φ₂ := .f32) dot_S8x2048x1024_S1024x1024_S8x2048x1024_2_0_01_1_n_n none o hg))
    (mulf (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 10272] p slices_S8x2048x11296_S8x2048x1024_0_0_10272)))))
      (Host.dotGeneral (F := Ideal) (φ₁ := .f32) (φ₂ := .f32) dot_S8x2048x2048_S2048x1024_S8x2048x1024_2_0_01_1_n_n none y sp))

/-- The prompt's residual. -/
def residP (x u : FVec Ideal S8x2048x1024 .f32) (wo : Vec Ideal S1024x1024 .f32) : FVec Ideal S8x2048x1024 .f32 :=
  addf (mulf (broadcastInDim S8x2048x1024 ![] bcast_S_S8x2048x1024 (constant S_ .f32 0x3FB504F3#32)) x)
    (Host.dotGeneral (F := Ideal) (φ₁ := .f32) (φ₂ := .f32) dot_S8x2048x1024_S1024x1024_S8x2048x1024_2_0_01_1_n_n none u wo)

/-- The prompt's centred rows. -/
def centreP (z : FVec Ideal S8x2048x1024 .f32) : FVec Ideal S8x2048x1024 .f32 :=
  subf z (broadcastInDim S8x2048x1024 ![0, 1, 2] bcast_S8x2048x1_S8x2048x1024_0_1_2 (Host.divf (broadcastInDim S8x2048x1 ![0, 1] bcast_S8x2048_S8x2048x1_0_1
    (Host.reduceAdd z (constant S_ .f32 0x00000000#32) reducesTo_S8x2048x1024_S8x2048_d2 h_S_)) (broadcastInDim S8x2048x1 ![] bcast_S_S8x2048x1 (constant S_ .f32 0x44800000#32))))

/-- The prompt's layer norm. -/
def normP (z : FVec Ideal S8x2048x1024 .f32) (g b : Vec Ideal S1024 .f32) : FVec Ideal S8x2048x1024 .f32 :=
  addf (mulf (mulf (centreP z) (broadcastInDim S8x2048x1024 ![0, 1, 2] bcast_S8x2048x1_S8x2048x1024_0_1_2 (Host.rsqrt (addf (Host.divf (broadcastInDim S8x2048x1 ![0, 1] bcast_S8x2048_S8x2048x1_0_1
      (Host.reduceAdd (mulf (centreP z) (centreP z)) (constant S_ .f32 0x00000000#32) reducesTo_S8x2048x1024_S8x2048_d2 h_S_)) (broadcastInDim S8x2048x1 ![] bcast_S_S8x2048x1 (constant S_ .f32 0x44800000#32)))
      (broadcastInDim S8x2048x1 ![] bcast_S_S8x2048x1 (constant S_ .f32 0x3727C5AC#32))))))
      (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S1x1x1024_S8x2048x1024_0_1_2 (broadcastInDim S1x1x1024 ![2] bcast_S1024_S1x1x1024_2 b))

/-- The prompt's router numbers. -/
def routeP (h : FVec Ideal S8x2048x1024 .f32) (rw : Vec Ideal S1024x32 .f32) (rb : Vec Ideal S32 .f32) : FVec Ideal S8x2048x32 .f32 :=
  addf (Host.dotGeneral (F := Ideal) (φ₁ := .f32) (φ₂ := .f32) dot_S8x2048x1024_S1024x32_S8x2048x32_2_0_01_1_n_n none h rw)
    (broadcastInDim S8x2048x32 ![0, 1, 2] bcast_S1x1x32_S8x2048x32_0_1_2 (broadcastInDim S1x1x32 ![2] bcast_S32_S1x1x32_2 rb))

theorem mergedP_at (o : Vec Ideal S8x2048x1024 .f32) (y : Vec Ideal S8x2048x2048 .f32) (p : Vec Ideal S8x2048x11296 .f32) (hg : Vec Ideal S1024x1024 .f32) (sp : Vec Ideal S2048x1024 .f32)
    (b : Fin 8) (t : Fin 2048) (j : Fin 1024) : mergedP o y p hg sp (ix3 b t j)
      = merged (fun k => o (ix3 b t k)) (fun k => y (ix3 b t k)) (fun j => p (ix3 b t ⟨9248 + j.val, by omega⟩)) (fun j => p (ix3 b t ⟨10272 + j.val, by omega⟩)) (fun k j => hg (ix2 k j)) (fun k j => sp (ix2 k j)) j := by
  unfold mergedP merged
  pointwise
  rfl

theorem residP_at (x u : FVec Ideal S8x2048x1024 .f32) (wo : Vec Ideal S1024x1024 .f32) (b : Fin 8) (t : Fin 2048) (j : Fin 1024) :
    residP x u wo (ix3 b t j) = resid (fun k => x (ix3 b t k)) (fun k => u (ix3 b t k)) (fun k j => wo (ix2 k j)) j := by
  unfold residP resid
  pointwise

theorem centreP_at (z : FVec Ideal S8x2048x1024 .f32) (b : Fin 8) (t : Fin 2048) (j : Fin 1024) :
    centreP z (ix3 b t j) = z (ix3 b t j) - Ideal.div (∑ k : Fin 1024, z (ix3 b t k)) (Ideal.ofBits .f32 0x44800000#32) := by
  unfold centreP
  pointwise

theorem normP_at (z : FVec Ideal S8x2048x1024 .f32) (g d : Vec Ideal S1024 .f32) (b : Fin 8) (t : Fin 2048) (j : Fin 1024) :
    normP z g d (ix3 b t j) = lnorm (fun k => z (ix3 b t k)) (fun k => g (ix1 k)) (fun k => d (ix1 k)) j := by
  unfold normP lnorm
  have h := centreP_at z b t
  generalize centreP z = y at h
  simp only [← h]
  pointwise

theorem routeP_at (h : FVec Ideal S8x2048x1024 .f32) (rw : Vec Ideal S1024x32 .f32) (rb : Vec Ideal S32 .f32) (b : Fin 8) (t : Fin 2048) (e : Fin 32) :
    routeP h rw rb (ix3 b t e) = route (fun k => h (ix3 b t k)) (fun k => rw (ix2 k e)) (rb (ix1 e)) := by
  unfold routeP route
  pointwise

/-- The prompt's rows after the norm, of the reference's arguments. -/
def rowsP (o : Vec Ideal S8x2048x1024 .f32) (y : Vec Ideal S8x2048x2048 .f32) (p : Vec Ideal S8x2048x11296 .f32) (x : Vec Ideal S8x2048x1024 .f32) (hg : Vec Ideal S1024x1024 .f32) (sp : Vec Ideal S2048x1024 .f32)
    (wo : Vec Ideal S1024x1024 .f32) (g d : Vec Ideal S1024 .f32) : FVec Ideal S8x2048x1024 .f32 := normP (residP x (mergedP o y p hg sp) wo) g d

theorem rowsP_at (o : Vec Ideal S8x2048x1024 .f32) (y : Vec Ideal S8x2048x2048 .f32) (p : Vec Ideal S8x2048x11296 .f32) (x : Vec Ideal S8x2048x1024 .f32) (hg : Vec Ideal S1024x1024 .f32) (sp : Vec Ideal S2048x1024 .f32)
    (wo : Vec Ideal S1024x1024 .f32) (g d : Vec Ideal S1024 .f32) (b : Fin 8) (t : Fin 2048) (j : Fin 1024) : rowsP o y p x hg sp wo g d (ix3 b t j)
      = hrow (fun k => o (ix3 b t k)) (fun k => y (ix3 b t k)) (fun j => p (ix3 b t ⟨9248 + j.val, by omega⟩)) (fun j => p (ix3 b t ⟨10272 + j.val, by omega⟩)) (fun k => x (ix3 b t k))
          (fun k j => hg (ix2 k j)) (fun k j => sp (ix2 k j)) (fun k j => wo (ix2 k j)) (fun k => g (ix1 k)) (fun k => d (ix1 k)) j := by
  unfold rowsP hrow
  rw [normP_at]
  simp only [residP_at, mergedP_at]

variable (m : (ℓ : Loc nD τ sig) → Buf (Elt Ideal) ℓ)

theorem res_h_prompt (c : Dev nD) : res_out0 m c = rowsP (m ((c.tc : Thread nD τ).loc main_arg0)) (m ((c.tc : Thread nD τ).loc main_arg2)) (m ((c.tc : Thread nD τ).loc main_arg4)) (m ((c.tc : Thread nD τ).loc main_arg6))
    (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := rfl

theorem res_lg_prompt (c : Dev nD) : res_out4 m c = routeP (rowsP (m ((c.tc : Thread nD τ).loc main_arg0)) (m ((c.tc : Thread nD τ).loc main_arg2)) (m ((c.tc : Thread nD τ).loc main_arg4)) (m ((c.tc : Thread nD τ).loc main_arg6))
    (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
      (m ((c.tc : Thread nD τ).loc main_arg13)) (m ((c.tc : Thread nD τ).loc main_arg14)) := rfl

end Cert.Reference3Ideal.Value
end
-- ==== Proof.MixRefS.lean ====
/- The merge's reference on the samples read at an index. -/
module

public import proofs.«01_k».proof.Proof.Mix
public import proofs.«01_k».proof.Proof.Gen.Reference3Ideal.Run
public import Idealize.ShloMosaic.Lib.Pointwise

@[expose] public section
set_option maxRecDepth 16384
set_option maxHeartbeats 1600000
noncomputable section
namespace Cert.Reference3Ideal.Value
open Cert.Reference3Ideal Cert.Reference3Ideal.Gen Idealize.ShloMosaic Idealize.ShloMosaic.TcCoe Idealize.SL.Sem Cert.Mix

/-- The samples' gated sum of projections, as an array. -/
def mergedS (o : Vec Ideal S128x4x1024 .f32) (y : Vec Ideal S128x4x2048 .f32) (p : Vec Ideal S128x4x11296 .f32) (hg : Vec Ideal S1024x1024 .f32) (sp : Vec Ideal S2048x1024 .f32) : FVec Ideal S128x4x1024 .f32 :=
  addf (mulf (Host.divf (broadcastInDim S128x4x1024 ![] bcast_S_S128x4x1024 (constant S_ .f32 0x3F800000#32)) (addf (broadcastInDim S128x4x1024 ![] bcast_S_S128x4x1024 (constant S_ .f32 0x3F800000#32)) (Host.exp (Host.negf (extractStridedSlice S128x4x1024 ![0, 0, 9248] p slices_S128x4x11296_S128x4x1024_0_0_9248)))))
      (Host.dotGeneral (F := Ideal) (φ₁ := .f32) (φ₂ := .f32) dot_S128x4x1024_S1024x1024_S128x4x1024_2_0_01_1_n_n none o hg))
    (mulf (Host.divf (broadcastInDim S128x4x1024 ![] bcast_S_S128x4x1024 (constant S_ .f32 0x3F800000#32)) (addf (broadcastInDim S128x4x1024 ![] bcast_S_S128x4x1024 (constant S_ .f32 0x3F800000#32)) (Host.exp (Host.negf (extractStridedSlice S128x4x1024 ![0, 0, 10272] p slices_S128x4x11296_S128x4x1024_0_0_10272)))))
      (Host.dotGeneral (F := Ideal) (φ₁ := .f32) (φ₂ := .f32) dot_S128x4x2048_S2048x1024_S128x4x1024_2_0_01_1_n_n none y sp))

/-- The samples' residual. -/
def residS (x u : FVec Ideal S128x4x1024 .f32) (wo : Vec Ideal S1024x1024 .f32) : FVec Ideal S128x4x1024 .f32 :=
  addf (mulf (broadcastInDim S128x4x1024 ![] bcast_S_S128x4x1024 (constant S_ .f32 0x3FB504F3#32)) x)
    (Host.dotGeneral (F := Ideal) (φ₁ := .f32) (φ₂ := .f32) dot_S128x4x1024_S1024x1024_S128x4x1024_2_0_01_1_n_n none u wo)

/-- The samples' centred rows. -/
def centreS (z : FVec Ideal S128x4x1024 .f32) : FVec Ideal S128x4x1024 .f32 :=
  subf z (broadcastInDim S128x4x1024 ![0, 1, 2] bcast_S128x4x1_S128x4x1024_0_1_2 (Host.divf (broadcastInDim S128x4x1 ![0, 1] bcast_S128x4_S128x4x1_0_1
    (Host.reduceAdd z (constant S_ .f32 0x00000000#32) reducesTo_S128x4x1024_S128x4_d2 h_S_)) (broadcastInDim S128x4x1 ![] bcast_S_S128x4x1 (constant S_ .f32 0x44800000#32))))

/-- The samples' layer norm. -/
def normS (z : FVec Ideal S128x4x1024 .f32) (g b : Vec Ideal S1024 .f32) : FVec Ideal S128x4x1024 .f32 :=
  addf (mulf (mulf (centreS z) (broadcastInDim S128x4x1024 ![0, 1, 2] bcast_S128x4x1_S128x4x1024_0_1_2 (Host.rsqrt (addf (Host.divf (broadcastInDim S128x4x1 ![0, 1] bcast_S128x4_S128x4x1_0_1
      (Host.reduceAdd (mulf (centreS z) (centreS z)) (constant S_ .f32 0x00000000#32) reducesTo_S128x4x1024_S128x4_d2 h_S_)) (broadcastInDim S128x4x1 ![] bcast_S_S128x4x1 (constant S_ .f32 0x44800000#32)))
      (broadcastInDim S128x4x1 ![] bcast_S_S128x4x1 (constant S_ .f32 0x3727C5AC#32))))))
      (broadcastInDim S128x4x1024 ![0, 1, 2] bcast_S1x1x1024_S128x4x1024_0_1_2 (broadcastInDim S1x1x1024 ![2] bcast_S1024_S1x1x1024_2 g)))
    (broadcastInDim S128x4x1024 ![0, 1, 2] bcast_S1x1x1024_S128x4x1024_0_1_2 (broadcastInDim S1x1x1024 ![2] bcast_S1024_S1x1x1024_2 b))

/-- The samples' router numbers. -/
def routeS (h : FVec Ideal S128x4x1024 .f32) (rw : Vec Ideal S1024x32 .f32) (rb : Vec Ideal S32 .f32) : FVec Ideal S128x4x32 .f32 :=
  addf (Host.dotGeneral (F := Ideal) (φ₁ := .f32) (φ₂ := .f32) dot_S128x4x1024_S1024x32_S128x4x32_2_0_01_1_n_n none h rw)
    (broadcastInDim S128x4x32 ![0, 1, 2] bcast_S1x1x32_S128x4x32_0_1_2 (broadcastInDim S1x1x32 ![2] bcast_S32_S1x1x32_2 rb))

theorem mergedS_at (o : Vec Ideal S128x4x1024 .f32) (y : Vec Ideal S128x4x2048 .f32) (p : Vec Ideal S128x4x11296 .f32) (hg : Vec Ideal S1024x1024 .f32) (sp : Vec Ideal S2048x1024 .f32)
    (b : Fin 128) (t : Fin 4) (j : Fin 1024) : mergedS o y p hg sp (ix3 b t j)
      = merged (fun k => o (ix3 b t k)) (fun k => y (ix3 b t k)) (fun j => p (ix3 b t ⟨9248 + j.val, by omega⟩)) (fun j => p (ix3 b t ⟨10272 + j.val, by omega⟩)) (fun k j => hg (ix2 k j)) (fun k j => sp (ix2 k j)) j := by
  unfold mergedS merged
  pointwise
  rfl

theorem residS_at (x u : FVec Ideal S128x4x1024 .f32) (wo : Vec Ideal S1024x1024 .f32) (b : Fin 128) (t : Fin 4) (j : Fin 1024) :
    residS x u wo (ix3 b t j) = resid (fun k => x (ix3 b t k)) (fun k => u (ix3 b t k)) (fun k j => wo (ix2 k j)) j := by
  unfold residS resid
  pointwise

theorem centreS_at (z : FVec Ideal S128x4x1024 .f32) (b : Fin 128) (t : Fin 4) (j : Fin 1024) :
    centreS z (ix3 b t j) = z (ix3 b t j) - Ideal.div (∑ k : Fin 1024, z (ix3 b t k)) (Ideal.ofBits .f32 0x44800000#32) := by
  unfold centreS
  pointwise

theorem normS_at (z : FVec Ideal S128x4x1024 .f32) (g d : Vec Ideal S1024 .f32) (b : Fin 128) (t : Fin 4) (j : Fin 1024) :
    normS z g d (ix3 b t j) = lnorm (fun k => z (ix3 b t k)) (fun k => g (ix1 k)) (fun k => d (ix1 k)) j := by
  unfold normS lnorm
  have h := centreS_at z b t
  generalize centreS z = y at h
  simp only [← h]
  pointwise

theorem routeS_at (h : FVec Ideal S128x4x1024 .f32) (rw : Vec Ideal S1024x32 .f32) (rb : Vec Ideal S32 .f32) (b : Fin 128) (t : Fin 4) (e : Fin 32) :
    routeS h rw rb (ix3 b t e) = route (fun k => h (ix3 b t k)) (fun k => rw (ix2 k e)) (rb (ix1 e)) := by
  unfold routeS route
  pointwise

/-- The samples' rows after the norm, of the reference's arguments. -/
def rowsS (o : Vec Ideal S128x4x1024 .f32) (y : Vec Ideal S128x4x2048 .f32) (p : Vec Ideal S128x4x11296 .f32) (x : Vec Ideal S128x4x1024 .f32) (hg : Vec Ideal S1024x1024 .f32) (sp : Vec Ideal S2048x1024 .f32)
    (wo : Vec Ideal S1024x1024 .f32) (g d : Vec Ideal S1024 .f32) : FVec Ideal S128x4x1024 .f32 := normS (residS x (mergedS o y p hg sp) wo) g d

theorem rowsS_at (o : Vec Ideal S128x4x1024 .f32) (y : Vec Ideal S128x4x2048 .f32) (p : Vec Ideal S128x4x11296 .f32) (x : Vec Ideal S128x4x1024 .f32) (hg : Vec Ideal S1024x1024 .f32) (sp : Vec Ideal S2048x1024 .f32)
    (wo : Vec Ideal S1024x1024 .f32) (g d : Vec Ideal S1024 .f32) (b : Fin 128) (t : Fin 4) (j : Fin 1024) : rowsS o y p x hg sp wo g d (ix3 b t j)
      = hrow (fun k => o (ix3 b t k)) (fun k => y (ix3 b t k)) (fun j => p (ix3 b t ⟨9248 + j.val, by omega⟩)) (fun j => p (ix3 b t ⟨10272 + j.val, by omega⟩)) (fun k => x (ix3 b t k))
          (fun k j => hg (ix2 k j)) (fun k j => sp (ix2 k j)) (fun k j => wo (ix2 k j)) (fun k => g (ix1 k)) (fun k => d (ix1 k)) j := by
  unfold rowsS hrow
  rw [normS_at]
  simp only [residS_at, mergedS_at]

variable (m : (ℓ : Loc nD τ sig) → Buf (Elt Ideal) ℓ)

theorem res_h_sample (c : Dev nD) : res_out1 m c = rowsS (m ((c.tc : Thread nD τ).loc main_arg1)) (m ((c.tc : Thread nD τ).loc main_arg3)) (m ((c.tc : Thread nD τ).loc main_arg5)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := rfl

theorem res_lg_sample (c : Dev nD) : res_out5 m c = routeS (rowsS (m ((c.tc : Thread nD τ).loc main_arg1)) (m ((c.tc : Thread nD τ).loc main_arg3)) (m ((c.tc : Thread nD τ).loc main_arg5)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
      (m ((c.tc : Thread nD τ).loc main_arg13)) (m ((c.tc : Thread nD τ).loc main_arg14)) := rfl

end Cert.Reference3Ideal.Value
end
-- ==== Proof.MixFin.lean ====
/- The merge's results are the reference's. -/
module

public import proofs.«01_k».proof.Proof.MixBlk
public import proofs.«01_k».proof.Proof.MixRef
public import proofs.«01_k».proof.Proof.MixRefS

@[expose] public section
set_option maxRecDepth 16384
set_option maxHeartbeats 3200000
noncomputable section
namespace Cert.Kernel3Ideal.Value
open Cert.Kernel3Ideal Cert.Kernel3Ideal.Gen Cert.Mix Idealize.ShloMosaic Idealize.ShloMosaic.TcCoe Idealize.SL.Sem
open Cert.Kernel2Ideal.Value (rows rows_prompt rows_sample)
open Cert.Reference3Ideal.Value (rowsP rowsP_at routeP routeP_at rowsS rowsS_at routeS routeS_at)

/-- What the precondition says of the arguments. -/
structure Ins.Finite (A : Ins) : Prop where
  o : ∀ b t k, IsReal (A.o (ix3 b t k))
  os : ∀ b t k, IsReal (A.os (ix3 b t k))
  y : ∀ b t k, IsReal (A.y (ix3 b t k))
  ys : ∀ b t k, IsReal (A.ys (ix3 b t k))
  x : ∀ b t k, IsReal (A.x (ix3 b t k))
  xs : ∀ b t k, IsReal (A.xs (ix3 b t k))
  hg : ∀ k j, IsReal (A.hg (ix2 k j))
  sp : ∀ k j, IsReal (A.sp (ix2 k j))
  wo : ∀ k j, IsReal (A.wo (ix2 k j))
  g : ∀ j, IsReal (A.g (ix1 j))
  d : ∀ j, IsReal (A.d (ix1 j))
  rw : ∀ k e, IsReal (A.rw (ix2 k e))

/-- A prompt row of the merge is the reference's. -/
theorem h_prompt (A : Ins) (b : Fin 8) (t : Fin 2048) (j : Fin 1024) :
    A.h ⟨2048 * b.val + t.val, by omega⟩ j = rowsP A.o A.y A.p A.x A.hg A.sp A.wo A.g A.d (ix3 b t j) := by
  rw [rowsP_at]
  unfold Ins.h
  have e1 := rows_prompt A.o A.os b t
  have e2 := rowsY_prompt A.y A.ys b t
  have e3 := rowsW_prompt A.p A.ps b t
  have e4 := rows_prompt A.x A.xs b t
  simp only [e1, e2, e3, e4]

/-- A sample row of the merge is the reference's. -/
theorem h_sample (A : Ins) (b : Fin 128) (t : Fin 4) (j : Fin 1024) :
    A.h ⟨16384 + 8 * b.val + t.val, by omega⟩ j = rowsS A.os A.ys A.ps A.xs A.hg A.sp A.wo A.g A.d (ix3 b t j) := by
  rw [rowsS_at]
  unfold Ins.h
  have e1 := rows_sample A.o A.os b t
  have e2 := rowsY_sample A.y A.ys b t
  have e3 := rowsW_sample A.p A.ps b t
  have e4 := rows_sample A.x A.xs b t
  simp only [e1, e2, e3, e4]

/-- A prompt row is real. -/
theorem real_prompt {A : Ins} (F : A.Finite) (b : Fin 8) (t : Fin 2048) (j : Fin 1024) : IsReal (A.h ⟨2048 * b.val + t.val, by omega⟩ j) := by
  rw [h_prompt, rowsP_at]
  exact hrow_real (F.o b t) (F.y b t) (F.x b t) F.hg F.sp F.wo F.g F.d j

/-- A sample row is real. -/
theorem real_sample {A : Ins} (F : A.Finite) (b : Fin 128) (t : Fin 4) (j : Fin 1024) : IsReal (A.h ⟨16384 + 8 * b.val + t.val, by omega⟩ j) := by
  rw [h_sample, rowsS_at]
  exact hrow_real (F.os b t) (F.ys b t) (F.xs b t) F.hg F.sp F.wo F.g F.d j

/-- A row in two parts against a weight in two parts, where what the parts leave is nothing. -/
theorem route_parts {h w : Fin 1024 → EReal} (hh : ∀ k, IsReal (h k)) (hw : ∀ k, IsReal (w k)) (z : EReal) :
    ((∑ k, h k * w k) + (∑ k, (h k - h k) * w k) + ∑ k, h k * (w k - w k)) + z = route h w z := by
  unfold route
  simp only [(hh _).sub_self, (hw _).sub_self, zero_mul, mul_zero, Finset.sum_const_zero, add_zero]

/-- The router's numbers of a row of reals. -/
theorem lArr_at {A : Ins} (F : A.Finite) (r : Fin 17408) (hr : ∀ k, IsReal (A.h r k)) (e : Fin 32) :
    A.lArr (ix2 r ⟨e.val, by omega⟩) = route (A.h r) (fun k => A.rw (ix2 k e)) (A.rb (ix1 e)) := by
  have hw : ∀ k, wide A.rw (ix2 k ⟨e.val, by omega⟩) = A.rw (ix2 k e) := fun k => wide_at A.rw k ⟨e.val, by omega⟩ e.isLt
  have hb : wideB A.rb (ix2 0 ⟨e.val, by omega⟩) = A.rb (ix1 e) := wideB_at A.rb ⟨e.val, by omega⟩ e.isLt
  rw [← route_parts hr (fun k => F.rw k e) (A.rb (ix1 e))]
  show ((∑ k : Fin 1024, A.h r k * wide A.rw (ix2 k ⟨e.val, by omega⟩)) + (∑ k : Fin 1024, (A.h r k - A.h r k) * wide A.rw (ix2 k ⟨e.val, by omega⟩))
      + ∑ k : Fin 1024, A.h r k * (wide A.rw (ix2 k ⟨e.val, by omega⟩) - wide A.rw (ix2 k ⟨e.val, by omega⟩))) + wideB A.rb (ix2 0 ⟨e.val, by omega⟩) = _
  simp only [hw, hb]

/-- The four kinds of result. -/
theorem prompt_h (A : Ins) : promptOf A.hArr = rowsP A.o A.y A.p A.x A.hg A.sp A.wo A.g A.d := by
  funext i
  idx_vars i
  rw [promptOf_at]
  exact h_prompt A i0 i1 i2

theorem sample_h (A : Ins) : sampleOf A.hArr = rowsS A.os A.ys A.ps A.xs A.hg A.sp A.wo A.g A.d := by
  funext i
  idx_vars i
  rw [sampleOf_at]
  exact h_sample A i0 i1 i2

theorem prompt_l {A : Ins} (F : A.Finite) : promptLg A.lArr = routeP (rowsP A.o A.y A.p A.x A.hg A.sp A.wo A.g A.d) A.rw A.rb := by
  funext i
  idx_vars i
  rw [promptLg_at, lArr_at F _ (real_prompt F i0 i1), routeP_at]
  exact congrArg (fun u => route u (fun k => A.rw (ix2 k i2)) (A.rb (ix1 i2))) (funext fun k => h_prompt A i0 i1 k)

theorem sample_l {A : Ins} (F : A.Finite) : sampleLg A.lArr = routeS (rowsS A.os A.ys A.ps A.xs A.hg A.sp A.wo A.g A.d) A.rw A.rb := by
  funext i
  idx_vars i
  rw [sampleLg_at, lArr_at F _ (real_sample F i0 i1), routeS_at]
  exact congrArg (fun u => route u (fun k => A.rw (ix2 k i2)) (A.rb (ix1 i2))) (funext fun k => h_sample A i0 i1 k)

variable (m : (ℓ : Loc nD τ sig) → Buf (Elt Ideal) ℓ)

/-- The launch's first result. -/
theorem final15 (c : Dev nD) : (dats m 0 c).arrAt 15 cfg0.N = (args m c).hArr := by
  refine (dats m 0 c).arrAt_eq_of_covers 15 _ (by decide +kernel) fun t hf y => ?_
  have h := (idx_out t).1
  have hlt := pt_lt t
  blk_simp
  rw [after0_15]
  idx_vars y
  unfold outsAt0
  dsimp only
  rw [out15_eq, hblk_pt]
  refine (show (args m c).hArr (ix2 ⟨256 * t.val + y0.val, by omega⟩ y1) = _ from ?_)
  refine congrArg (args m c).hArr ?_
  blk_ext
  all_goals simp [h]
  all_goals first | done | omega

/-- The launch's second result. -/
theorem final16 (c : Dev nD) : (dats m 0 c).arrAt 16 cfg0.N = (args m c).tArr := by
  refine (dats m 0 c).arrAt_eq_of_covers 16 _ (by decide +kernel) fun t hf y => ?_
  have h := (idx_out t).2.1
  have hlt := pt_lt t
  blk_simp
  rw [after0_16]
  idx_vars y
  unfold outsAt0
  dsimp only
  rw [out16_eq, tblk_at, hblk_pt]
  refine (show (args m c).tArr (ix3 ⟨256 * t.val + y0.val, by omega⟩ y1 y2) = _ from ?_)
  refine congrArg (args m c).tArr ?_
  blk_ext
  all_goals simp [h]
  all_goals first | done | omega

/-- The launch's third result. -/
theorem final17 (c : Dev nD) : (dats m 0 c).arrAt 17 cfg0.N = (args m c).lArr := by
  refine (dats m 0 c).arrAt_eq_of_covers 17 _ (by decide +kernel) fun t hf y => ?_
  have h := (idx_out t).2.2
  have hlt := pt_lt t
  blk_simp
  rw [after0_17]
  idx_vars y
  unfold outsAt0
  dsimp only
  rw [out17_eq]
  refine (pay1_at ..).trans ?_
  have e1 := fun k => hblk_pt m c t y0 k
  have e2 := fun k => blk12 m c t k y1
  have e3 := fun k => blk13 m c t k y1
  have e4 := blk14 m c t 0 y1
  simp only [e1, e2, e3, e4]
  refine (show (args m c).lArr (ix2 ⟨256 * t.val + y0.val, by omega⟩ y1) = _ from ?_)
  refine congrArg (args m c).lArr ?_
  blk_ext
  all_goals simp [h]
  all_goals first | done | omega

end Cert.Kernel3Ideal.Value
end
-- ==== Proof.Finite3.lean ====
/- The precondition says that what the merge's rows are made of is finite. -/
module

public import proofs.«01_k».proof.Pre_finite3
public import proofs.«01_k».proof.Proof.Finite
public import proofs.«01_k».proof.Proof.MixFin

@[expose] public section

noncomputable section

namespace Cert.Pre_finite3.Says

open Cert.Pre_finite3 Cert.Pre_finite.Says Idealize.ShloMosaic

/-- The shape relations the predicate states. -/
theorem facts : Cert.Pre_finite3.Facts where
  bcast_S_S8x2048x1024 := by decide
  reducesTo_S8x2048x1024_S_d0_1_2 := by decide
  h_S_ := by decide
  bcast_S_S128x4x1024 := by decide
  reducesTo_S128x4x1024_S_d0_1_2 := by decide
  bcast_S_S8x2048x2048 := by decide
  reducesTo_S8x2048x2048_S_d0_1_2 := by decide
  bcast_S_S128x4x2048 := by decide
  reducesTo_S128x4x2048_S_d0_1_2 := by decide
  bcast_S_S1024x1024 := by decide
  reducesTo_S1024x1024_S_d0_1 := by decide
  bcast_S_S2048x1024 := by decide
  reducesTo_S2048x1024_S_d0_1 := by decide
  bcast_S_S1024 := by decide
  reducesTo_S1024_S_d0 := by decide
  bcast_S_S1024x32 := by decide
  reducesTo_S1024x32_S_d0_1 := by decide

/-- The precondition's content. -/
theorem finite [Cert.Pre_finite3.Facts] (A : Cert.Kernel3Ideal.Value.Ins)
    (h : Cert.Pre_finite3.fn (F := Ideal) A.o A.os A.y A.ys A.p A.ps A.x A.xs A.hg A.sp A.wo A.g A.d A.rw A.rb = fun _ => 1#1) : A.Finite := by
  have h' := congrFun h (fun a => a.elim0)
  simp only [fn, fn_part1, fn_part2, fn_part3] at h'
  obtain ⟨h', hrw⟩ := IntOp.andi_eq_one.1 h'
  obtain ⟨h', hd⟩ := IntOp.andi_eq_one.1 h'
  obtain ⟨h', hg⟩ := IntOp.andi_eq_one.1 h'
  obtain ⟨h', hwo⟩ := IntOp.andi_eq_one.1 h'
  obtain ⟨h', hsp⟩ := IntOp.andi_eq_one.1 h'
  obtain ⟨h', hhg⟩ := IntOp.andi_eq_one.1 h'
  obtain ⟨h', hxs⟩ := IntOp.andi_eq_one.1 h'
  obtain ⟨h', hx⟩ := IntOp.andi_eq_one.1 h'
  obtain ⟨h', hys⟩ := IntOp.andi_eq_one.1 h'
  obtain ⟨h', hy⟩ := IntOp.andi_eq_one.1 h'
  obtain ⟨ho, hos⟩ := IntOp.andi_eq_one.1 h'
  exact ⟨fun _ _ _ => real_all _ _ _ _ _ ho _, fun _ _ _ => real_all _ _ _ _ _ hos _, fun _ _ _ => real_all _ _ _ _ _ hy _, fun _ _ _ => real_all _ _ _ _ _ hys _,
    fun _ _ _ => real_all _ _ _ _ _ hx _, fun _ _ _ => real_all _ _ _ _ _ hxs _, fun _ _ => real_all _ _ _ _ _ hhg _, fun _ _ => real_all _ _ _ _ _ hsp _,
    fun _ _ => real_all _ _ _ _ _ hwo _, fun _ => real_all _ _ _ _ _ hg _, fun _ => real_all _ _ _ _ _ hd _, fun _ _ => real_all _ _ _ _ _ hrw _⟩

end Cert.Pre_finite3.Says

end
-- ==== Proof.ConvEntry.lean ====
/- What the convolution's launch reads, and the lines after it. -/
module

public import proofs.«01_k».proof.Proof.Gen.Kernel4Ideal.Frame
public import proofs.«01_k».proof.Proof.MixRead
public import Idealize.ShloMosaic.Lib.Claim
public import Idealize.ShloMosaic.Lib.Pipeline.ValueKit

@[expose] public section
set_option maxRecDepth 16384
set_option maxHeartbeats 3200000
noncomputable section
namespace Cert.Kernel4Ideal.Value
open Cert.Kernel4Ideal Cert.Kernel4Ideal.Gen Idealize.ShloMosaic Idealize.ShloMosaic.TcCoe Idealize.SL.Sem
open Cert.Kernel3Ideal.Value (catW rowsW cat9 cols rowsW_prompt)

/-- The convolved columns of the launch's projected rows. -/
theorem cat9_5 (a0 a1 a2 a3 : Vec Ideal S17408x1024 .f32) (a4 : Vec Ideal S17408x2048 .f32) (a5 : Vec Ideal S17408x3072 .f32)
    (a6 a7 : Vec Ideal S17408x1024 .f32) (a8 : Vec Ideal S17408x512 .f32) (r : Fin 17408) (j : Fin 3072) :
    cat9 a0 a1 a2 a3 a4 a5 a6 a7 a8 (ix2 r ⟨6144 + j.val, by omega⟩) = a5 (ix2 r j) := by
  pointwise [cat9]
  split_ifs <;> first | omega | skip
  exact congrArg (fun z => a5 (ix2 r z)) (Fin.ext (by simp; omega))

theorem cols_xs (w : Vec Ideal S17408x11296 .f32) (r : Fin 17408) (j : Fin 3072) : cols w (ix2 r ⟨6144 + j.val, by omega⟩) = w (ix2 r ⟨6144 + j.val, by omega⟩) := by
  unfold cols
  rw [cat9_5]
  pointwise

/-- The three entering rows of each sequence with room for eight. -/
def room (s : Vec Ideal S2x8x3x3072 .f32) : Vec Ideal S8x8x3072 .f32 :=
  pad S8x8x3072 ![0, 5, 0] ![0, 0, 0] ![0, 0, 0] (shapeCast S8x3x3072 (extractStridedSlice S1x8x3x3072 ![1, 0, 0, 0] s slices_S2x8x3x3072_S1x8x3x3072_1_0_0_0)
    shapeCasts_S1x8x3x3072_S8x3x3072) (sitofp (F := Ideal) FTy.f32 (constantI S_ 32 0#32)) pads_S8x3x3072_S8x8x3072_000_500_000 h_S_

theorem room_at (s : Vec Ideal S2x8x3x3072 .f32) (b k : Fin 8) (h : 5 ≤ k.val) (q : Fin 3072) : room s (ix3 b k q) = s (ix4 1 b ⟨k.val - 5, by omega⟩ q) := by
  unfold room
  generalize (sitofp (F := Ideal) FTy.f32 (constantI S_ 32 0#32)) = v
  pointwise
  split_ifs <;> first | omega | skip
  all_goals first | rfl | exact congrArg (fun z => s (ix4 1 b z q)) (Fin.ext (by simp)) | skip

/-- The result as sequences. -/
def seqOf (p : Vec Ideal S16384x3072 .f32) : Vec Ideal S8x2048x3072 .f32 := shapeCast S8x2048x3072 p shapeCasts_S16384x3072_S8x2048x3072

theorem seqOf_at (p : Vec Ideal S16384x3072 .f32) (b : Fin 8) (t : Fin 2048) (q : Fin 3072) : seqOf p (ix3 b t q) = p (ix2 ⟨2048 * b.val + t.val, by omega⟩ q) := by
  pointwise [seqOf]
  exact congrArg (fun z => p (ix2 z q)) (Fin.ext (by simp; try omega))

variable (m : (ℓ : Loc nD τ sig) → Buf (Elt Ideal) ℓ)

theorem V_16 (c : Dev nD) : V m c main_v16 = cols (rowsW (m ((c : Thread nD τ).loc main_arg0)) (m ((c : Thread nD τ).loc main_arg1))) := by
  simp only [V, V0, hostOps0, hostOps0_1, hostOps0_2, hostOps0_3, hostOps0_4, hostOps0_5, hostOps0_6, List.flatten_cons, List.flatten_nil, List.cons_append, List.nil_append, List.append_nil]
  after_results_simp
  refine (show cat9 _ _ _ _ _ _ _ _ _ = _ from ?_)
  simp only [Matrix.cons_val]
  after_results_simp
  rfl

theorem V_19 (c : Dev nD) : V m c main_v19 = room (m ((c : Thread nD τ).loc main_arg2)) := by
  simp only [V, V0, hostOps0, hostOps0_1, hostOps0_2, hostOps0_3, hostOps0_4, hostOps0_5, hostOps0_6, List.flatten_cons, List.flatten_nil, List.cons_append, List.nil_append, List.append_nil]
  after_results_simp
  rfl

theorem V_w (c : Dev nD) : V m c main_arg3 = m ((c : Thread nD τ).loc main_arg3) := by
  simp only [V, V0, hostOps0, hostOps0_1, hostOps0_2, hostOps0_3, hostOps0_4, hostOps0_5, hostOps0_6, List.flatten_cons, List.flatten_nil, List.cons_append, List.nil_append, List.append_nil]
  after_results_simp

theorem V_20 (c : Dev nD) : V m c main_v20 = shapeCast S1x3072 (m ((c : Thread nD τ).loc main_arg4)) shapeCasts_S3072_S1x3072 := by
  simp only [V, V0, hostOps0, hostOps0_1, hostOps0_2, hostOps0_3, hostOps0_4, hostOps0_5, hostOps0_6, List.flatten_cons, List.flatten_nil, List.cons_append, List.nil_append, List.append_nil]
  after_results_simp
  rfl

/-- The line after the launch, from any contents that hold the launch's result. -/
theorem tail_22 (W : Valuation τ sig (Elt Ideal)) : StableHlo.after hostOps1 W (Proc.devRef .tc main_v22) = seqOf (W (Proc.devRef .tc main_v21)) := by
  simp only [hostOps1]; after_results_simp; rfl

/-- The line after the launch starts from each array's contents at the launch's end. -/
theorem at_exit (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  (dats m 0 c).withArrays_arrAt launch₀0.sharedIn (V0 m c) (A_eq m c) w

/-- The result after the run. -/
theorem run_result (ρ : Dev nD → PrngReg) : θ_run defs (onTc (τ := τ) (main (F := Ideal))) ⟨m, fun _ => 0, ρ⟩ (fun r => ∀ c : Dev nD,
      r.2.mem ((c.tc : Thread nD τ).loc main_v22) = seqOf ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, h.2 c⟩) (θ_run_and (run_main m ρ) (unchanged m ρ))
  refine ((h.1 c).2 main_v22 (Pipeline.mem_restRefs_of main_v22 (by decide) (by decide))).trans ?_
  unfold Pipeline.afterTail₀
  exact (tail_22 _).trans (congrArg seqOf (at_exit m c 5))

end Cert.Kernel4Ideal.Value
end
-- ==== Proof.Conv.lean ====
/- One number of the causal convolution, and what its body computes of the blocks, read at an index. -/
module

public import proofs.«01_k».proof.Proof.Mix
public import proofs.«01_k».proof.Proof.Gen.Kernel4Ideal.Skeleton
public import Idealize.ShloMosaic.Lib.Pointwise

@[expose] public section
set_option maxRecDepth 16384
set_option maxHeartbeats 1600000
noncomputable section

namespace Cert.Conv

/-- The convolution of one channel at one position under its gate: the position's own number and the three before it, against the four weights. -/
def out (b w0 w1 w2 w3 u0 u1 u2 u3 : EReal) : EReal :=
  ((((b + w0 * u3) + w1 * u2) + w2 * u1) + w3 * u0) * Idealize.ShloMosaic.Ideal.logistic ((((b + w0 * u3) + w1 * u2) + w2 * u1) + w3 * u0)

/-- The products added in the other order. -/
theorem turn (b w0 w1 w2 w3 u0 u1 u2 u3 : EReal) : (((b + w3 * u0) + w2 * u1) + w1 * u2) + w0 * u3 = (((b + w0 * u3) + w1 * u2) + w2 * u1) + w3 * u0 := by
  generalize w0 * u3 = a0
  generalize w1 * u2 = a1
  generalize w2 * u1 = a2
  generalize w3 * u0 = a3
  simp only [add_assoc]
  refine congrArg (b + ·) ?_
  rw [add_comm a2 (a1 + a0), add_comm a1 a0, ← add_assoc, add_comm a3 (a0 + a1), add_assoc, add_assoc, add_comm a3 a2]

end Cert.Conv

namespace Cert.Kernel4Ideal.Value
open Cert.Kernel4Ideal Cert.Kernel4Ideal.Gen Idealize.ShloMosaic Idealize.SL.Sem Cert.Mix

/-- Whether the point is on a sequence's first block. -/
def isStart (i : grid0.Coords) : BitVec 1 := Scalar.cmpi .eq (BitVec.ofNat 32 (i 1).val) 0#32

/-- A block's rows below the eight rows before them. -/
def below (p : Vec Ideal S8x3072 .f32) (x : Vec Ideal S512x3072 .f32) : Vec Ideal S520x3072 .f32 :=
  concatenate S520x3072 0 [⟨S8x3072, p⟩, ⟨S512x3072, x⟩] concatenates_S8x3072_S512x3072_S520x3072_d0

/-- The row a few rows before one of a block's. -/
def before (p : Vec Ideal S8x3072 .f32) (x : Vec Ideal S512x3072 .f32) (s : Fin 4) (r : Fin 512) (q : Fin 3072) : EReal :=
  if s.val ≤ r.val then x (ix2 ⟨r.val - s.val, by omega⟩ q) else p (ix2 ⟨(8 + r.val - s.val) % 8, by omega⟩ q)

/-- The rows rotated by a few, below the first eight. -/
def turned (n : BitVec 32) (z : Vec Ideal S520x3072 .f32) : FVec Ideal S512x3072 .f32 :=
  extractStridedSlice S512x3072 ![8, 0] (dynamicRotate 0 n none z rotates_S520x3072_d0) slices_S520x3072_o8_0_S512x3072

theorem turned_at (p : Vec Ideal S8x3072 .f32) (x : Vec Ideal S512x3072 .f32) (n : BitVec 32) (s : Fin 4) (hn : n.toNat = s.val) (r : Fin 512) (q : Fin 3072) :
    turned n (below p x) (ix2 r q) = before p x s r q := by
  unfold before
  pointwise [turned, below]
  have hlt := s.isLt
  split_ifs <;> first | (exfalso; omega) | skip
  · refine congrArg (fun z => p (ix2 z q)) (Fin.ext ?_)
    show (8 + r.val + 520 - n.toNat % 520) % 520 = (8 + r.val - s.val) % 8
    omega
  · refine Eq.trans (congrArg (fun z => x (ix2 z q)) (Fin.ext ?_)) (if_pos (by omega)).symm
    show (8 + r.val + 520 - n.toNat % 520) % 520 - 8 = r.val - s.val
    omega

/-- The sum of a row and the three before it, weighted. -/
def sum4 (z : Vec Ideal S520x3072 .f32) (x : Vec Ideal S512x3072 .f32) (w : Vec Ideal S4x3072 .f32) (b : Vec Ideal S1x3072 .f32) : FVec Ideal S512x3072 .f32 :=
  addf (addf (addf (addf (broadcastTo S512x3072 b broadcasts_S1x3072_S512x3072)
    (mulf (broadcastTo S512x3072 (extractStridedSlice S1x3072 ![3, 0] w slices_S4x3072_o3_0_S1x3072) broadcasts_S1x3072_S512x3072) x))
    (mulf (broadcastTo S512x3072 (extractStridedSlice S1x3072 ![2, 0] w slices_S4x3072_o2_0_S1x3072) broadcasts_S1x3072_S512x3072) (turned 1#32 z)))
    (mulf (broadcastTo S512x3072 (extractStridedSlice S1x3072 ![1, 0] w slices_S4x3072_o1_0_S1x3072) broadcasts_S1x3072_S512x3072) (turned 2#32 z)))
    (mulf (broadcastTo S512x3072 (extractStridedSlice S1x3072 ![0, 0] w slices_S4x3072_o0_0_S1x3072) broadcasts_S1x3072_S512x3072) (turned 3#32 z))

theorem sum4_at (z : Vec Ideal S520x3072 .f32) (x : Vec Ideal S512x3072 .f32) (w : Vec Ideal S4x3072 .f32) (b : Vec Ideal S1x3072 .f32) (r : Fin 512) (q : Fin 3072) :
    sum4 z x w b (ix2 r q) = (((b (ix2 0 q) + w (ix2 3 q) * x (ix2 r q)) + w (ix2 2 q) * turned 1#32 z (ix2 r q)) + w (ix2 1 q) * turned 2#32 z (ix2 r q))
      + w (ix2 0 q) * turned 3#32 z (ix2 r q) := by
  unfold sum4
  generalize turned 1#32 z = z1
  generalize turned 2#32 z = z2
  generalize turned 3#32 z = z3
  pointwise

/-- The sum a grid point forms. -/
theorem pay2_at (i : grid0.Coords) (x : Vec Ideal S512x3072 .f32) (v3 : Vec Ideal S1x8x3072 .f32) (v5 : Vec Ideal S8x3072 .f32) (w : Vec Ideal S4x3072 .f32) (b : Vec Ideal S1x3072 .f32)
    (r : Fin 512) (q : Fin 3072) :
    k0_pay2 i x v3 v5 w b (ix2 r q)
      = (((b (ix2 0 q) + w (ix2 3 q) * x (ix2 r q))
          + w (ix2 2 q) * before (Scalar.select (isStart i) (shapeCast S8x3072 v3 shapeCasts_S1x8x3072_S8x3072) v5) x 1 r q)
          + w (ix2 1 q) * before (Scalar.select (isStart i) (shapeCast S8x3072 v3 shapeCasts_S1x8x3072_S8x3072) v5) x 2 r q)
          + w (ix2 0 q) * before (Scalar.select (isStart i) (shapeCast S8x3072 v3 shapeCasts_S1x8x3072_S8x3072) v5) x 3 r q := by
  rw [← turned_at _ _ 1#32 1 rfl, ← turned_at _ _ 2#32 2 rfl, ← turned_at _ _ 3#32 3 rfl, ← sum4_at]
  have h : k0_pay2 i x v3 v5 w b = sum4 (below (Scalar.select (isStart i) (shapeCast S8x3072 v3 shapeCasts_S1x8x3072_S8x3072) (shapeCast S8x3072 v5 shapeCasts_S8x3072_S8x3072)) (shapeCast S512x3072 x shapeCasts_S512x3072_S512x3072))
      (shapeCast S512x3072 x shapeCasts_S512x3072_S512x3072) w (shapeCast S1x3072 b shapeCasts_S1x3072_S1x3072) := by
    unfold k0_pay2 sum4 turned below isStart
    rfl
  rw [h]
  simp only [shapeCast_self]

/-- The rows a grid point leaves. -/
def oblk (i : grid0.Coords) (x : Vec Ideal S512x3072 .f32) (v5 : Vec Ideal S8x3072 .f32) (v3 : Vec Ideal S1x8x3072 .f32) (w : Vec Ideal S4x3072 .f32) (b : Vec Ideal S1x3072 .f32) : FVec Ideal S512x3072 .f32 :=
  k0_pay1 (k0_pay2 i x v3 v5 w b) (k0_pay3 i x v3 v5 w b) (Scalar.ofBits .f32 0x3F000000#32)

theorem oblk_at (i : grid0.Coords) (x : Vec Ideal S512x3072 .f32) (v5 : Vec Ideal S8x3072 .f32) (v3 : Vec Ideal S1x8x3072 .f32) (w : Vec Ideal S4x3072 .f32) (b : Vec Ideal S1x3072 .f32) (r : Fin 512) (q : Fin 3072) :
    oblk i x v5 v3 w b (ix2 r q) = Cert.Conv.out (b (ix2 0 q)) (w (ix2 0 q)) (w (ix2 1 q)) (w (ix2 2 q)) (w (ix2 3 q)) (x (ix2 r q))
      (before (Scalar.select (isStart i) (shapeCast S8x3072 v3 shapeCasts_S1x8x3072_S8x3072) v5) x 1 r q)
      (before (Scalar.select (isStart i) (shapeCast S8x3072 v3 shapeCasts_S1x8x3072_S8x3072) v5) x 2 r q)
      (before (Scalar.select (isStart i) (shapeCast S8x3072 v3 shapeCasts_S1x8x3072_S8x3072) v5) x 3 r q) := by
  have h := pay2_at i x v3 v5 w b r q
  rw [Cert.Conv.turn] at h
  unfold oblk k0_pay3 Cert.Conv.out
  rw [← h]
  generalize k0_pay2 i x v3 v5 w b = z
  rw [← sigm, ← Cert.Rec.half_bits]
  unfold k0_pay1
  pointwise

end Cert.Kernel4Ideal.Value
end
-- ==== Proof.ConvRef.lean ====
/- The convolution's reference read at an index. -/
module

public import proofs.«01_k».proof.Proof.Conv
public import proofs.«01_k».proof.Proof.Gen.Reference4Ideal.Run

@[expose] public section
set_option maxRecDepth 16384
set_option maxHeartbeats 1600000
noncomputable section
namespace Cert.Reference4Ideal.Value
open Cert.Reference4Ideal Cert.Reference4Ideal.Gen Idealize.ShloMosaic Idealize.ShloMosaic.TcCoe Idealize.SL.Sem

/-- A sequence's convolved columns after its three entering rows. -/
def longer (p : Vec Ideal S8x2048x11296 .f32) (s : Vec Ideal S2x8x3x3072 .f32) : Vec Ideal S8x2051x3072 .f32 :=
  concatenate S8x2051x3072 1 [⟨S8x3x3072, (shapeCast S8x3x3072 (extractStridedSlice S1x8x3x3072 ![1, 0, 0, 0] s slices_S2x8x3x3072_S1x8x3x3072_1_0_0_0) shapeCasts_S1x8x3x3072_S8x3x3072)⟩,
    ⟨S8x2048x3072, (extractStridedSlice S8x2048x3072 ![0, 0, 6144] p slices_S8x2048x11296_S8x2048x3072_0_0_6144)⟩] concatenates_S8x3x3072_S8x2048x3072_S8x2051x3072_d1

/-- The number a few positions before one of a sequence. -/
def past (p : Vec Ideal S8x2048x11296 .f32) (s : Vec Ideal S2x8x3x3072 .f32) (b : Fin 8) (t : Fin 2048) (q : Fin 3072) (k : Fin 4) : EReal :=
  if k.val ≤ t.val then p (ix3 b ⟨t.val - k.val, by omega⟩ ⟨6144 + q.val, by omega⟩) else s (ix4 1 b ⟨(3 + t.val - k.val) % 3, by omega⟩ q)

theorem longer_at (p : Vec Ideal S8x2048x11296 .f32) (s : Vec Ideal S2x8x3x3072 .f32) (b : Fin 8) (t : Fin 2048) (q : Fin 3072) (k : Fin 4) (n : Fin 2051) (hn : n.val = t.val + 3 - k.val) :
    longer p s (ix3 b n q) = past p s b t q k := by
  have hk := k.isLt
  unfold past
  pointwise [longer]
  split_ifs <;> first | (exfalso; omega) | skip
  · refine congrArg (fun z => s (ix4 1 b z q)) (Fin.ext ?_)
    show n.val = (3 + t.val - k.val) % 3
    omega
  · refine Eq.trans (congrArg₂ (fun z w => p (ix3 b z w)) (Fin.ext ?_) (Fin.ext ?_)) (if_pos (by omega)).symm
    · show n.val - 3 = t.val - k.val
      omega
    · rfl

/-- The four weighted rows added to the bias. -/
def sumOf (u : Vec Ideal S8x2051x3072 .f32) (w : Vec Ideal S4x3072 .f32) (d : Vec Ideal S3072 .f32) : FVec Ideal S8x2048x3072 .f32 :=
  addf (addf (addf (addf (broadcastInDim S8x2048x3072 ![0, 1, 2] bcast_S1x1x3072_S8x2048x3072_0_1_2 (broadcastInDim S1x1x3072 ![2] bcast_S3072_S1x1x3072_2 d))
    (mulf (broadcastInDim S8x2048x3072 ![0, 1, 2] bcast_S1x1x3072_S8x2048x3072_0_1_2 (broadcastInDim S1x1x3072 ![2] bcast_S3072_S1x1x3072_2 (shapeCast S3072 (extractStridedSlice S1x3072 ![0, 0] w slices_S4x3072_S1x3072_0_0) shapeCasts_S1x3072_S3072)))
      (extractStridedSlice S8x2048x3072 ![0, 0, 0] u slices_S8x2051x3072_S8x2048x3072_0_0_0)))
    (mulf (broadcastInDim S8x2048x3072 ![0, 1, 2] bcast_S1x1x3072_S8x2048x3072_0_1_2 (broadcastInDim S1x1x3072 ![2] bcast_S3072_S1x1x3072_2 (shapeCast S3072 (extractStridedSlice S1x3072 ![1, 0] w slices_S4x3072_S1x3072_1_0) shapeCasts_S1x3072_S3072)))
      (extractStridedSlice S8x2048x3072 ![0, 1, 0] u slices_S8x2051x3072_S8x2048x3072_0_1_0)))
    (mulf (broadcastInDim S8x2048x3072 ![0, 1, 2] bcast_S1x1x3072_S8x2048x3072_0_1_2 (broadcastInDim S1x1x3072 ![2] bcast_S3072_S1x1x3072_2 (shapeCast S3072 (extractStridedSlice S1x3072 ![2, 0] w slices_S4x3072_S1x3072_2_0) shapeCasts_S1x3072_S3072)))
      (extractStridedSlice S8x2048x3072 ![0, 2, 0] u slices_S8x2051x3072_S8x2048x3072_0_2_0)))
    (mulf (broadcastInDim S8x2048x3072 ![0, 1, 2] bcast_S1x1x3072_S8x2048x3072_0_1_2 (broadcastInDim S1x1x3072 ![2] bcast_S3072_S1x1x3072_2 (shapeCast S3072 (extractStridedSlice S1x3072 ![3, 0] w slices_S4x3072_S1x3072_3_0) shapeCasts_S1x3072_S3072)))
      (extractStridedSlice S8x2048x3072 ![0, 3, 0] u slices_S8x2051x3072_S8x2048x3072_0_3_0))

theorem sumOf_at (p : Vec Ideal S8x2048x11296 .f32) (s : Vec Ideal S2x8x3x3072 .f32) (w : Vec Ideal S4x3072 .f32) (d : Vec Ideal S3072 .f32) (b : Fin 8) (t : Fin 2048) (q : Fin 3072) :
    sumOf (longer p s) w d (ix3 b t q) = (((d (ix1 q) + w (ix2 0 q) * past p s b t q 3) + w (ix2 1 q) * past p s b t q 2) + w (ix2 2 q) * past p s b t q 1) + w (ix2 3 q) * past p s b t q 0 := by
  rw [← longer_at p s b t q 3 ⟨t.val + 0, by omega⟩ (by simp), ← longer_at p s b t q 2 ⟨t.val + 1, by omega⟩ (by simp),
    ← longer_at p s b t q 1 ⟨t.val + 2, by omega⟩ (by simp), ← longer_at p s b t q 0 ⟨t.val + 3, by omega⟩ (by simp)]
  generalize longer p s = u
  have e0 : u (ix3 b ⟨t.val + 0, by omega⟩ q) = extractStridedSlice S8x2048x3072 ![0, 0, 0] u slices_S8x2051x3072_S8x2048x3072_0_0_0 (ix3 b t q) := by
    pointwise
  have e1 : u (ix3 b ⟨t.val + 1, by omega⟩ q) = extractStridedSlice S8x2048x3072 ![0, 1, 0] u slices_S8x2051x3072_S8x2048x3072_0_1_0 (ix3 b t q) := by
    pointwise
    exact congrArg (fun z => u (ix3 b z q)) (Fin.ext (by show t.val + 1 = _; first | rfl | exact Nat.add_comm ..))
  have e2 : u (ix3 b ⟨t.val + 2, by omega⟩ q) = extractStridedSlice S8x2048x3072 ![0, 2, 0] u slices_S8x2051x3072_S8x2048x3072_0_2_0 (ix3 b t q) := by
    pointwise
    exact congrArg (fun z => u (ix3 b z q)) (Fin.ext (by show t.val + 2 = _; first | rfl | exact Nat.add_comm ..))
  have e3 : u (ix3 b ⟨t.val + 3, by omega⟩ q) = extractStridedSlice S8x2048x3072 ![0, 3, 0] u slices_S8x2051x3072_S8x2048x3072_0_3_0 (ix3 b t q) := by
    pointwise
    exact congrArg (fun z => u (ix3 b z q)) (Fin.ext (by show t.val + 3 = _; first | rfl | exact Nat.add_comm ..))
  rw [e0, e1, e2, e3]
  unfold sumOf
  generalize extractStridedSlice S8x2048x3072 ![0, 0, 0] u _ = u0
  generalize extractStridedSlice S8x2048x3072 ![0, 1, 0] u _ = u1
  generalize extractStridedSlice S8x2048x3072 ![0, 2, 0] u _ = u2
  generalize extractStridedSlice S8x2048x3072 ![0, 3, 0] u _ = u3
  pointwise

/-- A number under its gate. -/
def gated (z : FVec Ideal S8x2048x3072 .f32) : FVec Ideal S8x2048x3072 .f32 :=
  mulf z (Host.divf (broadcastInDim S8x2048x3072 ![] bcast_S_S8x2048x3072 (constant S_ .f32 0x3F800000#32))
    (addf (broadcastInDim S8x2048x3072 ![] bcast_S_S8x2048x3072 (constant S_ .f32 0x3F800000#32)) (Host.exp (Host.negf z))))

theorem gated_at (z : FVec Ideal S8x2048x3072 .f32) (b : Fin 8) (t : Fin 2048) (q : Fin 3072) : gated z (ix3 b t q) = z (ix3 b t q) * Ideal.logistic (z (ix3 b t q)) := by
  unfold gated
  pointwise
  rfl

/-- The reference's result at an index. -/
theorem res_at (m : (ℓ : Loc nD τ sig) → Buf (Elt Ideal) ℓ) (c : Dev nD) (p : Vec Ideal S8x2048x11296 .f32) (s : Vec Ideal S2x8x3x3072 .f32) (w : Vec Ideal S4x3072 .f32) (d : Vec Ideal S3072 .f32)
    (hp : m ((c.tc : Thread nD τ).loc main_arg0) = p) (hs : m ((c.tc : Thread nD τ).loc main_arg2) = s) (hw : m ((c.tc : Thread nD τ).loc main_arg3) = w) (hd : m ((c.tc : Thread nD τ).loc main_arg4) = d) :
    res_out0 m c = gated (sumOf (longer p s) w d) := by
  subst hp hs hw hd
  unfold res_out0 res_main_v34
  rfl

/-- The same in one number's terms. -/
theorem gated_sum_at (p : Vec Ideal S8x2048x11296 .f32) (s : Vec Ideal S2x8x3x3072 .f32) (w : Vec Ideal S4x3072 .f32) (d : Vec Ideal S3072 .f32) (b : Fin 8) (t : Fin 2048) (q : Fin 3072) :
    gated (sumOf (longer p s) w d) (ix3 b t q) = Cert.Conv.out (d (ix1 q)) (w (ix2 0 q)) (w (ix2 1 q)) (w (ix2 2 q)) (w (ix2 3 q)) (past p s b t q 0) (past p s b t q 1) (past p s b t q 2) (past p s b t q 3) := by
  rw [gated_at, sumOf_at]
  rfl

end Cert.Reference4Ideal.Value
end
-- ==== Proof.ConvFin.lean ====
/- The convolution's result is the reference's. -/
module

public import proofs.«01_k».proof.Proof.ConvEntry
public import proofs.«01_k».proof.Proof.ConvRef

@[expose] public section
set_option maxRecDepth 16384
set_option maxHeartbeats 3200000
noncomputable section
namespace Cert.Kernel4Ideal.Value
open Cert.Kernel4Ideal Cert.Kernel4Ideal.Gen Idealize.ShloMosaic Idealize.ShloMosaic.TcCoe Idealize.SL.Sem
open Cert.Kernel3Ideal.Value (rowsW cols rowsW_prompt)
open Cert.Reference4Ideal.Value (past longer sumOf gated gated_sum_at)
open Idealize.ShloMosaic.Pipeline (Dat)

section Pieces
variable (c : Dev nD) (i : grid0.Coords)
  (arg2 : Memref sig .tc .vmem S512x3072 .f32) (harg2 : arg2.IsWhole)
  (arg3 : Memref sig .tc .vmem S8x3072 .f32) (harg3 : arg3.IsWhole)
  (arg4 : Memref sig .tc .vmem S1x8x3072 .f32) (harg4 : arg4.IsWhole)
  (arg5 : Memref sig .tc .vmem S4x3072 .f32) (harg5 : arg5.IsWhole)
  (arg6 : Memref sig .tc .vmem S1x3072 .f32) (harg6 : arg6.IsWhole)
  (arg7 : Memref sig .tc .vmem S512x3072 .f32) (harg7 : arg7.IsWhole)
  (x0 : Vec Ideal S512x3072 .f32) (x1 : Vec Ideal S8x3072 .f32) (x2 : Vec Ideal S1x8x3072 .f32) (x3 : Vec Ideal S4x3072 .f32) (x4 : Vec Ideal S1x3072 .f32)

theorem out5_eq : out0_A_5 c i arg2 harg2 arg3 harg3 arg4 harg4 arg5 harg5 arg6 harg6 arg7 harg7 x0 x1 x2 x3 x4 = oblk i x0 x1 x2 x3 x4 := by
  frame_open
  frame_out
  rfl
end Pieces

variable (m : (ℓ : Loc nD τ sig) → Buf (Elt Ideal) ℓ)

/-- The arguments: the projected rows of the two batches, the entering rows, the weights and the bias. -/
abbrev aP (c : Dev nD) : Vec Ideal S8x2048x11296 .f32 := m ((c : Thread nD τ).loc main_arg0)
abbrev aS (c : Dev nD) : Vec Ideal S128x4x11296 .f32 := m ((c : Thread nD τ).loc main_arg1)
abbrev aC (c : Dev nD) : Vec Ideal S2x8x3x3072 .f32 := m ((c : Thread nD τ).loc main_arg2)
abbrev aW (c : Dev nD) : Vec Ideal S4x3072 .f32 := m ((c : Thread nD τ).loc main_arg3)
abbrev aB (c : Dev nD) : Vec Ideal S3072 .f32 := m ((c : Thread nD τ).loc main_arg4)

theorem pt_lt (t : Fin cfg0.N) : t.val < 32 := t.isLt

/-- A grid point's choice between the entering rows and the rows before its block. -/
theorem start_val : ∀ t : Fin cfg0.N, isStart (grid0.coords t) = if t.val % 4 = 0 then 1#1 else 0#1 := by decide +kernel

/-- The block a grid point is on, array by array. -/
theorem idx_in (t : Fin cfg0.N) : (win0_0.index t 0 = t.val ∧ win0_0.index t 1 = 2) ∧ (win0_1.index t 0 = 64 * t.val - 1 ∧ win0_1.index t 1 = 2)
    ∧ (win0_2.index t 0 = t.val / 4 ∧ win0_2.index t 1 = 0 ∧ win0_2.index t 2 = 0) ∧ (win0_3.index t 0 = 0 ∧ win0_3.index t 1 = 0)
    ∧ (win0_4.index t 0 = 0 ∧ win0_4.index t 1 = 0) ∧ (win0_5.index t 0 = t.val ∧ win0_5.index t 1 = 0) := by
  revert t; decide +kernel

/-- The convolved columns of the projected rows, of the prompt. -/
theorem row_prompt (c : Dev nD) (n : Fin 17408) (b : Fin 8) (u : Fin 2048) (h : n.val = 2048 * b.val + u.val) (q : Fin 3072) :
    V m c main_v16 (ix2 n ⟨6144 + q.val, by omega⟩) = aP m c (ix3 b u ⟨6144 + q.val, by omega⟩) := by
  rw [V_16]
  refine (cols_xs _ n q).trans ?_
  have e : n = ⟨2048 * b.val + u.val, by have := b.isLt; have := u.isLt; omega⟩ := Fin.ext h
  rw [e]
  exact rowsW_prompt _ _ b u _

/-- A block of the convolved columns. -/
theorem blk0 (c : Dev nD) (t : Fin cfg0.N) (r : Fin 512) (q : Fin 3072) (b : Fin 8) (u : Fin 2048) (h : 512 * t.val + r.val = 2048 * b.val + u.val) :
    X0_0 m c t (ix2 r q) = aP m c (ix3 b u ⟨6144 + q.val, by omega⟩) := by
  have hlt := pt_lt t
  have hi := (idx_in t).1
  unfold X0_0 Pipeline.Window.fill
  rw [dif_pos (moved0_0 t _)]
  refine Eq.trans (b := V m c main_v16 (ix2 ⟨512 * t.val + r.val, by omega⟩ ⟨6144 + q.val, by omega⟩)) ?_ (row_prompt m c _ b u h q)
  blk_simp [iblk]
  refine congrArg (V m c main_v16) ?_
  blk_ext
  all_goals simp [hi]
  all_goals first | done | omega

/-- The eight rows before a block, where it is not a sequence's first. -/
theorem blk1 (c : Dev nD) (t : Fin cfg0.N) (ht : t.val ≠ 0) (r : Fin 8) (q : Fin 3072) (b : Fin 8) (u : Fin 2048) (h : 512 * t.val + r.val = 2048 * b.val + u.val + 8) :
    X0_1 m c t (ix2 r q) = aP m c (ix3 b u ⟨6144 + q.val, by omega⟩) := by
  have hlt := pt_lt t
  have hi := (idx_in t).2.1
  unfold X0_1 Pipeline.Window.fill
  rw [dif_pos (moved0_1 t _)]
  refine Eq.trans (b := V m c main_v16 (ix2 ⟨512 * t.val + r.val - 8, by omega⟩ ⟨6144 + q.val, by omega⟩)) ?_ (row_prompt m c _ b u (by show 512 * t.val + r.val - 8 = _; omega) q)
  blk_simp [iblk]
  refine congrArg (V m c main_v16) ?_
  blk_ext
  all_goals simp [hi]
  all_goals first | done | omega

/-- A sequence's entering rows. -/
theorem blk2 (c : Dev nD) (t : Fin cfg0.N) (b : Fin 8) (hb : t.val / 4 = b.val) (k : Fin 8) (q : Fin 3072) (n : Fin 3) (hn : k.val = n.val + 5) :
    iblk m c 2 t (ix3 0 k q) = aC m c (ix4 1 b n q) := by
  have hlt := pt_lt t
  have hi := (idx_in t).2.2.1
  refine Eq.trans (b := V m c main_v19 (ix3 b k q)) ?_ ?_
  · blk_simp [iblk]
    refine congrArg (V m c main_v19) ?_
    blk_ext
    all_goals simp [hi]
    all_goals first | done | omega
  · rw [V_19]
    refine (room_at _ b k (by omega) q).trans (congrArg (fun z => aC m c (ix4 1 b z q)) (Fin.ext ?_))
    show k.val - 5 = n.val
    omega

theorem blk3 (c : Dev nD) (t : Fin cfg0.N) (k : Fin 4) (q : Fin 3072) : iblk m c 3 t (ix2 k q) = aW m c (ix2 k q) := by
  have hi := (idx_in t).2.2.2.1
  refine Eq.trans (b := V m c main_arg3 (ix2 k q)) ?_ ?_
  · blk_simp [iblk]
    refine congrArg (V m c main_arg3) ?_
    blk_ext
    all_goals simp [hi]
    all_goals first | done | omega
  · rw [V_w]

theorem blk4 (c : Dev nD) (t : Fin cfg0.N) (q : Fin 3072) : iblk m c 4 t (ix2 0 q) = aB m c (ix1 q) := by
  have hi := (idx_in t).2.2.2.2.1
  refine Eq.trans (b := V m c main_v20 (ix2 0 q)) ?_ ?_
  · blk_simp [iblk]
    refine congrArg (V m c main_v20) ?_
    blk_ext
    all_goals simp [hi]
    all_goals first | done | omega
  · rw [V_20]
    show shapeCast S1x3072 (aB m c) _ _ = _
    generalize aB m c = z
    pointwise

/-- The entering rows as a matrix. -/
theorem cast_at (x : Vec Ideal S1x8x3072 .f32) (k : Fin 8) (q : Fin 3072) : shapeCast S8x3072 x shapeCasts_S1x8x3072_S8x3072 (ix2 k q) = x (ix3 0 k q) := by
  pointwise

/-- The number a few rows before one of a grid point's rows. -/
theorem before_pt (c : Dev nD) (t : Fin cfg0.N) (r : Fin 512) (q : Fin 3072) (k : Fin 4) (b : Fin 8) (u : Fin 2048) (hb : t.val / 4 = b.val) (hu : u.val = 512 * (t.val % 4) + r.val) :
    before (Scalar.select (isStart (grid0.coords t)) (shapeCast S8x3072 (iblk m c 2 t : Vec Ideal S1x8x3072 .f32) shapeCasts_S1x8x3072_S8x3072) (X0_1 m c t)) (X0_0 m c t) k r q
      = past (aP m c) (aC m c) b u q k := by
  have hk := k.isLt
  unfold before past
  by_cases h : k.val ≤ r.val
  · rw [if_pos h, if_pos (by omega)]
    exact blk0 m c t _ q b _ (by show 512 * t.val + (r.val - k.val) = 2048 * b.val + (u.val - k.val); omega)
  · rw [if_neg h, start_val]
    by_cases h0 : t.val % 4 = 0
    · rw [if_pos h0, if_neg (by omega)]
      refine (cast_at _ _ q).trans (blk2 m c t b hb _ q _ ?_)
      show (8 + r.val - k.val) % 8 = (3 + u.val - k.val) % 3 + 5
      omega
    · rw [if_neg h0, if_pos (by omega)]
      exact blk1 m c t (by omega) _ q b _ (by show 512 * t.val + (8 + r.val - k.val) % 8 = 2048 * b.val + (u.val - k.val) + 8; omega)

/-- The launch's result, row by row. -/
def oArr (p : Vec Ideal S8x2048x11296 .f32) (s : Vec Ideal S2x8x3x3072 .f32) (w : Vec Ideal S4x3072 .f32) (d : Vec Ideal S3072 .f32) : Vec Ideal S16384x3072 .f32 := fun y =>
  gated (sumOf (longer p s) w d) (ix3 ⟨(y 0).val / 2048, by have : (y 0).val < 16384 := (y 0).isLt; omega⟩ ⟨(y 0).val % 2048, by omega⟩ (y 1))

theorem oblk_pt (c : Dev nD) (t : Fin cfg0.N) (r : Fin 512) (q : Fin 3072) :
    oblk (grid0.coords t) (X0_0 m c t) (X0_1 m c t) (iblk m c 2 t) (iblk m c 3 t) (iblk m c 4 t) (ix2 r q)
      = oArr (aP m c) (aC m c) (aW m c) (aB m c) (ix2 ⟨512 * t.val + r.val, by have := pt_lt t; omega⟩ q) := by
  have hlt := pt_lt t
  have hb : t.val / 4 = (512 * t.val + r.val) / 2048 := by omega
  have hu : (512 * t.val + r.val) % 2048 = 512 * (t.val % 4) + r.val := by omega
  rw [oblk_at]
  refine Eq.trans ?_ (gated_sum_at _ _ _ _ ⟨(512 * t.val + r.val) / 2048, by omega⟩ ⟨(512 * t.val + r.val) % 2048, by omega⟩ q).symm
  rw [before_pt m c t r q 1 ⟨(512 * t.val + r.val) / 2048, by omega⟩ ⟨(512 * t.val + r.val) % 2048, by omega⟩ hb hu,
    before_pt m c t r q 2 ⟨(512 * t.val + r.val) / 2048, by omega⟩ ⟨(512 * t.val + r.val) % 2048, by omega⟩ hb hu,
    before_pt m c t r q 3 ⟨(512 * t.val + r.val) / 2048, by omega⟩ ⟨(512 * t.val + r.val) % 2048, by omega⟩ hb hu,
    blk3, blk3, blk3, blk3, blk4,
    blk0 m c t r q ⟨(512 * t.val + r.val) / 2048, by omega⟩ ⟨(512 * t.val + r.val) % 2048, by omega⟩ (by show 512 * t.val + r.val = 2048 * ((512 * t.val + r.val) / 2048) + (512 * t.val + r.val) % 2048; omega)]
  rfl

/-- The launch's result. -/
theorem final5 (c : Dev nD) : (dats m 0 c).arrAt 5 cfg0.N = oArr (aP m c) (aC m c) (aW m c) (aB m c) := by
  refine (dats m 0 c).arrAt_eq_of_covers 5 _ (by decide +kernel) fun t hf y => ?_
  have h := (idx_in t).2.2.2.2.2
  have hlt := pt_lt t
  blk_simp
  rw [after0_5]
  idx_vars y
  unfold outsAt0
  rw [out5_eq, oblk_pt]
  refine congrArg (oArr (aP m c) (aC m c) (aW m c) (aB m c)) ?_
  blk_ext
  all_goals simp [h]
  all_goals first | done | omega

/-- The result as sequences is the reference's array. -/
theorem seq_eq (p : Vec Ideal S8x2048x11296 .f32) (s : Vec Ideal S2x8x3x3072 .f32) (w : Vec Ideal S4x3072 .f32) (d : Vec Ideal S3072 .f32) : seqOf (oArr p s w d) = gated (sumOf (longer p s) w d) := by
  funext y
  idx_vars y
  rw [seqOf_at]
  unfold oArr
  refine congrArg (gated (sumOf (longer p s) w d)) ?_
  refine congrArg₂ (fun a b => ix3 a b y2) (Fin.ext ?_) (Fin.ext ?_)
  · show (2048 * y0.val + y1.val) / 2048 = y0.val
    omega
  · show (2048 * y0.val + y1.val) % 2048 = y1.val
    omega

end Cert.Kernel4Ideal.Value
end
-- ==== Proof.ConvEntryS.lean ====
/- What the short convolution's launch reads, and the lines after it. -/
module

public import proofs.«01_k».proof.Proof.Gen.Kernel5Ideal.Frame
public import proofs.«01_k».proof.Proof.ConvEntry
public import Idealize.ShloMosaic.Lib.Claim
public import Idealize.ShloMosaic.Lib.Pipeline.ValueKit

@[expose] public section
set_option maxRecDepth 16384
set_option maxHeartbeats 3200000
noncomputable section
namespace Cert.Kernel5Ideal.Value
open Cert.Kernel5Ideal Cert.Kernel5Ideal.Gen Idealize.ShloMosaic Idealize.ShloMosaic.TcCoe Idealize.SL.Sem
open Cert.Kernel3Ideal.Value (catW rowsW cat9 cols rowsW_sample)

/-- The three entering rows of each sample with room for eight, stacked. -/
def room (s : Vec Ideal S2x128x3x3072 .f32) : Vec Ideal S1024x3072 .f32 :=
  shapeCast S1024x3072 (pad S128x8x3072 ![0, 5, 0] ![0, 0, 0] ![0, 0, 0] (shapeCast S128x3x3072 (extractStridedSlice S1x128x3x3072 ![1, 0, 0, 0] s slices_S2x128x3x3072_S1x128x3x3072_1_0_0_0)
    shapeCasts_S1x128x3x3072_S128x3x3072) (sitofp (F := Ideal) FTy.f32 (constantI S_ 32 0#32)) pads_S128x3x3072_S128x8x3072_000_500_000 h_S_) shapeCasts_S128x8x3072_S1024x3072

theorem room_at (s : Vec Ideal S2x128x3x3072 .f32) (r : Fin 1024) (b : Fin 128) (k : Fin 3) (h : r.val = 8 * b.val + k.val + 5) (q : Fin 3072) : room s (ix2 r q) = s (ix4 1 b k q) := by
  unfold room
  generalize (sitofp (F := Ideal) FTy.f32 (constantI S_ 32 0#32)) = v
  pointwise
  split_ifs <;> first | omega | skip
  refine congrArg₂ (fun y z => s (ix4 1 y z q)) (Fin.ext ?_) (Fin.ext ?_)
  · show r.val / 8 = b.val
    omega
  · show r.val % 8 - 5 = k.val
    omega

/-- The result as sequences, their first four rows. -/
def seqOf (p : Vec Ideal S1024x3072 .f32) : Vec Ideal S128x4x3072 .f32 :=
  extractStridedSlice S128x4x3072 ![0, 0, 0] (shapeCast S128x8x3072 p shapeCasts_S1024x3072_S128x8x3072) slices_S128x8x3072_S128x4x3072_0_0_0

theorem seqOf_at (p : Vec Ideal S1024x3072 .f32) (b : Fin 128) (t : Fin 4) (q : Fin 3072) : seqOf p (ix3 b t q) = p (ix2 ⟨8 * b.val + t.val, by omega⟩ q) := by
  pointwise [seqOf]
  exact congrArg (fun z => p (ix2 z q)) (Fin.ext (by simp; try omega))

variable (m : (ℓ : Loc nD τ sig) → Buf (Elt Ideal) ℓ)

theorem V_16 (c : Dev nD) : V m c main_v16 = cols (rowsW (m ((c : Thread nD τ).loc main_arg0)) (m ((c : Thread nD τ).loc main_arg1))) := by
  simp only [V, V0, hostOps0, hostOps0_1, hostOps0_2, hostOps0_3, hostOps0_4, hostOps0_5, hostOps0_6, List.flatten_cons, List.flatten_nil, List.cons_append, List.nil_append, List.append_nil]
  after_results_simp
  refine (show cat9 _ _ _ _ _ _ _ _ _ = _ from ?_)
  simp only [Matrix.cons_val]
  after_results_simp
  rfl

theorem V_21 (c : Dev nD) : V m c main_v21 = room (m ((c : Thread nD τ).loc main_arg2)) := by
  simp only [V, V0, hostOps0, hostOps0_1, hostOps0_2, hostOps0_3, hostOps0_4, hostOps0_5, hostOps0_6, List.flatten_cons, List.flatten_nil, List.cons_append, List.nil_append, List.append_nil]
  after_results_simp
  rfl

theorem V_w (c : Dev nD) : V m c main_arg3 = m ((c : Thread nD τ).loc main_arg3) := by
  simp only [V, V0, hostOps0, hostOps0_1, hostOps0_2, hostOps0_3, hostOps0_4, hostOps0_5, hostOps0_6, List.flatten_cons, List.flatten_nil, List.cons_append, List.nil_append, List.append_nil]
  after_results_simp

theorem V_20 (c : Dev nD) : V m c main_v20 = shapeCast S1x3072 (m ((c : Thread nD τ).loc main_arg4)) shapeCasts_S3072_S1x3072 := by
  simp only [V, V0, hostOps0, hostOps0_1, hostOps0_2, hostOps0_3, hostOps0_4, hostOps0_5, hostOps0_6, List.flatten_cons, List.flatten_nil, List.cons_append, List.nil_append, List.append_nil]
  after_results_simp
  rfl

/-- The lines after the launch, from any contents that hold the launch's result. -/
theorem tail_24 (W : Valuation τ sig (Elt Ideal)) : StableHlo.after hostOps1 W (Proc.devRef .tc main_v24) = seqOf (W (Proc.devRef .tc main_v22)) := by
  simp only [hostOps1]; after_results_simp; rfl

/-- The lines after the launch start from each array's contents at the launch's end. -/
theorem at_exit (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 launch0.win.arr_inj c _ _ w

/-- The result after the run. -/
theorem run_result (ρ : Dev nD → PrngReg) : θ_run defs (onTc (τ := τ) (main (F := Ideal))) ⟨m, fun _ => 0, ρ⟩ (fun r => ∀ c : Dev nD,
      r.2.mem ((c.tc : Thread nD τ).loc main_v24) = seqOf ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, h.2 c⟩) (θ_run_and (run_main m ρ) (unchanged m ρ))
  refine ((h.1 c).2 main_v24 (Pipeline.mem_restRefs_of main_v24 (by decide) (by decide))).trans ?_
  unfold Pipeline.afterTail₀
  exact (tail_24 _).trans (congrArg seqOf (at_exit m c 4))

end Cert.Kernel5Ideal.Value
end
-- ==== Proof.ConvRefS.lean ====
/- The convolution's reference on the samples read at an index. -/
module

public import proofs.«01_k».proof.Proof.Conv
public import proofs.«01_k».proof.Proof.Gen.Reference5Ideal.Run

@[expose] public section
set_option maxRecDepth 16384
set_option maxHeartbeats 1600000
noncomputable section
namespace Cert.Reference5Ideal.Value
open Cert.Reference5Ideal Cert.Reference5Ideal.Gen Idealize.ShloMosaic Idealize.ShloMosaic.TcCoe Idealize.SL.Sem

/-- A sample's convolved columns after its three entering rows. -/
def longer (p : Vec Ideal S128x4x11296 .f32) (s : Vec Ideal S2x128x3x3072 .f32) : Vec Ideal S128x7x3072 .f32 :=
  concatenate S128x7x3072 1 [⟨S128x3x3072, (shapeCast S128x3x3072 (extractStridedSlice S1x128x3x3072 ![1, 0, 0, 0] s slices_S2x128x3x3072_S1x128x3x3072_1_0_0_0) shapeCasts_S1x128x3x3072_S128x3x3072)⟩,
    ⟨S128x4x3072, (extractStridedSlice S128x4x3072 ![0, 0, 6144] p slices_S128x4x11296_S128x4x3072_0_0_6144)⟩] concatenates_S128x3x3072_S128x4x3072_S128x7x3072_d1

/-- The number a few positions before one of a sample. -/
def past (p : Vec Ideal S128x4x11296 .f32) (s : Vec Ideal S2x128x3x3072 .f32) (b : Fin 128) (t : Fin 4) (q : Fin 3072) (k : Fin 4) : EReal :=
  if k.val ≤ t.val then p (ix3 b ⟨t.val - k.val, by omega⟩ ⟨6144 + q.val, by omega⟩) else s (ix4 1 b ⟨(3 + t.val - k.val) % 3, by omega⟩ q)

theorem longer_at (p : Vec Ideal S128x4x11296 .f32) (s : Vec Ideal S2x128x3x3072 .f32) (b : Fin 128) (t : Fin 4) (q : Fin 3072) (k : Fin 4) (n : Fin 7) (hn : n.val = t.val + 3 - k.val) :
    longer p s (ix3 b n q) = past p s b t q k := by
  have hk := k.isLt
  unfold past
  pointwise [longer]
  split_ifs <;> first | (exfalso; omega) | skip
  · refine congrArg (fun z => s (ix4 1 b z q)) (Fin.ext ?_)
    show n.val = (3 + t.val - k.val) % 3
    omega
  · refine Eq.trans (congrArg₂ (fun z w => p (ix3 b z w)) (Fin.ext ?_) (Fin.ext ?_)) (if_pos (by omega)).symm
    · show n.val - 3 = t.val - k.val
      omega
    · rfl

/-- The four weighted rows added to the bias. -/
def sumOf (u : Vec Ideal S128x7x3072 .f32) (w : Vec Ideal S4x3072 .f32) (d : Vec Ideal S3072 .f32) : FVec Ideal S128x4x3072 .f32 :=
  addf (addf (addf (addf (broadcastInDim S128x4x3072 ![0, 1, 2] bcast_S1x1x3072_S128x4x3072_0_1_2 (broadcastInDim S1x1x3072 ![2] bcast_S3072_S1x1x3072_2 d))
    (mulf (broadcastInDim S128x4x3072 ![0, 1, 2] bcast_S1x1x3072_S128x4x3072_0_1_2 (broadcastInDim S1x1x3072 ![2] bcast_S3072_S1x1x3072_2 (shapeCast S3072 (extractStridedSlice S1x3072 ![0, 0] w slices_S4x3072_S1x3072_0_0) shapeCasts_S1x3072_S3072)))
      (extractStridedSlice S128x4x3072 ![0, 0, 0] u slices_S128x7x3072_S128x4x3072_0_0_0)))
    (mulf (broadcastInDim S128x4x3072 ![0, 1, 2] bcast_S1x1x3072_S128x4x3072_0_1_2 (broadcastInDim S1x1x3072 ![2] bcast_S3072_S1x1x3072_2 (shapeCast S3072 (extractStridedSlice S1x3072 ![1, 0] w slices_S4x3072_S1x3072_1_0) shapeCasts_S1x3072_S3072)))
      (extractStridedSlice S128x4x3072 ![0, 1, 0] u slices_S128x7x3072_S128x4x3072_0_1_0)))
    (mulf (broadcastInDim S128x4x3072 ![0, 1, 2] bcast_S1x1x3072_S128x4x3072_0_1_2 (broadcastInDim S1x1x3072 ![2] bcast_S3072_S1x1x3072_2 (shapeCast S3072 (extractStridedSlice S1x3072 ![2, 0] w slices_S4x3072_S1x3072_2_0) shapeCasts_S1x3072_S3072)))
      (extractStridedSlice S128x4x3072 ![0, 2, 0] u slices_S128x7x3072_S128x4x3072_0_2_0)))
    (mulf (broadcastInDim S128x4x3072 ![0, 1, 2] bcast_S1x1x3072_S128x4x3072_0_1_2 (broadcastInDim S1x1x3072 ![2] bcast_S3072_S1x1x3072_2 (shapeCast S3072 (extractStridedSlice S1x3072 ![3, 0] w slices_S4x3072_S1x3072_3_0) shapeCasts_S1x3072_S3072)))
      (extractStridedSlice S128x4x3072 ![0, 3, 0] u slices_S128x7x3072_S128x4x3072_0_3_0))

theorem sumOf_at (p : Vec Ideal S128x4x11296 .f32) (s : Vec Ideal S2x128x3x3072 .f32) (w : Vec Ideal S4x3072 .f32) (d : Vec Ideal S3072 .f32) (b : Fin 128) (t : Fin 4) (q : Fin 3072) :
    sumOf (longer p s) w d (ix3 b t q) = (((d (ix1 q) + w (ix2 0 q) * past p s b t q 3) + w (ix2 1 q) * past p s b t q 2) + w (ix2 2 q) * past p s b t q 1) + w (ix2 3 q) * past p s b t q 0 := by
  rw [← longer_at p s b t q 3 ⟨t.val + 0, by omega⟩ (by simp), ← longer_at p s b t q 2 ⟨t.val + 1, by omega⟩ (by simp),
    ← longer_at p s b t q 1 ⟨t.val + 2, by omega⟩ (by simp), ← longer_at p s b t q 0 ⟨t.val + 3, by omega⟩ (by simp)]
  generalize longer p s = u
  have e0 : u (ix3 b ⟨t.val + 0, by omega⟩ q) = extractStridedSlice S128x4x3072 ![0, 0, 0] u slices_S128x7x3072_S128x4x3072_0_0_0 (ix3 b t q) := by
    pointwise
  have e1 : u (ix3 b ⟨t.val + 1, by omega⟩ q) = extractStridedSlice S128x4x3072 ![0, 1, 0] u slices_S128x7x3072_S128x4x3072_0_1_0 (ix3 b t q) := by
    pointwise
    exact congrArg (fun z => u (ix3 b z q)) (Fin.ext (by show t.val + 1 = _; first | rfl | exact Nat.add_comm ..))
  have e2 : u (ix3 b ⟨t.val + 2, by omega⟩ q) = extractStridedSlice S128x4x3072 ![0, 2, 0] u slices_S128x7x3072_S128x4x3072_0_2_0 (ix3 b t q) := by
    pointwise
    exact congrArg (fun z => u (ix3 b z q)) (Fin.ext (by show t.val + 2 = _; first | rfl | exact Nat.add_comm ..))
  have e3 : u (ix3 b ⟨t.val + 3, by omega⟩ q) = extractStridedSlice S128x4x3072 ![0, 3, 0] u slices_S128x7x3072_S128x4x3072_0_3_0 (ix3 b t q) := by
    pointwise
    exact congrArg (fun z => u (ix3 b z q)) (Fin.ext (by show t.val + 3 = _; first | rfl | exact Nat.add_comm ..))
  rw [e0, e1, e2, e3]
  unfold sumOf
  generalize extractStridedSlice S128x4x3072 ![0, 0, 0] u _ = u0
  generalize extractStridedSlice S128x4x3072 ![0, 1, 0] u _ = u1
  generalize extractStridedSlice S128x4x3072 ![0, 2, 0] u _ = u2
  generalize extractStridedSlice S128x4x3072 ![0, 3, 0] u _ = u3
  pointwise

/-- A number under its gate. -/
def gated (z : FVec Ideal S128x4x3072 .f32) : FVec Ideal S128x4x3072 .f32 :=
  mulf z (Host.divf (broadcastInDim S128x4x3072 ![] bcast_S_S128x4x3072 (constant S_ .f32 0x3F800000#32))
    (addf (broadcastInDim S128x4x3072 ![] bcast_S_S128x4x3072 (constant S_ .f32 0x3F800000#32)) (Host.exp (Host.negf z))))

theorem gated_at (z : FVec Ideal S128x4x3072 .f32) (b : Fin 128) (t : Fin 4) (q : Fin 3072) : gated z (ix3 b t q) = z (ix3 b t q) * Ideal.logistic (z (ix3 b t q)) := by
  unfold gated
  pointwise
  rfl

/-- The reference's result at an index. -/
theorem res_at (m : (ℓ : Loc nD τ sig) → Buf (Elt Ideal) ℓ) (c : Dev nD) (p : Vec Ideal S128x4x11296 .f32) (s : Vec Ideal S2x128x3x3072 .f32) (w : Vec Ideal S4x3072 .f32) (d : Vec Ideal S3072 .f32)
    (hp : m ((c.tc : Thread nD τ).loc main_arg1) = p) (hs : m ((c.tc : Thread nD τ).loc main_arg2) = s) (hw : m ((c.tc : Thread nD τ).loc main_arg3) = w) (hd : m ((c.tc : Thread nD τ).loc main_arg4) = d) :
    res_out0 m c = gated (sumOf (longer p s) w d) := by
  subst hp hs hw hd
  unfold res_out0 res_main_v34
  rfl

/-- The same in one number's terms. -/
theorem gated_sum_at (p : Vec Ideal S128x4x11296 .f32) (s : Vec Ideal S2x128x3x3072 .f32) (w : Vec Ideal S4x3072 .f32) (d : Vec Ideal S3072 .f32) (b : Fin 128) (t : Fin 4) (q : Fin 3072) :
    gated (sumOf (longer p s) w d) (ix3 b t q) = Cert.Conv.out (d (ix1 q)) (w (ix2 0 q)) (w (ix2 1 q)) (w (ix2 2 q)) (w (ix2 3 q)) (past p s b t q 0) (past p s b t q 1) (past p s b t q 2) (past p s b t q 3) := by
  rw [gated_at, sumOf_at]
  rfl

end Cert.Reference5Ideal.Value
end
-- ==== Proof.ConvS.lean ====
/- What the short convolution's body computes of its blocks, read at an index: sixteen sequences of eight rows each in one block. -/
module

public import proofs.«01_k».proof.Proof.Conv
public import proofs.«01_k».proof.Proof.Gen.Kernel5Ideal.Skeleton

@[expose] public section
set_option maxRecDepth 16384
set_option maxHeartbeats 1600000
noncomputable section
namespace Cert.Kernel5Ideal.Value
open Cert.Kernel5Ideal Cert.Kernel5Ideal.Gen Idealize.ShloMosaic Idealize.SL.Sem Cert.Mix

/-- The row a few rows before one of a block's, within its sequence or else of the rows before the sequence. -/
def before (p x : Vec Ideal S128x3072 .f32) (s : Fin 4) (r : Fin 128) (q : Fin 3072) : EReal :=
  if s.val ≤ r.val % 8 then x (ix2 ⟨r.val - s.val, by omega⟩ q) else p (ix2 ⟨(r.val + 8 - s.val) % 128, by omega⟩ q)

/-- A row's place in its sequence. -/
def place : IVec S128x3072 32 := andi (iota .tc S128x3072 32 [0] iota_S128x3072_d0_w32) (broadcast S128x3072 7#32)

/-- The two blocks rotated, one of them chosen row by row. -/
def turned (n k : BitVec 32) (x p : Vec Ideal S128x3072 .f32) : FVec Ideal S128x3072 .f32 :=
  select (cmpi .sge place (broadcast S128x3072 n)) (dynamicRotate 0 n none x rotates_S128x3072_d0) (dynamicRotate 0 k none p rotates_S128x3072_d0)

/-- Whether a row's place is not before another. -/
theorem later : ∀ (r : Fin 128) (s : Fin 4), IntOp.cmpi .sge (IntOp.andi (BitVec.ofNat 32 r.val) 7#32) (BitVec.ofNat 32 s.val) = if s.val ≤ r.val % 8 then 1#1 else 0#1 := by
  decide +kernel

theorem chosen_at (s : Fin 4) (r : Fin 128) (q : Fin 3072) :
    cmpi .sge place (broadcast S128x3072 (BitVec.ofNat 32 s.val)) (ix2 r q) = if s.val ≤ r.val % 8 then 1#1 else 0#1 := by
  rw [← later r s]
  pointwise [place]

theorem turned_at (p x : Vec Ideal S128x3072 .f32) (n k : BitVec 32) (s : Fin 4) (hs : 0 < s.val) (hn : n = BitVec.ofNat 32 s.val) (hk : k.toNat = 120 + s.val) (r : Fin 128) (q : Fin 3072) :
    turned n k x p (ix2 r q) = before p x s r q := by
  have hlt := s.isLt
  have hr := r.isLt
  have hc := chosen_at s r q
  have hn' : n.toNat = s.val := by rw [hn]; simp; omega
  unfold before turned
  rw [← hn] at hc
  generalize cmpi .sge place (broadcast S128x3072 n) = g at hc
  pointwise
  rw [hc]
  by_cases h : s.val ≤ r.val % 8
  · rw [if_pos h, if_pos h]
    refine congrArg (fun z => x (ix2 z q)) (Fin.ext ?_)
    show (r.val + 128 - n.toNat % 128) % 128 = r.val - s.val
    omega
  · rw [if_neg h, if_neg h]
    refine congrArg (fun z => p (ix2 z q)) (Fin.ext ?_)
    show (r.val + 128 - k.toNat % 128) % 128 = (r.val + 8 - s.val) % 128
    omega

/-- The sum of a row and the three before it, weighted. -/
def sum4 (x p : Vec Ideal S128x3072 .f32) (w : Vec Ideal S4x3072 .f32) (b : Vec Ideal S1x3072 .f32) : FVec Ideal S128x3072 .f32 :=
  addf (addf (addf (addf (broadcastTo S128x3072 b broadcasts_S1x3072_S128x3072)
    (mulf (broadcastTo S128x3072 (extractStridedSlice S1x3072 ![3, 0] w slices_S4x3072_o3_0_S1x3072) broadcasts_S1x3072_S128x3072) x))
    (mulf (broadcastTo S128x3072 (extractStridedSlice S1x3072 ![2, 0] w slices_S4x3072_o2_0_S1x3072) broadcasts_S1x3072_S128x3072) (turned 1#32 121#32 x p)))
    (mulf (broadcastTo S128x3072 (extractStridedSlice S1x3072 ![1, 0] w slices_S4x3072_o1_0_S1x3072) broadcasts_S1x3072_S128x3072) (turned 2#32 122#32 x p)))
    (mulf (broadcastTo S128x3072 (extractStridedSlice S1x3072 ![0, 0] w slices_S4x3072_o0_0_S1x3072) broadcasts_S1x3072_S128x3072) (turned 3#32 123#32 x p))

theorem sum4_at (x p : Vec Ideal S128x3072 .f32) (w : Vec Ideal S4x3072 .f32) (b : Vec Ideal S1x3072 .f32) (r : Fin 128) (q : Fin 3072) :
    sum4 x p w b (ix2 r q) = (((b (ix2 0 q) + w (ix2 3 q) * x (ix2 r q)) + w (ix2 2 q) * before p x 1 r q) + w (ix2 1 q) * before p x 2 r q) + w (ix2 0 q) * before p x 3 r q := by
  rw [← turned_at p x 1#32 121#32 1 (by decide) rfl rfl, ← turned_at p x 2#32 122#32 2 (by decide) rfl rfl, ← turned_at p x 3#32 123#32 3 (by decide) rfl rfl]
  unfold sum4
  generalize turned 1#32 121#32 x p = z1
  generalize turned 2#32 122#32 x p = z2
  generalize turned 3#32 123#32 x p = z3
  pointwise

/-- A number under its gate. -/
def gate (z : FVec Ideal S128x3072 .f32) : FVec Ideal S128x3072 .f32 :=
  mulf z (addf (mulf (broadcast S128x3072 (Scalar.ofBits .f32 0x3F000000#32)) (tanh (mulf (broadcast S128x3072 (Scalar.ofBits .f32 0x3F000000#32)) z))) (broadcast S128x3072 (Scalar.ofBits .f32 0x3F000000#32)))

theorem gate_at (z : FVec Ideal S128x3072 .f32) (r : Fin 128) (q : Fin 3072) : gate z (ix2 r q) = z (ix2 r q) * Ideal.logistic (z (ix2 r q)) := by
  rw [← sigm, ← Cert.Rec.half_bits]
  unfold gate
  pointwise

/-- The rows a grid point leaves. -/
def oblk (x p : Vec Ideal S128x3072 .f32) (w : Vec Ideal S4x3072 .f32) (b : Vec Ideal S1x3072 .f32) : FVec Ideal S128x3072 .f32 :=
  k0_pay1 (k0_pay5 x p w b) (k0_pay6 x p w)

theorem oblk_eq (x p : Vec Ideal S128x3072 .f32) (w : Vec Ideal S4x3072 .f32) (b : Vec Ideal S1x3072 .f32) : oblk x p w b = gate (sum4 x p w b) := by
  have h : oblk x p w b = gate (sum4 (shapeCast S128x3072 x shapeCasts_S128x3072_S128x3072) (shapeCast S128x3072 p shapeCasts_S128x3072_S128x3072) w (shapeCast S1x3072 b shapeCasts_S1x3072_S1x3072)) := by
    unfold oblk k0_pay1 k0_pay5 k0_pay6 k0_pay2 k0_pay3 k0_pay4 gate sum4 turned place
    rfl
  rw [h]
  simp only [shapeCast_self]

theorem oblk_at (x p : Vec Ideal S128x3072 .f32) (w : Vec Ideal S4x3072 .f32) (b : Vec Ideal S1x3072 .f32) (r : Fin 128) (q : Fin 3072) :
    oblk x p w b (ix2 r q) = Cert.Conv.out (b (ix2 0 q)) (w (ix2 0 q)) (w (ix2 1 q)) (w (ix2 2 q)) (w (ix2 3 q)) (x (ix2 r q)) (before p x 1 r q) (before p x 2 r q) (before p x 3 r q) := by
  rw [oblk_eq, gate_at, sum4_at, Cert.Conv.turn]
  rfl

end Cert.Kernel5Ideal.Value
end
-- ==== Proof.ConvFinS.lean ====
/- The short convolution's result is the reference's. -/
module

public import proofs.«01_k».proof.Proof.ConvEntryS
public import proofs.«01_k».proof.Proof.ConvRefS
public import proofs.«01_k».proof.Proof.ConvS

@[expose] public section
set_option maxRecDepth 16384
set_option maxHeartbeats 3200000
noncomputable section
namespace Cert.Kernel5Ideal.Value
open Cert.Kernel5Ideal Cert.Kernel5Ideal.Gen Idealize.ShloMosaic Idealize.ShloMosaic.TcCoe Idealize.SL.Sem
open Cert.Kernel3Ideal.Value (rowsW cols rowsW_sample)
open Cert.Reference5Ideal.Value (past longer sumOf gated gated_sum_at)
open Idealize.ShloMosaic.Pipeline (Dat)

section Pieces
variable (c : Dev nD) (i : grid0.Coords)
  (arg1 : Memref sig .tc .vmem S128x3072 .f32) (harg1 : arg1.IsWhole)
  (arg2 : Memref sig .tc .vmem S128x3072 .f32) (harg2 : arg2.IsWhole)
  (arg3 : Memref sig .tc .vmem S4x3072 .f32) (harg3 : arg3.IsWhole)
  (arg4 : Memref sig .tc .vmem S1x3072 .f32) (harg4 : arg4.IsWhole)
  (arg5 : Memref sig .tc .vmem S128x3072 .f32) (harg5 : arg5.IsWhole)
  (x0 x1 : Vec Ideal S128x3072 .f32) (x2 : Vec Ideal S4x3072 .f32) (x3 : Vec Ideal S1x3072 .f32)

theorem out4_eq : out0_A_4 c i arg1 harg1 arg2 harg2 arg3 harg3 arg4 harg4 arg5 harg5 x0 x1 x2 x3 = oblk x0 x1 x2 x3 := by
  frame_open
  frame_out
  rfl
end Pieces

variable (m : (ℓ : Loc nD τ sig) → Buf (Elt Ideal) ℓ)

/-- The arguments: the projected rows of the two batches, the entering rows, the weights and the bias. -/
abbrev aP (c : Dev nD) : Vec Ideal S8x2048x11296 .f32 := m ((c : Thread nD τ).loc main_arg0)
abbrev aS (c : Dev nD) : Vec Ideal S128x4x11296 .f32 := m ((c : Thread nD τ).loc main_arg1)
abbrev aC (c : Dev nD) : Vec Ideal S2x128x3x3072 .f32 := m ((c : Thread nD τ).loc main_arg2)
abbrev aW (c : Dev nD) : Vec Ideal S4x3072 .f32 := m ((c : Thread nD τ).loc main_arg3)
abbrev aB (c : Dev nD) : Vec Ideal S3072 .f32 := m ((c : Thread nD τ).loc main_arg4)

theorem pt_lt (t : Fin cfg0.N) : t.val < 8 := t.isLt

/-- The block a grid point is on, array by array. -/
theorem idx_in (t : Fin cfg0.N) : (win0_0.index t 0 = 128 + t.val ∧ win0_0.index t 1 = 2) ∧ (win0_1.index t 0 = t.val ∧ win0_1.index t 1 = 0)
    ∧ (win0_2.index t 0 = 0 ∧ win0_2.index t 1 = 0) ∧ (win0_3.index t 0 = 0 ∧ win0_3.index t 1 = 0) ∧ (win0_4.index t 0 = t.val ∧ win0_4.index t 1 = 0) := by
  revert t; decide +kernel

/-- The convolved columns of the projected rows, of a sample. -/
theorem row_sample (c : Dev nD) (n : Fin 17408) (b : Fin 128) (u : Fin 4) (h : n.val = 16384 + 8 * b.val + u.val) (q : Fin 3072) :
    V m c main_v16 (ix2 n ⟨6144 + q.val, by omega⟩) = aS m c (ix3 b u ⟨6144 + q.val, by omega⟩) := by
  rw [V_16]
  refine (Cert.Kernel4Ideal.Value.cols_xs _ n q).trans ?_
  have e : n = ⟨16384 + 8 * b.val + u.val, by have := b.isLt; have := u.isLt; omega⟩ := Fin.ext h
  rw [e]
  exact rowsW_sample _ _ b u _

/-- A block of the convolved columns. -/
theorem blk0 (c : Dev nD) (t : Fin cfg0.N) (r : Fin 128) (q : Fin 3072) (b : Fin 128) (u : Fin 4) (h : 128 * t.val + r.val = 8 * b.val + u.val) :
    X0_0 m c t (ix2 r q) = aS m c (ix3 b u ⟨6144 + q.val, by omega⟩) := by
  have hlt := pt_lt t
  have hi := (idx_in t).1
  unfold X0_0 Pipeline.Window.fill
  rw [dif_pos (moved0_0 t _)]
  refine Eq.trans (b := V m c main_v16 (ix2 ⟨16384 + 128 * t.val + r.val, by omega⟩ ⟨6144 + q.val, by omega⟩)) ?_ (row_sample m c _ b u (by show 16384 + 128 * t.val + r.val = _; omega) q)
  blk_simp [iblk]
  refine congrArg (V m c main_v16) ?_
  blk_ext
  all_goals simp [hi]
  all_goals first | done | omega

/-- A sample's entering rows. -/
theorem blk1 (c : Dev nD) (t : Fin cfg0.N) (r : Fin 128) (q : Fin 3072) (b : Fin 128) (k : Fin 3) (h : 128 * t.val + r.val = 8 * b.val + k.val + 5) :
    iblk m c 1 t (ix2 r q) = aC m c (ix4 1 b k q) := by
  have hlt := pt_lt t
  have hi := (idx_in t).2.1
  refine Eq.trans (b := V m c main_v21 (ix2 ⟨128 * t.val + r.val, by omega⟩ q)) ?_ ?_
  · blk_simp [iblk]
    refine congrArg (V m c main_v21) ?_
    blk_ext
    all_goals simp [hi]
    all_goals first | done | omega
  · rw [V_21]
    exact room_at _ _ b k h q

theorem blk2 (c : Dev nD) (t : Fin cfg0.N) (k : Fin 4) (q : Fin 3072) : iblk m c 2 t (ix2 k q) = aW m c (ix2 k q) := by
  have hi := (idx_in t).2.2.1
  refine Eq.trans (b := V m c main_arg3 (ix2 k q)) ?_ ?_
  · blk_simp [iblk]
    refine congrArg (V m c main_arg3) ?_
    blk_ext
    all_goals simp [hi]
    all_goals first | done | omega
  · rw [V_w]

theorem blk3 (c : Dev nD) (t : Fin cfg0.N) (q : Fin 3072) : iblk m c 3 t (ix2 0 q) = aB m c (ix1 q) := by
  have hi := (idx_in t).2.2.2.1
  refine Eq.trans (b := V m c main_v20 (ix2 0 q)) ?_ ?_
  · blk_simp [iblk]
    refine congrArg (V m c main_v20) ?_
    blk_ext
    all_goals simp [hi]
    all_goals first | done | omega
  · rw [V_20]
    show shapeCast S1x3072 (aB m c) _ _ = _
    generalize aB m c = z
    pointwise

/-- The number a few rows before one of a grid point's rows, for a row of a sample's four. -/
theorem before_pt (c : Dev nD) (t : Fin cfg0.N) (r : Fin 128) (q : Fin 3072) (k : Fin 4) (b : Fin 128) (u : Fin 4) (h : 128 * t.val + r.val = 8 * b.val + u.val) :
    before (iblk m c 1 t) (X0_0 m c t) k r q = past (aS m c) (aC m c) b u q k := by
  have hk := k.isLt
  have hu := u.isLt
  have hlt := pt_lt t
  have hr := r.isLt
  have e : r.val % 8 = u.val := by omega
  unfold before past
  rw [e]
  by_cases hc : k.val ≤ u.val
  · rw [if_pos hc, if_pos hc]
    exact blk0 m c t _ q b _ (by show 128 * t.val + (r.val - k.val) = 8 * b.val + (u.val - k.val); omega)
  · rw [if_neg hc, if_neg hc]
    exact blk1 m c t _ q b _ (by show 128 * t.val + (r.val + 8 - k.val) % 128 = 8 * b.val + (3 + u.val - k.val) % 3 + 5; omega)

/-- The rows a grid point leaves of a sample's four. -/
theorem oblk_pt (c : Dev nD) (t : Fin cfg0.N) (r : Fin 128) (q : Fin 3072) (b : Fin 128) (u : Fin 4) (h : 128 * t.val + r.val = 8 * b.val + u.val) :
    oblk (X0_0 m c t) (iblk m c 1 t) (iblk m c 2 t) (iblk m c 3 t) (ix2 r q) = gated (sumOf (longer (aS m c) (aC m c)) (aW m c) (aB m c)) (ix3 b u q) := by
  rw [oblk_at]
  refine Eq.trans ?_ (gated_sum_at _ _ _ _ b u q).symm
  rw [before_pt m c t r q 1 b u h, before_pt m c t r q 2 b u h, before_pt m c t r q 3 b u h, blk2, blk2, blk2, blk2, blk3, blk0 m c t r q b u h]
  rfl

/-- What a grid point leaves at one of its rows. -/
def left (c : Dev nD) (t : Fin cfg0.N) (r : Fin 128) (q : Fin 3072) : EReal :=
  oblk (X0_0 m c t) (iblk m c 1 t) (iblk m c 2 t) (iblk m c 3 t) (ix2 r q)

/-- The launch's result: at each row what its grid point leaves. -/
def oArr (c : Dev nD) : Vec Ideal S1024x3072 .f32 := fun y =>
  left m c ⟨(y 0).val / 128, by have : (y 0).val < 1024 := (y 0).isLt; show (y 0).val / 128 < 8; omega⟩ ⟨(y 0).val % 128, by omega⟩ (y 1)

theorem oArr_at (c : Dev nD) (t : Fin cfg0.N) (n : Fin 1024) (r : Fin 128) (h : n.val = 128 * t.val + r.val) (q : Fin 3072) :
    oArr m c (ix2 n q) = left m c t r q := by
  have hr := r.isLt
  exact congrArg₂ (fun a b => left m c a b q) (Fin.ext (by show n.val / 128 = t.val; omega)) (Fin.ext (by show n.val % 128 = r.val; omega))

/-- The launch's result. -/
theorem final4 (c : Dev nD) : (dats m 0 c).arrAt 4 cfg0.N = oArr m c := by
  refine (dats m 0 c).arrAt_eq_of_covers 4 _ (by decide +kernel) fun t hf y => ?_
  have h := (idx_in t).2.2.2.2
  have hlt := pt_lt t
  blk_simp
  rw [after0_4]
  idx_vars y
  unfold outsAt0
  rw [out4_eq]
  refine (oArr_at m c t ⟨128 * t.val + y0.val, by omega⟩ y0 rfl y1).symm.trans ?_
  refine congrArg (oArr m c) ?_
  blk_ext
  all_goals simp [h]
  all_goals first | done | omega

/-- The result's first four rows of each sample are the reference's array. -/
theorem seq_eq (c : Dev nD) : seqOf (oArr m c) = gated (sumOf (longer (aS m c) (aC m c)) (aW m c) (aB m c)) := by
  funext y
  idx_vars y
  have h0 := y0.isLt
  have h1 := y1.isLt
  rw [seqOf_at, oArr_at m c ⟨y0.val / 16, by show y0.val / 16 < 8; omega⟩ _ ⟨(8 * y0.val + y1.val) % 128, by omega⟩ (by show 8 * y0.val + y1.val = 128 * (y0.val / 16) + (8 * y0.val + y1.val) % 128; omega)]
  exact oblk_pt m c _ _ y2 y0 y1 (by show 128 * (y0.val / 16) + (8 * y0.val + y1.val) % 128 = 8 * y0.val + y1.val; omega)

end Cert.Kernel5Ideal.Value
end
-- ==== Proof.CombEntry.lean ====
/- The combination's operand arrays and results, in terms of the kernel's arguments. -/
module

public import proofs.«01_k».proof.Proof.Gen.Kernel6Ideal.Frame
public import proofs.«01_k».proof.Proof.MixRead
public import Idealize.ShloMosaic.Lib.Claim
public import Idealize.ShloMosaic.Lib.Pipeline.ValueKit

@[expose] public section
set_option maxRecDepth 16384
set_option maxHeartbeats 3200000
noncomputable section
namespace Cert.Kernel6Ideal.Value
open Cert.Kernel6Ideal Cert.Kernel6Ideal.Gen Idealize.ShloMosaic Idealize.ShloMosaic.TcCoe Idealize.SL.Sem
open Cert.Kernel2Ideal.Value (rows)
open Cert.Kernel3Ideal.Value (promptOf sampleOf)

/-- Prompt rows above sample rows, of 32 columns. -/
def catL (a : Vec Ideal S16384x32 .f32) (b : Vec Ideal S1024x32 .f32) : Vec Ideal S17408x32 .f32 :=
  concatenate S17408x32 0 [⟨S16384x32, a⟩, ⟨S1024x32, b⟩] concatenates_S16384x32_S1024x32_S17408x32_d0

/-- The router's rows: the prompt's, then the samples', each sample's four rows with room for eight. -/
def rowsL (x : Vec Ideal S8x2048x32 .f32) (s : Vec Ideal S128x4x32 .f32) : Vec Ideal S17408x32 .f32 :=
  catL (shapeCast S16384x32 x shapeCasts_S8x2048x32_S16384x32)
    (shapeCast S1024x32 (pad S128x8x32 ![0, 0, 0] ![0, 4, 0] ![0, 0, 0] s (sitofp (F := Ideal) FTy.f32 (constantI S_ 32 0#32))
      pads_S128x4x32_S128x8x32_000_040_000 h_S_) shapeCasts_S128x8x32_S1024x32)

/-- Prompt rows above sample rows, of the four experts' columns. -/
def catE (a : Vec Ideal S16384x4096 .f32) (b : Vec Ideal S1024x4096 .f32) : Vec Ideal S17408x4096 .f32 :=
  concatenate S17408x4096 0 [⟨S16384x4096, a⟩, ⟨S1024x4096, b⟩] concatenates_S16384x4096_S1024x4096_S17408x4096_d0

/-- The experts' rows, a row's four side by side: the prompt's, then the samples', each sample's four rows with room for eight. -/
def rowsE (x : Vec Ideal S8x2048x4x1024 .f32) (s : Vec Ideal S128x4x4x1024 .f32) : Vec Ideal S17408x4096 .f32 :=
  catE (shapeCast S16384x4096 (shapeCast S8x2048x4096 x shapeCasts_S8x2048x4x1024_S8x2048x4096) shapeCasts_S8x2048x4096_S16384x4096)
    (shapeCast S1024x4096 (pad S128x8x4096 ![0, 0, 0] ![0, 4, 0] ![0, 0, 0] (shapeCast S128x4x4096 s shapeCasts_S128x4x4x1024_S128x4x4096) (sitofp (F := Ideal) FTy.f32 (constantI S_ 32 0#32))
      pads_S128x4x4096_S128x8x4096_000_040_000 h_S_) shapeCasts_S128x8x4096_S1024x4096)

/-- The experts' rows in tiles: all rows' first, all rows' second, third and fourth, and room after them. -/
def slots (w : Vec Ideal S17408x4096 .f32) : Vec Ideal S70144x8x128 .f32 :=
  pad S70144x8x128 ![0, 0, 0] ![512, 0, 0] ![0, 0, 0]
    (shapeCast S69632x8x128 (transpose S4x17408x1024 [1, 0, 2] (shapeCast S17408x4x1024 w shapeCasts_S17408x4096_S17408x4x1024) transposes_S17408x4x1024_S4x17408x1024_1_0_2)
      shapeCasts_S4x17408x1024_S69632x8x128) (sitofp (F := Ideal) FTy.f32 (constantI S_ 32 0#32)) pads_S69632x8x128_S70144x8x128_05120_000_000 h_S_

/-- The four largest of each row's numbers. -/
def topK4 (l : Vec Ideal S17408x32 .f32) : FVec Ideal S17408x4 .f32 := (Host.topK S17408x4 1 (FloatOps.cmpfTotal .gt) l sliceFits_S17408x32_S17408x4).1

/-- Each number's power of e under its row's largest. -/
def power (u : FVec Ideal S17408x4 .f32) : FVec Ideal S17408x4 .f32 :=
  Host.exp (subf u (broadcastInDim S17408x4 ![0, 1] bcast_S17408x1_S17408x4_0_1 (broadcastInDim S17408x1 ![0] bcast_S17408_S17408x1_0
    (maximumf (broadcastInDim S17408 ![] bcast_S_S17408 (constant S_ .f32 0xFF800000#32)) (Host.reduce FloatOps.maximumf u (constant S_ .f32 0xFF800000#32) reducesTo_S17408x4_S17408_d1 h_S_)))))

/-- The softmax of each row. -/
def gates (u : FVec Ideal S17408x4 .f32) : FVec Ideal S17408x4 .f32 :=
  Host.divf (power u) (broadcastInDim S17408x4 ![0, 1] bcast_S17408x1_S17408x4_0_1 (broadcastInDim S17408x1 ![0] bcast_S17408_S17408x1_0
    (Host.reduceAdd (power u) (constant S_ .f32 0x00000000#32) reducesTo_S17408x4_S17408_d1 h_S_)))

variable (m : (ℓ : Loc nD τ sig) → Buf (Elt Ideal) ℓ)

/-- The launch's rows of the layer, its gates, its experts' rows and the norm's weights. -/
theorem V_18 (c : Dev nD) : V m c main_v18 = rows (m ((c : Thread nD τ).loc main_arg0)) (m ((c : Thread nD τ).loc main_arg1)) := by
  simp only [V, V0, hostOps0, hostOps0_1, hostOps0_2, hostOps0_3, hostOps0_4, hostOps0_5, hostOps0_6, hostOps0_7, hostOps0_8, List.flatten_cons, List.flatten_nil, List.cons_append, List.nil_append, List.append_nil]
  after_results_simp
  rfl

theorem V_14 (c : Dev nD) : V m c main_v14 = gates (topK4 (rowsL (m ((c : Thread nD τ).loc main_arg2)) (m ((c : Thread nD τ).loc main_arg3)))) := by
  simp only [V, V0, hostOps0, hostOps0_1, hostOps0_2, hostOps0_3, hostOps0_4, hostOps0_5, hostOps0_6, hostOps0_7, hostOps0_8, List.flatten_cons, List.flatten_nil, List.cons_append, List.nil_append, List.append_nil]
  after_results_simp
  rfl

theorem V_28 (c : Dev nD) : V m c main_v28 = slots (rowsE (m ((c : Thread nD τ).loc main_arg4)) (m ((c : Thread nD τ).loc main_arg5))) := by
  simp only [V, V0, hostOps0, hostOps0_1, hostOps0_2, hostOps0_3, hostOps0_4, hostOps0_5, hostOps0_6, hostOps0_7, hostOps0_8, List.flatten_cons, List.flatten_nil, List.cons_append, List.nil_append, List.append_nil]
  after_results_simp
  rfl

theorem V_29 (c : Dev nD) : V m c main_v29 = shapeCast S1x1024 (m ((c : Thread nD τ).loc main_arg6)) shapeCasts_S1024_S1x1024 := by
  simp only [V, V0, hostOps0, hostOps0_1, hostOps0_2, hostOps0_3, hostOps0_4, hostOps0_5, hostOps0_6, hostOps0_7, hostOps0_8, List.flatten_cons, List.flatten_nil, List.cons_append, List.nil_append, List.append_nil]
  after_results_simp
  rfl

theorem V_30 (c : Dev nD) : V m c main_v30 = shapeCast S1x1024 (m ((c : Thread nD τ).loc main_arg7)) shapeCasts_S1024_S1x1024 := by
  simp only [V, V0, hostOps0, hostOps0_1, hostOps0_2, hostOps0_3, hostOps0_4, hostOps0_5, hostOps0_6, hostOps0_7, hostOps0_8, List.flatten_cons, List.flatten_nil, List.cons_append, List.nil_append, List.append_nil]
  after_results_simp
  rfl

/-- The prompt's and the samples' rows of the second result. -/
def promptHalf (p : Vec Ideal S17408x1024 .bf16) : Vec Ideal S8x2048x1024 .bf16 :=
  shapeCast S8x2048x1024 (extractStridedSlice S16384x1024 ![0, 0] p slices_S17408x1024_S16384x1024_0_0) shapeCasts_S16384x1024_S8x2048x1024

def sampleHalf (p : Vec Ideal S17408x1024 .bf16) : Vec Ideal S128x4x1024 .bf16 :=
  extractStridedSlice S128x4x1024 ![0, 0, 0] (shapeCast S128x8x1024 (extractStridedSlice S1024x1024 ![16384, 0] p slices_S17408x1024_S1024x1024_16384_0)
    shapeCasts_S1024x1024_S128x8x1024) slices_S128x8x1024_S128x4x1024_0_0_0

/-- The lines after the launch, from any contents that hold the launch's results. -/
theorem tail_33 (W : Valuation τ sig (Elt Ideal)) : StableHlo.after hostOps1 W (Proc.devRef .tc main_v33) = promptOf (W (Proc.devRef .tc main_v31_0)) := by
  simp only [hostOps1]; after_results_simp; rfl

theorem tail_36 (W : Valuation τ sig (Elt Ideal)) : StableHlo.after hostOps1 W (Proc.devRef .tc main_v36) = sampleOf (W (Proc.devRef .tc main_v31_0)) := by
  simp only [hostOps1]; after_results_simp; rfl

theorem tail_38 (W : Valuation τ sig (Elt Ideal)) : StableHlo.after hostOps1 W (Proc.devRef .tc main_v38) = promptHalf (W (Proc.devRef .tc main_v31_1)) := by
  simp only [hostOps1]; after_results_simp; rfl

theorem tail_41 (W : Valuation τ sig (Elt Ideal)) : StableHlo.after hostOps1 W (Proc.devRef .tc main_v41) = sampleHalf (W (Proc.devRef .tc main_v31_1)) := by
  simp only [hostOps1]; after_results_simp; rfl

/-- The lines after the launch start from each array's contents at the launch's end. -/
theorem at_exit (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  (dats m 0 c).withArrays_arrAt launch₀0.sharedIn (V0 m c) (A_eq m c) w

/-- The results after the run. -/
theorem run_results (ρ : Dev nD → PrngReg) : θ_run defs (onTc (τ := τ) (main (F := Ideal))) ⟨m, fun _ => 0, ρ⟩ (fun r => ∀ c : Dev nD,
      (r.2.mem ((c.tc : Thread nD τ).loc main_v33) = promptOf ((dats m 0 c).arrAt 8 cfg0.N)
      ∧ r.2.mem ((c.tc : Thread nD τ).loc main_v36) = sampleOf ((dats m 0 c).arrAt 8 cfg0.N)
      ∧ r.2.mem ((c.tc : Thread nD τ).loc main_v38) = promptHalf ((dats m 0 c).arrAt 9 cfg0.N)
      ∧ r.2.mem ((c.tc : Thread nD τ).loc main_v41) = sampleHalf ((dats m 0 c).arrAt 9 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨⟨?_, ?_, ?_, ?_⟩, h.2 c⟩) (θ_run_and (run_main m ρ) (unchanged m ρ))
  · refine ((h.1 c).2 main_v33 (Pipeline.mem_restRefs_of main_v33 (by decide) (by decide))).trans ?_
    unfold Pipeline.afterTail₀
    exact (tail_33 _).trans (congrArg promptOf (at_exit m c 8))
  · refine ((h.1 c).2 main_v36 (Pipeline.mem_restRefs_of main_v36 (by decide) (by decide))).trans ?_
    unfold Pipeline.afterTail₀
    exact (tail_36 _).trans (congrArg sampleOf (at_exit m c 8))
  · refine ((h.1 c).2 main_v38 (Pipeline.mem_restRefs_of main_v38 (by decide) (by decide))).trans ?_
    unfold Pipeline.afterTail₀
    exact (tail_38 _).trans (congrArg promptHalf (at_exit m c 9))
  · refine ((h.1 c).2 main_v41 (Pipeline.mem_restRefs_of main_v41 (by decide) (by decide))).trans ?_
    unfold Pipeline.afterTail₀
    exact (tail_41 _).trans (congrArg sampleHalf (at_exit m c 9))

end Cert.Kernel6Ideal.Value
end
-- ==== Proof.Comb.lean ====
/- One row of the combination of the experts: the router's four largest numbers, their softmax, the weighted sum of four rows, the residual and the layer norm. -/
module

public import proofs.«01_k».proof.Proof.Mix
public import Idealize.ShloMosaic.PureOps.ShapeOps

@[expose] public section

noncomputable section

namespace Cert.Comb

open Idealize.ShloMosaic Cert.Mix

/-- The largest four of a row's 32 numbers, in order. -/
def top (l : Fin 32 → EReal) (j : Fin 4) : EReal :=
  l (sortedFrom (fun k k' => FloatOps.cmpfTotal (F := Ideal) (φ := .f32) .gt (l k) (l k') == 1#1) ⟨j.val, by omega⟩)

/-- The largest of four numbers. -/
def big (u : Fin 4 → EReal) : EReal :=
  max (Ideal.ofBits .f32 0xFF800000#32) (Finset.fold max (Ideal.ofBits .f32 0xFF800000#32) u Finset.univ)

/-- The softmax of four numbers. -/
def soft (u : Fin 4 → EReal) (j : Fin 4) : EReal := Ideal.div (Ideal.exp (u j - big u)) (∑ k, Ideal.exp (u k - big u))

/-- The residual added to the weighted sum of four rows. -/
def mixed (h : Fin 1024 → EReal) (g : Fin 4 → EReal) (y : Fin 4 → Fin 1024 → EReal) (j : Fin 1024) : EReal :=
  Ideal.ofBits .f32 0x3FB504F3#32 * h j + (g 0 * y 0 j + g 1 * y 1 j + g 2 * y 2 j + g 3 * y 3 j)

/-- The row the layer leaves. -/
def xrow (h : Fin 1024 → EReal) (l : Fin 32 → EReal) (y : Fin 4 → Fin 1024 → EReal) (g b : Fin 1024 → EReal) : Fin 1024 → EReal :=
  lnorm (mixed h (soft (top l)) y) g b

/-- A sorted array at an index: the entry of the index's own row that is sorted there. -/
theorem sort_row {s : Shape} {α β : Type} (d : ℕ) (hd : d < s.rank) (cmp : α × β → α × β → BitVec 1) (x : s.Idx → α) (y : s.Idx → β) (j : s.Idx) :
    (Host.sort2 s d cmp x y).1 j = x (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

end Cert.Comb

end
-- ==== Proof.CombRead.lean ====
/- The combination's arrays read at an index. -/
module

public import proofs.«01_k».proof.Proof.CombEntry
public import proofs.«01_k».proof.Proof.Comb
public import Idealize.ShloMosaic.Lib.Pointwise

@[expose] public section
set_option maxRecDepth 16384
set_option maxHeartbeats 1600000
noncomputable section
namespace Cert.Kernel6Ideal.Value
open Cert.Kernel6Ideal Cert.Kernel6Ideal.Gen Cert.Mix Cert.Comb Idealize.ShloMosaic Idealize.ShloMosaic.TcCoe Idealize.SL.Sem
open Cert.Kernel2Ideal.Value (rows)

/-- The router's rows: two stacks, a sequence's rows, the samples' rows. -/
theorem catL_lo (a : Vec Ideal S16384x32 .f32) (b : Vec Ideal S1024x32 .f32) (r : Fin 17408) (h : r.val < 16384) (k : Fin 32) : catL a b (ix2 r k) = a (ix2 ⟨r.val, h⟩ k) := by
  pointwise [catL]
  rw [dif_pos h]

theorem catL_hi (a : Vec Ideal S16384x32 .f32) (b : Vec Ideal S1024x32 .f32) (r : Fin 17408) (h : ¬ r.val < 16384) (k : Fin 32) : catL a b (ix2 r k) = b (ix2 ⟨r.val - 16384, by omega⟩ k) := by
  pointwise [catL]
  rw [dif_neg h]

theorem flatL_at (x : Vec Ideal S8x2048x32 .f32) (r : Fin 16384) (k : Fin 32) :
    shapeCast S16384x32 x shapeCasts_S8x2048x32_S16384x32 (ix2 r k) = x (ix3 ⟨r.val / 2048, by omega⟩ ⟨r.val % 2048, by omega⟩ k) := by
  pointwise

theorem roomL_at (s : Vec Ideal S128x4x32 .f32) (v : Vec Ideal S_ .f32) (r : Fin 1024) (h : r.val % 8 < 4) (k : Fin 32) :
    shapeCast S1024x32 (pad S128x8x32 ![0, 0, 0] ![0, 4, 0] ![0, 0, 0] s v pads_S128x4x32_S128x8x32_000_040_000 h_S_) shapeCasts_S128x8x32_S1024x32 (ix2 r k)
      = s (ix3 ⟨r.val / 8, by omega⟩ ⟨r.val % 8, h⟩ k) := by
  pointwise
  rw [dif_pos (by omega)]

theorem rowsL_prompt (x : Vec Ideal S8x2048x32 .f32) (s : Vec Ideal S128x4x32 .f32) (b : Fin 8) (t : Fin 2048) (k : Fin 32) :
    rowsL x s (ix2 ⟨2048 * b.val + t.val, by omega⟩ k) = x (ix3 b t k) := by
  unfold rowsL
  rw [catL_lo _ _ _ (by simp; omega), flatL_at]
  have e1 : (⟨(2048 * b.val + t.val) / 2048, by omega⟩ : Fin 8) = b := Fin.ext (by simp; omega)
  have e2 : (⟨(2048 * b.val + t.val) % 2048, by omega⟩ : Fin 2048) = t := Fin.ext (by simp)
  simp only [e1, e2]

theorem rowsL_sample (x : Vec Ideal S8x2048x32 .f32) (s : Vec Ideal S128x4x32 .f32) (b : Fin 128) (t : Fin 4) (k : Fin 32) :
    rowsL x s (ix2 ⟨16384 + 8 * b.val + t.val, by omega⟩ k) = s (ix3 b t k) := by
  unfold rowsL
  rw [catL_hi _ _ _ (by simp; omega), roomL_at _ _ _ (by simp; omega)]
  have e1 : (⟨(16384 + 8 * b.val + t.val - 16384) / 8, by omega⟩ : Fin 128) = b := Fin.ext (by simp; omega)
  have e2 : (⟨(16384 + 8 * b.val + t.val - 16384) % 8, by omega⟩ : Fin 4) = t := Fin.ext (by simp; omega)
  simp only [e1, e2]

/-- The experts' rows. -/
theorem catE_lo (a : Vec Ideal S16384x4096 .f32) (b : Vec Ideal S1024x4096 .f32) (r : Fin 17408) (h : r.val < 16384) (k : Fin 4096) : catE a b (ix2 r k) = a (ix2 ⟨r.val, h⟩ k) := by
  pointwise [catE]
  rw [dif_pos h]

theorem catE_hi (a : Vec Ideal S16384x4096 .f32) (b : Vec Ideal S1024x4096 .f32) (r : Fin 17408) (h : ¬ r.val < 16384) (k : Fin 4096) : catE a b (ix2 r k) = b (ix2 ⟨r.val - 16384, by omega⟩ k) := by
  pointwise [catE]
  rw [dif_neg h]

theorem sideE_at (x : Vec Ideal S8x2048x4x1024 .f32) (b : Fin 8) (t : Fin 2048) (k : Fin 4096) :
    shapeCast S8x2048x4096 x shapeCasts_S8x2048x4x1024_S8x2048x4096 (ix3 b t k) = x (ix4 b t ⟨k.val / 1024, by omega⟩ ⟨k.val % 1024, by omega⟩) := by
  pointwise

theorem sideE_sample (x : Vec Ideal S128x4x4x1024 .f32) (b : Fin 128) (t : Fin 4) (k : Fin 4096) :
    shapeCast S128x4x4096 x shapeCasts_S128x4x4x1024_S128x4x4096 (ix3 b t k) = x (ix4 b t ⟨k.val / 1024, by omega⟩ ⟨k.val % 1024, by omega⟩) := by
  pointwise

theorem flatE_at (x : Vec Ideal S8x2048x4096 .f32) (r : Fin 16384) (k : Fin 4096) :
    shapeCast S16384x4096 x shapeCasts_S8x2048x4096_S16384x4096 (ix2 r k) = x (ix3 ⟨r.val / 2048, by omega⟩ ⟨r.val % 2048, by omega⟩ k) := by
  pointwise

theorem roomE_at (s : Vec Ideal S128x4x4096 .f32) (v : Vec Ideal S_ .f32) (r : Fin 1024) (h : r.val % 8 < 4) (k : Fin 4096) :
    shapeCast S1024x4096 (pad S128x8x4096 ![0, 0, 0] ![0, 4, 0] ![0, 0, 0] s v pads_S128x4x4096_S128x8x4096_000_040_000 h_S_) shapeCasts_S128x8x4096_S1024x4096 (ix2 r k)
      = s (ix3 ⟨r.val / 8, by omega⟩ ⟨r.val % 8, h⟩ k) := by
  pointwise
  rw [dif_pos (by omega)]

theorem rowsE_prompt (x : Vec Ideal S8x2048x4x1024 .f32) (s : Vec Ideal S128x4x4x1024 .f32) (b : Fin 8) (t : Fin 2048) (i : Fin 4) (k : Fin 1024) :
    rowsE x s (ix2 ⟨2048 * b.val + t.val, by omega⟩ ⟨1024 * i.val + k.val, by omega⟩) = x (ix4 b t i k) := by
  unfold rowsE
  rw [catE_lo _ _ _ (by simp; omega), flatE_at, sideE_at]
  have e1 : (⟨(2048 * b.val + t.val) / 2048, by omega⟩ : Fin 8) = b := Fin.ext (by simp; omega)
  have e2 : (⟨(2048 * b.val + t.val) % 2048, by omega⟩ : Fin 2048) = t := Fin.ext (by simp)
  have e3 : (⟨(1024 * i.val + k.val) / 1024, by omega⟩ : Fin 4) = i := Fin.ext (by simp; omega)
  have e4 : (⟨(1024 * i.val + k.val) % 1024, by omega⟩ : Fin 1024) = k := Fin.ext (by simp)
  simp only [e1, e2, e3, e4]

theorem rowsE_sample (x : Vec Ideal S8x2048x4x1024 .f32) (s : Vec Ideal S128x4x4x1024 .f32) (b : Fin 128) (t : Fin 4) (i : Fin 4) (k : Fin 1024) :
    rowsE x s (ix2 ⟨16384 + 8 * b.val + t.val, by omega⟩ ⟨1024 * i.val + k.val, by omega⟩) = s (ix4 b t i k) := by
  unfold rowsE
  rw [catE_hi _ _ _ (by simp; omega), roomE_at _ _ _ (by simp; omega), sideE_sample]
  have e1 : (⟨(16384 + 8 * b.val + t.val - 16384) / 8, by omega⟩ : Fin 128) = b := Fin.ext (by simp; omega)
  have e2 : (⟨(16384 + 8 * b.val + t.val - 16384) % 8, by omega⟩ : Fin 4) = t := Fin.ext (by simp; omega)
  have e3 : (⟨(1024 * i.val + k.val) / 1024, by omega⟩ : Fin 4) = i := Fin.ext (by simp; omega)
  have e4 : (⟨(1024 * i.val + k.val) % 1024, by omega⟩ : Fin 1024) = k := Fin.ext (by simp)
  simp only [e1, e2, e3, e4]

/-- The experts' rows in tiles. -/
theorem split_at (w : Vec Ideal S17408x4096 .f32) (r : Fin 17408) (i : Fin 4) (k : Fin 1024) :
    shapeCast S17408x4x1024 w shapeCasts_S17408x4096_S17408x4x1024 (ix3 r i k) = w (ix2 r ⟨1024 * i.val + k.val, by omega⟩) := by
  pointwise
  all_goals exact congrArg (fun z => w (ix2 r z)) (Fin.ext (by simp; omega))

theorem turn_at (z : Vec Ideal S17408x4x1024 .f32) (r : Fin 17408) (i : Fin 4) (k : Fin 1024) :
    transpose S4x17408x1024 [1, 0, 2] z transposes_S17408x4x1024_S4x17408x1024_1_0_2 (ix3 i r k) = z (ix3 r i k) := by
  pointwise

theorem tiled_at (z : Vec Ideal S4x17408x1024 .f32) (q : Fin 69632) (a : Fin 8) (b : Fin 128) :
    shapeCast S69632x8x128 z shapeCasts_S4x17408x1024_S69632x8x128 (ix3 q a b) = z (ix3 ⟨q.val / 17408, by omega⟩ ⟨q.val % 17408, by omega⟩ ⟨128 * a.val + b.val, by omega⟩) := by
  pointwise
  all_goals exact congrArg (fun k => z (ix3 ⟨q.val / 17408, by omega⟩ ⟨q.val % 17408, by omega⟩ k)) (Fin.ext (by simp; omega))

theorem spare_at (z : Vec Ideal S69632x8x128 .f32) (v : Vec Ideal S_ .f32) (q : Fin 70144) (h : q.val < 69632) (a : Fin 8) (b : Fin 128) :
    pad S70144x8x128 ![0, 0, 0] ![512, 0, 0] ![0, 0, 0] z v pads_S69632x8x128_S70144x8x128_05120_000_000 h_S_ (ix3 q a b) = z (ix3 ⟨q.val, h⟩ a b) := by
  pointwise
  rw [dif_pos (by omega)]

theorem slots_at (w : Vec Ideal S17408x4096 .f32) (i : Fin 4) (r : Fin 17408) (a : Fin 8) (b : Fin 128) :
    slots w (ix3 ⟨17408 * i.val + r.val, by omega⟩ a b) = w (ix2 r ⟨1024 * i.val + (128 * a.val + b.val), by omega⟩) := by
  unfold slots
  rw [spare_at _ _ _ (by simp; omega), tiled_at]
  have e1 : (⟨(17408 * i.val + r.val) / 17408, by omega⟩ : Fin 4) = i := Fin.ext (by simp; omega)
  have e2 : (⟨(17408 * i.val + r.val) % 17408, by omega⟩ : Fin 17408) = r := Fin.ext (by simp)
  simp only [e1, e2]
  rw [turn_at, split_at]

/-- A row's place along its last axis. -/
theorem along_at (r : Fin 17408) (j : Fin 32) (hd : 1 < S17408x32.rank) (k : Fin (S17408x32.size ⟨1, hd⟩)) :
    Shape.Idx.along (s := S17408x32) (ix2 r j) ⟨1, hd⟩ k = ix2 r k := by
  funext a
  fin_cases a <;> rfl

/-- The first four of a row. -/
theorem first_at (q : Vec Ideal S17408x32 .f32) (r : Fin 17408) (j : Fin 4) :
    extractStridedSlice S17408x4 (fun _ => 0) q sliceFits_S17408x32_S17408x4 (ix2 r j) = q (ix2 r ⟨j.val, by omega⟩) := by
  pointwise

/-- A row's four largest depend on that row. -/
theorem topK4_at (l : Vec Ideal S17408x32 .f32) (r : Fin 17408) (j : Fin 4) : topK4 l (ix2 r j) = top (fun e => l (ix2 r e)) j := by
  unfold topK4 Host.topK
  dsimp only
  rw [first_at, sort_row 1 (by decide)]
  simp only [along_at]
  rfl

theorem power_at (u : FVec Ideal S17408x4 .f32) (r : Fin 17408) (j : Fin 4) : power u (ix2 r j) = Ideal.exp (u (ix2 r j) - big (fun i => u (ix2 r i))) := by
  unfold power big
  pointwise

theorem gates_at (u : FVec Ideal S17408x4 .f32) (r : Fin 17408) (j : Fin 4) : gates u (ix2 r j) = soft (fun i => u (ix2 r i)) j := by
  unfold gates soft
  have h := power_at u r
  generalize power u = y at h
  simp only [← h]
  pointwise

/-- The layer's arguments at their positions. -/
structure Ins where
  h : Vec Ideal S8x2048x1024 .f32
  hs : Vec Ideal S128x4x1024 .f32
  l : Vec Ideal S8x2048x32 .f32
  ls : Vec Ideal S128x4x32 .f32
  y : Vec Ideal S8x2048x4x1024 .f32
  ys : Vec Ideal S128x4x4x1024 .f32
  g : Vec Ideal S1024 .f32
  d : Vec Ideal S1024 .f32

/-- The row the combination leaves of one row of the stacked arrays. -/
def Ins.x (A : Ins) (r : Fin 17408) : Fin 1024 → EReal :=
  xrow (fun k => rows A.h A.hs (ix2 r k)) (fun e => rowsL A.l A.ls (ix2 r e)) (fun i k => rowsE A.y A.ys (ix2 r ⟨1024 * i.val + k.val, by omega⟩)) (fun k => A.g (ix1 k)) (fun k => A.d (ix1 k))

/-- The launch's two results as arrays. -/
def Ins.xArr (A : Ins) : Vec Ideal S17408x1024 .f32 := fun i => A.x (i 0) (i 1)

def Ins.xHalf (A : Ins) : Vec Ideal S17408x1024 .bf16 := truncf (F := Ideal) .bf16 A.xArr bitsLt_bf16_f32

end Cert.Kernel6Ideal.Value
end
-- ==== Proof.CombBody.lean ====
/- What the combination's body computes of its blocks, read at an index. -/
module

public import proofs.«01_k».proof.Proof.Comb
public import proofs.«01_k».proof.Proof.Gen.Kernel6Ideal.Skeleton
public import Idealize.ShloMosaic.Lib.Pointwise

@[expose] public section
set_option maxRecDepth 16384
set_option maxHeartbeats 1600000
noncomputable section
namespace Cert.Kernel6Ideal.Value
open Cert.Kernel6Ideal Cert.Kernel6Ideal.Gen Idealize.ShloMosaic Idealize.SL.Sem Cert.Mix Cert.Comb

/-- A column of a row laid out in tiles. -/
def tile (y : Vec Ideal S256x8x128 .f32) (r : Fin 256) (j : Fin 1024) : EReal := y (ix3 r ⟨j.val / 128, by omega⟩ ⟨j.val % 128, by omega⟩)

/-- The rows of tiles laid flat. -/
theorem flat_at (y : Vec Ideal S256x8x128 .f32) (r : Fin 256) (j : Fin 1024) : shapeCast S256x1024 y shapeCasts_S256x8x128_S256x1024 (ix2 r j) = tile y r j := by
  unfold tile
  pointwise

/-- The residual added to the weighted sum of the four blocks. -/
theorem pay3_at (g : Vec Ideal S256x4 .f32) (y0 y1 y2 y3 : Vec Ideal S256x8x128 .f32) (h : Vec Ideal S256x1024 .f32) (r : Fin 256) (j : Fin 1024) :
    k0_pay3 g y0 y1 y2 y3 h (ix2 r j) = mixed (fun k => h (ix2 r k)) (fun i => g (ix2 r i)) ![tile y0 r, tile y1 r, tile y2 r, tile y3 r] j := by
  unfold k0_pay3 mixed
  simp only [shapeCast_self]
  have e0 := flat_at y0 r j
  have e1 := flat_at y1 r j
  have e2 := flat_at y2 r j
  have e3 := flat_at y3 r j
  generalize shapeCast S256x1024 y0 _ = z0 at e0
  generalize shapeCast S256x1024 y1 _ = z1 at e1
  generalize shapeCast S256x1024 y2 _ = z2 at e2
  generalize shapeCast S256x1024 y3 _ = z3 at e3
  refine Eq.trans ?_ (show Ideal.ofBits .f32 0x3FB504F3#32 * h (ix2 r j) + (g (ix2 r 0) * z0 (ix2 r j) + g (ix2 r 1) * z1 (ix2 r j) + g (ix2 r 2) * z2 (ix2 r j) + g (ix2 r 3) * z3 (ix2 r j)) = _ from ?_)
  · pointwise
  · rw [e0, e1, e2, e3]; rfl

/-- The layer norm of the rows. -/
theorem pay1_at (z : FVec Ideal S256x1024 .f32) (g b : FVec Ideal S1x1024 .f32) (r : Fin 256) (j : Fin 1024) :
    k0_pay1 z g b (ix2 r j) = lnorm (fun k => z (ix2 r k)) (fun k => g (ix2 0 k)) (fun k => b (ix2 0 k)) j := by
  unfold k0_pay1 lnorm
  pointwise

/-- The rows a grid point leaves. -/
def xblk (h : Vec Ideal S256x1024 .f32) (y0 y1 y2 y3 : Vec Ideal S256x8x128 .f32) (g : Vec Ideal S256x4 .f32) (n b : Vec Ideal S1x1024 .f32) : FVec Ideal S256x1024 .f32 :=
  k0_pay1 (k0_pay3 g y0 y1 y2 y3 h) (k0_pay4 n) (k0_pay5 b)

theorem xblk_at (h : Vec Ideal S256x1024 .f32) (y0 y1 y2 y3 : Vec Ideal S256x8x128 .f32) (g : Vec Ideal S256x4 .f32) (n b : Vec Ideal S1x1024 .f32) (r : Fin 256) (j : Fin 1024) :
    xblk h y0 y1 y2 y3 g n b (ix2 r j)
      = lnorm (mixed (fun k => h (ix2 r k)) (fun i => g (ix2 r i)) ![tile y0 r, tile y1 r, tile y2 r, tile y3 r]) (fun k => n (ix2 0 k)) (fun k => b (ix2 0 k)) j := by
  unfold xblk
  rw [pay1_at]
  simp only [pay3_at, k0_pay4, k0_pay5, shapeCast_self]

end Cert.Kernel6Ideal.Value
end
-- ==== Proof.CombRef.lean ====
/- The combination's reference on the prompt read at an index. -/
module

public import proofs.«01_k».proof.Proof.Comb
public import proofs.«01_k».proof.Proof.Gen.Reference6Ideal.Run
public import Idealize.ShloMosaic.Lib.Pointwise

@[expose] public section
set_option maxRecDepth 16384
set_option maxHeartbeats 1600000
noncomputable section
namespace Cert.Reference6Ideal.Value
open Cert.Reference6Ideal Cert.Reference6Ideal.Gen Idealize.ShloMosaic Idealize.ShloMosaic.TcCoe Idealize.SL.Sem Cert.Mix Cert.Comb

/-- The four largest of each row's numbers. -/
def topP (l : Vec Ideal S8x2048x32 .f32) : FVec Ideal S8x2048x4 .f32 := (Host.topK S8x2048x4 2 (FloatOps.cmpfTotal .gt) l sliceFits_S8x2048x32_S8x2048x4).1

/-- Each number's power of e under its row's largest. -/
def powerP (u : FVec Ideal S8x2048x4 .f32) : FVec Ideal S8x2048x4 .f32 :=
  Host.exp (subf u (broadcastInDim S8x2048x4 ![0, 1, 2] bcast_S8x2048x1_S8x2048x4_0_1_2 (broadcastInDim S8x2048x1 ![0, 1] bcast_S8x2048_S8x2048x1_0_1
    (maximumf (broadcastInDim S8x2048 ![] bcast_S_S8x2048 (constant S_ .f32 0xFF800000#32)) (Host.reduce FloatOps.maximumf u (constant S_ .f32 0xFF800000#32) reducesTo_S8x2048x4_S8x2048_d2 h_S_)))))

/-- The softmax of each row. -/
def softP (u : FVec Ideal S8x2048x4 .f32) : FVec Ideal S8x2048x4 .f32 :=
  Host.divf (powerP u) (broadcastInDim S8x2048x4 ![0, 1, 2] bcast_S8x2048x1_S8x2048x4_0_1_2 (broadcastInDim S8x2048x1 ![0, 1] bcast_S8x2048_S8x2048x1_0_1
    (Host.reduceAdd (powerP u) (constant S_ .f32 0x00000000#32) reducesTo_S8x2048x4_S8x2048_d2 h_S_)))

/-- The residual added to the weighted sum of the experts' rows. -/
def mixedP (h : Vec Ideal S8x2048x1024 .f32) (w : FVec Ideal S8x2048x4 .f32) (y : Vec Ideal S8x2048x4x1024 .f32) : FVec Ideal S8x2048x1024 .f32 :=
  addf (mulf (broadcastInDim S8x2048x1024 ![] bcast_S_S8x2048x1024 (constant S_ .f32 0x3FB504F3#32)) h)
    (Host.dotGeneral (F := Ideal) (φ₁ := .f32) (φ₂ := .f32) dot_S8x2048x4_S8x2048x4x1024_S8x2048x1024_2_2_n_3_01_01 none w y)

/-- The centred rows. -/
def centreP (z : FVec Ideal S8x2048x1024 .f32) : FVec Ideal S8x2048x1024 .f32 :=
  subf z (broadcastInDim S8x2048x1024 ![0, 1, 2] bcast_S8x2048x1_S8x2048x1024_0_1_2 (Host.divf (broadcastInDim S8x2048x1 ![0, 1] bcast_S8x2048_S8x2048x1_0_1
    (Host.reduceAdd z (constant S_ .f32 0x00000000#32) reducesTo_S8x2048x1024_S8x2048_d2 h_S_)) (broadcastInDim S8x2048x1 ![] bcast_S_S8x2048x1 (constant S_ .f32 0x44800000#32))))

/-- The layer norm of each row. -/
def normP (z : FVec Ideal S8x2048x1024 .f32) (g b : Vec Ideal S1024 .f32) : FVec Ideal S8x2048x1024 .f32 :=
  addf (mulf (mulf (centreP z) (broadcastInDim S8x2048x1024 ![0, 1, 2] bcast_S8x2048x1_S8x2048x1024_0_1_2 (Host.rsqrt (addf (Host.divf (broadcastInDim S8x2048x1 ![0, 1] bcast_S8x2048_S8x2048x1_0_1
      (Host.reduceAdd (mulf (centreP z) (centreP z)) (constant S_ .f32 0x00000000#32) reducesTo_S8x2048x1024_S8x2048_d2 h_S_)) (broadcastInDim S8x2048x1 ![] bcast_S_S8x2048x1 (constant S_ .f32 0x44800000#32)))
      (broadcastInDim S8x2048x1 ![] bcast_S_S8x2048x1 (constant S_ .f32 0x3727C5AC#32))))))
      (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S1x1x1024_S8x2048x1024_0_1_2 (broadcastInDim S1x1x1024 ![2] bcast_S1024_S1x1x1024_2 b))

/-- A row's place along its last axis. -/
theorem alongP (b : Fin 8) (t : Fin 2048) (j : Fin 32) (hd : 2 < S8x2048x32.rank) (k : Fin (S8x2048x32.size ⟨2, hd⟩)) :
    Shape.Idx.along (s := S8x2048x32) (ix3 b t j) ⟨2, hd⟩ k = ix3 b t k := by
  funext a
  fin_cases a <;> rfl

/-- The first four of a row. -/
theorem firstP_at (q : Vec Ideal S8x2048x32 .f32) (b : Fin 8) (t : Fin 2048) (j : Fin 4) :
    extractStridedSlice S8x2048x4 (fun _ => 0) q sliceFits_S8x2048x32_S8x2048x4 (ix3 b t j) = q (ix3 b t ⟨j.val, by omega⟩) := by
  pointwise

/-- A row's four largest depend on that row. -/
theorem topP_at (l : Vec Ideal S8x2048x32 .f32) (b : Fin 8) (t : Fin 2048) (j : Fin 4) : topP l (ix3 b t j) = top (fun e => l (ix3 b t e)) j := by
  unfold topP Host.topK
  dsimp only
  rw [firstP_at, sort_row 2 (by decide)]
  simp only [alongP]
  rfl

theorem powerP_at (u : FVec Ideal S8x2048x4 .f32) (b : Fin 8) (t : Fin 2048) (j : Fin 4) : powerP u (ix3 b t j) = Ideal.exp (u (ix3 b t j) - big (fun i => u (ix3 b t i))) := by
  unfold powerP big
  pointwise

theorem softP_at (u : FVec Ideal S8x2048x4 .f32) (b : Fin 8) (t : Fin 2048) (j : Fin 4) : softP u (ix3 b t j) = soft (fun i => u (ix3 b t i)) j := by
  unfold softP soft
  have h := powerP_at u b t
  generalize powerP u = y at h
  simp only [← h]
  pointwise

theorem mixedP_at (h : Vec Ideal S8x2048x1024 .f32) (w : FVec Ideal S8x2048x4 .f32) (y : Vec Ideal S8x2048x4x1024 .f32) (b : Fin 8) (t : Fin 2048) (j : Fin 1024) :
    mixedP h w y (ix3 b t j) = mixed (fun k => h (ix3 b t k)) (fun i => w (ix3 b t i)) (fun i k => y (ix4 b t i k)) j := by
  unfold mixedP mixed
  rw [← Fin.sum_univ_four (fun i => w (ix3 b t i) * y (ix4 b t i j))]
  pointwise

theorem centreP_at (z : FVec Ideal S8x2048x1024 .f32) (b : Fin 8) (t : Fin 2048) (j : Fin 1024) :
    centreP z (ix3 b t j) = z (ix3 b t j) - Ideal.div (∑ k : Fin 1024, z (ix3 b t k)) (Ideal.ofBits .f32 0x44800000#32) := by
  unfold centreP
  pointwise

theorem normP_at (z : FVec Ideal S8x2048x1024 .f32) (g d : Vec Ideal S1024 .f32) (b : Fin 8) (t : Fin 2048) (j : Fin 1024) :
    normP z g d (ix3 b t j) = lnorm (fun k => z (ix3 b t k)) (fun k => g (ix1 k)) (fun k => d (ix1 k)) j := by
  unfold normP lnorm
  have h := centreP_at z b t
  generalize centreP z = y at h
  simp only [← h]
  pointwise

/-- The rows the layer leaves, of the reference's arguments. -/
def outP (h : Vec Ideal S8x2048x1024 .f32) (l : Vec Ideal S8x2048x32 .f32) (y : Vec Ideal S8x2048x4x1024 .f32) (g d : Vec Ideal S1024 .f32) : FVec Ideal S8x2048x1024 .f32 :=
  normP (mixedP h (softP (topP l)) y) g d

theorem outP_at (h : Vec Ideal S8x2048x1024 .f32) (l : Vec Ideal S8x2048x32 .f32) (y : Vec Ideal S8x2048x4x1024 .f32) (g d : Vec Ideal S1024 .f32) (b : Fin 8) (t : Fin 2048) (j : Fin 1024) :
    outP h l y g d (ix3 b t j)
      = xrow (fun k => h (ix3 b t k)) (fun e => l (ix3 b t e)) (fun i k => y (ix4 b t i k)) (fun k => g (ix1 k)) (fun k => d (ix1 k)) j := by
  unfold outP xrow
  rw [normP_at]
  simp only [mixedP_at, softP_at, topP_at]

variable (m : (ℓ : Loc nD τ sig) → Buf (Elt Ideal) ℓ)

/-- The reference's results on the prompt. -/
theorem res_prompt (c : Dev nD) : res_out0 m c = outP (m ((c.tc : Thread nD τ).loc main_arg0)) (m ((c.tc : Thread nD τ).loc main_arg2)) (m ((c.tc : Thread nD τ).loc main_arg4))
    (m ((c.tc : Thread nD τ).loc main_arg6)) (m ((c.tc : Thread nD τ).loc main_arg7)) := rfl

theorem res_prompt_half (c : Dev nD) : res_out2 m c = truncf (F := Ideal) .bf16 (outP (m ((c.tc : Thread nD τ).loc main_arg0)) (m ((c.tc : Thread nD τ).loc main_arg2)) (m ((c.tc : Thread nD τ).loc main_arg4))
    (m ((c.tc : Thread nD τ).loc main_arg6)) (m ((c.tc : Thread nD τ).loc main_arg7))) bitsLt_bf16_f32 := rfl

end Cert.Reference6Ideal.Value
end
-- ==== Proof.CombRefS.lean ====
/- The combination's reference on the samples read at an index. -/
module

public import proofs.«01_k».proof.Proof.Comb
public import proofs.«01_k».proof.Proof.Gen.Reference6Ideal.Run
public import Idealize.ShloMosaic.Lib.Pointwise

@[expose] public section
set_option maxRecDepth 16384
set_option maxHeartbeats 1600000
noncomputable section
namespace Cert.Reference6Ideal.Value
open Cert.Reference6Ideal Cert.Reference6Ideal.Gen Idealize.ShloMosaic Idealize.ShloMosaic.TcCoe Idealize.SL.Sem Cert.Mix Cert.Comb

/-- The four largest of each row's numbers. -/
def topS (l : Vec Ideal S128x4x32 .f32) : FVec Ideal S128x4x4 .f32 := (Host.topK S128x4x4 2 (FloatOps.cmpfTotal .gt) l sliceFits_S128x4x32_S128x4x4).1

/-- Each number's power of e under its row's largest. -/
def powerS (u : FVec Ideal S128x4x4 .f32) : FVec Ideal S128x4x4 .f32 :=
  Host.exp (subf u (broadcastInDim S128x4x4 ![0, 1, 2] bcast_S128x4x1_S128x4x4_0_1_2 (broadcastInDim S128x4x1 ![0, 1] bcast_S128x4_S128x4x1_0_1
    (maximumf (broadcastInDim S128x4 ![] bcast_S_S128x4 (constant S_ .f32 0xFF800000#32)) (Host.reduce FloatOps.maximumf u (constant S_ .f32 0xFF800000#32) reducesTo_S128x4x4_S128x4_d2 h_S_)))))

/-- The softmax of each row. -/
def softS (u : FVec Ideal S128x4x4 .f32) : FVec Ideal S128x4x4 .f32 :=
  Host.divf (powerS u) (broadcastInDim S128x4x4 ![0, 1, 2] bcast_S128x4x1_S128x4x4_0_1_2 (broadcastInDim S128x4x1 ![0, 1] bcast_S128x4_S128x4x1_0_1
    (Host.reduceAdd (powerS u) (constant S_ .f32 0x00000000#32) reducesTo_S128x4x4_S128x4_d2 h_S_)))

/-- The residual added to the weighted sum of the experts' rows. -/
def mixedS (h : Vec Ideal S128x4x1024 .f32) (w : FVec Ideal S128x4x4 .f32) (y : Vec Ideal S128x4x4x1024 .f32) : FVec Ideal S128x4x1024 .f32 :=
  addf (mulf (broadcastInDim S128x4x1024 ![] bcast_S_S128x4x1024 (constant S_ .f32 0x3FB504F3#32)) h)
    (Host.dotGeneral (F := Ideal) (φ₁ := .f32) (φ₂ := .f32) dot_S128x4x4_S128x4x4x1024_S128x4x1024_2_2_n_3_01_01 none w y)

/-- The centred rows. -/
def centreS (z : FVec Ideal S128x4x1024 .f32) : FVec Ideal S128x4x1024 .f32 :=
  subf z (broadcastInDim S128x4x1024 ![0, 1, 2] bcast_S128x4x1_S128x4x1024_0_1_2 (Host.divf (broadcastInDim S128x4x1 ![0, 1] bcast_S128x4_S128x4x1_0_1
    (Host.reduceAdd z (constant S_ .f32 0x00000000#32) reducesTo_S128x4x1024_S128x4_d2 h_S_)) (broadcastInDim S128x4x1 ![] bcast_S_S128x4x1 (constant S_ .f32 0x44800000#32))))

/-- The layer norm of each row. -/
def normS (z : FVec Ideal S128x4x1024 .f32) (g b : Vec Ideal S1024 .f32) : FVec Ideal S128x4x1024 .f32 :=
  addf (mulf (mulf (centreS z) (broadcastInDim S128x4x1024 ![0, 1, 2] bcast_S128x4x1_S128x4x1024_0_1_2 (Host.rsqrt (addf (Host.divf (broadcastInDim S128x4x1 ![0, 1] bcast_S128x4_S128x4x1_0_1
      (Host.reduceAdd (mulf (centreS z) (centreS z)) (constant S_ .f32 0x00000000#32) reducesTo_S128x4x1024_S128x4_d2 h_S_)) (broadcastInDim S128x4x1 ![] bcast_S_S128x4x1 (constant S_ .f32 0x44800000#32)))
      (broadcastInDim S128x4x1 ![] bcast_S_S128x4x1 (constant S_ .f32 0x3727C5AC#32))))))
      (broadcastInDim S128x4x1024 ![0, 1, 2] bcast_S1x1x1024_S128x4x1024_0_1_2 (broadcastInDim S1x1x1024 ![2] bcast_S1024_S1x1x1024_2 g)))
    (broadcastInDim S128x4x1024 ![0, 1, 2] bcast_S1x1x1024_S128x4x1024_0_1_2 (broadcastInDim S1x1x1024 ![2] bcast_S1024_S1x1x1024_2 b))

/-- A row's place along its last axis. -/
theorem alongS (b : Fin 128) (t : Fin 4) (j : Fin 32) (hd : 2 < S128x4x32.rank) (k : Fin (S128x4x32.size ⟨2, hd⟩)) :
    Shape.Idx.along (s := S128x4x32) (ix3 b t j) ⟨2, hd⟩ k = ix3 b t k := by
  funext a
  fin_cases a <;> rfl

/-- The first four of a row. -/
theorem firstS_at (q : Vec Ideal S128x4x32 .f32) (b : Fin 128) (t : Fin 4) (j : Fin 4) :
    extractStridedSlice S128x4x4 (fun _ => 0) q sliceFits_S128x4x32_S128x4x4 (ix3 b t j) = q (ix3 b t ⟨j.val, by omega⟩) := by
  pointwise

/-- A row's four largest depend on that row. -/
theorem topS_at (l : Vec Ideal S128x4x32 .f32) (b : Fin 128) (t : Fin 4) (j : Fin 4) : topS l (ix3 b t j) = top (fun e => l (ix3 b t e)) j := by
  unfold topS Host.topK
  dsimp only
  rw [firstS_at, sort_row 2 (by decide)]
  simp only [alongS]
  rfl

theorem powerS_at (u : FVec Ideal S128x4x4 .f32) (b : Fin 128) (t : Fin 4) (j : Fin 4) : powerS u (ix3 b t j) = Ideal.exp (u (ix3 b t j) - big (fun i => u (ix3 b t i))) := by
  unfold powerS big
  pointwise

theorem softS_at (u : FVec Ideal S128x4x4 .f32) (b : Fin 128) (t : Fin 4) (j : Fin 4) : softS u (ix3 b t j) = soft (fun i => u (ix3 b t i)) j := by
  unfold softS soft
  have h := powerS_at u b t
  generalize powerS u = y at h
  simp only [← h]
  pointwise

theorem mixedS_at (h : Vec Ideal S128x4x1024 .f32) (w : FVec Ideal S128x4x4 .f32) (y : Vec Ideal S128x4x4x1024 .f32) (b : Fin 128) (t : Fin 4) (j : Fin 1024) :
    mixedS h w y (ix3 b t j) = mixed (fun k => h (ix3 b t k)) (fun i => w (ix3 b t i)) (fun i k => y (ix4 b t i k)) j := by
  unfold mixedS mixed
  rw [← Fin.sum_univ_four (fun i => w (ix3 b t i) * y (ix4 b t i j))]
  pointwise

theorem centreS_at (z : FVec Ideal S128x4x1024 .f32) (b : Fin 128) (t : Fin 4) (j : Fin 1024) :
    centreS z (ix3 b t j) = z (ix3 b t j) - Ideal.div (∑ k : Fin 1024, z (ix3 b t k)) (Ideal.ofBits .f32 0x44800000#32) := by
  unfold centreS
  pointwise

theorem normS_at (z : FVec Ideal S128x4x1024 .f32) (g d : Vec Ideal S1024 .f32) (b : Fin 128) (t : Fin 4) (j : Fin 1024) :
    normS z g d (ix3 b t j) = lnorm (fun k => z (ix3 b t k)) (fun k => g (ix1 k)) (fun k => d (ix1 k)) j := by
  unfold normS lnorm
  have h := centreS_at z b t
  generalize centreS z = y at h
  simp only [← h]
  pointwise

/-- The rows the layer leaves, of the reference's arguments. -/
def outS (h : Vec Ideal S128x4x1024 .f32) (l : Vec Ideal S128x4x32 .f32) (y : Vec Ideal S128x4x4x1024 .f32) (g d : Vec Ideal S1024 .f32) : FVec Ideal S128x4x1024 .f32 :=
  normS (mixedS h (softS (topS l)) y) g d

theorem outS_at (h : Vec Ideal S128x4x1024 .f32) (l : Vec Ideal S128x4x32 .f32) (y : Vec Ideal S128x4x4x1024 .f32) (g d : Vec Ideal S1024 .f32) (b : Fin 128) (t : Fin 4) (j : Fin 1024) :
    outS h l y g d (ix3 b t j)
      = xrow (fun k => h (ix3 b t k)) (fun e => l (ix3 b t e)) (fun i k => y (ix4 b t i k)) (fun k => g (ix1 k)) (fun k => d (ix1 k)) j := by
  unfold outS xrow
  rw [normS_at]
  simp only [mixedS_at, softS_at, topS_at]

variable (m : (ℓ : Loc nD τ sig) → Buf (Elt Ideal) ℓ)

/-- The reference's results on the samples. -/
theorem res_sample (c : Dev nD) : res_out1 m c = outS (m ((c.tc : Thread nD τ).loc main_arg1)) (m ((c.tc : Thread nD τ).loc main_arg3)) (m ((c.tc : Thread nD τ).loc main_arg5))
    (m ((c.tc : Thread nD τ).loc main_arg6)) (m ((c.tc : Thread nD τ).loc main_arg7)) := rfl

theorem res_sample_half (c : Dev nD) : res_out3 m c = truncf (F := Ideal) .bf16 (outS (m ((c.tc : Thread nD τ).loc main_arg1)) (m ((c.tc : Thread nD τ).loc main_arg3)) (m ((c.tc : Thread nD τ).loc main_arg5))
    (m ((c.tc : Thread nD τ).loc main_arg6)) (m ((c.tc : Thread nD τ).loc main_arg7))) bitsLt_bf16_f32 := rfl

end Cert.Reference6Ideal.Value
end
-- ==== Proof.CombFin.lean ====
/- The combination's results are the reference's. -/
module

public import proofs.«01_k».proof.Proof.CombRead
public import proofs.«01_k».proof.Proof.CombBody
public import proofs.«01_k».proof.Proof.CombRef
public import proofs.«01_k».proof.Proof.CombRefS

@[expose] public section
set_option maxRecDepth 16384
set_option maxHeartbeats 3200000
noncomputable section
namespace Cert.Kernel6Ideal.Value
open Cert.Kernel6Ideal Cert.Kernel6Ideal.Gen Cert.Mix Cert.Comb Idealize.ShloMosaic Idealize.ShloMosaic.TcCoe Idealize.SL.Sem
open Cert.Kernel2Ideal.Value (rows rows_prompt rows_sample)
open Cert.Kernel3Ideal.Value (promptOf sampleOf promptOf_at sampleOf_at)
open Cert.Reference6Ideal.Value (outP outP_at outS outS_at)

/-- What a grid point leaves. -/
theorem out8_eq (x0 : Vec Ideal S256x1024 .f32) (x1 x2 x3 x4 : Vec Ideal S256x8x128 .f32) (x5 : Vec Ideal S256x4 .f32) (x6 x7 : Vec Ideal S1x1024 .f32) :
    out0_8 x0 x1 x2 x3 x4 x5 x6 x7 = xblk x0 x1 x2 x3 x4 x5 x6 x7 := by
  frame_open
  unfold k0_pay6 k0_pay7 k0_pay8
  frame_out
  rfl

theorem out9_eq (x0 : Vec Ideal S256x1024 .f32) (x1 x2 x3 x4 : Vec Ideal S256x8x128 .f32) (x5 : Vec Ideal S256x4 .f32) (x6 x7 : Vec Ideal S1x1024 .f32) :
    out0_9 x0 x1 x2 x3 x4 x5 x6 x7 = truncf (F := Ideal) .bf16 (xblk x0 x1 x2 x3 x4 x5 x6 x7) bitsLt_bf16_f32 := by
  frame_open
  unfold k0_pay6 k0_pay7 k0_pay8
  frame_out
  rfl

variable (m : (ℓ : Loc nD τ sig) → Buf (Elt Ideal) ℓ)

/-- The arguments. -/
def args (c : Dev nD) : Ins where
  h := m ((c : Thread nD τ).loc main_arg0)
  hs := m ((c : Thread nD τ).loc main_arg1)
  l := m ((c : Thread nD τ).loc main_arg2)
  ls := m ((c : Thread nD τ).loc main_arg3)
  y := m ((c : Thread nD τ).loc main_arg4)
  ys := m ((c : Thread nD τ).loc main_arg5)
  g := m ((c : Thread nD τ).loc main_arg6)
  d := m ((c : Thread nD τ).loc main_arg7)

theorem pt_lt (t : Fin cfg0.N) : t.val < 68 := t.isLt

/-- The block a grid point is on, array by array. -/
theorem idx_in (t : Fin cfg0.N) : (win0_0.index t 0 = t.val ∧ win0_0.index t 1 = 0) ∧ (win0_5.index t 0 = t.val ∧ win0_5.index t 1 = 0)
    ∧ (win0_6.index t 0 = 0 ∧ win0_6.index t 1 = 0) ∧ (win0_7.index t 0 = 0 ∧ win0_7.index t 1 = 0) := by
  revert t; decide +kernel

theorem idx_tiles (t : Fin cfg0.N) : (win0_1.index t 0 = t.val ∧ win0_1.index t 1 = 0 ∧ win0_1.index t 2 = 0) ∧ (win0_2.index t 0 = 68 + t.val ∧ win0_2.index t 1 = 0 ∧ win0_2.index t 2 = 0)
    ∧ (win0_3.index t 0 = 136 + t.val ∧ win0_3.index t 1 = 0 ∧ win0_3.index t 2 = 0) ∧ (win0_4.index t 0 = 204 + t.val ∧ win0_4.index t 1 = 0 ∧ win0_4.index t 2 = 0) := by
  revert t; decide +kernel

theorem idx_out (t : Fin cfg0.N) : (win0_8.index t 0 = t.val ∧ win0_8.index t 1 = 0) ∧ (win0_9.index t 0 = t.val ∧ win0_9.index t 1 = 0) := by
  revert t; decide +kernel

/-- A grid point's rows of the layer, of the gates and of the norm's weights. -/
theorem blk0 (c : Dev nD) (t : Fin cfg0.N) (r : Fin 256) (k : Fin 1024) :
    iblk m c 0 t (ix2 r k) = rows (args m c).h (args m c).hs (ix2 ⟨256 * t.val + r.val, by have := pt_lt t; omega⟩ k) := by
  have h := (idx_in t).1
  blk_simp [iblk]
  refine (congrFun (V_18 m c) _).trans ?_
  refine congrArg (rows _ _) ?_
  blk_ext
  all_goals simp [h]
  all_goals first | done | omega

theorem blk5 (c : Dev nD) (t : Fin cfg0.N) (r : Fin 256) (i : Fin 4) :
    iblk m c 5 t (ix2 r i) = gates (topK4 (rowsL (args m c).l (args m c).ls)) (ix2 ⟨256 * t.val + r.val, by have := pt_lt t; omega⟩ i) := by
  have h := (idx_in t).2.1
  blk_simp [iblk]
  refine (congrFun (V_14 m c) _).trans ?_
  refine congrArg (gates _) ?_
  blk_ext
  all_goals simp [h]
  all_goals first | done | omega

theorem wide_row (w : Vec Ideal S1024 .f32) (k : Fin 1024) : shapeCast S1x1024 w shapeCasts_S1024_S1x1024 (ix2 0 k) = w (ix1 k) := by
  pointwise

theorem blk6 (c : Dev nD) (t : Fin cfg0.N) (k : Fin 1024) : iblk m c 6 t (ix2 0 k) = (args m c).g (ix1 k) := by
  have h := (idx_in t).2.2.1
  refine Eq.trans ?_ (wide_row _ k)
  blk_simp [iblk]
  refine (congrFun (V_29 m c) _).trans ?_
  refine congrArg (shapeCast S1x1024 _ _) ?_
  blk_ext
  all_goals simp [h]

theorem blk7 (c : Dev nD) (t : Fin cfg0.N) (k : Fin 1024) : iblk m c 7 t (ix2 0 k) = (args m c).d (ix1 k) := by
  have h := (idx_in t).2.2.2
  refine Eq.trans ?_ (wide_row _ k)
  blk_simp [iblk]
  refine (congrFun (V_30 m c) _).trans ?_
  refine congrArg (shapeCast S1x1024 _ _) ?_
  blk_ext
  all_goals simp [h]

/-- A grid point's four blocks of the experts' rows. -/
theorem blk1 (c : Dev nD) (t : Fin cfg0.N) (r : Fin 256) (j : Fin 1024) :
    tile (iblk m c 1 t) r j = rowsE (args m c).y (args m c).ys (ix2 ⟨256 * t.val + r.val, by have := pt_lt t; omega⟩ ⟨1024 * 0 + j.val, by omega⟩) := by
  have h := (idx_tiles t).1
  have hlt := pt_lt t
  have e := slots_at (rowsE (args m c).y (args m c).ys) 0 ⟨256 * t.val + r.val, by omega⟩ ⟨j.val / 128, by omega⟩ ⟨j.val % 128, by omega⟩
  have ej : (⟨1024 * (0 : Fin 4).val + (128 * (j.val / 128) + j.val % 128), by have : (0 : Fin 4).val = 0 := rfl; omega⟩ : Fin 4096) = ⟨1024 * 0 + j.val, by omega⟩ :=
    Fin.ext (by have : (0 : Fin 4).val = 0 := rfl; simp only [this]; omega)
  refine Eq.trans ?_ (e.trans (congrArg (fun z => rowsE (args m c).y (args m c).ys (ix2 ⟨256 * t.val + r.val, by omega⟩ z)) ej))
  unfold tile
  blk_simp [iblk]
  refine (congrFun (V_28 m c) _).trans ?_
  refine congrArg (slots _) ?_
  blk_ext
  all_goals simp [h]
  all_goals first | done | omega

theorem blk2 (c : Dev nD) (t : Fin cfg0.N) (r : Fin 256) (j : Fin 1024) :
    tile (iblk m c 2 t) r j = rowsE (args m c).y (args m c).ys (ix2 ⟨256 * t.val + r.val, by have := pt_lt t; omega⟩ ⟨1024 * 1 + j.val, by omega⟩) := by
  have h := (idx_tiles t).2.1
  have hlt := pt_lt t
  have e := slots_at (rowsE (args m c).y (args m c).ys) 1 ⟨256 * t.val + r.val, by omega⟩ ⟨j.val / 128, by omega⟩ ⟨j.val % 128, by omega⟩
  have ej : (⟨1024 * (1 : Fin 4).val + (128 * (j.val / 128) + j.val % 128), by have : (1 : Fin 4).val = 1 := rfl; omega⟩ : Fin 4096) = ⟨1024 * 1 + j.val, by omega⟩ :=
    Fin.ext (by have : (1 : Fin 4).val = 1 := rfl; simp only [this]; omega)
  refine Eq.trans ?_ (e.trans (congrArg (fun z => rowsE (args m c).y (args m c).ys (ix2 ⟨256 * t.val + r.val, by omega⟩ z)) ej))
  unfold tile
  blk_simp [iblk]
  refine (congrFun (V_28 m c) _).trans ?_
  refine congrArg (slots _) ?_
  blk_ext
  all_goals simp [h]
  all_goals first | done | omega

theorem blk3 (c : Dev nD) (t : Fin cfg0.N) (r : Fin 256) (j : Fin 1024) :
    tile (iblk m c 3 t) r j = rowsE (args m c).y (args m c).ys (ix2 ⟨256 * t.val + r.val, by have := pt_lt t; omega⟩ ⟨1024 * 2 + j.val, by omega⟩) := by
  have h := (idx_tiles t).2.2.1
  have hlt := pt_lt t
  have e := slots_at (rowsE (args m c).y (args m c).ys) 2 ⟨256 * t.val + r.val, by omega⟩ ⟨j.val / 128, by omega⟩ ⟨j.val % 128, by omega⟩
  have ej : (⟨1024 * (2 : Fin 4).val + (128 * (j.val / 128) + j.val % 128), by have : (2 : Fin 4).val = 2 := rfl; omega⟩ : Fin 4096) = ⟨1024 * 2 + j.val, by omega⟩ :=
    Fin.ext (by have : (2 : Fin 4).val = 2 := rfl; simp only [this]; omega)
  refine Eq.trans ?_ (e.trans (congrArg (fun z => rowsE (args m c).y (args m c).ys (ix2 ⟨256 * t.val + r.val, by omega⟩ z)) ej))
  unfold tile
  blk_simp [iblk]
  refine (congrFun (V_28 m c) _).trans ?_
  refine congrArg (slots _) ?_
  blk_ext
  all_goals simp [h]
  all_goals first | done | omega

theorem blk4 (c : Dev nD) (t : Fin cfg0.N) (r : Fin 256) (j : Fin 1024) :
    tile (iblk m c 4 t) r j = rowsE (args m c).y (args m c).ys (ix2 ⟨256 * t.val + r.val, by have := pt_lt t; omega⟩ ⟨1024 * 3 + j.val, by omega⟩) := by
  have h := (idx_tiles t).2.2.2
  have hlt := pt_lt t
  have e := slots_at (rowsE (args m c).y (args m c).ys) 3 ⟨256 * t.val + r.val, by omega⟩ ⟨j.val / 128, by omega⟩ ⟨j.val % 128, by omega⟩
  have ej : (⟨1024 * (3 : Fin 4).val + (128 * (j.val / 128) + j.val % 128), by have : (3 : Fin 4).val = 3 := rfl; omega⟩ : Fin 4096) = ⟨1024 * 3 + j.val, by omega⟩ :=
    Fin.ext (by have : (3 : Fin 4).val = 3 := rfl; simp only [this]; omega)
  refine Eq.trans ?_ (e.trans (congrArg (fun z => rowsE (args m c).y (args m c).ys (ix2 ⟨256 * t.val + r.val, by omega⟩ z)) ej))
  unfold tile
  blk_simp [iblk]
  refine (congrFun (V_28 m c) _).trans ?_
  refine congrArg (slots _) ?_
  blk_ext
  all_goals simp [h]
  all_goals first | done | omega

/-- The rows a grid point leaves, by the arguments. -/
theorem xblk_pt (c : Dev nD) (t : Fin cfg0.N) (r : Fin 256) (j : Fin 1024) :
    xblk (iblk m c 0 t) (iblk m c 1 t) (iblk m c 2 t) (iblk m c 3 t) (iblk m c 4 t) (iblk m c 5 t) (iblk m c 6 t) (iblk m c 7 t) (ix2 r j)
      = (args m c).x ⟨256 * t.val + r.val, by have := pt_lt t; omega⟩ j := by
  refine (xblk_at ..).trans ?_
  have e0 := fun k => blk0 m c t r k
  have e5 := fun i => blk5 m c t r i
  have e6 := fun k => blk6 m c t k
  have e7 := fun k => blk7 m c t k
  have ey : (![tile (iblk m c 1 t) r, tile (iblk m c 2 t) r, tile (iblk m c 3 t) r, tile (iblk m c 4 t) r] : Fin 4 → Fin 1024 → EReal)
      = fun i k => rowsE (args m c).y (args m c).ys (ix2 ⟨256 * t.val + r.val, by have := pt_lt t; omega⟩ ⟨1024 * i.val + k.val, by omega⟩) := by
    funext i k
    fin_cases i
    · exact blk1 m c t r k
    · exact blk2 m c t r k
    · exact blk3 m c t r k
    · exact blk4 m c t r k
  simp only [e0, e5, e6, e7, ey]
  simp only [gates_at, topK4_at]
  rfl

/-- The launch's first result. -/
theorem final8 (c : Dev nD) : (dats m 0 c).arrAt 8 cfg0.N = (args m c).xArr := by
  refine (dats m 0 c).arrAt_eq_of_covers 8 _ (by decide +kernel) fun t hf y => ?_
  have h := (idx_out t).1
  have hlt := pt_lt t
  blk_simp
  rw [after0_8]
  idx_vars y
  rw [out8_eq, xblk_pt]
  refine (show (args m c).xArr (ix2 ⟨256 * t.val + y0.val, by omega⟩ y1) = _ from ?_)
  refine congrArg (args m c).xArr ?_
  blk_ext
  all_goals simp [h]
  all_goals first | done | omega

/-- The launch's second result. -/
theorem final9 (c : Dev nD) : (dats m 0 c).arrAt 9 cfg0.N = (args m c).xHalf := by
  refine (dats m 0 c).arrAt_eq_of_covers 9 _ (by decide +kernel) fun t hf y => ?_
  have h := (idx_out t).2
  have hlt := pt_lt t
  blk_simp
  rw [after0_9]
  idx_vars y
  rw [out9_eq]
  refine (show xblk (iblk m c 0 t) (iblk m c 1 t) (iblk m c 2 t) (iblk m c 3 t) (iblk m c 4 t) (iblk m c 5 t) (iblk m c 6 t) (iblk m c 7 t) (ix2 y0 y1) = _ from ?_)
  rw [xblk_pt]
  refine (show (args m c).xHalf (ix2 ⟨256 * t.val + y0.val, by omega⟩ y1) = _ from ?_)
  refine congrArg (args m c).xHalf ?_
  blk_ext
  all_goals simp [h]
  all_goals first | done | omega

/-- A prompt row of the combination is the reference's. -/
theorem x_prompt (A : Ins) : promptOf A.xArr = outP A.h A.l A.y A.g A.d := by
  funext i
  idx_vars i
  rw [promptOf_at, outP_at]
  refine (show A.x ⟨2048 * i0.val + i1.val, by omega⟩ i2 = _ from ?_)
  unfold Ins.x
  have e1 := rows_prompt A.h A.hs i0 i1
  have e2 := rowsL_prompt A.l A.ls i0 i1
  have e3 := rowsE_prompt A.y A.ys i0 i1
  simp only [e1, e2, e3]

/-- A sample row of the combination is the reference's. -/
theorem x_sample (A : Ins) : sampleOf A.xArr = outS A.hs A.ls A.ys A.g A.d := by
  funext i
  idx_vars i
  rw [sampleOf_at, outS_at]
  refine (show A.x ⟨16384 + 8 * i0.val + i1.val, by omega⟩ i2 = _ from ?_)
  unfold Ins.x
  have e1 := rows_sample A.h A.hs i0 i1
  have e2 := rowsL_sample A.l A.ls i0 i1
  have e3 := rowsE_sample A.y A.ys i0 i1
  simp only [e1, e2, e3]

/-- The results in the narrower format are the same numbers. -/
theorem half_prompt (A : Ins) : promptHalf A.xHalf = truncf (F := Ideal) .bf16 (outP A.h A.l A.y A.g A.d) bitsLt_bf16_f32 := by
  rw [← x_prompt]
  rfl

theorem half_sample (A : Ins) : sampleHalf A.xHalf = truncf (F := Ideal) .bf16 (outS A.hs A.ls A.ys A.g A.d) bitsLt_bf16_f32 := by
  rw [← x_sample]
  rfl

end Cert.Kernel6Ideal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import Idealize.ShloMosaic.Adequacy
public import Idealize.ShloMosaic.Init
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Finals
public import proofs.«01_k».proof.Proof.RefResult
public import proofs.«01_k».proof.Proof.Finite
public import proofs.«01_k».proof.Proof.ProjFin
public import proofs.«01_k».proof.Proof.ProjRun
public import proofs.«01_k».proof.Proof.MixFin
public import proofs.«01_k».proof.Proof.Finite3
public import proofs.«01_k».proof.Proof.ConvFin
public import proofs.«01_k».proof.Proof.ConvFinS
public import proofs.«01_k».proof.Proof.CombFin

@[expose] public section

noncomputable section

namespace Cert.Proof

open Idealize.ShloMosaic Idealize.ShloMosaic.TcCoe Idealize.SL.Sem

/-- The kernel's arguments are finite where the precondition says so. -/
theorem kernel_finite (m : (ℓ : Loc Cert.KernelIdeal.nD Cert.KernelIdeal.τ Cert.KernelIdeal.sig) → Buf (Elt Ideal) ℓ)
    (h : Cert.Pre_KernelIdeal_finite (hPre_finite := Cert.Pre_finite.Says.facts) m) (c : Dev Cert.KernelIdeal.nD) : (Cert.KernelIdeal.Value.args m c).Finite :=
  letI := Cert.Pre_finite.Says.facts
  Cert.Pre_finite.Says.finite _ (h c)

/-- The reference runs, leaves its arguments as they were and every counter at zero. -/
theorem frame_ri : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Trip.run_main m ρ)

/-- On finite arguments the kernel and the reference end with equal results: both hold the recurrence's two arrays. -/
theorem algebraic : Cert.algebraic_KernelIdeal_ReferenceIdeal_pre_finite (hPre_finite := Cert.Pre_finite.Says.facts) := by
  intro m ρ m' ρ' hpre hagree
  have hF := kernel_finite m hpre
  have hargs : ∀ c, Cert.ReferenceIdeal.Trip.args m' c = Cert.KernelIdeal.Value.args m c := fun c => by
    obtain ⟨h0, h1, h2, h3, h4, h5, h6, h7⟩ := hagree c
    unfold Cert.ReferenceIdeal.Trip.args Cert.KernelIdeal.Value.args
    rw [h0, h1, h2, h3, h4, h5, h6, h7]
  refine ⟨fun c => (Cert.KernelIdeal.Value.args m c).y, fun c => (Cert.KernelIdeal.Value.args m c).state, ?_, ?_⟩
  · exact (θ_run Cert.KernelIdeal.defs _ _).mono (fun r h c => ⟨(h c).1.trans (Cert.KernelIdeal.Value.fin10 (hF c)), (h c).2.1.trans (Cert.KernelIdeal.Value.fin11 (hF c)), (h c).2.2⟩)
      (Cert.KernelIdeal.Value.run_blocks m ρ)
  · refine (θ_run Cert.ReferenceIdeal.defs _ _).mono (fun r h c => ?_) (Cert.ReferenceIdeal.Trip.run_main m' ρ')
    have F : (Cert.ReferenceIdeal.Trip.args m' c).Finite := by rw [hargs c]; exact hF c
    refine ⟨(h c).1.trans ?_, (h c).2.1.trans ?_, (h c).2.2⟩
    · rw [Cert.ReferenceIdeal.Trip.final_y F, hargs c]
    · rw [Cert.ReferenceIdeal.Trip.final_state F, hargs c]

/-- The projection's reference runs, leaves its arguments as they were and every counter at zero. -/
theorem frame_ri2 : Cert.quiescent_Reference2Ideal := fun m ρ _ =>
  (θ_run Cert.Reference2Ideal.defs _ _).mono (fun r h => ⟨fun c => (h c).2.2.2.2, Idealize.ShloMosaic.sem_eq_zero_of_no_sems (by decide) r.2⟩)
    (Cert.Reference2Ideal.Value.run m ρ)

open Cert.Kernel2Ideal.Value in
/-- The projection's kernel and reference end with equal results: both hold the two products, and the last rows of their convolved columns. -/
theorem algebraic2 : Cert.algebraic_Kernel2Ideal_Reference2Ideal := by
  intro m ρ m' ρ' _ hagree
  refine ⟨fun c => promptOf ((Cert.Kernel2Ideal.Gen.dats m 0 c).arrAt 2 Cert.Kernel2Ideal.cfg0.N), fun c => sampleOf ((Cert.Kernel2Ideal.Gen.dats m 0 c).arrAt 2 Cert.Kernel2Ideal.cfg0.N),
    fun c => promptConv ((Cert.Kernel2Ideal.Gen.dats m 0 c).arrAt 2 Cert.Kernel2Ideal.cfg0.N), fun c => sampleConv ((Cert.Kernel2Ideal.Gen.dats m 0 c).arrAt 2 Cert.Kernel2Ideal.cfg0.N),
    run_four m ρ, ?_⟩
  refine (θ_run Cert.Reference2Ideal.defs _ _).mono (fun r h c => ?_) (Cert.Reference2Ideal.Value.run m' ρ')
  obtain ⟨e0, e1, e2, e3, ha⟩ := h c
  obtain ⟨h0, h1, h2⟩ := hagree c
  rw [h0, h2] at e0 e2
  rw [h1, h2] at e1 e3
  have hp := (prompt_eq (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2))).symm.trans
    (congrArg promptOf (final m c).symm)
  have hs := (sample_eq (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2))).symm.trans
    (congrArg sampleOf (final m c).symm)
  refine ⟨e0.trans hp, e1.trans hs, e2.trans ?_, e3.trans ?_, ha⟩
  · exact (congrArg (fun z => extractStridedSlice _ _ z _) hp).trans (promptConv_eq _).symm
  · exact (congrArg (fun z => extractStridedSlice _ _ z _) hs).trans (sampleConv_eq _).symm

/-- The merge's reference runs, leaves its arguments as they were and every counter at zero. -/
theorem frame_ri3 : Cert.quiescent_Reference3Ideal := fun m ρ _ =>
  (θ_run Cert.Reference3Ideal.defs _ _).mono (fun r h => ⟨fun c => (h c).2.2.2.2.2.2, Idealize.ShloMosaic.sem_eq_zero_of_no_sems (by decide) r.2⟩)
    (Cert.Reference3Ideal.Value.run m ρ)

/-- The merge's arguments are finite where the precondition says so. -/
theorem merge_finite (m : (ℓ : Loc Cert.Kernel3Ideal.nD Cert.Kernel3Ideal.τ Cert.Kernel3Ideal.sig) → Buf (Elt Ideal) ℓ)
    (h : Cert.Pre_Kernel3Ideal_finite3 (hPre_finite3 := Cert.Pre_finite3.Says.facts) m) (c : Dev Cert.Kernel3Ideal.nD) : (Cert.Kernel3Ideal.Value.args m c).Finite :=
  letI := Cert.Pre_finite3.Says.facts
  Cert.Pre_finite3.Says.finite _ (h c)

open Cert.Kernel3Ideal.Value Cert.Reference3Ideal.Value in
/-- On finite arguments the merge's kernel and reference end with equal results: the merged rows twice, and the router's numbers. -/
theorem algebraic3 : Cert.algebraic_Kernel3Ideal_Reference3Ideal_pre_finite3 (hPre_finite3 := Cert.Pre_finite3.Says.facts) := by
  intro m ρ m' ρ' hpre hagree
  have hF := merge_finite m hpre
  refine ⟨fun c => promptOf (args m c).hArr, fun c => sampleOf (args m c).hArr, fun c => promptOf (args m c).hArr, fun c => sampleOf (args m c).hArr,
    fun c => promptLg (args m c).lArr, fun c => sampleLg (args m c).lArr, ?_, ?_⟩
  · refine (θ_run Cert.Kernel3Ideal.defs _ _).mono (fun r h c => ?_) (run_results m ρ)
    obtain ⟨⟨e0, e1, e2, e3, e4, e5⟩, ha⟩ := h c
    rw [final15] at e0 e1
    rw [final16, flat3_tArr] at e2 e3
    rw [final17] at e4 e5
    exact ⟨e0, e1, e2, e3, e4, e5, ha⟩
  · refine (θ_run Cert.Reference3Ideal.defs _ _).mono (fun r h c => ?_) (Cert.Reference3Ideal.Value.run m' ρ')
    obtain ⟨e0, e1, e2, e3, e4, e5, ha⟩ := h c
    obtain ⟨h0, h1, h2, h3, h4, h5, h6, h7, h8, h9, h10, h11, h12, h13, h14⟩ := hagree c
    have hp : res_out0 m' c = promptOf (args m c).hArr := by
      rw [res_h_prompt, h0, h2, h4, h6, h8, h9, h10, h11, h12]
      exact (prompt_h (args m c)).symm
    have hq : res_out1 m' c = sampleOf (args m c).hArr := by
      rw [res_h_sample, h1, h3, h5, h7, h8, h9, h10, h11, h12]
      exact (sample_h (args m c)).symm
    have hl : res_out4 m' c = promptLg (args m c).lArr := by
      rw [res_lg_prompt, h0, h2, h4, h6, h8, h9, h10, h11, h12, h13, h14]
      exact (prompt_l (hF c)).symm
    have hk : res_out5 m' c = sampleLg (args m c).lArr := by
      rw [res_lg_sample, h1, h3, h5, h7, h8, h9, h10, h11, h12, h13, h14]
      exact (sample_l (hF c)).symm
    exact ⟨e0.trans hp, e1.trans hq, e2.trans hp, e3.trans hq, e4.trans hl, e5.trans hk, ha⟩

/-- The convolution's reference runs, leaves its arguments as they were and every counter at zero. -/
theorem frame_ri4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run m ρ)

open Cert.Kernel4Ideal.Value Cert.Reference4Ideal.Value in
/-- The convolution's kernel and reference end with equal results: the convolved columns of the prompt's sequences under their gate. -/
theorem algebraic4 : Cert.algebraic_Kernel4Ideal_Reference4Ideal := by
  intro m ρ m' ρ' _ hagree
  refine ⟨fun c => gated (sumOf (longer (aP m c) (aC m c)) (aW m c) (aB m c)), ?_, ?_⟩
  · refine (θ_run Cert.Kernel4Ideal.defs _ _).mono (fun r h c => ?_) (run_result m ρ)
    obtain ⟨e0, ha⟩ := h c
    rw [final5, seq_eq] at e0
    exact ⟨e0, ha⟩
  · refine (θ_run Cert.Reference4Ideal.defs _ _).mono (fun r h c => ?_) (Cert.Reference4Ideal.Value.run m' ρ')
    obtain ⟨h0, h1, h2, h3, h4⟩ := hagree c
    exact ⟨(h c).1.trans (res_at m' c _ _ _ _ h0 h2 h3 h4), (h c).2⟩

/-- The sample convolution's reference runs, leaves its arguments as they were and every counter at zero. -/
theorem frame_ri5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run m ρ)

open Cert.Kernel5Ideal.Value Cert.Reference5Ideal.Value in
/-- The sample convolution's kernel and reference end with equal results: the convolved columns of the samples under their gate. -/
theorem algebraic5 : Cert.algebraic_Kernel5Ideal_Reference5Ideal := by
  intro m ρ m' ρ' _ hagree
  refine ⟨fun c => gated (sumOf (longer (aS m c) (aC m c)) (aW m c) (aB m c)), ?_, ?_⟩
  · refine (θ_run Cert.Kernel5Ideal.defs _ _).mono (fun r h c => ?_) (run_result m ρ)
    obtain ⟨e0, ha⟩ := h c
    rw [final4, seq_eq] at e0
    exact ⟨e0, ha⟩
  · refine (θ_run Cert.Reference5Ideal.defs _ _).mono (fun r h c => ?_) (Cert.Reference5Ideal.Value.run m' ρ')
    obtain ⟨h0, h1, h2, h3, h4⟩ := hagree c
    exact ⟨(h c).1.trans (res_at m' c _ _ _ _ h1 h2 h3 h4), (h c).2⟩

/-- The combination's reference runs, leaves its arguments as they were and every counter at zero. -/
theorem frame_ri6 : Cert.quiescent_Reference6Ideal := fun m ρ _ =>
  (θ_run Cert.Reference6Ideal.defs _ _).mono (fun r h => ⟨fun c => (h c).2.2.2.2, Idealize.ShloMosaic.sem_eq_zero_of_no_sems (by decide) r.2⟩)
    (Cert.Reference6Ideal.Value.run m ρ)

open Cert.Kernel6Ideal.Value Cert.Reference6Ideal.Value in
/-- The combination's kernel and reference end with equal results: the rows the layer leaves, in both formats. -/
theorem algebraic6 : Cert.algebraic_Kernel6Ideal_Reference6Ideal := by
  intro m ρ m' ρ' _ hagree
  refine ⟨fun c => outP (args m c).h (args m c).l (args m c).y (args m c).g (args m c).d, fun c => outS (args m c).hs (args m c).ls (args m c).ys (args m c).g (args m c).d,
    fun c => truncf (F := Ideal) .bf16 (outP (args m c).h (args m c).l (args m c).y (args m c).g (args m c).d) (by decide),
    fun c => truncf (F := Ideal) .bf16 (outS (args m c).hs (args m c).ls (args m c).ys (args m c).g (args m c).d) (by decide), ?_, ?_⟩
  · refine (θ_run Cert.Kernel6Ideal.defs _ _).mono (fun r h c => ?_) (run_results m ρ)
    obtain ⟨⟨e0, e1, e2, e3⟩, ha⟩ := h c
    rw [final8] at e0 e1
    rw [final9] at e2 e3
    exact ⟨e0.trans (x_prompt (args m c)), e1.trans (x_sample (args m c)), e2.trans (half_prompt (args m c)), e3.trans (half_sample (args m c)), ha⟩
  · refine (θ_run Cert.Reference6Ideal.defs _ _).mono (fun r h c => ?_) (Cert.Reference6Ideal.Value.run m' ρ')
    obtain ⟨e0, e1, e2, e3, ha⟩ := h c
    obtain ⟨h0, h1, h2, h3, h4, h5, h6, h7⟩ := hagree c
    refine ⟨e0.trans ?_, e1.trans ?_, e2.trans ?_, e3.trans ?_, ha⟩
    · refine (res_prompt m' c).trans ?_
      rw [h0, h2, h4, h6, h7]
      rfl
    · refine (res_sample m' c).trans ?_
      rw [h1, h3, h5, h6, h7]
      rfl
    · refine (res_prompt_half m' c).trans ?_
      rw [h0, h2, h4, h6, h7]
      rfl
    · refine (res_sample_half m' c).trans ?_
      rw [h1, h3, h5, h6, h7]
      rfl

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Says.facts, Cert.Pre_finite3.Says.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ, fun m ρ _ => Cert.Kernel3Ideal.Gen.frame m ρ,
  frame_ri3, fun m ρ _ => frame_ri3 m ρ trivial, fun m ρ _ => Cert.Kernel4.Gen.frame m ρ, fun m ρ _ => Cert.Kernel4Ideal.Gen.frame m ρ, frame_ri4,
  fun m ρ _ => Cert.Kernel5.Gen.frame m ρ, fun m ρ _ => Cert.Kernel5Ideal.Gen.frame m ρ, frame_ri5,
  fun m ρ _ => Cert.Kernel6.Gen.frame m ρ, fun m ρ _ => Cert.Kernel6Ideal.Gen.frame m ρ, frame_ri6,
  trivial, algebraic, trivial, algebraic2, trivial, algebraic3, trivial, algebraic4, trivial, algebraic5, trivial, algebraic6⟩

end Cert.Proof

end
